-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v34_0)) (v2 : (c : Dev Cert.KernelIdeal.nD) → Buf (Elt Ideal) ((c.tc : Thread Cert.KernelIdeal.nD Cert.KernelIdeal.τ).loc Cert.KernelIdeal.main_v30_0)) (v3 : (c : Dev Cert.KernelIdeal.nD) → Buf (Elt Ideal) ((c.tc : Thread Cert.KernelIdeal.nD Cert.KernelIdeal.τ).loc Cert.KernelIdeal.main_v30_1)) (v4 : (c : Dev Cert.KernelIdeal.nD) → Buf (Elt Ideal) ((c.tc : Thread Cert.KernelIdeal.nD Cert.KernelIdeal.τ).loc Cert.KernelIdeal.main_v31_0)) (v5 : (c : Dev Cert.KernelIdeal.nD) → Buf (Elt Ideal) ((c.tc : Thread Cert.KernelIdeal.nD Cert.KernelIdeal.τ).loc Cert.KernelIdeal.main_v31_1)) (v6 : (c : Dev Cert.KernelIdeal.nD) → Buf (Elt Ideal) ((c.tc : Thread Cert.KernelIdeal.nD Cert.KernelIdeal.τ).loc Cert.KernelIdeal.main_v34_1)) (v7 : (c : Dev Cert.KernelIdeal.nD) → Buf (Elt Ideal) ((c.tc : Thread Cert.KernelIdeal.nD Cert.KernelIdeal.τ).loc Cert.KernelIdeal.main_v34_2)) (v8 : (c : Dev Cert.KernelIdeal.nD) → Buf (Elt Ideal) ((c.tc : Thread Cert.KernelIdeal.nD Cert.KernelIdeal.τ).loc Cert.KernelIdeal.main_v32_0)) (v9 : (c : Dev Cert.KernelIdeal.nD) → Buf (Elt Ideal) ((c.tc : Thread Cert.KernelIdeal.nD Cert.KernelIdeal.τ).loc Cert.KernelIdeal.main_v32_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v34_0) = v1 c
          ∧ r.2.mem ((c.tc : Thread Cert.KernelIdeal.nD Cert.KernelIdeal.τ).loc Cert.KernelIdeal.main_v30_0) = v2 c
          ∧ r.2.mem ((c.tc : Thread Cert.KernelIdeal.nD Cert.KernelIdeal.τ).loc Cert.KernelIdeal.main_v30_1) = v3 c
          ∧ r.2.mem ((c.tc : Thread Cert.KernelIdeal.nD Cert.KernelIdeal.τ).loc Cert.KernelIdeal.main_v31_0) = v4 c
          ∧ r.2.mem ((c.tc : Thread Cert.KernelIdeal.nD Cert.KernelIdeal.τ).loc Cert.KernelIdeal.main_v31_1) = v5 c
          ∧ r.2.mem ((c.tc : Thread Cert.KernelIdeal.nD Cert.KernelIdeal.τ).loc Cert.KernelIdeal.main_v34_1) = v6 c
          ∧ r.2.mem ((c.tc : Thread Cert.KernelIdeal.nD Cert.KernelIdeal.τ).loc Cert.KernelIdeal.main_v34_2) = v7 c
          ∧ r.2.mem ((c.tc : Thread Cert.KernelIdeal.nD Cert.KernelIdeal.τ).loc Cert.KernelIdeal.main_v32_0) = v8 c
          ∧ r.2.mem ((c.tc : Thread Cert.KernelIdeal.nD Cert.KernelIdeal.τ).loc Cert.KernelIdeal.main_v32_1) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105_0) = v0 c
          ∧ r.2.mem ((c.tc : Thread Cert.ReferenceIdeal.nD Cert.ReferenceIdeal.τ).loc Cert.ReferenceIdeal.main_v105_1) = v1 c
          ∧ r.2.mem ((c.tc : Thread Cert.ReferenceIdeal.nD Cert.ReferenceIdeal.τ).loc Cert.ReferenceIdeal.main_v105_2) = v2 c
          ∧ r.2.mem ((c.tc : Thread Cert.ReferenceIdeal.nD Cert.ReferenceIdeal.τ).loc Cert.ReferenceIdeal.main_v97) = v3 c
          ∧ r.2.mem ((c.tc : Thread Cert.ReferenceIdeal.nD Cert.ReferenceIdeal.τ).loc Cert.ReferenceIdeal.main_v105_3) = v4 c
          ∧ r.2.mem ((c.tc : Thread Cert.ReferenceIdeal.nD Cert.ReferenceIdeal.τ).loc Cert.ReferenceIdeal.main_v98) = v5 c
          ∧ r.2.mem ((c.tc : Thread Cert.ReferenceIdeal.nD Cert.ReferenceIdeal.τ).loc Cert.ReferenceIdeal.main_v105_4) = v6 c
          ∧ r.2.mem ((c.tc : Thread Cert.ReferenceIdeal.nD Cert.ReferenceIdeal.τ).loc Cert.ReferenceIdeal.main_v99) = v7 c
          ∧ r.2.mem ((c.tc : Thread Cert.ReferenceIdeal.nD Cert.ReferenceIdeal.τ).loc Cert.ReferenceIdeal.main_v105_5) = v8 c
          ∧ r.2.mem ((c.tc : Thread Cert.ReferenceIdeal.nD Cert.ReferenceIdeal.τ).loc Cert.ReferenceIdeal.main_v100) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x512x3584 : Shape := ⟨3, ![3, 512, 3584]⟩
abbrev S18944x3584 : Shape := ⟨2, ![18944, 3584]⟩
abbrev S3x512x18944 : Shape := ⟨3, ![3, 512, 18944]⟩
abbrev S1536x3584 : Shape := ⟨2, ![1536, 3584]⟩
abbrev S1536x18944 : Shape := ⟨2, ![1536, 18944]⟩
abbrev S256x256 : Shape := ⟨2, ![256, 256]⟩
abbrev S_ : Shape := ⟨0, ![]⟩
abbrev S128x128 : Shape := ⟨2, ![128, 128]⟩
abbrev S1536x1 : Shape := ⟨2, ![1536, 1]⟩
abbrev S128x18944 : Shape := ⟨2, ![128, 18944]⟩
abbrev S128x1 : Shape := ⟨2, ![128, 1]⟩
abbrev S128x256 : Shape := ⟨2, ![128, 256]⟩
abbrev S128 : Shape := ⟨1, ![128]⟩
abbrev S1x3584 : Shape := ⟨2, ![1, 3584]⟩
abbrev S18944x256 : Shape := ⟨2, ![18944, 256]⟩
abbrev S1x256 : Shape := ⟨2, ![1, 256]⟩
abbrev S8x256 : Shape := ⟨2, ![8, 256]⟩
abbrev S32x8x256 : Shape := ⟨3, ![32, 8, 256]⟩
abbrev S256 : Shape := ⟨1, ![256]⟩
abbrev S1536x512 : Shape := ⟨2, ![1536, 512]⟩
abbrev S1x512 : Shape := ⟨2, ![1, 512]⟩
abbrev S8x512 : Shape := ⟨2, ![8, 512]⟩
abbrev S128x512 : Shape := ⟨2, ![128, 512]⟩
abbrev S16x8x512 : Shape := ⟨3, ![16, 8, 512]⟩
abbrev S512 : Shape := ⟨1, ![512]⟩
abbrev S1536x256 : Shape := ⟨2, ![1536, 256]⟩
abbrev S512x256 : Shape := ⟨2, ![512, 256]⟩
abbrev S1x18944 : Shape := ⟨2, ![1, 18944]⟩
abbrev S256x3584 : Shape := ⟨2, ![256, 3584]⟩
abbrev S16x8x256 : Shape := ⟨3, ![16, 8, 256]⟩
abbrev S256x1536 : Shape := ⟨2, ![256, 1536]⟩
abbrev S256x128 : Shape := ⟨2, ![256, 128]⟩
abbrev S256x1 : Shape := ⟨2, ![256, 1]⟩

abbrev nBuf : Space → Nat
  | .hbm => 51
  | .vmem => 46
  | .smem => 0
  | _ => 0

abbrev bufTy : (tb : Table) → Fin (tcTables nBuf tb) → BufTy
  | .hbm, ⟨0, _⟩ => ⟨S3x512x3584, .bf16⟩
  | .hbm, ⟨1, _⟩ => ⟨S18944x3584, .bf16⟩
  | .hbm, ⟨2, _⟩ => ⟨S3x512x18944, .bf16⟩
  | .hbm, ⟨3, _⟩ => ⟨S1536x3584, .bf16⟩
  | .hbm, ⟨4, _⟩ => ⟨S1536x18944, .bf16⟩
  | .hbm, ⟨5, _⟩ => ⟨S256x256, .i32⟩
  | .hbm, ⟨6, _⟩ => ⟨S256x256, .i32⟩
  | .hbm, ⟨7, _⟩ => ⟨S256x256, .i32⟩
  | .hbm, ⟨8, _⟩ => ⟨S256x256, .i32⟩
  | .hbm, ⟨9, _⟩ => ⟨S_, .i32⟩
  | .hbm, ⟨10, _⟩ => ⟨S256x256, .i32⟩
  | .hbm, ⟨11, _⟩ => ⟨S256x256, .i32⟩
  | .hbm, ⟨12, _⟩ => ⟨S_, .i32⟩
  | .hbm, ⟨13, _⟩ => ⟨S256x256, .i32⟩
  | .hbm, ⟨14, _⟩ => ⟨S256x256, .i32⟩
  | .hbm, ⟨15, _⟩ => ⟨S_, .i32⟩
  | .hbm, ⟨16, _⟩ => ⟨S256x256, .i32⟩
  | .hbm, ⟨17, _⟩ => ⟨S256x256, .i32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S256x256, .bf16⟩
  | .hbm, ⟨23, _⟩ => ⟨S128x128, .i32⟩
  | .hbm, ⟨24, _⟩ => ⟨S128x128, .i32⟩
  | .hbm, ⟨25, _⟩ => ⟨S128x128, .i32⟩
  | .hbm, ⟨26, _⟩ => ⟨S128x128, .i32⟩
  | .hbm, ⟨27, _⟩ => ⟨S_, .i32⟩
  | .hbm, ⟨28, _⟩ => ⟨S128x128, .i32⟩
  | .hbm, ⟨29, _⟩ => ⟨S128x128, .i32⟩
  | .hbm, ⟨30, _⟩ => ⟨S_, .i32⟩
  | .hbm, ⟨31, _⟩ => ⟨S128x128, .i32⟩
  | .hbm, ⟨32, _⟩ => ⟨S128x128, .i32⟩
  | .hbm, ⟨33, _⟩ => ⟨S_, .i32⟩
  | .hbm, ⟨34, _⟩ => ⟨S128x128, .i32⟩
  | .hbm, ⟨35, _⟩ => ⟨S128x128, .i32⟩
  | .hbm, ⟨36, _⟩ => ⟨S128x128, .f32⟩
  | .hbm, ⟨37, _⟩ => ⟨S_, .f32⟩
  | .hbm, ⟨38, _⟩ => ⟨S128x128, .f32⟩
  | .hbm, ⟨39, _⟩ => ⟨S128x128, .f32⟩
  | .hbm, ⟨40, _⟩ => ⟨S128x128, .bf16⟩
  | .hbm, ⟨41, _⟩ => ⟨S1536x18944, .i8⟩
  | .hbm, ⟨42, _⟩ => ⟨S1536x1, .f32⟩
  | .hbm, ⟨43, _⟩ => ⟨S18944x3584, .i8⟩
  | .hbm, ⟨44, _⟩ => ⟨S1x3584, .f32⟩
  | .hbm, ⟨45, _⟩ => ⟨S1536x3584, .i8⟩
  | .hbm, ⟨46, _⟩ => ⟨S1x3584, .f32⟩
  | .hbm, ⟨47, _⟩ => ⟨S1536x3584, .bf16⟩
  | .hbm, ⟨48, _⟩ => ⟨S18944x3584, .f32⟩
  | .hbm, ⟨49, _⟩ => ⟨S1536x18944, .i8⟩
  | .hbm, ⟨50, _⟩ => ⟨S1x18944, .f32⟩
  | .local _ .vmem, ⟨0, _⟩ => ⟨S128x18944, .bf16⟩
  | .local _ .vmem, ⟨1, _⟩ => ⟨S128x18944, .bf16⟩
  | .local _ .vmem, ⟨2, _⟩ => ⟨S256x256, .bf16⟩
  | .local _ .vmem, ⟨3, _⟩ => ⟨S128x18944, .i8⟩
  | .local _ .vmem, ⟨4, _⟩ => ⟨S128x18944, .i8⟩
  | .local _ .vmem, ⟨5, _⟩ => ⟨S128x1, .f32⟩
  | .local _ .vmem, ⟨6, _⟩ => ⟨S128x1, .f32⟩
  | .local _ .vmem, ⟨7, _⟩ => ⟨S128x18944, .f32⟩
  | .local _ .vmem, ⟨8, _⟩ => ⟨S18944x256, .bf16⟩
  | .local _ .vmem, ⟨9, _⟩ => ⟨S18944x256, .bf16⟩
  | .local _ .vmem, ⟨10, _⟩ => ⟨S256x256, .bf16⟩
  | .local _ .vmem, ⟨11, _⟩ => ⟨S18944x256, .i8⟩
  | .local _ .vmem, ⟨12, _⟩ => ⟨S18944x256, .i8⟩
  | .local _ .vmem, ⟨13, _⟩ => ⟨S1x256, .f32⟩
  | .local _ .vmem, ⟨14, _⟩ => ⟨S1x256, .f32⟩
  | .local _ .vmem, ⟨15, _⟩ => ⟨S18944x256, .f32⟩
  | .local _ .vmem, ⟨16, _⟩ => ⟨S1536x512, .bf16⟩
  | .local _ .vmem, ⟨17, _⟩ => ⟨S1536x512, .bf16⟩
  | .local _ .vmem, ⟨18, _⟩ => ⟨S128x128, .bf16⟩
  | .local _ .vmem, ⟨19, _⟩ => ⟨S1536x512, .i8⟩
  | .local _ .vmem, ⟨20, _⟩ => ⟨S1536x512, .i8⟩
  | .local _ .vmem, ⟨21, _⟩ => ⟨S1x512, .f32⟩
  | .local _ .vmem, ⟨22, _⟩ => ⟨S1x512, .f32⟩
  | .local _ .vmem, ⟨23, _⟩ => ⟨S1536x512, .f32⟩
  | .local _ .vmem, ⟨24, _⟩ => ⟨S1536x18944, .i8⟩
  | .local _ .vmem, ⟨25, _⟩ => ⟨S18944x256, .i8⟩
  | .local _ .vmem, ⟨26, _⟩ => ⟨S18944x256, .i8⟩
  | .local _ .vmem, ⟨27, _⟩ => ⟨S1536x1, .f32⟩
  | .local _ .vmem, ⟨28, _⟩ => ⟨S1x256, .f32⟩
  | .local _ .vmem, ⟨29, _⟩ => ⟨S1x256, .f32⟩
  | .local _ .vmem, ⟨30, _⟩ => ⟨S1536x256, .bf16⟩
  | .local _ .vmem, ⟨31, _⟩ => ⟨S1536x256, .bf16⟩
  | .local _ .vmem, ⟨32, _⟩ => ⟨S1536x256, .f32⟩
  | .local _ .vmem, ⟨33, _⟩ => ⟨S1536x256, .bf16⟩
  | .local _ .vmem, ⟨34, _⟩ => ⟨S1536x256, .bf16⟩
  | .local _ .vmem, ⟨35, _⟩ => ⟨S1536x3584, .i8⟩
  | .local _ .vmem, ⟨36, _⟩ => ⟨S1x3584, .f32⟩
  | .local _ .vmem, ⟨37, _⟩ => ⟨S128x128, .bf16⟩
  | .local _ .vmem, ⟨38, _⟩ => ⟨S256x3584, .f32⟩
  | .local _ .vmem, ⟨39, _⟩ => ⟨S256x3584, .f32⟩
  | .local _ .vmem, ⟨40, _⟩ => ⟨S1536x256, .i8⟩
  | .local _ .vmem, ⟨41, _⟩ => ⟨S1536x256, .i8⟩
  | .local _ .vmem, ⟨42, _⟩ => ⟨S1x256, .f32⟩
  | .local _ .vmem, ⟨43, _⟩ => ⟨S1x256, .f32⟩
  | .local _ .vmem, ⟨44, _⟩ => ⟨S1536x3584, .bf16⟩
  | .local _ .vmem, ⟨45, _⟩ => ⟨S1536x256, .f32⟩
  | _, _ => ⟨S3x512x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_c_3 : Ref sig .tc := ⟨.hbm, 30, rfl⟩
abbrev main_v22 : Ref sig .tc := ⟨.hbm, 31, rfl⟩
abbrev main_v23 : Ref sig .tc := ⟨.hbm, 32, rfl⟩
abbrev main_c_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30_0 : Ref sig .tc := ⟨.hbm, 41, rfl⟩
abbrev main_v30_1 : Ref sig .tc := ⟨.hbm, 42, rfl⟩
abbrev main_v31_0 : Ref sig .tc := ⟨.hbm, 43, rfl⟩
abbrev main_v31_1 : Ref sig .tc := ⟨.hbm, 44, rfl⟩
abbrev main_v32_0 : Ref sig .tc := ⟨.hbm, 45, rfl⟩
abbrev main_v32_1 : Ref sig .tc := ⟨.hbm, 46, rfl⟩
abbrev main_v33 : Ref sig .tc := ⟨.hbm, 47, rfl⟩
abbrev main_v34_0 : Ref sig .tc := ⟨.hbm, 48, rfl⟩
abbrev main_v34_1 : Ref sig .tc := ⟨.hbm, 49, rfl⟩
abbrev main_v34_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_scratch0 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg4_1 : Ref sig .tc := ⟨.vmem, 31, rfl⟩
abbrev cc3_scratch0 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc4_stg5_0 : Ref sig .tc := ⟨.vmem, 40, rfl⟩
abbrev cc4_stg5_1 : Ref sig .tc := ⟨.vmem, 41, rfl⟩
abbrev cc4_stg6_0 : Ref sig .tc := ⟨.vmem, 42, rfl⟩
abbrev cc4_stg6_1 : Ref sig .tc := ⟨.vmem, 43, rfl⟩
abbrev cc4_scratch0 : Ref sig .tc := ⟨.vmem, 44, rfl⟩
abbrev cc4_scratch1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem3_1 : DmaSem sig := 26
abbrev cc3_sem4_0 : DmaSem sig := 27
abbrev cc3_sem4_1 : DmaSem sig := 28
abbrev cc4_sem0_0 : DmaSem sig := 29
abbrev cc4_sem0_1 : DmaSem sig := 30
abbrev cc4_sem1_0 : DmaSem sig := 31
abbrev cc4_sem2_0 : DmaSem sig := 32
abbrev cc4_sem3_0 : DmaSem sig := 33
abbrev cc4_sem4_0 : DmaSem sig := 34
abbrev cc4_sem4_1 : DmaSem sig := 35
abbrev cc4_sem5_0 : DmaSem sig := 36
abbrev cc4_sem5_1 : DmaSem sig := 37
abbrev cc4_sem6_0 : DmaSem sig := 38
abbrev cc4_sem6_1 : DmaSem sig := 39

abbrev nD : Nat := 1
abbrev τ : Topo := Topo.v7x

variable {F : FTy → Type} [FloatOps F]

abbrev grid0 : Pipeline.Grid := ⟨1, ![12], ![false]⟩

@[reducible] def k0_t1_loop : Scf.Loop 32 :=
  let c0_i32 : BitVec 32 := 0#32
  let c74_i32 : BitVec 32 := 74#32
  let v1 : BitVec 32 := Scalar.addi c0_i32 c74_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32 : BitVec 32 := 256#32
  let v13 : BitVec 32 := Scalar.muli arg6 c256_i32
  v13
def k0_off1 (k0_t1 : Fin k0_t1_loop.trips) : Fin 2 → Nat :=
  let c0_10 : Index := 0#32
  let c0_i32 : BitVec 32 := 0#32
  let c1_i32 : BitVec 32 := 1#32
  let arg6 : BitVec 32 := Scf.iv c0_i32 c1_i32 k0_t1
  let c256_i32 : BitVec 32 := 256#32
  let v13 : BitVec 32 := Scalar.muli arg6 c256_i32
  let v14 : BitVec 32 := v13
  let v15 : Index := Scalar.indexCast v14
  ![0, v15.toNat]
@[reducible] def k0_t2_loop : Scf.Loop 32 :=
  let c0_i32_6 : BitVec 32 := 0#32
  let c74_i32_7 : BitVec 32 := 74#32
  let v12 : BitVec 32 := Scalar.addi c0_i32_6 c74_i32_7
  let c1_i32_8 : BitVec 32 := 1#32
  ⟨c0_i32_6, v12, c1_i32_8⟩
def k0_mult2 (k0_t2 : Fin k0_t2_loop.trips) : BitVec 32 :=
  let c0_i32_6 : BitVec 32 := 0#32
  let c1_i32_8 : BitVec 32 := 1#32
  let arg6 : BitVec 32 := Scf.iv c0_i32_6 c1_i32_8 k0_t2
  let c256_i32 : BitVec 32 := 256#32
  let v13 : BitVec 32 := Scalar.muli arg6 c256_i32
  v13
def k0_off2 (k0_t2 : Fin k0_t2_loop.trips) : Fin 2 → Nat :=
  let c0_10 : Index := 0#32
  let c0_i32_6 : BitVec 32 := 0#32
  let c1_i32_8 : BitVec 32 := 1#32
  let arg6 : BitVec 32 := Scf.iv c0_i32_6 c1_i32_8 k0_t2
  let c256_i32 : BitVec 32 := 256#32
  let v13 : BitVec 32 := Scalar.muli arg6 c256_i32
  let v14 : BitVec 32 := v13
  let v15 : Index := Scalar.indexCast v14
  ![0, v15.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x18944 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x18944 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![14], ![false]⟩

@[reducible] def k1_t1_loop : Scf.Loop 32 :=
  let c0_i32 : BitVec 32 := 0#32
  let c74_i32 : BitVec 32 := 74#32
  let v1 : BitVec 32 := Scalar.addi c0_i32 c74_i32
  let c1_i32 : BitVec 32 := 1#32
  ⟨c0_i32, v1, c1_i32⟩
def k1_mult1 (k1_t1 : Fin k1_t1_loop.trips) : BitVec 32 :=
  let c0_i32 : BitVec 32 := 0#32
  let c1_i32 : BitVec 32 := 1#32
  let arg6 : BitVec 32 := Scf.iv c0_i32 c1_i32 k1_t1
  let c256_i32 : BitVec 32 := 256#32
  let v13 : BitVec 32 := Scalar.muli arg6 c256_i32
  v13
def k1_off1 (k1_t1 : Fin k1_t1_loop.trips) : Fin 2 → Nat :=
  let c0_i32 : BitVec 32 := 0#32
  let c1_i32 : BitVec 32 := 1#32
  let arg6 : BitVec 32 := Scf.iv c0_i32 c1_i32 k1_t1
  let c256_i32 : BitVec 32 := 256#32
  let v13 : BitVec 32 := Scalar.muli arg6 c256_i32
  let v14 : BitVec 32 := v13
  let v17 : Index := Scalar.indexCast v14
  let c0_12 : Index := 0#32
  ![v17.toNat, 0]
@[reducible] def k1_t2_loop : Scf.Loop 32 :=
  let c0_i32_6 : BitVec 32 := 0#32
  let c74_i32_7 : BitVec 32 := 74#32
  let v12 : BitVec 32 := Scalar.addi c0_i32_6 c74_i32_7
  let c1_i32_8 : BitVec 32 := 1#32
  ⟨c0_i32_6, v12, c1_i32_8⟩
def k1_mult2 (k1_t2 : Fin k1_t2_loop.trips) : BitVec 32 :=
  let c0_i32_6 : BitVec 32 := 0#32
  let c1_i32_8 : BitVec 32 := 1#32
  let arg6 : BitVec 32 := Scf.iv c0_i32_6 c1_i32_8 k1_t2
  let c256_i32 : BitVec 32 := 256#32
  let v13 : BitVec 32 := Scalar.muli arg6 c256_i32
  v13
def k1_off2 (k1_t2 : Fin k1_t2_loop.trips) : Fin 2 → Nat :=
  let c0_i32_6 : BitVec 32 := 0#32
  let c1_i32_8 : BitVec 32 := 1#32
  let arg6 : BitVec 32 := Scf.iv c0_i32_6 c1_i32_8 k1_t2
  let c256_i32 : BitVec 32 := 256#32
  let v13 : BitVec 32 := Scalar.muli arg6 c256_i32
  let v14 : BitVec 32 := v13
  let v15 : Index := Scalar.indexCast v14
  let c0_10 : Index := 0#32
  ![v15.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S18944x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S18944x256 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![7], ![false]⟩

@[reducible] def k2_t1_loop : Scf.Loop 32 :=
  let c0_i32 : BitVec 32 := 0#32
  let c12_i32 : BitVec 32 := 12#32
  let v1 : BitVec 32 := Scalar.addi c0_i32 c12_i32
  let c1_i32 : BitVec 32 := 1#32
  ⟨c0_i32, v1, c1_i32⟩
def k2_mult1 (k2_t1 : Fin k2_t1_loop.trips) : BitVec 32 :=
  let c0_i32 : BitVec 32 := 0#32
  let c1_i32 : BitVec 32 := 1#32
  let arg6 : BitVec 32 := Scf.iv c0_i32 c1_i32 k2_t1
  let c128_i32 : BitVec 32 := 128#32
  let v13 : BitVec 32 := Scalar.muli arg6 c128_i32
  v13
def k2_off1 (k2_t1 : Fin k2_t1_loop.trips) : Fin 2 → Nat :=
  let c0_i32 : BitVec 32 := 0#32
  let c1_i32 : BitVec 32 := 1#32
  let arg6 : BitVec 32 := Scf.iv c0_i32 c1_i32 k2_t1
  let c128_i32 : BitVec 32 := 128#32
  let v13 : BitVec 32 := Scalar.muli arg6 c128_i32
  let v14 : BitVec 32 := v13
  let v17 : Index := Scalar.indexCast v14
  let c0_12 : Index := 0#32
  ![v17.toNat, 0]
@[reducible] def k2_t2_loop : Scf.Loop 32 :=
  let c0_i32_6 : BitVec 32 := 0#32
  let c12_i32_7 : BitVec 32 := 12#32
  let v12 : BitVec 32 := Scalar.addi c0_i32_6 c12_i32_7
  let c1_i32_8 : BitVec 32 := 1#32
  ⟨c0_i32_6, v12, c1_i32_8⟩
def k2_mult2 (k2_t2 : Fin k2_t2_loop.trips) : BitVec 32 :=
  let c0_i32_6 : BitVec 32 := 0#32
  let c1_i32_8 : BitVec 32 := 1#32
  let arg6 : BitVec 32 := Scf.iv c0_i32_6 c1_i32_8 k2_t2
  let c128_i32 : BitVec 32 := 128#32
  let v13 : BitVec 32 := Scalar.muli arg6 c128_i32
  v13
def k2_off2 (k2_t2 : Fin k2_t2_loop.trips) : Fin 2 → Nat :=
  let c0_i32_6 : BitVec 32 := 0#32
  let c1_i32_8 : BitVec 32 := 1#32
  let arg6 : BitVec 32 := Scf.iv c0_i32_6 c1_i32_8 k2_t2
  let c128_i32 : BitVec 32 := 128#32
  let v13 : BitVec 32 := Scalar.muli arg6 c128_i32
  let v14 : BitVec 32 := v13
  let v15 : Index := Scalar.indexCast v14
  let c0_10 : Index := 0#32
  ![v15.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S1536x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1536x512 .i8 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![14], ![false]⟩

@[reducible] def k3_t1_loop : Scf.Loop 32 :=
  let c0_i32 : BitVec 32 := 0#32
  let c37_i32 : BitVec 32 := 37#32
  let v0 : BitVec 32 := Scalar.addi c0_i32 c37_i32
  let c1_i32 : BitVec 32 := 1#32
  ⟨c0_i32, v0, c1_i32⟩
def k3_mult1 (k3_t1 : Fin k3_t1_loop.trips) : BitVec 32 :=
  let c0_i32 : BitVec 32 := 0#32
  let c1_i32 : BitVec 32 := 1#32
  let arg7 : BitVec 32 := Scf.iv c0_i32 c1_i32 k3_t1
  let c512_i32 : BitVec 32 := 512#32
  let v12 : BitVec 32 := Scalar.muli arg7 c512_i32
  v12
def k3_off1 (k3_t1 : Fin k3_t1_loop.trips) : Fin 2 → Nat :=
  let c0_8 : Index := 0#32
  let c0_i32 : BitVec 32 := 0#32
  let c1_i32 : BitVec 32 := 1#32
  let arg7 : BitVec 32 := Scf.iv c0_i32 c1_i32 k3_t1
  let c512_i32 : BitVec 32 := 512#32
  let v12 : BitVec 32 := Scalar.muli arg7 c512_i32
  let v13 : BitVec 32 := v12
  let v14 : Index := Scalar.indexCast v13
  ![0, v14.toNat]
def k3_off2 (k3_t1 : Fin k3_t1_loop.trips) : Fin 2 → Nat :=
  let c0_i32 : BitVec 32 := 0#32
  let c1_i32 : BitVec 32 := 1#32
  let arg7 : BitVec 32 := Scf.iv c0_i32 c1_i32 k3_t1
  let c512_i32 : BitVec 32 := 512#32
  let v12 : BitVec 32 := Scalar.muli arg7 c512_i32
  let v13 : BitVec 32 := v12
  let v18 : Index := Scalar.indexCast v13
  let c0_9 : Index := 0#32
  ![v18.toNat, 0]
def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S1536x18944 .i8 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S18944x256 .i8 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1536x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1536x256 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![74], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 2 → Memref sig .tc .vmem S1536x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1536x3584 .i8 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x3584 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S256x3584 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S1536x256 .i8 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S1x256 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]
-- ==== ReferenceIdeal.lean ====
abbrev S3x512x3584 : Shape := ⟨3, ![3, 512, 3584]⟩
abbrev S18944x3584 : Shape := ⟨2, ![18944, 3584]⟩
abbrev S3x512x18944 : Shape := ⟨3, ![3, 512, 18944]⟩
abbrev S256x256 : Shape := ⟨2, ![256, 256]⟩
abbrev S_ : Shape := ⟨0, ![]⟩
abbrev S128x128 : Shape := ⟨2, ![128, 128]⟩
abbrev S3x512x74x256 : Shape := ⟨4, ![3, 512, 74, 256]⟩
abbrev S3x512 : Shape := ⟨2, ![3, 512]⟩
abbrev S3x512x1 : Shape := ⟨3, ![3, 512, 1]⟩
abbrev S74x256x3584 : Shape := ⟨3, ![74, 256, 3584]⟩
abbrev S256x74x3584 : Shape := ⟨3, ![256, 74, 3584]⟩
abbrev S3584 : Shape := ⟨1, ![3584]⟩
abbrev S1x3584 : Shape := ⟨2, ![1, 3584]⟩
abbrev S3x4x128x18944 : Shape := ⟨4, ![3, 4, 128, 18944]⟩
abbrev S128x3x4x18944 : Shape := ⟨4, ![128, 3, 4, 18944]⟩
abbrev S18944 : Shape := ⟨1, ![18944]⟩
abbrev S1x1x18944 : Shape := ⟨3, ![1, 1, 18944]⟩
abbrev S3x4x128x3584 : Shape := ⟨4, ![3, 4, 128, 3584]⟩
abbrev S128x3x4x3584 : Shape := ⟨4, ![128, 3, 4, 3584]⟩
abbrev S1x1x3584 : Shape := ⟨3, ![1, 1, 3584]⟩
abbrev S1536x1 : Shape := ⟨2, ![1536, 1]⟩
abbrev S1x18944 : Shape := ⟨2, ![1, 18944]⟩
abbrev S1536x18944 : Shape := ⟨2, ![1536, 18944]⟩
abbrev S1536x3584 : Shape := ⟨2, ![1536, 3584]⟩
abbrev S18944x1 : Shape := ⟨2, ![18944, 1]⟩

abbrev nBuf : Space → Nat
  | .hbm => 172
  | .vmem => 14
  | .smem => 0
  | _ => 0

abbrev hbmTy0_0 (i : Nat) : BufTy := match i % 128 with
  | 0 => ⟨S3x512x3584, .bf16⟩
  | 1 => ⟨S18944x3584, .bf16⟩
  | 2 => ⟨S3x512x18944, .bf16⟩
  | 3 => ⟨S256x256, .i32⟩
  | 4 => ⟨S256x256, .i32⟩
  | 5 => ⟨S256x256, .i32⟩
  | 6 => ⟨S256x256, .i32⟩
  | 7 => ⟨S_, .i32⟩
  | 8 => ⟨S256x256, .i32⟩
  | 9 => ⟨S256x256, .i32⟩
  | 10 => ⟨S_, .i32⟩
  | 11 => ⟨S256x256, .i32⟩
  | 12 => ⟨S256x256, .i32⟩
  | 13 => ⟨S_, .i32⟩
  | 14 => ⟨S256x256, .i32⟩
  | 15 => ⟨S256x256, .i32⟩
  | 16 => ⟨S256x256, .bf16⟩
  | 17 => ⟨S128x128, .i32⟩
  | 18 => ⟨S128x128, .i32⟩
  | 19 => ⟨S128x128, .i32⟩
  | 20 => ⟨S128x128, .i32⟩
  | 21 => ⟨S_, .i32⟩
  | 22 => ⟨S128x128, .i32⟩
  | 23 => ⟨S128x128, .i32⟩
  | 24 => ⟨S_, .i32⟩
  | 25 => ⟨S128x128, .i32⟩
  | 26 => ⟨S128x128, .i32⟩
  | 27 => ⟨S_, .i32⟩
  | 28 => ⟨S128x128, .i32⟩
  | 29 => ⟨S128x128, .i32⟩
  | 30 => ⟨S128x128, .bf16⟩
  | 31 => ⟨S3x512x74x256, .bf16⟩
  | 32 => ⟨S3x512x74x256, .f32⟩
  | 33 => ⟨S_, .f32⟩
  | 34 => ⟨S3x512x74x256, .f32⟩
  | 35 => ⟨S3x512x74x256, .f32⟩
  | 36 => ⟨S3x512x18944, .f32⟩
  | 37 => ⟨S3x512x18944, .f32⟩
  | 38 => ⟨S_, .f32⟩
  | 39 => ⟨S3x512, .f32⟩
  | 40 => ⟨S3x512x1, .f32⟩
  | 41 => ⟨S_, .f32⟩
  | 42 => ⟨S3x512x1, .f32⟩
  | 43 => ⟨S3x512x1, .i1⟩
  | 44 => ⟨S_, .f32⟩
  | 45 => ⟨S3x512x1, .f32⟩
  | 46 => ⟨S3x512x1, .f32⟩
  | 47 => ⟨S_, .f32⟩
  | 48 => ⟨S3x512x1, .f32⟩
  | 49 => ⟨S3x512x1, .f32⟩
  | 50 => ⟨S3x512x18944, .f32⟩
  | 51 => ⟨S3x512x18944, .f32⟩
  | 52 => ⟨S3x512x18944, .f32⟩
  | 53 => ⟨S_, .f32⟩
  | 54 => ⟨S_, .f32⟩
  | 55 => ⟨S_, .f32⟩
  | 56 => ⟨S3x512x18944, .f32⟩
  | 57 => ⟨S3x512x18944, .f32⟩
  | 58 => ⟨S_, .f32⟩
  | 59 => ⟨S3x512x18944, .f32⟩
  | 60 => ⟨S3x512x18944, .f32⟩
  | 61 => ⟨S3x512, .f32⟩
  | 62 => ⟨S74x256x3584, .bf16⟩
  | 63 => ⟨S256x74x3584, .f32⟩
  | 64 => ⟨S74x256x3584, .f32⟩
  | 65 => ⟨S_, .f32⟩
  | 66 => ⟨S74x256x3584, .f32⟩
  | 67 => ⟨S74x256x3584, .f32⟩
  | 68 => ⟨S18944x3584, .f32⟩
  | 69 => ⟨S18944x3584, .f32⟩
  | 70 => ⟨S_, .f32⟩
  | 71 => ⟨S3584, .f32⟩
  | 72 => ⟨S1x3584, .f32⟩
  | 73 => ⟨S_, .f32⟩
  | 74 => ⟨S1x3584, .f32⟩
  | 75 => ⟨S1x3584, .i1⟩
  | 76 => ⟨S_, .f32⟩
  | 77 => ⟨S1x3584, .f32⟩
  | 78 => ⟨S1x3584, .f32⟩
  | 79 => ⟨S_, .f32⟩
  | 80 => ⟨S1x3584, .f32⟩
  | 81 => ⟨S1x3584, .f32⟩
  | 82 => ⟨S18944x3584, .f32⟩
  | 83 => ⟨S18944x3584, .f32⟩
  | 84 => ⟨S18944x3584, .f32⟩
  | 85 => ⟨S_, .f32⟩
  | 86 => ⟨S_, .f32⟩
  | 87 => ⟨S_, .f32⟩
  | 88 => ⟨S18944x3584, .f32⟩
  | 89 => ⟨S18944x3584, .f32⟩
  | 90 => ⟨S_, .f32⟩
  | 91 => ⟨S18944x3584, .f32⟩
  | 92 => ⟨S18944x3584, .f32⟩
  | 93 => ⟨S3584, .f32⟩
  | 94 => ⟨S3x4x128x18944, .bf16⟩
  | 95 => ⟨S128x3x4x18944, .f32⟩
  | 96 => ⟨S3x4x128x18944, .f32⟩
  | 97 => ⟨S_, .f32⟩
  | 98 => ⟨S3x4x128x18944, .f32⟩
  | 99 => ⟨S3x4x128x18944, .f32⟩
  | 100 => ⟨S3x512x18944, .f32⟩
  | 101 => ⟨S3x512x18944, .f32⟩
  | 102 => ⟨S_, .f32⟩
  | 103 => ⟨S18944, .f32⟩
  | 104 => ⟨S1x1x18944, .f32⟩
  | 105 => ⟨S_, .f32⟩
  | 106 => ⟨S1x1x18944, .f32⟩
  | 107 => ⟨S1x1x18944, .i1⟩
  | 108 => ⟨S_, .f32⟩
  | 109 => ⟨S1x1x18944, .f32⟩
  | 110 => ⟨S1x1x18944, .f32⟩
  | 111 => ⟨S_, .f32⟩
  | 112 => ⟨S1x1x18944, .f32⟩
  | 113 => ⟨S1x1x18944, .f32⟩
  | 114 => ⟨S3x512x18944, .f32⟩
  | 115 => ⟨S3x512x18944, .f32⟩
  | 116 => ⟨S3x512x18944, .f32⟩
  | 117 => ⟨S_, .f32⟩
  | 118 => ⟨S_, .f32⟩
  | 119 => ⟨S_, .f32⟩
  | 120 => ⟨S3x512x18944, .f32⟩
  | 121 => ⟨S3x512x18944, .f32⟩
  | 122 => ⟨S_, .f32⟩
  | 123 => ⟨S3x512x18944, .f32⟩
  | 124 => ⟨S3x512x18944, .f32⟩
  | 125 => ⟨S18944, .f32⟩
  | 126 => ⟨S3x4x128x3584, .bf16⟩
  | 127 => ⟨S128x3x4x3584, .f32⟩
  | _ => ⟨S3x512x3584, .bf16⟩

abbrev hbmTy0_1 (i : Nat) : BufTy := match i % 128 with
  | 0 => ⟨S3x4x128x3584, .f32⟩
  | 1 => ⟨S_, .f32⟩
  | 2 => ⟨S3x4x128x3584, .f32⟩
  | 3 => ⟨S3x4x128x3584, .f32⟩
  | 4 => ⟨S3x512x3584, .f32⟩
  | 5 => ⟨S3x512x3584, .f32⟩
  | 6 => ⟨S_, .f32⟩
  | 7 => ⟨S3584, .f32⟩
  | 8 => ⟨S1x1x3584, .f32⟩
  | 9 => ⟨S_, .f32⟩
  | 10 => ⟨S1x1x3584, .f32⟩
  | 11 => ⟨S1x1x3584, .i1⟩
  | 12 => ⟨S_, .f32⟩
  | 13 => ⟨S1x1x3584, .f32⟩
  | 14 => ⟨S1x1x3584, .f32⟩
  | 15 => ⟨S_, .f32⟩
  | 16 => ⟨S1x1x3584, .f32⟩
  | 17 => ⟨S1x1x3584, .f32⟩
  | 18 => ⟨S3x512x3584, .f32⟩
  | 19 => ⟨S3x512x3584, .f32⟩
  | 20 => ⟨S3x512x3584, .f32⟩
  | 21 => ⟨S_, .f32⟩
  | 22 => ⟨S_, .f32⟩
  | 23 => ⟨S_, .f32⟩
  | 24 => ⟨S3x512x3584, .f32⟩
  | 25 => ⟨S3x512x3584, .f32⟩
  | 26 => ⟨S_, .f32⟩
  | 27 => ⟨S3x512x3584, .f32⟩
  | 28 => ⟨S3x512x3584, .f32⟩
  | 29 => ⟨S3584, .f32⟩
  | 30 => ⟨S1536x1, .f32⟩
  | 31 => ⟨S1x3584, .f32⟩
  | 32 => ⟨S1x18944, .f32⟩
  | 33 => ⟨S1x3584, .f32⟩
  | 34 => ⟨S1536x18944, .f32⟩
  | 35 => ⟨S1536x18944, .f32⟩
  | 36 => ⟨S1536x3584, .f32⟩
  | 37 => ⟨S18944x1, .f32⟩
  | 38 => ⟨S1536x3584, .bf16⟩
  | 39 => ⟨S18944x3584, .f32⟩
  | 40 => ⟨S1536x18944, .i8⟩
  | 41 => ⟨S18944x3584, .i8⟩
  | 42 => ⟨S1536x18944, .i8⟩
  | 43 => ⟨S1536x3584, .i8⟩
  | _ => ⟨S3x512x3584, .bf16⟩

abbrev hbmTy (i : Nat) : BufTy := match i / 128 with
  | 0 => hbmTy0_0 i
  | 1 => hbmTy0_1 i
  | _ => ⟨S3x512x3584, .bf16⟩

abbrev bufTy : (tb : Table) → Fin (tcTables nBuf tb) → BufTy
  | .hbm, ⟨i, _⟩ => hbmTy i
  | .local _ .vmem, ⟨0, _⟩ => ⟨S1536x18944, .f32⟩
  | .local _ .vmem, ⟨1, _⟩ => ⟨S18944x3584, .f32⟩
  | .local _ .vmem, ⟨2, _⟩ => ⟨S1536x18944, .f32⟩
  | .local _ .vmem, ⟨3, _⟩ => ⟨S1536x3584, .f32⟩
  | .local _ .vmem, ⟨4, _⟩ => ⟨S1536x1, .f32⟩
  | .local _ .vmem, ⟨5, _⟩ => ⟨S1x3584, .f32⟩
  | .local _ .vmem, ⟨6, _⟩ => ⟨S18944x1, .f32⟩
  | .local _ .vmem, ⟨7, _⟩ => ⟨S1x3584, .f32⟩
  | .local _ .vmem, ⟨8, _⟩ => ⟨S1536x3584, .bf16⟩
  | .local _ .vmem, ⟨9, _⟩ => ⟨S18944x3584, .f32⟩
  | .local _ .vmem, ⟨10, _⟩ => ⟨S1536x18944, .i8⟩
  | .local _ .vmem, ⟨11, _⟩ => ⟨S18944x3584, .i8⟩
  | .local _ .vmem, ⟨12, _⟩ => ⟨S1536x18944, .i8⟩
  | .local _ .vmem, ⟨13, _⟩ => ⟨S1536x3584, .i8⟩
  | _, _ => ⟨S3x512x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_c_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_call0_v0 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_cst_10 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_11 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_12 : Ref sig .tc := ⟨.hbm, 70, rfl⟩
abbrev main_v47 : Ref sig .tc := ⟨.hbm, 71, rfl⟩
abbrev main_v48 : Ref sig .tc := ⟨.hbm, 72, rfl⟩
abbrev main_cst_13 : Ref sig .tc := ⟨.hbm, 73, rfl⟩
abbrev main_v49 : Ref sig .tc := ⟨.hbm, 74, rfl⟩
abbrev main_v50 : Ref sig .tc := ⟨.hbm, 75, rfl⟩
abbrev main_cst_14 : Ref sig .tc := ⟨.hbm, 76, rfl⟩
abbrev main_v51 : Ref sig .tc := ⟨.hbm, 77, rfl⟩
abbrev main_v52 : Ref sig .tc := ⟨.hbm, 78, rfl⟩
abbrev main_cst_15 : Ref sig .tc := ⟨.hbm, 79, rfl⟩
abbrev main_call3_v0 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_16 : Ref sig .tc := ⟨.hbm, 85, rfl⟩
abbrev main_cst_17 : Ref sig .tc := ⟨.hbm, 86, rfl⟩
abbrev main_call5_v0 : Ref sig .tc := ⟨.hbm, 87, rfl⟩
abbrev main_call5_v1 : Ref sig .tc := ⟨.hbm, 88, rfl⟩
abbrev main_call5_v2 : Ref sig .tc := ⟨.hbm, 89, rfl⟩
abbrev main_call5_v3 : Ref sig .tc := ⟨.hbm, 90, rfl⟩
abbrev main_call5_v4 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_18 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_19 : Ref sig .tc := ⟨.hbm, 102, rfl⟩
abbrev main_v66 : Ref sig .tc := ⟨.hbm, 103, rfl⟩
abbrev main_v67 : Ref sig .tc := ⟨.hbm, 104, rfl⟩
abbrev main_cst_20 : Ref sig .tc := ⟨.hbm, 105, rfl⟩
abbrev main_v68 : Ref sig .tc := ⟨.hbm, 106, rfl⟩
abbrev main_v69 : Ref sig .tc := ⟨.hbm, 107, rfl⟩
abbrev main_cst_21 : Ref sig .tc := ⟨.hbm, 108, rfl⟩
abbrev main_v70 : Ref sig .tc := ⟨.hbm, 109, rfl⟩
abbrev main_v71 : Ref sig .tc := ⟨.hbm, 110, rfl⟩
abbrev main_cst_22 : Ref sig .tc := ⟨.hbm, 111, rfl⟩
abbrev main_call6_v0 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_cst_23 : Ref sig .tc := ⟨.hbm, 117, rfl⟩
abbrev main_cst_24 : Ref sig .tc := ⟨.hbm, 118, rfl⟩
abbrev main_call8_v0 : Ref sig .tc := ⟨.hbm, 119, rfl⟩
abbrev main_call8_v1 : Ref sig .tc := ⟨.hbm, 120, rfl⟩
abbrev main_call8_v2 : Ref sig .tc := ⟨.hbm, 121, rfl⟩
abbrev main_call8_v3 : Ref sig .tc := ⟨.hbm, 122, rfl⟩
abbrev main_call8_v4 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_cst_25 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_cst_26 : Ref sig .tc := ⟨.hbm, 134, rfl⟩
abbrev main_v85 : Ref sig .tc := ⟨.hbm, 135, rfl⟩
abbrev main_v86 : Ref sig .tc := ⟨.hbm, 136, rfl⟩
abbrev main_cst_27 : Ref sig .tc := ⟨.hbm, 137, rfl⟩
abbrev main_v87 : Ref sig .tc := ⟨.hbm, 138, rfl⟩
abbrev main_v88 : Ref sig .tc := ⟨.hbm, 139, rfl⟩
abbrev main_cst_28 : Ref sig .tc := ⟨.hbm, 140, rfl⟩
abbrev main_v89 : Ref sig .tc := ⟨.hbm, 141, rfl⟩
abbrev main_v90 : Ref sig .tc := ⟨.hbm, 142, rfl⟩
abbrev main_cst_29 : Ref sig .tc := ⟨.hbm, 143, rfl⟩
abbrev main_call9_v0 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_cst_30 : Ref sig .tc := ⟨.hbm, 149, rfl⟩
abbrev main_cst_31 : Ref sig .tc := ⟨.hbm, 150, rfl⟩
abbrev main_call11_v0 : Ref sig .tc := ⟨.hbm, 151, rfl⟩
abbrev main_call11_v1 : Ref sig .tc := ⟨.hbm, 152, rfl⟩
abbrev main_call11_v2 : Ref sig .tc := ⟨.hbm, 153, rfl⟩
abbrev main_call11_v3 : Ref sig .tc := ⟨.hbm, 154, rfl⟩
abbrev main_call11_v4 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105_0 : Ref sig .tc := ⟨.hbm, 166, rfl⟩
abbrev main_v105_1 : Ref sig .tc := ⟨.hbm, 167, rfl⟩
abbrev main_v105_2 : Ref sig .tc := ⟨.hbm, 168, rfl⟩
abbrev main_v105_3 : Ref sig .tc := ⟨.hbm, 169, rfl⟩
abbrev main_v105_4 : Ref sig .tc := ⟨.hbm, 170, rfl⟩
abbrev main_v105_5 : Ref sig .tc := ⟨.hbm, 171, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S1536x18944 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18944x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x18944 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S18944x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x3584 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x3584 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S18944x3584 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1536x18944 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S18944x3584 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1536x18944 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1536x3584 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.Whole.lean ====
/-
  One store through the whole of a buffer, read back.
-/
module

public import Idealize.ShloMosaic.Lib.Pipeline.Value
public import Idealize.ShloMosaic.Lib.Pipeline.FrameBody

@[expose] public section

noncomputable section

namespace Cert.Whole

open Idealize.ShloMosaic

/-- Both offsets of a whole-buffer access are zero. -/
theorem hz : (![0, 0] : Fin 2 → Nat) = fun _ => 0 := funext fun a => by fin_cases a <;> rfl

/-- What a buffer reads after one store through all of it is the stored value. -/
theorem read_store {Val : EltTy → Type} [∀ e, Nonempty (Val e)] {sig : RefSig} {κ : Kind} {sp : Space} {S : Shape} {e : EltTy}
    (v : View sig κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ fun y => ⟨_, List.mem_singleton_self _, View.mem_set_unit_zero h inb y⟩,
    View.canon_unit_zero h]

/-- What a load through all of a buffer reads is what the buffer holds. -/
theorem readAt_whole {Val : EltTy → Type} {sig : RefSig} {κ : Kind} {sp : Space} {S : Shape} {e : EltTy}
    (v : View sig κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h]

/-- A load of part of an array, read at an index. -/
theorem ld_at {Val : EltTy → Type} {e : EltTy} {S : Shape} (X : S.Idx → Val e) (off size : Fin S.rank → Nat) (inb : ∀ a, off a + size a ≤ S.size a)
    (j : (⟨S.rank, size⟩ : Shape).Idx) (i : S.Idx) (h : ∀ a, (i a).val = off a + (j a).val) :
    View.ld X (Rect.unit off size inb) j = X i := by
  rw [View.ld_unit]
  unfold extractStridedSlice
  exact congrArg X (funext fun a => Fin.ext (h a).symm)

end Cert.Whole

end
-- ==== Proof.Fill.lean ====
/-
  A buffer filled tile by tile along one axis.

  One more stored tile extends the part of the buffer known to hold a given function, and a full set of tiles
  leaves the whole buffer at it.
-/
module

public import Idealize.ShloMosaic.Lib.Pipeline.Value
public import Idealize.ShloMosaic.Lib.Pipeline.FrameBody
public import Idealize.ShloMosaic.Lib.WritesUnit

@[expose] public section

noncomputable section

namespace Cert.Fill

open Idealize.ShloMosaic

variable {Val : EltTy → Type} [∀ e, Nonempty (Val e)] {sig : RefSig} {κ : Kind} {sp : Space} {S : Shape} {e : EltTy}

/-- The next tile along axis `a`: if the buffer holds `G` below `lo` and the tile stored at `lo`, as wide as the
    buffer on every other axis, holds `G`'s values, the buffer holds `G` below the tile's end. -/
theorem step (v : View sig κ sp S e) (f : v.ty.Contents Val) (a : Fin S.rank) (G : S.Idx → Val e) (lo hi : ℕ)
    {off size : Fin S.rank → ℕ} (inb : ∀ b, off b + size b ≤ S.size b) (w : (Rect.unit off size inb).shape.Idx → Val e)
    (h0 : off a = lo) (hW : lo + size a = hi) (hcov : ∀ b, b ≠ a → off b = 0 ∧ size b = S.size b)
    (hG : ∀ (y : S.Idx) (x : (Rect.unit off size inb).shape.Idx), (∀ b, (y b).val = off b + (x b).val) → w x = G y)
    (hf : ∀ y : S.Idx, (y a).val < lo → v.read Val f y = G y) :
    ∀ y : S.Idx, (y a).val < hi →
      v.read Val (v.writes Val f [(⟨Rect.unit off size inb, w⟩ : View.Piece Val S e)]) y = G y := by
  intro y hy
  by_cases hlo : (y a).val < lo
  · refine (View.read_writes_cons_unit_of_not_mem v f inb w [] y rfl a (.inl (by omega))).trans ?_
    rw [View.writes_nil]
    exact hf y hlo
  · have hx : ∀ b, (y b).val = off b + ((y b).val - off b) := fun b => by
      by_cases hb : b = a
      · subst hb; omega
      · have := hcov b hb; omega
    have hlt : ∀ b, (y b).val - off b < size b := fun b => by
      by_cases hb : b = a
      · subst hb; omega
      · have h1 := hcov b hb
        have h2 := (y b).isLt
        omega
    let x : (Rect.unit off size inb).shape.Idx := fun b => ⟨(y b).val - off b, hlt b⟩
    exact (View.read_writes_cons_unit_of_mem v f inb w [] y x rfl hx).trans (hG y x hx)

/-- A buffer stored in pieces that all hold `G`'s values and together cover it reads as `G`. -/
theorem read_eq (v : View sig κ sp S e) (f : v.ty.Contents Val) (G : S.Idx → Val e) :
    ∀ (L : List (View.Piece Val S e)), (∀ p ∈ L, ∀ x, p.2 x = G (p.1.emb x)) →
      ∀ y : S.Idx, (∃ p ∈ L, y ∈ p.1.set) → v.read Val (v.writes Val f L) y = G y
  | [], _, y, ⟨p, hp, _⟩ => absurd hp (List.not_mem_nil)
  | q :: L, h, y, hy => by
    by_cases hq : y ∈ q.1.set
    · obtain ⟨x, rfl⟩ : ∃ x, q.1.emb x = y := by
        rw [← Rect.map_emb_univ] at hq
        obtain ⟨x, -, hx⟩ := Finset.mem_map.mp hq
        exact ⟨x, hx⟩
      obtain ⟨r, w⟩ := q
      rw [View.read_writes_cons_emb]
      exact h _ (List.mem_cons_self) x
    · obtain ⟨p, hp, hyp⟩ := hy
      have hpL : p ∈ L := by
        rcases List.mem_cons.mp hp with rfl | h'
        · exact absurd hyp hq
        · exact h'
      rw [View.writes_cons, View.read_slice_write_of_not_mem q.1 _ _ _ (by rw [Rect.map_emb_univ]; exact hq)]
      exact read_eq v f G L (fun p hp => h p (List.mem_cons_of_mem _ hp)) y ⟨p, hpL, hyp⟩

end Cert.Fill

end
-- ==== Proof.KernelDyo.lean ====
/-
  One pallas_call of the kernel, run: the output gradient in blocks of 128 tokens: each block is turned by the Hadamard matrix in column tiles of 256,
  while the largest magnitude of every row is collected; the row's scale and the codes follow.

  The first loop's invariant says which part of the scratch holds the turned block (`rot`) and what the running
  maximum is (`am`); the second loop's says which part of the result's buffer holds the codes (`cod`).
-/
module

public import proofs.«01_k».proof.Proof.Gen.Kernel.Skeleton
public import proofs.«01_k».proof.Proof.Gen.Kernel.Launch
public import proofs.«01_k».proof.Proof.Gen.Kernel.Points
public import Idealize.ShloMosaic.Lib.Exec
public import Idealize.ShloMosaic.Lib.Tactic
public import Idealize.ShloMosaic.Lib.Pipeline.Kit
public import Idealize.ShloMosaic.Lib.Pipeline.Value
public import Idealize.ShloMosaic.Lib.Pipeline.FrameBody
public import Idealize.ShloMosaic.Lib.Pipeline.RegionArraysS
public import Idealize.ShloMosaic.Lib.WordCmp
public import Idealize.ShloMosaic.Lib.Claim
public import Idealize.ShloMosaic.Lib.Pointwise.Index
public import proofs.«01_k».proof.Proof.Whole
public import proofs.«01_k».proof.Proof.Fill

@[expose] public section

set_option maxRecDepth 16384

noncomputable section

namespace Cert.Kernel.Dyo

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one grid point computes -/

theorem trips1 : k0_t1_loop.trips = 74 := by decide +kernel
theorem trips2 : k0_t2_loop.trips = 74 := by decide +kernel

/-- Tile `k` of the input block. -/
abbrev tile (x1 : Vec F S128x18944 .bf16) (k : Fin k0_t1_loop.trips) : Vec F S128x256 .bf16 :=
  View.ld x1 (Rect.unit (s := S128x18944) (k0_off1 k) S128x256.size (k0_off1_inb k))

/-- Tile `k` of the turned block. -/
abbrev tile2 (r : Vec F S128x18944 .f32) (k : Fin k0_t2_loop.trips) : Vec F S128x256 .f32 :=
  View.ld r (Rect.unit (s := S128x18944) (k0_off2 k) S128x256.size (k0_off2_inb k))

theorem div1 (y : S128x18944.Idx) : (y 1).val / 256 < k0_t1_loop.trips := by
  rw [trips1]; have h : (y 1).val < 18944 := (y 1).isLt; omega
theorem div2 (y : S128x18944.Idx) : (y 1).val / 256 < k0_t2_loop.trips := by
  rw [trips2]; have h : (y 1).val < 18944 := (y 1).isLt; omega

/-- Where an element lies inside its tile. -/
def within (y : S128x18944.Idx) : S128x256.Idx := (Idealize.ShloMosaic.ix2 (y 0) (⟨(y 1).val % 256, Nat.mod_lt _ (by decide)⟩ : Fin 256))

/-- The turned block. -/
def rot (x1 : Vec F S128x18944 .bf16) (x2 : Vec F S256x256 .bf16) : Vec F S128x18944 .f32 := fun y =>
  k0_pay3 (tile x1 ⟨(y 1).val / 256, div1 y⟩) x2 (within y)

/-- The codes, from the running maximum after the last tile and the turned block. -/
def cod (v2 : FVec F S128x128 .f32) (r : Vec F S128x18944 .f32) : Vec F S128x18944 .i8 := fun y =>
  k0_pay6 v2 (tile2 r ⟨(y 1).val / 256, div2 y⟩) (within y)

/-- The running maximum before tile `k`. -/
def am (x1 : Vec F S128x18944 .bf16) (x2 : Vec F S256x256 .bf16) : ℕ → FVec F S128x128 .f32
  | 0 => k0_pay1
  | k + 1 => if h : k < k0_t1_loop.trips then k0_pay4 (am x1 x2 k) (tile x1 ⟨k, h⟩) x2 else am x1 x2 k

theorem am_succ (x1 : Vec F S128x18944 .bf16) (x2 : Vec F S256x256 .bf16) (k : Fin k0_t1_loop.trips) :
    am x1 x2 (k.val + 1) = k0_pay4 (am x1 x2 k.val) (tile x1 k) x2 := by
  rw [am, dif_pos k.isLt]

/-- An element of tile `k`, by its place in the block and in the tile. -/
theorem place1 (k : Fin k0_t1_loop.trips) (y : S128x18944.Idx) (x : S128x256.Idx) (h : ∀ b, (y b).val = k0_off1 k b + (x b).val) :
    (⟨(y 1).val / 256, div1 y⟩ : Fin k0_t1_loop.trips) = k ∧ within y = x := by
  have h0 : (y 0).val = k0_off1 k 0 + (x 0).val := h 0
  have h1 : (y 1).val = k0_off1 k 1 + (x 1).val := h 1
  rw [k0_off1_eq] at h0 h1
  have e0 : (![0, 256 * k.val] : Fin 2 → ℕ) 0 = 0 := rfl
  have e1 : (![0, 256 * k.val] : Fin 2 → ℕ) 1 = 256 * k.val := rfl
  have hx : (x 1).val < 256 := (x 1).isLt
  rw [e0] at h0; rw [e1] at h1
  refine ⟨Fin.ext ?_, funext fun b => Fin.ext ?_⟩
  · show (y 1).val / 256 = k.val
    omega
  · match b with
    | ⟨0, _⟩ => show (y 0).val = (x 0).val; omega
    | ⟨1, _⟩ => show (y 1).val % 256 = (x 1).val; omega

theorem place2 (k : Fin k0_t2_loop.trips) (y : S128x18944.Idx) (x : S128x256.Idx) (h : ∀ b, (y b).val = k0_off2 k b + (x b).val) :
    (⟨(y 1).val / 256, div2 y⟩ : Fin k0_t2_loop.trips) = k ∧ within y = x :=
  place1 k y x h

/-! ## The two loops -/

/-- Before tile `k` of the first loop: the scratch holds the turned block up to the tile, the carried value is the
    running maximum. -/
abbrev inv1 (c : Dev nD) (arg1 : Memref sig .tc .vmem S128x18944 .bf16) (arg2 : Memref sig .tc .vmem S256x256 .bf16)
    (arg5 : Memref sig .tc .vmem S128x18944 .f32) (X1 : BufTy.Contents (Elt F) arg1.view.ty)
    (X2 : BufTy.Contents (Elt F) arg2.view.ty) (k : ℕ) (u : FVec F S128x128 .f32) : sProp 𝕄 :=
  iprop((arg1.view.loc (c : Thread nD τ) ↦[arg1.view.set]{fullShare} X1)
    ∗ (arg2.view.loc (c : Thread nD τ) ↦[arg2.view.set]{fullShare} X2)
    ∗ (∃ f, (arg5.view.loc (c : Thread nD τ) ↦[arg5.view.set]{fullShare} f)
        ∗ ⌜k ≠ 0 → ∀ y : S128x18944.Idx, (y 1).val < 256 * k → arg5.view.read (Elt F) f y
            = rot (arg1.view.read (Elt F) X1) (arg2.view.read (Elt F) X2) y⌝)
    ∗ ⌜u = am (arg1.view.read (Elt F) X1) (arg2.view.read (Elt F) X2) k⌝)

set_option warn.classDefReducibility false in
/-- The first loop by its invariant. -/
@[sl_loop] def loop1 (c : Dev nD) (i : grid0.Coords) (arg1 : Memref sig .tc .vmem S128x18944 .bf16) (harg1 : arg1.IsWhole) (arg2 : Memref sig .tc .vmem S256x256 .bf16) (harg2 : arg2.IsWhole) (arg3 : Memref sig .tc .vmem S128x18944 .i8) (harg3 : arg3.IsWhole) (arg4 : Memref sig .tc .vmem S128x1 .f32) (harg4 : arg4.IsWhole) (arg5 : Memref sig .tc .vmem S128x18944 .f32) (harg5 : arg5.IsWhole)
    (E : Set ℕ) (X1 : BufTy.Contents (Elt F) arg1.view.ty) (X2 : BufTy.Contents (Elt F) arg2.view.ty) :
    LoopInv (M := 𝕄) frame (wpE (defs₀ (F := F)) Variants.none (c : Thread nD τ) none) E
      k0_t1_loop.lb k0_t1_loop.ub k0_t1_loop.st k0_t1_ok (k0_pay1 (F := F)) (k0_t1_body (F := F) i arg1 harg1 arg2 harg2 arg3 harg3 arg4 harg4 arg5 harg5) where
  inv := inv1 (F := F) c arg1 arg2 arg5 X1 X2
  step k u := by
    unfold k0_t1_body
    iintro ⟨H1, H2, ⟨%f, H5, %h5⟩, %hu⟩
    sl_exec
    sl_step
    isplitl [H1]; · iexact H1
    isplitl [H2]; · iexact H2
    isplitl [H5]
    · iexists _; isplitl [H5]; · iexact H5
      ipureintro
      intro _
      refine Fill.step arg5.view f 1 _ (256 * k.val) (256 * (k.val + 1)) _ _ (by rw [k0_off1_eq]; rfl) (Nat.mul_succ _ _).symm
        (fun b hb => ?_) (fun y x hyx => ?_) (fun y hy => h5 (fun h0 => by rw [h0] at hy; exact absurd hy (Nat.not_lt_zero _)) y hy)
      · match b with
        | ⟨0, _⟩ => exact ⟨by rw [k0_off1_eq]; rfl, rfl⟩
        | ⟨1, _⟩ => exact absurd rfl hb
      · obtain ⟨hk, hx⟩ := place1 k y x hyx
        rw [Whole.readAt_whole _ _ Whole.hz, View.readAt_eq_ld]
        unfold rot
        rw [hk, hx]
    · ipureintro
      rw [am_succ, hu, Whole.readAt_whole _ _ Whole.hz, View.readAt_eq_ld]

/-- Before tile `k` of the second loop: the result's buffer holds the codes up to the tile. -/
abbrev inv2 (c : Dev nD) (arg3 : Memref sig .tc .vmem S128x18944 .i8)
    (arg5 : Memref sig .tc .vmem S128x18944 .f32) (X5 : BufTy.Contents (Elt F) arg5.view.ty)
    (v2 : FVec F S128x128 .f32) (k : ℕ) (u : PUnit) : sProp 𝕄 :=
  iprop((arg5.view.loc (c : Thread nD τ) ↦[arg5.view.set]{fullShare} X5)
    ∗ (∃ f, (arg3.view.loc (c : Thread nD τ) ↦[arg3.view.set]{fullShare} f)
        ∗ ⌜k ≠ 0 → ∀ y : S128x18944.Idx, (y 1).val < 256 * k → arg3.view.read (Elt F) f y
            = cod v2 (arg5.view.read (Elt F) X5) y⌝))

set_option warn.classDefReducibility false in
/-- The second loop by its invariant. -/
@[sl_loop] def loop2 (c : Dev nD) (i : grid0.Coords) (arg1 : Memref sig .tc .vmem S128x18944 .bf16) (harg1 : arg1.IsWhole) (arg2 : Memref sig .tc .vmem S256x256 .bf16) (harg2 : arg2.IsWhole) (arg3 : Memref sig .tc .vmem S128x18944 .i8) (harg3 : arg3.IsWhole) (arg4 : Memref sig .tc .vmem S128x1 .f32) (harg4 : arg4.IsWhole) (arg5 : Memref sig .tc .vmem S128x18944 .f32) (harg5 : arg5.IsWhole)
    (E : Set ℕ) (X5 : BufTy.Contents (Elt F) arg5.view.ty) (v2 : FVec F S128x128 .f32) :
    LoopInv (M := 𝕄) frame (wpE (defs₀ (F := F)) Variants.none (c : Thread nD τ) none) E
      k0_t2_loop.lb k0_t2_loop.ub k0_t2_loop.st k0_t2_ok ⟨⟩ (k0_t2_body (F := F) i arg1 harg1 arg2 harg2 arg3 harg3 arg4 harg4 arg5 harg5 v2) where
  inv := inv2 (F := F) c arg3 arg5 X5 v2
  step k u := by
    unfold k0_t2_body
    iintro ⟨H5, ⟨%f, H3, %h3⟩⟩
    sl_exec
    sl_step
    isplitl [H5]; · iexact H5
    iexists _; isplitl [H3]; · iexact H3
    ipureintro
    intro _
    refine Fill.step arg3.view f 1 _ (256 * k.val) (256 * (k.val + 1)) _ _ (by rw [k0_off2_eq]; rfl) (Nat.mul_succ _ _).symm
      (fun b hb => ?_) (fun y x hyx => ?_) (fun y hy => h3 (fun h0 => by rw [h0] at hy; exact absurd hy (Nat.not_lt_zero _)) y hy)
    · match b with
      | ⟨0, _⟩ => exact ⟨by rw [k0_off2_eq]; rfl, rfl⟩
      | ⟨1, _⟩ => exact absurd rfl hb
    · obtain ⟨hk, hx⟩ := place2 k y x hyx
      rw [View.readAt_eq_ld]
      unfold cod
      rw [hk, hx]

/-! ## One grid point -/

/-- The codes a grid point leaves, -/
def outC (x1 : Vec F S128x18944 .bf16) (x2 : Vec F S256x256 .bf16) : Vec F S128x18944 .i8 := cod (am x1 x2 k0_t1_loop.trips) (rot x1 x2)
/-- and the scales. -/
def outS (x1 : Vec F S128x18944 .bf16) (x2 : Vec F S256x256 .bf16) : Vec F S128x1 .f32 := k0_pay5 (am x1 x2 k0_t1_loop.trips)

set_option maxHeartbeats 1000000 in
/-- The body's triple. -/
theorem body_run (c : Dev nD) (i : grid0.Coords) (arg1 : Memref sig .tc .vmem S128x18944 .bf16) (harg1 : arg1.IsWhole) (arg2 : Memref sig .tc .vmem S256x256 .bf16) (harg2 : arg2.IsWhole) (arg3 : Memref sig .tc .vmem S128x18944 .i8) (harg3 : arg3.IsWhole) (arg4 : Memref sig .tc .vmem S128x1 .f32) (harg4 : arg4.IsWhole) (arg5 : Memref sig .tc .vmem S128x18944 .f32) (harg5 : arg5.IsWhole)
    (x1 : Vec F S128x18944 .bf16) (x2 : Vec F S256x256 .bf16)
    (E : Set ℕ) (K : PUnit → sProp 𝕄) :
    iprop(owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x1 ∗ owns (c : Thread nD τ) arg2 fullShare x2
            ∗ owns (c : Thread nD τ) arg3 fullShare (outC x1 x2) ∗ owns (c : Thread nD τ) arg4 fullShare (outS x1 x2)
            ∗ (∃ d, owns (c : Thread nD τ) arg5 fullShare d)) -∗ K ⟨⟩))
      ⊢ wp frame (wpE (defs₀ (F := F)) Variants.none c none) E (cc0_quant_dyo i arg1 harg1 arg2 harg2 arg3 harg3 arg4 harg4 arg5 harg5) K := by
  simp only [cc0_quant_dyo_eq_skeleton]; unfold cc0_quant_dyo_skel
  unfold owns
  iintro ⟨⟨%f1, %hf1, H1⟩, ⟨%f2, %hf2, H2⟩, ⟨%d3, %f3, -, H3⟩, ⟨%d4, %f4, -, H4⟩, ⟨%d5, %f5, -, H5⟩, Hk⟩
  sl_exec
  sl_step
  iapply Hk
  have t1 : Scf.trips k0_t1_loop.lb k0_t1_loop.ub k0_t1_loop.st = 74 := trips1
  have t2 : Scf.trips k0_t2_loop.lb k0_t2_loop.ub k0_t2_loop.st = 74 := trips2
  have h5 : arg5.view.read (Elt F) fL0 = rot x1 x2 := funext fun y => by
    rw [← hf1, ← hf2]
    refine hL3 (by rw [t1]; decide) y ?_
    rw [t1]; exact (y 1).isLt
  isplitl [H1]
  · iexists _; isplitr; · ipureintro; exact hf1
    iexact H1
  isplitl [H2]
  · iexists _; isplitr; · ipureintro; exact hf2
    iexact H2
  isplitl [H3]
  · iexists _; isplitr; swap; · iexact H3
    ipureintro
    refine funext fun y => ?_
    refine (hL7 (by rw [t2]; decide) y ?_).trans ?_
    · rw [t2]; exact (y 1).isLt
    · rw [h5, hf1, hf2]; rfl
  isplitl [H4]
  · iexists _; isplitr; swap; · iexact H4
    ipureintro
    refine (Whole.read_store _ _ Whole.hz _ _).trans ?_
    rw [hf1, hf2]; rfl
  iexists _, _; isplitr; swap; · iexact H5
  ipureintro; rfl

/-! ## The pipeline's proof data, from any contents `W` of the buffers at the region's entry -/

variable (W : Dev nD → Valuation τ sig (Elt F))

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- Each window's current staging buffer at point `t`. -/
abbrev ms0 (t : Fin cfg0.N) : Memref sig .tc .vmem S128x18944 .bf16 := win0_0.stage (cfg0.slots t 0)
abbrev ms1 (t : Fin cfg0.N) : Memref sig .tc .vmem S256x256 .bf16 := win0_1.stage (cfg0.slots t 1)
abbrev ms2 (t : Fin cfg0.N) : Memref sig .tc .vmem S128x18944 .i8 := win0_2.stage (cfg0.slots t 2)
abbrev ms3 (t : Fin cfg0.N) : Memref sig .tc .vmem S128x1 .f32 := win0_3.stage (cfg0.slots t 3)
/-- The scratch. -/
abbrev scM : Memref sig .tc .vmem S128x18944 .f32 := Memref.whole cc0_scratch0

/-- Between points: the scratch and the other buffers of the call, at some contents. -/
def Φ (c : Dev nD) : sProp 𝕄 :=
  iprop((∃ d, owns (c : Thread nD τ) scM fullShare d) ∗ Pipeline.scopedRestBut spec0 c [cc0_scratch0])

theorem Φ_eq (c : Dev nD) : (Pipeline.scopedRest spec0 c : sProp 𝕄) = Φ c := by
  unfold Φ; rw [scopedRest0_split]; simp only [scM, owns_whole]; try rfl

/-- The proof data: the arrays as the region finds them, the inputs' buffers left at their blocks, the results' at the
    codes and the scales; nothing owed. -/
def dats (c : Dev nD) : Dat τ (Elt F) Unit ℕ (UR sig nD τ) ℕ cfg0 c where
  A w := W c (Proc.devRef .tc (Pipeline.arrRef spec0 w))
  after w t := match w with
    | ⟨0, _⟩ => iblk W c 0 t
    | ⟨1, _⟩ => iblk W c 1 t
    | ⟨2, _⟩ => outC (iblk W c 0 t) (iblk W c 1 t)
    | ⟨3, _⟩ => outS (iblk W c 0 t) (iblk W c 1 t)
  Φ _ := Φ c
  q _ := fullShare
  owed _ := 0

theorem A_eq (c : Dev nD) (w : Fin cfg0.W) : (dats W c).A w = W c (Proc.devRef .tc (Pipeline.arrRef spec0 w)) := by
  dsimp only [dats]

theorem after0 (c : Dev nD) (t : Fin cfg0.N) : (dats W c).after 0 t = iblk W c 0 t := by dsimp only [dats]
theorem after1 (c : Dev nD) (t : Fin cfg0.N) : (dats W c).after 1 t = iblk W c 1 t := by dsimp only [dats]
theorem after2 (c : Dev nD) (t : Fin cfg0.N) : (dats W c).after 2 t = outC (iblk W c 0 t) (iblk W c 1 t) := by dsimp only [dats]
theorem after3 (c : Dev nD) (t : Fin cfg0.N) : (dats W c).after 3 t = outS (iblk W c 0 t) (iblk W c 1 t) := by dsimp only [dats]

theorem before0 (c : Dev nD) (t : Fin cfg0.N) (d) : (dats W c).before 0 t d = iblk W c 0 t :=
  ((dats W c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats W c).before 1 t d = iblk W c 1 t :=
  ((dats W c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats W c).Φ t.castSucc ∗ (dats W c).owesAt () t.castSucc
    ∗ (∃ d, owns (c : Thread nD τ) (ms0 t) fullShare ((dats W c).before 0 t d))
    ∗ (∃ d, owns (c : Thread nD τ) (ms1 t) fullShare ((dats W c).before 1 t d))
    ∗ (∃ d, owns (c : Thread nD τ) (ms2 t) fullShare ((dats W c).before 2 t d))
    ∗ (∃ d, owns (c : Thread nD τ) (ms3 t) fullShare ((dats W c).before 3 t d)))

/-- and what it returns. -/
def bodyPost (c : Dev nD) (t : Fin cfg0.N) : sProp 𝕄 :=
  iprop((dats W c).Φ t.succ ∗ (dats W c).owesAt () t.succ
    ∗ owns (c : Thread nD τ) (ms0 t) fullShare ((dats W c).after 0 t)
    ∗ owns (c : Thread nD τ) (ms1 t) fullShare ((dats W c).after 1 t)
    ∗ owns (c : Thread nD τ) (ms2 t) fullShare ((dats W c).after 2 t)
    ∗ owns (c : Thread nD τ) (ms3 t) fullShare ((dats W c).after 3 t))

/-- The body at any point. -/
theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before0, before1]
  rw [show (dats W c).Φ t.succ = Φ c from rfl, show (dats W c).Φ t.castSucc = Φ c from rfl,
    show (dats W c).owesAt () t.succ = (dats W c).owesAt () t.castSucc from rfl,
    after0, after1, after2, after3]
  unfold Φ
  iintro ⟨⟨HS, Hg⟩, Ho, ⟨%d0, H0⟩, ⟨%d1, H1⟩, ⟨%d2, H2⟩, ⟨%d3, H3⟩⟩
  iapply (body_run c (grid0.coords t) _ _ _ _ _ _ _ _ _ _ (iblk W c 0 t) (iblk W c 1 t) Set.univ _)
  isplitl [H0]; · iexact H0
  isplitl [H1]; · iexact H1
  isplitl [H2]; · iexists _; iexact H2
  isplitl [H3]; · iexists _; iexact H3
  isplitl [HS]; · iexact HS
  iintro ⟨H0, H1, H2, H3, HS⟩
  isplitl [HS Hg]
  · isplitl [HS]
    · iexact HS
    iexact Hg
  isplitl [Ho]; · iexact Ho
  isplitl [H0]; · iexact H0
  isplitl [H1]; · iexact H1
  isplitl [H2]; · iexact H2
  iexact H3

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) W c) (defs₀ (F := F)) Variants.none () Set.univ := fun t => by
  rw [bigSep_W0, bigSep_W0, defs₀_row]
  exact triple_restated (sound_body W c t) rfl .rfl fun _ => .rfl

end Cert.Kernel.Dyo

end
-- ==== Proof.KernelWq.lean ====
/-
  One pallas_call of the kernel, run: the weight in blocks of 256 input channels: each block is turned by the Hadamard matrix in row tiles of 256,
  while the largest magnitude of every column is collected; the column's scale and the codes follow.

  The first loop's invariant says which part of the scratch holds the turned block (`rot`) and what the running
  maximum is (`am`); the second loop's says which part of the result's buffer holds the codes (`cod`).
-/
module

public import proofs.«01_k».proof.Proof.Gen.Kernel.Skeleton
public import proofs.«01_k».proof.Proof.Gen.Kernel.Launch
public import proofs.«01_k».proof.Proof.Gen.Kernel.Points
public import Idealize.ShloMosaic.Lib.Exec
public import Idealize.ShloMosaic.Lib.Tactic
public import Idealize.ShloMosaic.Lib.Pipeline.Kit
public import Idealize.ShloMosaic.Lib.Pipeline.Value
public import Idealize.ShloMosaic.Lib.Pipeline.FrameBody
public import Idealize.ShloMosaic.Lib.Pipeline.RegionArraysS
public import Idealize.ShloMosaic.Lib.WordCmp
public import Idealize.ShloMosaic.Lib.Claim
public import Idealize.ShloMosaic.Lib.Pointwise.Index
public import proofs.«01_k».proof.Proof.Whole
public import proofs.«01_k».proof.Proof.Fill

@[expose] public section

set_option maxRecDepth 16384

noncomputable section

namespace Cert.Kernel.Wq

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one grid point computes -/

theorem trips1 : k1_t1_loop.trips = 74 := by decide +kernel
theorem trips2 : k1_t2_loop.trips = 74 := by decide +kernel

/-- Tile `k` of the input block. -/
abbrev tile (x1 : Vec F S18944x256 .bf16) (k : Fin k1_t1_loop.trips) : Vec F S256x256 .bf16 :=
  View.ld x1 (Rect.unit (s := S18944x256) (k1_off1 k) S256x256.size (k1_off1_inb k))

/-- Tile `k` of the turned block. -/
abbrev tile2 (r : Vec F S18944x256 .f32) (k : Fin k1_t2_loop.trips) : Vec F S256x256 .f32 :=
  View.ld r (Rect.unit (s := S18944x256) (k1_off2 k) S256x256.size (k1_off2_inb k))

theorem div1 (y : S18944x256.Idx) : (y 0).val / 256 < k1_t1_loop.trips := by
  rw [trips1]; have h : (y 0).val < 18944 := (y 0).isLt; omega
theorem div2 (y : S18944x256.Idx) : (y 0).val / 256 < k1_t2_loop.trips := by
  rw [trips2]; have h : (y 0).val < 18944 := (y 0).isLt; omega

/-- Where an element lies inside its tile. -/
def within (y : S18944x256.Idx) : S256x256.Idx := (Idealize.ShloMosaic.ix2 (⟨(y 0).val % 256, Nat.mod_lt _ (by decide)⟩ : Fin 256) (y 1))

/-- The turned block. -/
def rot (x1 : Vec F S18944x256 .bf16) (x2 : Vec F S256x256 .bf16) : Vec F S18944x256 .f32 := fun y =>
  k1_pay3 x2 (tile x1 ⟨(y 0).val / 256, div1 y⟩) (within y)

/-- The codes, from the running maximum after the last tile and the turned block. -/
def cod (v2 : FVec F S8x256 .f32) (r : Vec F S18944x256 .f32) : Vec F S18944x256 .i8 := fun y =>
  k1_pay6 v2 (tile2 r ⟨(y 0).val / 256, div2 y⟩) (within y)

/-- The running maximum before tile `k`. -/
def am (x1 : Vec F S18944x256 .bf16) (x2 : Vec F S256x256 .bf16) : ℕ → FVec F S8x256 .f32
  | 0 => k1_pay1
  | k + 1 => if h : k < k1_t1_loop.trips then k1_pay4 (am x1 x2 k) x2 (tile x1 ⟨k, h⟩) else am x1 x2 k

theorem am_succ (x1 : Vec F S18944x256 .bf16) (x2 : Vec F S256x256 .bf16) (k : Fin k1_t1_loop.trips) :
    am x1 x2 (k.val + 1) = k1_pay4 (am x1 x2 k.val) x2 (tile x1 k) := by
  rw [am, dif_pos k.isLt]

/-- An element of tile `k`, by its place in the block and in the tile. -/
theorem place1 (k : Fin k1_t1_loop.trips) (y : S18944x256.Idx) (x : S256x256.Idx) (h : ∀ b, (y b).val = k1_off1 k b + (x b).val) :
    (⟨(y 0).val / 256, div1 y⟩ : Fin k1_t1_loop.trips) = k ∧ within y = x := by
  have h0 : (y 0).val = k1_off1 k 0 + (x 0).val := h 0
  have h1 : (y 1).val = k1_off1 k 1 + (x 1).val := h 1
  rw [k1_off1_eq] at h0 h1
  have e0 : (![256 * k.val, 0] : Fin 2 → ℕ) 0 = 256 * k.val := rfl
  have e1 : (![256 * k.val, 0] : Fin 2 → ℕ) 1 = 0 := rfl
  have hx : (x 0).val < 256 := (x 0).isLt
  rw [e0] at h0; rw [e1] at h1
  refine ⟨Fin.ext ?_, funext fun b => Fin.ext ?_⟩
  · show (y 0).val / 256 = k.val
    omega
  · match b with
    | ⟨0, _⟩ => show (y 0).val % 256 = (x 0).val; omega
    | ⟨1, _⟩ => show (y 1).val = (x 1).val; omega

theorem place2 (k : Fin k1_t2_loop.trips) (y : S18944x256.Idx) (x : S256x256.Idx) (h : ∀ b, (y b).val = k1_off2 k b + (x b).val) :
    (⟨(y 0).val / 256, div2 y⟩ : Fin k1_t2_loop.trips) = k ∧ within y = x :=
  place1 k y x h

/-! ## The two loops -/

/-- Before tile `k` of the first loop: the scratch holds the turned block up to the tile, the carried value is the
    running maximum. -/
abbrev inv1 (c : Dev nD) (arg1 : Memref sig .tc .vmem S18944x256 .bf16) (arg2 : Memref sig .tc .vmem S256x256 .bf16)
    (arg5 : Memref sig .tc .vmem S18944x256 .f32) (X1 : BufTy.Contents (Elt F) arg1.view.ty)
    (X2 : BufTy.Contents (Elt F) arg2.view.ty) (k : ℕ) (u : FVec F S8x256 .f32) : sProp 𝕄 :=
  iprop((arg1.view.loc (c : Thread nD τ) ↦[arg1.view.set]{fullShare} X1)
    ∗ (arg2.view.loc (c : Thread nD τ) ↦[arg2.view.set]{fullShare} X2)
    ∗ (∃ f, (arg5.view.loc (c : Thread nD τ) ↦[arg5.view.set]{fullShare} f)
        ∗ ⌜k ≠ 0 → ∀ y : S18944x256.Idx, (y 0).val < 256 * k → arg5.view.read (Elt F) f y
            = rot (arg1.view.read (Elt F) X1) (arg2.view.read (Elt F) X2) y⌝)
    ∗ ⌜u = am (arg1.view.read (Elt F) X1) (arg2.view.read (Elt F) X2) k⌝)

set_option warn.classDefReducibility false in
/-- The first loop by its invariant. -/
@[sl_loop] def loop1 (c : Dev nD) (i : grid1.Coords) (arg1 : Memref sig .tc .vmem S18944x256 .bf16) (harg1 : arg1.IsWhole) (arg2 : Memref sig .tc .vmem S256x256 .bf16) (harg2 : arg2.IsWhole) (arg3 : Memref sig .tc .vmem S18944x256 .i8) (harg3 : arg3.IsWhole) (arg4 : Memref sig .tc .vmem S1x256 .f32) (harg4 : arg4.IsWhole) (arg5 : Memref sig .tc .vmem S18944x256 .f32) (harg5 : arg5.IsWhole)
    (E : Set ℕ) (X1 : BufTy.Contents (Elt F) arg1.view.ty) (X2 : BufTy.Contents (Elt F) arg2.view.ty) :
    LoopInv (M := 𝕄) frame (wpE (defs₀ (F := F)) Variants.none (c : Thread nD τ) none) E
      k1_t1_loop.lb k1_t1_loop.ub k1_t1_loop.st k1_t1_ok (k1_pay1 (F := F)) (k1_t1_body (F := F) i arg1 harg1 arg2 harg2 arg3 harg3 arg4 harg4 arg5 harg5) where
  inv := inv1 (F := F) c arg1 arg2 arg5 X1 X2
  step k u := by
    unfold k1_t1_body
    iintro ⟨H1, H2, ⟨%f, H5, %h5⟩, %hu⟩
    sl_exec
    sl_step
    isplitl [H1]; · iexact H1
    isplitl [H2]; · iexact H2
    isplitl [H5]
    · iexists _; isplitl [H5]; · iexact H5
      ipureintro
      intro _
      refine Fill.step arg5.view f 0 _ (256 * k.val) (256 * (k.val + 1)) _ _ (by rw [k1_off1_eq]; rfl) (Nat.mul_succ _ _).symm
        (fun b hb => ?_) (fun y x hyx => ?_) (fun y hy => h5 (fun h0 => by rw [h0] at hy; exact absurd hy (Nat.not_lt_zero _)) y hy)
      · match b with
        | ⟨1, _⟩ => exact ⟨by rw [k1_off1_eq]; rfl, rfl⟩
        | ⟨0, _⟩ => exact absurd rfl hb
      · obtain ⟨hk, hx⟩ := place1 k y x hyx
        rw [Whole.readAt_whole _ _ Whole.hz, View.readAt_eq_ld]
        unfold rot
        rw [hk, hx]
    · ipureintro
      rw [am_succ, hu, Whole.readAt_whole _ _ Whole.hz, View.readAt_eq_ld]

/-- Before tile `k` of the second loop: the result's buffer holds the codes up to the tile. -/
abbrev inv2 (c : Dev nD) (arg3 : Memref sig .tc .vmem S18944x256 .i8)
    (arg5 : Memref sig .tc .vmem S18944x256 .f32) (X5 : BufTy.Contents (Elt F) arg5.view.ty)
    (v2 : FVec F S8x256 .f32) (k : ℕ) (u : PUnit) : sProp 𝕄 :=
  iprop((arg5.view.loc (c : Thread nD τ) ↦[arg5.view.set]{fullShare} X5)
    ∗ (∃ f, (arg3.view.loc (c : Thread nD τ) ↦[arg3.view.set]{fullShare} f)
        ∗ ⌜k ≠ 0 → ∀ y : S18944x256.Idx, (y 0).val < 256 * k → arg3.view.read (Elt F) f y
            = cod v2 (arg5.view.read (Elt F) X5) y⌝))

set_option warn.classDefReducibility false in
/-- The second loop by its invariant. -/
@[sl_loop] def loop2 (c : Dev nD) (i : grid1.Coords) (arg1 : Memref sig .tc .vmem S18944x256 .bf16) (harg1 : arg1.IsWhole) (arg2 : Memref sig .tc .vmem S256x256 .bf16) (harg2 : arg2.IsWhole) (arg3 : Memref sig .tc .vmem S18944x256 .i8) (harg3 : arg3.IsWhole) (arg4 : Memref sig .tc .vmem S1x256 .f32) (harg4 : arg4.IsWhole) (arg5 : Memref sig .tc .vmem S18944x256 .f32) (harg5 : arg5.IsWhole)
    (E : Set ℕ) (X5 : BufTy.Contents (Elt F) arg5.view.ty) (v2 : FVec F S8x256 .f32) :
    LoopInv (M := 𝕄) frame (wpE (defs₀ (F := F)) Variants.none (c : Thread nD τ) none) E
      k1_t2_loop.lb k1_t2_loop.ub k1_t2_loop.st k1_t2_ok ⟨⟩ (k1_t2_body (F := F) i arg1 harg1 arg2 harg2 arg3 harg3 arg4 harg4 arg5 harg5 v2) where
  inv := inv2 (F := F) c arg3 arg5 X5 v2
  step k u := by
    unfold k1_t2_body
    iintro ⟨H5, ⟨%f, H3, %h3⟩⟩
    sl_exec
    sl_step
    isplitl [H5]; · iexact H5
    iexists _; isplitl [H3]; · iexact H3
    ipureintro
    intro _
    refine Fill.step arg3.view f 0 _ (256 * k.val) (256 * (k.val + 1)) _ _ (by rw [k1_off2_eq]; rfl) (Nat.mul_succ _ _).symm
      (fun b hb => ?_) (fun y x hyx => ?_) (fun y hy => h3 (fun h0 => by rw [h0] at hy; exact absurd hy (Nat.not_lt_zero _)) y hy)
    · match b with
      | ⟨1, _⟩ => exact ⟨by rw [k1_off2_eq]; rfl, rfl⟩
      | ⟨0, _⟩ => exact absurd rfl hb
    · obtain ⟨hk, hx⟩ := place2 k y x hyx
      rw [View.readAt_eq_ld]
      unfold cod
      rw [hk, hx]

/-! ## One grid point -/

/-- The codes a grid point leaves, -/
def outC (x1 : Vec F S18944x256 .bf16) (x2 : Vec F S256x256 .bf16) : Vec F S18944x256 .i8 := cod (am x1 x2 k1_t1_loop.trips) (rot x1 x2)
/-- and the scales. -/
def outS (x1 : Vec F S18944x256 .bf16) (x2 : Vec F S256x256 .bf16) : Vec F S1x256 .f32 := k1_pay5 (am x1 x2 k1_t1_loop.trips)

set_option maxHeartbeats 1000000 in
/-- The body's triple. -/
theorem body_run (c : Dev nD) (i : grid1.Coords) (arg1 : Memref sig .tc .vmem S18944x256 .bf16) (harg1 : arg1.IsWhole) (arg2 : Memref sig .tc .vmem S256x256 .bf16) (harg2 : arg2.IsWhole) (arg3 : Memref sig .tc .vmem S18944x256 .i8) (harg3 : arg3.IsWhole) (arg4 : Memref sig .tc .vmem S1x256 .f32) (harg4 : arg4.IsWhole) (arg5 : Memref sig .tc .vmem S18944x256 .f32) (harg5 : arg5.IsWhole)
    (x1 : Vec F S18944x256 .bf16) (x2 : Vec F S256x256 .bf16)
    (E : Set ℕ) (K : PUnit → sProp 𝕄) :
    iprop(owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x1 ∗ owns (c : Thread nD τ) arg2 fullShare x2
            ∗ owns (c : Thread nD τ) arg3 fullShare (outC x1 x2) ∗ owns (c : Thread nD τ) arg4 fullShare (outS x1 x2)
            ∗ (∃ d, owns (c : Thread nD τ) arg5 fullShare d)) -∗ K ⟨⟩))
      ⊢ wp frame (wpE (defs₀ (F := F)) Variants.none c none) E (cc1_quant_w i arg1 harg1 arg2 harg2 arg3 harg3 arg4 harg4 arg5 harg5) K := by
  simp only [cc1_quant_w_eq_skeleton]; unfold cc1_quant_w_skel
  unfold owns
  iintro ⟨⟨%f1, %hf1, H1⟩, ⟨%f2, %hf2, H2⟩, ⟨%d3, %f3, -, H3⟩, ⟨%d4, %f4, -, H4⟩, ⟨%d5, %f5, -, H5⟩, Hk⟩
  sl_exec
  sl_step
  iapply Hk
  have t1 : Scf.trips k1_t1_loop.lb k1_t1_loop.ub k1_t1_loop.st = 74 := trips1
  have t2 : Scf.trips k1_t2_loop.lb k1_t2_loop.ub k1_t2_loop.st = 74 := trips2
  have h5 : arg5.view.read (Elt F) fL0 = rot x1 x2 := funext fun y => by
    rw [← hf1, ← hf2]
    refine hL3 (by rw [t1]; decide) y ?_
    rw [t1]; exact (y 0).isLt
  isplitl [H1]
  · iexists _; isplitr; · ipureintro; exact hf1
    iexact H1
  isplitl [H2]
  · iexists _; isplitr; · ipureintro; exact hf2
    iexact H2
  isplitl [H3]
  · iexists _; isplitr; swap; · iexact H3
    ipureintro
    refine funext fun y => ?_
    refine (hL7 (by rw [t2]; decide) y ?_).trans ?_
    · rw [t2]; exact (y 0).isLt
    · rw [h5, hf1, hf2]; rfl
  isplitl [H4]
  · iexists _; isplitr; swap; · iexact H4
    ipureintro
    refine (Whole.read_store _ _ Whole.hz _ _).trans ?_
    rw [hf1, hf2]; rfl
  iexists _, _; isplitr; swap; · iexact H5
  ipureintro; rfl

/-! ## The pipeline's proof data, from any contents `W` of the buffers at the region's entry -/

variable (W : Dev nD → Valuation τ sig (Elt F))

/-- Window `w`'s block at point `t`. -/
def iblk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- Each window's current staging buffer at point `t`. -/
abbrev ms0 (t : Fin cfg1.N) : Memref sig .tc .vmem S18944x256 .bf16 := win1_0.stage (cfg1.slots t 0)
abbrev ms1 (t : Fin cfg1.N) : Memref sig .tc .vmem S256x256 .bf16 := win1_1.stage (cfg1.slots t 1)
abbrev ms2 (t : Fin cfg1.N) : Memref sig .tc .vmem S18944x256 .i8 := win1_2.stage (cfg1.slots t 2)
abbrev ms3 (t : Fin cfg1.N) : Memref sig .tc .vmem S1x256 .f32 := win1_3.stage (cfg1.slots t 3)
/-- The scratch. -/
abbrev scM : Memref sig .tc .vmem S18944x256 .f32 := Memref.whole cc1_scratch0

/-- Between points: the scratch and the other buffers of the call, at some contents. -/
def Φ (c : Dev nD) : sProp 𝕄 :=
  iprop((∃ d, owns (c : Thread nD τ) scM fullShare d) ∗ Pipeline.scopedRestBut spec1 c [cc1_scratch0])

theorem Φ_eq (c : Dev nD) : (Pipeline.scopedRest spec1 c : sProp 𝕄) = Φ c := by
  unfold Φ; rw [scopedRest1_split]; simp only [scM, owns_whole]; try rfl

/-- The proof data: the arrays as the region finds them, the inputs' buffers left at their blocks, the results' at the
    codes and the scales; nothing owed. -/
def dats (c : Dev nD) : Dat τ (Elt F) Unit ℕ (UR sig nD τ) ℕ cfg1 c where
  A w := W c (Proc.devRef .tc (Pipeline.arrRef spec1 w))
  after w t := match w with
    | ⟨0, _⟩ => iblk W c 0 t
    | ⟨1, _⟩ => iblk W c 1 t
    | ⟨2, _⟩ => outC (iblk W c 0 t) (iblk W c 1 t)
    | ⟨3, _⟩ => outS (iblk W c 0 t) (iblk W c 1 t)
  Φ _ := Φ c
  q _ := fullShare
  owed _ := 0

theorem A_eq (c : Dev nD) (w : Fin cfg1.W) : (dats W c).A w = W c (Proc.devRef .tc (Pipeline.arrRef spec1 w)) := by
  dsimp only [dats]

theorem after0 (c : Dev nD) (t : Fin cfg1.N) : (dats W c).after 0 t = iblk W c 0 t := by dsimp only [dats]
theorem after1 (c : Dev nD) (t : Fin cfg1.N) : (dats W c).after 1 t = iblk W c 1 t := by dsimp only [dats]
theorem after2 (c : Dev nD) (t : Fin cfg1.N) : (dats W c).after 2 t = outC (iblk W c 0 t) (iblk W c 1 t) := by dsimp only [dats]
theorem after3 (c : Dev nD) (t : Fin cfg1.N) : (dats W c).after 3 t = outS (iblk W c 0 t) (iblk W c 1 t) := by dsimp only [dats]

theorem before0 (c : Dev nD) (t : Fin cfg1.N) (d) : (dats W c).before 0 t d = iblk W c 0 t :=
  ((dats W c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg1.N) (d) : (dats W c).before 1 t d = iblk W c 1 t :=
  ((dats W c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg1.N) : sProp 𝕄 :=
  iprop((dats W c).Φ t.castSucc ∗ (dats W c).owesAt () t.castSucc
    ∗ (∃ d, owns (c : Thread nD τ) (ms0 t) fullShare ((dats W c).before 0 t d))
    ∗ (∃ d, owns (c : Thread nD τ) (ms1 t) fullShare ((dats W c).before 1 t d))
    ∗ (∃ d, owns (c : Thread nD τ) (ms2 t) fullShare ((dats W c).before 2 t d))
    ∗ (∃ d, owns (c : Thread nD τ) (ms3 t) fullShare ((dats W c).before 3 t d)))

/-- and what it returns. -/
def bodyPost (c : Dev nD) (t : Fin cfg1.N) : sProp 𝕄 :=
  iprop((dats W c).Φ t.succ ∗ (dats W c).owesAt () t.succ
    ∗ owns (c : Thread nD τ) (ms0 t) fullShare ((dats W c).after 0 t)
    ∗ owns (c : Thread nD τ) (ms1 t) fullShare ((dats W c).after 1 t)
    ∗ owns (c : Thread nD τ) (ms2 t) fullShare ((dats W c).after 2 t)
    ∗ owns (c : Thread nD τ) (ms3 t) fullShare ((dats W c).after 3 t))

/-- The body at any point. -/
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before0, before1]
  rw [show (dats W c).Φ t.succ = Φ c from rfl, show (dats W c).Φ t.castSucc = Φ c from rfl,
    show (dats W c).owesAt () t.succ = (dats W c).owesAt () t.castSucc from rfl,
    after0, after1, after2, after3]
  unfold Φ
  iintro ⟨⟨HS, Hg⟩, Ho, ⟨%d0, H0⟩, ⟨%d1, H1⟩, ⟨%d2, H2⟩, ⟨%d3, H3⟩⟩
  iapply (body_run c (grid1.coords t) _ _ _ _ _ _ _ _ _ _ (iblk W c 0 t) (iblk W c 1 t) Set.univ _)
  isplitl [H0]; · iexact H0
  isplitl [H1]; · iexact H1
  isplitl [H2]; · iexists _; iexact H2
  isplitl [H3]; · iexists _; iexact H3
  isplitl [HS]; · iexact HS
  iintro ⟨H0, H1, H2, H3, HS⟩
  isplitl [HS Hg]
  · isplitl [HS]
    · iexact HS
    iexact Hg
  isplitl [Ho]; · iexact Ho
  isplitl [H0]; · iexact H0
  isplitl [H1]; · iexact H1
  isplitl [H2]; · iexact H2
  iexact H3

/-- The body table's row at point `t` is the body there. -/
theorem defs₀_row (t : Fin cfg1.N) :
    defs₀ (F := F) .tc cfg1.body (cfg1.bodyArgs t (cfg1.slots t)) = bodyAt1 t := by
  unfold defs₀; rw [Defs.onTc_tc]

/-- The body obligation, at every point. -/
theorem body_obligation (c : Dev nD) : BodyObligation (dats (F := F) W c) (defs₀ (F := F)) Variants.none () Set.univ := fun t => by
  rw [bigSep_W1, bigSep_W1, defs₀_row]
  exact triple_restated (sound_body W c t) rfl .rfl fun _ => .rfl

end Cert.Kernel.Wq

end
-- ==== Proof.KernelXq.lean ====
/-
  One pallas_call of the kernel, run: the activation in blocks of 512 input channels: each block is turned by the token Hadamard matrix in row tiles of
  128, while the largest magnitude of every column is collected; the column's scale and the codes follow.

  The first loop's invariant says which part of the scratch holds the turned block (`rot`) and what the running
  maximum is (`am`); the second loop's says which part of the result's buffer holds the codes (`cod`).
-/
module

public import proofs.«01_k».proof.Proof.Gen.Kernel.Skeleton
public import proofs.«01_k».proof.Proof.Gen.Kernel.Launch
public import proofs.«01_k».proof.Proof.Gen.Kernel.Points
public import Idealize.ShloMosaic.Lib.Exec
public import Idealize.ShloMosaic.Lib.Tactic
public import Idealize.ShloMosaic.Lib.Pipeline.Kit
public import Idealize.ShloMosaic.Lib.Pipeline.Value
public import Idealize.ShloMosaic.Lib.Pipeline.FrameBody
public import Idealize.ShloMosaic.Lib.Pipeline.RegionArraysS
public import Idealize.ShloMosaic.Lib.WordCmp
public import Idealize.ShloMosaic.Lib.Claim
public import Idealize.ShloMosaic.Lib.Pointwise.Index
public import proofs.«01_k».proof.Proof.Whole
public import proofs.«01_k».proof.Proof.Fill

@[expose] public section

set_option maxRecDepth 16384

noncomputable section

namespace Cert.Kernel.Xq

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one grid point computes -/

theorem trips1 : k2_t1_loop.trips = 12 := by decide +kernel
theorem trips2 : k2_t2_loop.trips = 12 := by decide +kernel

/-- Tile `k` of the input block. -/
abbrev tile (x1 : Vec F S1536x512 .bf16) (k : Fin k2_t1_loop.trips) : Vec F S128x512 .bf16 :=
  View.ld x1 (Rect.unit (s := S1536x512) (k2_off1 k) S128x512.size (k2_off1_inb k))

/-- Tile `k` of the turned block. -/
abbrev tile2 (r : Vec F S1536x512 .f32) (k : Fin k2_t2_loop.trips) : Vec F S128x512 .f32 :=
  View.ld r (Rect.unit (s := S1536x512) (k2_off2 k) S128x512.size (k2_off2_inb k))

theorem div1 (y : S1536x512.Idx) : (y 0).val / 128 < k2_t1_loop.trips := by
  rw [trips1]; have h : (y 0).val < 1536 := (y 0).isLt; omega
theorem div2 (y : S1536x512.Idx) : (y 0).val / 128 < k2_t2_loop.trips := by
  rw [trips2]; have h : (y 0).val < 1536 := (y 0).isLt; omega

/-- Where an element lies inside its tile. -/
def within (y : S1536x512.Idx) : S128x512.Idx := (Idealize.ShloMosaic.ix2 (⟨(y 0).val % 128, Nat.mod_lt _ (by decide)⟩ : Fin 128) (y 1))

/-- The turned block. -/
def rot (x1 : Vec F S1536x512 .bf16) (x2 : Vec F S128x128 .bf16) : Vec F S1536x512 .f32 := fun y =>
  k2_pay3 x2 (tile x1 ⟨(y 0).val / 128, div1 y⟩) (within y)

/-- The codes, from the running maximum after the last tile and the turned block. -/
def cod (v2 : FVec F S8x512 .f32) (r : Vec F S1536x512 .f32) : Vec F S1536x512 .i8 := fun y =>
  k2_pay6 v2 (tile2 r ⟨(y 0).val / 128, div2 y⟩) (within y)

/-- The running maximum before tile `k`. -/
def am (x1 : Vec F S1536x512 .bf16) (x2 : Vec F S128x128 .bf16) : ℕ → FVec F S8x512 .f32
  | 0 => k2_pay1
  | k + 1 => if h : k < k2_t1_loop.trips then k2_pay4 (am x1 x2 k) x2 (tile x1 ⟨k, h⟩) else am x1 x2 k

theorem am_succ (x1 : Vec F S1536x512 .bf16) (x2 : Vec F S128x128 .bf16) (k : Fin k2_t1_loop.trips) :
    am x1 x2 (k.val + 1) = k2_pay4 (am x1 x2 k.val) x2 (tile x1 k) := by
  rw [am, dif_pos k.isLt]

/-- An element of tile `k`, by its place in the block and in the tile. -/
theorem place1 (k : Fin k2_t1_loop.trips) (y : S1536x512.Idx) (x : S128x512.Idx) (h : ∀ b, (y b).val = k2_off1 k b + (x b).val) :
    (⟨(y 0).val / 128, div1 y⟩ : Fin k2_t1_loop.trips) = k ∧ within y = x := by
  have h0 : (y 0).val = k2_off1 k 0 + (x 0).val := h 0
  have h1 : (y 1).val = k2_off1 k 1 + (x 1).val := h 1
  rw [k2_off1_eq] at h0 h1
  have e0 : (![128 * k.val, 0] : Fin 2 → ℕ) 0 = 128 * k.val := rfl
  have e1 : (![128 * k.val, 0] : Fin 2 → ℕ) 1 = 0 := rfl
  have hx : (x 0).val < 128 := (x 0).isLt
  rw [e0] at h0; rw [e1] at h1
  refine ⟨Fin.ext ?_, funext fun b => Fin.ext ?_⟩
  · show (y 0).val / 128 = k.val
    omega
  · match b with
    | ⟨0, _⟩ => show (y 0).val % 128 = (x 0).val; omega
    | ⟨1, _⟩ => show (y 1).val = (x 1).val; omega

theorem place2 (k : Fin k2_t2_loop.trips) (y : S1536x512.Idx) (x : S128x512.Idx) (h : ∀ b, (y b).val = k2_off2 k b + (x b).val) :
    (⟨(y 0).val / 128, div2 y⟩ : Fin k2_t2_loop.trips) = k ∧ within y = x :=
  place1 k y x h

/-! ## The two loops -/

/-- Before tile `k` of the first loop: the scratch holds the turned block up to the tile, the carried value is the
    running maximum. -/
abbrev inv1 (c : Dev nD) (arg1 : Memref sig .tc .vmem S1536x512 .bf16) (arg2 : Memref sig .tc .vmem S128x128 .bf16)
    (arg5 : Memref sig .tc .vmem S1536x512 .f32) (X1 : BufTy.Contents (Elt F) arg1.view.ty)
    (X2 : BufTy.Contents (Elt F) arg2.view.ty) (k : ℕ) (u : FVec F S8x512 .f32) : sProp 𝕄 :=
  iprop((arg1.view.loc (c : Thread nD τ) ↦[arg1.view.set]{fullShare} X1)
    ∗ (arg2.view.loc (c : Thread nD τ) ↦[arg2.view.set]{fullShare} X2)
    ∗ (∃ f, (arg5.view.loc (c : Thread nD τ) ↦[arg5.view.set]{fullShare} f)
        ∗ ⌜k ≠ 0 → ∀ y : S1536x512.Idx, (y 0).val < 128 * k → arg5.view.read (Elt F) f y
            = rot (arg1.view.read (Elt F) X1) (arg2.view.read (Elt F) X2) y⌝)
    ∗ ⌜u = am (arg1.view.read (Elt F) X1) (arg2.view.read (Elt F) X2) k⌝)

set_option warn.classDefReducibility false in
/-- The first loop by its invariant. -/
@[sl_loop] def loop1 (c : Dev nD) (i : grid2.Coords) (arg1 : Memref sig .tc .vmem S1536x512 .bf16) (harg1 : arg1.IsWhole) (arg2 : Memref sig .tc .vmem S128x128 .bf16) (harg2 : arg2.IsWhole) (arg3 : Memref sig .tc .vmem S1536x512 .i8) (harg3 : arg3.IsWhole) (arg4 : Memref sig .tc .vmem S1x512 .f32) (harg4 : arg4.IsWhole) (arg5 : Memref sig .tc .vmem S1536x512 .f32) (harg5 : arg5.IsWhole)
    (E : Set ℕ) (X1 : BufTy.Contents (Elt F) arg1.view.ty) (X2 : BufTy.Contents (Elt F) arg2.view.ty) :
    LoopInv (M := 𝕄) frame (wpE (defs₀ (F := F)) Variants.none (c : Thread nD τ) none) E
      k2_t1_loop.lb k2_t1_loop.ub k2_t1_loop.st k2_t1_ok (k2_pay1 (F := F)) (k2_t1_body (F := F) i arg1 harg1 arg2 harg2 arg3 harg3 arg4 harg4 arg5 harg5) where
  inv := inv1 (F := F) c arg1 arg2 arg5 X1 X2
  step k u := by
    unfold k2_t1_body
    iintro ⟨H1, H2, ⟨%f, H5, %h5⟩, %hu⟩
    sl_exec
    sl_step
    isplitl [H1]; · iexact H1
    isplitl [H2]; · iexact H2
    isplitl [H5]
    · iexists _; isplitl [H5]; · iexact H5
      ipureintro
      intro _
      refine Fill.step arg5.view f 0 _ (128 * k.val) (128 * (k.val + 1)) _ _ (by rw [k2_off1_eq]; rfl) (Nat.mul_succ _ _).symm
        (fun b hb => ?_) (fun y x hyx => ?_) (fun y hy => h5 (fun h0 => by rw [h0] at hy; exact absurd hy (Nat.not_lt_zero _)) y hy)
      · match b with
        | ⟨1, _⟩ => exact ⟨by rw [k2_off1_eq]; rfl, rfl⟩
        | ⟨0, _⟩ => exact absurd rfl hb
      · obtain ⟨hk, hx⟩ := place1 k y x hyx
        rw [Whole.readAt_whole _ _ Whole.hz, View.readAt_eq_ld]
        unfold rot
        rw [hk, hx]
    · ipureintro
      rw [am_succ, hu, Whole.readAt_whole _ _ Whole.hz, View.readAt_eq_ld]

/-- Before tile `k` of the second loop: the result's buffer holds the codes up to the tile. -/
abbrev inv2 (c : Dev nD) (arg3 : Memref sig .tc .vmem S1536x512 .i8)
    (arg5 : Memref sig .tc .vmem S1536x512 .f32) (X5 : BufTy.Contents (Elt F) arg5.view.ty)
    (v2 : FVec F S8x512 .f32) (k : ℕ) (u : PUnit) : sProp 𝕄 :=
  iprop((arg5.view.loc (c : Thread nD τ) ↦[arg5.view.set]{fullShare} X5)
    ∗ (∃ f, (arg3.view.loc (c : Thread nD τ) ↦[arg3.view.set]{fullShare} f)
        ∗ ⌜k ≠ 0 → ∀ y : S1536x512.Idx, (y 0).val < 128 * k → arg3.view.read (Elt F) f y
            = cod v2 (arg5.view.read (Elt F) X5) y⌝))

set_option warn.classDefReducibility false in
/-- The second loop by its invariant. -/
@[sl_loop] def loop2 (c : Dev nD) (i : grid2.Coords) (arg1 : Memref sig .tc .vmem S1536x512 .bf16) (harg1 : arg1.IsWhole) (arg2 : Memref sig .tc .vmem S128x128 .bf16) (harg2 : arg2.IsWhole) (arg3 : Memref sig .tc .vmem S1536x512 .i8) (harg3 : arg3.IsWhole) (arg4 : Memref sig .tc .vmem S1x512 .f32) (harg4 : arg4.IsWhole) (arg5 : Memref sig .tc .vmem S1536x512 .f32) (harg5 : arg5.IsWhole)
    (E : Set ℕ) (X5 : BufTy.Contents (Elt F) arg5.view.ty) (v2 : FVec F S8x512 .f32) :
    LoopInv (M := 𝕄) frame (wpE (defs₀ (F := F)) Variants.none (c : Thread nD τ) none) E
      k2_t2_loop.lb k2_t2_loop.ub k2_t2_loop.st k2_t2_ok ⟨⟩ (k2_t2_body (F := F) i arg1 harg1 arg2 harg2 arg3 harg3 arg4 harg4 arg5 harg5 v2) where
  inv := inv2 (F := F) c arg3 arg5 X5 v2
  step k u := by
    unfold k2_t2_body
    iintro ⟨H5, ⟨%f, H3, %h3⟩⟩
    sl_exec
    sl_step
    isplitl [H5]; · iexact H5
    iexists _; isplitl [H3]; · iexact H3
    ipureintro
    intro _
    refine Fill.step arg3.view f 0 _ (128 * k.val) (128 * (k.val + 1)) _ _ (by rw [k2_off2_eq]; rfl) (Nat.mul_succ _ _).symm
      (fun b hb => ?_) (fun y x hyx => ?_) (fun y hy => h3 (fun h0 => by rw [h0] at hy; exact absurd hy (Nat.not_lt_zero _)) y hy)
    · match b with
      | ⟨1, _⟩ => exact ⟨by rw [k2_off2_eq]; rfl, rfl⟩
      | ⟨0, _⟩ => exact absurd rfl hb
    · obtain ⟨hk, hx⟩ := place2 k y x hyx
      rw [View.readAt_eq_ld]
      unfold cod
      rw [hk, hx]

/-! ## One grid point -/

/-- The codes a grid point leaves, -/
def outC (x1 : Vec F S1536x512 .bf16) (x2 : Vec F S128x128 .bf16) : Vec F S1536x512 .i8 := cod (am x1 x2 k2_t1_loop.trips) (rot x1 x2)
/-- and the scales. -/
def outS (x1 : Vec F S1536x512 .bf16) (x2 : Vec F S128x128 .bf16) : Vec F S1x512 .f32 := k2_pay5 (am x1 x2 k2_t1_loop.trips)

set_option maxHeartbeats 1000000 in
/-- The body's triple. -/
theorem body_run (c : Dev nD) (i : grid2.Coords) (arg1 : Memref sig .tc .vmem S1536x512 .bf16) (harg1 : arg1.IsWhole) (arg2 : Memref sig .tc .vmem S128x128 .bf16) (harg2 : arg2.IsWhole) (arg3 : Memref sig .tc .vmem S1536x512 .i8) (harg3 : arg3.IsWhole) (arg4 : Memref sig .tc .vmem S1x512 .f32) (harg4 : arg4.IsWhole) (arg5 : Memref sig .tc .vmem S1536x512 .f32) (harg5 : arg5.IsWhole)
    (x1 : Vec F S1536x512 .bf16) (x2 : Vec F S128x128 .bf16)
    (E : Set ℕ) (K : PUnit → sProp 𝕄) :
    iprop(owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x1 ∗ owns (c : Thread nD τ) arg2 fullShare x2
            ∗ owns (c : Thread nD τ) arg3 fullShare (outC x1 x2) ∗ owns (c : Thread nD τ) arg4 fullShare (outS x1 x2)
            ∗ (∃ d, owns (c : Thread nD τ) arg5 fullShare d)) -∗ K ⟨⟩))
      ⊢ wp frame (wpE (defs₀ (F := F)) Variants.none c none) E (cc2_quant_x i arg1 harg1 arg2 harg2 arg3 harg3 arg4 harg4 arg5 harg5) K := by
  simp only [cc2_quant_x_eq_skeleton]; unfold cc2_quant_x_skel
  unfold owns
  iintro ⟨⟨%f1, %hf1, H1⟩, ⟨%f2, %hf2, H2⟩, ⟨%d3, %f3, -, H3⟩, ⟨%d4, %f4, -, H4⟩, ⟨%d5, %f5, -, H5⟩, Hk⟩
  sl_exec
  sl_step
  iapply Hk
  have t1 : Scf.trips k2_t1_loop.lb k2_t1_loop.ub k2_t1_loop.st = 12 := trips1
  have t2 : Scf.trips k2_t2_loop.lb k2_t2_loop.ub k2_t2_loop.st = 12 := trips2
  have h5 : arg5.view.read (Elt F) fL0 = rot x1 x2 := funext fun y => by
    rw [← hf1, ← hf2]
    refine hL3 (by rw [t1]; decide) y ?_
    rw [t1]; exact (y 0).isLt
  isplitl [H1]
  · iexists _; isplitr; · ipureintro; exact hf1
    iexact H1
  isplitl [H2]
  · iexists _; isplitr; · ipureintro; exact hf2
    iexact H2
  isplitl [H3]
  · iexists _; isplitr; swap; · iexact H3
    ipureintro
    refine funext fun y => ?_
    refine (hL7 (by rw [t2]; decide) y ?_).trans ?_
    · rw [t2]; exact (y 0).isLt
    · rw [h5, hf1, hf2]; rfl
  isplitl [H4]
  · iexists _; isplitr; swap; · iexact H4
    ipureintro
    refine (Whole.read_store _ _ Whole.hz _ _).trans ?_
    rw [hf1, hf2]; rfl
  iexists _, _; isplitr; swap; · iexact H5
  ipureintro; rfl

/-! ## The pipeline's proof data, from any contents `W` of the buffers at the region's entry -/

variable (W : Dev nD → Valuation τ sig (Elt F))

/-- Window `w`'s block at point `t`. -/
def iblk (c : Dev nD) (w : Fin cfg2.W) (t : Fin cfg2.N) : ((cfg2.win w).xblock (cfg2.grid.coords t)).Idx → Elt F (cfg2.win w).elt :=
  ((cfg2.win w).blk t).view.read (Elt F) (W c (Proc.devRef .tc (Pipeline.arrRef spec2 w)))

/-- Each window's current staging buffer at point `t`. -/
abbrev ms0 (t : Fin cfg2.N) : Memref sig .tc .vmem S1536x512 .bf16 := win2_0.stage (cfg2.slots t 0)
abbrev ms1 (t : Fin cfg2.N) : Memref sig .tc .vmem S128x128 .bf16 := win2_1.stage (cfg2.slots t 1)
abbrev ms2 (t : Fin cfg2.N) : Memref sig .tc .vmem S1536x512 .i8 := win2_2.stage (cfg2.slots t 2)
abbrev ms3 (t : Fin cfg2.N) : Memref sig .tc .vmem S1x512 .f32 := win2_3.stage (cfg2.slots t 3)
/-- The scratch. -/
abbrev scM : Memref sig .tc .vmem S1536x512 .f32 := Memref.whole cc2_scratch0

/-- Between points: the scratch and the other buffers of the call, at some contents. -/
def Φ (c : Dev nD) : sProp 𝕄 :=
  iprop((∃ d, owns (c : Thread nD τ) scM fullShare d) ∗ Pipeline.scopedRestBut spec2 c [cc2_scratch0])

theorem Φ_eq (c : Dev nD) : (Pipeline.scopedRest spec2 c : sProp 𝕄) = Φ c := by
  unfold Φ; rw [scopedRest2_split]; simp only [scM, owns_whole]; try rfl

/-- The proof data: the arrays as the region finds them, the inputs' buffers left at their blocks, the results' at the
    codes and the scales; nothing owed. -/
def dats (c : Dev nD) : Dat τ (Elt F) Unit ℕ (UR sig nD τ) ℕ cfg2 c where
  A w := W c (Proc.devRef .tc (Pipeline.arrRef spec2 w))
  after w t := match w with
    | ⟨0, _⟩ => iblk W c 0 t
    | ⟨1, _⟩ => iblk W c 1 t
    | ⟨2, _⟩ => outC (iblk W c 0 t) (iblk W c 1 t)
    | ⟨3, _⟩ => outS (iblk W c 0 t) (iblk W c 1 t)
  Φ _ := Φ c
  q _ := fullShare
  owed _ := 0

theorem A_eq (c : Dev nD) (w : Fin cfg2.W) : (dats W c).A w = W c (Proc.devRef .tc (Pipeline.arrRef spec2 w)) := by
  dsimp only [dats]

theorem after0 (c : Dev nD) (t : Fin cfg2.N) : (dats W c).after 0 t = iblk W c 0 t := by dsimp only [dats]
theorem after1 (c : Dev nD) (t : Fin cfg2.N) : (dats W c).after 1 t = iblk W c 1 t := by dsimp only [dats]
theorem after2 (c : Dev nD) (t : Fin cfg2.N) : (dats W c).after 2 t = outC (iblk W c 0 t) (iblk W c 1 t) := by dsimp only [dats]
theorem after3 (c : Dev nD) (t : Fin cfg2.N) : (dats W c).after 3 t = outS (iblk W c 0 t) (iblk W c 1 t) := by dsimp only [dats]

theorem before0 (c : Dev nD) (t : Fin cfg2.N) (d) : (dats W c).before 0 t d = iblk W c 0 t :=
  ((dats W c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg2.N) (d) : (dats W c).before 1 t d = iblk W c 1 t :=
  ((dats W c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg2.N) : sProp 𝕄 :=
  iprop((dats W c).Φ t.castSucc ∗ (dats W c).owesAt () t.castSucc
    ∗ (∃ d, owns (c : Thread nD τ) (ms0 t) fullShare ((dats W c).before 0 t d))
    ∗ (∃ d, owns (c : Thread nD τ) (ms1 t) fullShare ((dats W c).before 1 t d))
    ∗ (∃ d, owns (c : Thread nD τ) (ms2 t) fullShare ((dats W c).before 2 t d))
    ∗ (∃ d, owns (c : Thread nD τ) (ms3 t) fullShare ((dats W c).before 3 t d)))

/-- and what it returns. -/
def bodyPost (c : Dev nD) (t : Fin cfg2.N) : sProp 𝕄 :=
  iprop((dats W c).Φ t.succ ∗ (dats W c).owesAt () t.succ
    ∗ owns (c : Thread nD τ) (ms0 t) fullShare ((dats W c).after 0 t)
    ∗ owns (c : Thread nD τ) (ms1 t) fullShare ((dats W c).after 1 t)
    ∗ owns (c : Thread nD τ) (ms2 t) fullShare ((dats W c).after 2 t)
    ∗ owns (c : Thread nD τ) (ms3 t) fullShare ((dats W c).after 3 t))

/-- The body at any point. -/
theorem sound_body (c : Dev nD) (t : Fin cfg2.N) :
    bodyPre W c t ⊢ wp frame (wpE (defs₀ (F := F)) Variants.none c none) Set.univ (bodyAt2 t) (fun _ => bodyPost W c t) := by
  unfold bodyPre bodyPost bodyAt2
  simp only [before0, before1]
  rw [show (dats W c).Φ t.succ = Φ c from rfl, show (dats W c).Φ t.castSucc = Φ c from rfl,
    show (dats W c).owesAt () t.succ = (dats W c).owesAt () t.castSucc from rfl,
    after0, after1, after2, after3]
  unfold Φ
  iintro ⟨⟨HS, Hg⟩, Ho, ⟨%d0, H0⟩, ⟨%d1, H1⟩, ⟨%d2, H2⟩, ⟨%d3, H3⟩⟩
  iapply (body_run c (grid2.coords t) _ _ _ _ _ _ _ _ _ _ (iblk W c 0 t) (iblk W c 1 t) Set.univ _)
  isplitl [H0]; · iexact H0
  isplitl [H1]; · iexact H1
  isplitl [H2]; · iexists _; iexact H2
  isplitl [H3]; · iexists _; iexact H3
  isplitl [HS]; · iexact HS
  iintro ⟨H0, H1, H2, H3, HS⟩
  isplitl [HS Hg]
  · isplitl [HS]
    · iexact HS
    iexact Hg
  isplitl [Ho]; · iexact Ho
  isplitl [H0]; · iexact H0
  isplitl [H1]; · iexact H1
  isplitl [H2]; · iexact H2
  iexact H3

/-- The body table's row at point `t` is the body there. -/
theorem defs₀_row (t : Fin cfg2.N) :
    defs₀ (F := F) .tc cfg2.body (cfg2.bodyArgs t (cfg2.slots t)) = bodyAt2 t := by
  unfold defs₀; rw [Defs.onTc_tc]

/-- The body obligation, at every point. -/
theorem body_obligation (c : Dev nD) : BodyObligation (dats (F := F) W c) (defs₀ (F := F)) Variants.none () Set.univ := fun t => by
  rw [bigSep_W2, bigSep_W2, defs₀_row]
  exact triple_restated (sound_body W c t) rfl .rfl fun _ => .rfl

end Cert.Kernel.Xq

end
-- ==== Proof.KernelDgrad.lean ====
/-
  One pallas_call of the kernel, run: the input gradient in blocks of 256 input channels.

  A grid point contracts the whole output axis of one block of 256 input channels: a counted loop over 37 tiles of
  512 output channels stores the first tile's product into an accumulator and adds every later tile's product to it;
  after the loop the accumulator, times the two scales, is stored as the block of the result. The loop's invariant
  says what the accumulator holds before each tile (`acc`), so the block's value (`out`) comes out of the run.
-/
module

public import proofs.«01_k».proof.Proof.Gen.Kernel.Skeleton
public import proofs.«01_k».proof.Proof.Gen.Kernel.Launch
public import proofs.«01_k».proof.Proof.Gen.Kernel.Points
public import Idealize.ShloMosaic.Lib.Exec
public import Idealize.ShloMosaic.Lib.Tactic
public import Idealize.ShloMosaic.Lib.Pipeline.Kit
public import Idealize.ShloMosaic.Lib.Pipeline.Value
public import Idealize.ShloMosaic.Lib.Pipeline.FrameBody
public import Idealize.ShloMosaic.Lib.Pipeline.RegionArraysS
public import Idealize.ShloMosaic.Lib.WordCmp
public import Idealize.ShloMosaic.Lib.Claim
public import Idealize.ShloMosaic.Lib.Pointwise.Index
public import proofs.«01_k».proof.Proof.Whole
public import proofs.«01_k».proof.Proof.Fill

@[expose] public section

set_option maxRecDepth 16384

noncomputable section

namespace Cert.Kernel.Dgrad

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The loop over the output-channel tiles -/

/-- The loop makes 37 trips. -/
theorem trips_eq : k3_t1_loop.trips = 37 := by decide +kernel

/-- The first conditional of a trip is taken at the first tile only. -/
theorem first_iff : ∀ k : Fin k3_t1_loop.trips,
    Scalar.cmpi .ne (Scalar.extui (Scalar.cmpi .eq (Scf.iv 0#32 1#32 k) 0#32) : BitVec 32) 0#32 = 1#1 ↔ k.val = 0 := by
  decide +kernel

/-- The second conditional of a trip is taken at every later tile. -/
theorem later_iff : ∀ k : Fin k3_t1_loop.trips,
    Scalar.cmpi .ne (Scalar.extui (Scalar.cmpi .sgt (Scf.iv 0#32 1#32 k) 0#32) : BitVec 32) 0#32 = 1#1 ↔ k.val ≠ 0 := by
  decide +kernel

/-- The output-gradient codes of tile `k`. -/
abbrev tileG (x1 : Vec F S1536x18944 .i8) (k : Fin k3_t1_loop.trips) : Vec F S1536x512 .i8 :=
  View.ld x1 (Rect.unit (s := S1536x18944) (k3_off1 k) S1536x512.size (k3_off1_inb k))

/-- The weight codes of tile `k`. -/
abbrev tileW (x2 : Vec F S18944x256 .i8) (k : Fin k3_t1_loop.trips) : Vec F S512x256 .i8 :=
  View.ld x2 (Rect.unit (s := S18944x256) (k3_off2 k) S512x256.size (k3_off2_inb k))

/-- What the accumulator holds before tile `k` (nothing is said of it before the first). -/
def acc (x1 : Vec F S1536x18944 .i8) (x2 : Vec F S18944x256 .i8) : ℕ → Vec F S1536x256 .f32
  | 0 => constant S1536x256 .f32 0x00000000#32
  | k + 1 =>
    if h : k < k3_t1_loop.trips then
      if k = 0 then k3_pay2 (tileG x1 ⟨k, h⟩) (tileW x2 ⟨k, h⟩)
      else k3_pay3 (tileG x1 ⟨k, h⟩) (tileW x2 ⟨k, h⟩) (acc x1 x2 k)
    else acc x1 x2 k

theorem acc_first (x1 : Vec F S1536x18944 .i8) (x2 : Vec F S18944x256 .i8) (k : Fin k3_t1_loop.trips) (hk : k.val = 0) :
    acc x1 x2 (k.val + 1) = k3_pay2 (tileG x1 k) (tileW x2 k) := by
  rw [acc, dif_pos k.isLt, if_pos hk]

theorem acc_later (x1 : Vec F S1536x18944 .i8) (x2 : Vec F S18944x256 .i8) (k : Fin k3_t1_loop.trips) (hk : k.val ≠ 0) :
    acc x1 x2 (k.val + 1) = k3_pay3 (tileG x1 k) (tileW x2 k) (acc x1 x2 k.val) := by
  rw [acc, dif_pos k.isLt, if_neg hk]

/-- The invariant before tile `k`: the codes at their contents, the accumulator at `acc` once a tile is in. -/
abbrev inv (c : Dev nD) (arg1 : Memref sig .tc .vmem S1536x18944 .i8) (arg2 : Memref sig .tc .vmem S18944x256 .i8)
    (arg6 : Memref sig .tc .vmem S1536x256 .f32) (X1 : BufTy.Contents (Elt F) arg1.view.ty)
    (X2 : BufTy.Contents (Elt F) arg2.view.ty) (k : ℕ) (_u : PUnit) : sProp 𝕄 :=
  iprop((arg1.view.loc (c : Thread nD τ) ↦[arg1.view.set]{fullShare} X1)
    ∗ (arg2.view.loc (c : Thread nD τ) ↦[arg2.view.set]{fullShare} X2)
    ∗ (∃ f, (arg6.view.loc (c : Thread nD τ) ↦[arg6.view.set]{fullShare} f)
        ∗ ⌜k ≠ 0 → arg6.view.read (Elt F) f = acc (arg1.view.read (Elt F) X1) (arg2.view.read (Elt F) X2) k⌝))

set_option warn.classDefReducibility false in
/-- The loop by its invariant: one tile, at the first and at a later trip. -/
@[sl_loop] def loopInv_k3_t1 (c : Dev nD) (i : grid3.Coords) (arg1 : Memref sig .tc .vmem S1536x18944 .i8) (harg1 : arg1.IsWhole) (arg2 : Memref sig .tc .vmem S18944x256 .i8) (harg2 : arg2.IsWhole) (arg3 : Memref sig .tc .vmem S1536x1 .f32) (harg3 : arg3.IsWhole) (arg4 : Memref sig .tc .vmem S1x256 .f32) (harg4 : arg4.IsWhole) (arg5 : Memref sig .tc .vmem S1536x256 .bf16) (harg5 : arg5.IsWhole) (arg6 : Memref sig .tc .vmem S1536x256 .f32) (harg6 : arg6.IsWhole)
    (E : Set ℕ) (X1 : BufTy.Contents (Elt F) arg1.view.ty) (X2 : BufTy.Contents (Elt F) arg2.view.ty) :
    LoopInv (M := 𝕄) frame (wpE (defs₀ (F := F)) Variants.none (c : Thread nD τ) none) E
      k3_t1_loop.lb k3_t1_loop.ub k3_t1_loop.st k3_t1_ok ⟨⟩ (k3_t1_body (F := F) i arg1 harg1 arg2 harg2 arg3 harg3 arg4 harg4 arg5 harg5 arg6 harg6) where
  inv := inv (F := F) c arg1 arg2 arg6 X1 X2
  step k u := by
    by_cases hk : k.val = 0
    · have h1 := (first_iff k).2 hk
      have h2 : ¬ _ := fun h => (later_iff k).1 h hk
      unfold k3_t1_body
      iintro ⟨H1, H2, ⟨%f, H6, %h6⟩⟩
      sl_exec
      sl_step
      isplitl [H1]; · iexact H1
      isplitl [H2]; · iexact H2
      iexists _; isplitl [H6]; · iexact H6
      ipureintro
      intro _
      rw [acc_first _ _ k hk]
      exact Whole.read_store _ _ Whole.hz _ _
    · have h1 : ¬ _ := fun h => hk ((first_iff k).1 h)
      have h2 := (later_iff k).2 hk
      unfold k3_t1_body
      iintro ⟨H1, H2, ⟨%f, H6, %h6⟩⟩
      sl_exec
      sl_step
      isplitl [H1]; · iexact H1
      isplitl [H2]; · iexact H2
      iexists _; isplitl [H6]; · iexact H6
      ipureintro
      intro _
      rw [acc_later _ _ k hk, ← h6 hk]
      refine (Whole.read_store _ _ Whole.hz _ _).trans ?_
      rw [Whole.readAt_whole _ _ Whole.hz]
      rfl

/-! ## One grid point -/

/-- The block of the result a grid point leaves: the accumulator after the last tile, times the two scales. -/
def out (x1 : Vec F S1536x18944 .i8) (x2 : Vec F S18944x256 .i8) (x3 : Vec F S1536x1 .f32) (x4 : Vec F S1x256 .f32) :
    Vec F S1536x256 .bf16 :=
  k3_pay4 (acc x1 x2 k3_t1_loop.trips) x3 x4

set_option maxHeartbeats 1000000 in
/-- The body's triple: the inputs as they were, the result's buffer at `out`. -/
theorem body_run (c : Dev nD) (i : grid3.Coords) (arg1 : Memref sig .tc .vmem S1536x18944 .i8) (harg1 : arg1.IsWhole) (arg2 : Memref sig .tc .vmem S18944x256 .i8) (harg2 : arg2.IsWhole) (arg3 : Memref sig .tc .vmem S1536x1 .f32) (harg3 : arg3.IsWhole) (arg4 : Memref sig .tc .vmem S1x256 .f32) (harg4 : arg4.IsWhole) (arg5 : Memref sig .tc .vmem S1536x256 .bf16) (harg5 : arg5.IsWhole) (arg6 : Memref sig .tc .vmem S1536x256 .f32) (harg6 : arg6.IsWhole)
    (x1 : Vec F S1536x18944 .i8) (x2 : Vec F S18944x256 .i8) (x3 : Vec F S1536x1 .f32) (x4 : Vec F S1x256 .f32)
    (E : Set ℕ) (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (iprop(owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out x1 x2 x3 x4)
            ∗ (∃ d, owns (c : Thread nD τ) arg6 fullShare d)) -∗ K ⟨⟩))
      ⊢ wp frame (wpE (defs₀ (F := F)) Variants.none c none) E (cc3_dgrad i arg1 harg1 arg2 harg2 arg3 harg3 arg4 harg4 arg5 harg5 arg6 harg6) K := by
  simp only [cc3_dgrad_eq_skeleton]; unfold cc3_dgrad_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  sl_exec
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    refine (Whole.read_store _ _ Whole.hz _ _).trans ?_
    rw [Whole.readAt_whole _ _ Whole.hz, Whole.readAt_whole _ _ Whole.hz, Whole.readAt_whole _ _ Whole.hz, hf3, hf4]
    have h6 := hL3 (by rw [show Scf.trips k3_t1_loop.lb k3_t1_loop.ub k3_t1_loop.st = 37 from trips_eq]; decide)
    rw [hf1, hf2] at h6
    rw [h6]
    rfl
  iexists _, _; isplitr; swap; · iexact H6
  ipureintro; rfl

/-! ## The pipeline's proof data, from any contents `W` of the buffers at the region's entry -/

variable (W : Dev nD → Valuation τ sig (Elt F))

/-- Window `w`'s block at point `t`. -/
def iblk (c : Dev nD) (w : Fin cfg3.W) (t : Fin cfg3.N) : ((cfg3.win w).xblock (cfg3.grid.coords t)).Idx → Elt F (cfg3.win w).elt :=
  ((cfg3.win w).blk t).view.read (Elt F) (W c (Proc.devRef .tc (Pipeline.arrRef spec3 w)))

/-- Each window's current staging buffer at point `t`. -/
abbrev ms0 (t : Fin cfg3.N) : Memref sig .tc .vmem S1536x18944 .i8 := win3_0.stage (cfg3.slots t 0)
abbrev ms1 (t : Fin cfg3.N) : Memref sig .tc .vmem S18944x256 .i8 := win3_1.stage (cfg3.slots t 1)
abbrev ms2 (t : Fin cfg3.N) : Memref sig .tc .vmem S1536x1 .f32 := win3_2.stage (cfg3.slots t 2)
abbrev ms3 (t : Fin cfg3.N) : Memref sig .tc .vmem S1x256 .f32 := win3_3.stage (cfg3.slots t 3)
abbrev ms4 (t : Fin cfg3.N) : Memref sig .tc .vmem S1536x256 .bf16 := win3_4.stage (cfg3.slots t 4)
/-- The accumulator. -/
abbrev scM : Memref sig .tc .vmem S1536x256 .f32 := Memref.whole cc3_scratch0

/-- Between points: the accumulator and the other buffers of the call, at some contents. -/
def Φ (c : Dev nD) : sProp 𝕄 :=
  iprop((∃ d, owns (c : Thread nD τ) scM fullShare d) ∗ Pipeline.scopedRestBut spec3 c [cc3_scratch0])

theorem Φ_eq (c : Dev nD) : (Pipeline.scopedRest spec3 c : sProp 𝕄) = Φ c := by
  unfold Φ; rw [scopedRest3_split]; simp only [scM, owns_whole]; try rfl

/-- The block of the result point `t` leaves. -/
def outAt (c : Dev nD) (t : Fin cfg3.N) : Vec F S1536x256 .bf16 :=
  out (iblk W c 0 t) (iblk W c 1 t) (iblk W c 2 t) (iblk W c 3 t)

/-- The proof data: the arrays as the region finds them, each input's buffer left at its block, the result's at
    `outAt`; nothing owed. -/
def dats (c : Dev nD) : Dat τ (Elt F) Unit ℕ (UR sig nD τ) ℕ cfg3 c where
  A w := W c (Proc.devRef .tc (Pipeline.arrRef spec3 w))
  after w t := match w with
    | ⟨0, _⟩ => iblk W c 0 t
    | ⟨1, _⟩ => iblk W c 1 t
    | ⟨2, _⟩ => iblk W c 2 t
    | ⟨3, _⟩ => iblk W c 3 t
    | ⟨4, _⟩ => outAt W c t
  Φ _ := Φ c
  q _ := fullShare
  owed _ := 0

theorem A_eq (c : Dev nD) (w : Fin cfg3.W) : (dats W c).A w = W c (Proc.devRef .tc (Pipeline.arrRef spec3 w)) := by
  dsimp only [dats]

theorem after0 (c : Dev nD) (t : Fin cfg3.N) : (dats W c).after 0 t = iblk W c 0 t := by dsimp only [dats]
theorem after1 (c : Dev nD) (t : Fin cfg3.N) : (dats W c).after 1 t = iblk W c 1 t := by dsimp only [dats]
theorem after2 (c : Dev nD) (t : Fin cfg3.N) : (dats W c).after 2 t = iblk W c 2 t := by dsimp only [dats]
theorem after3 (c : Dev nD) (t : Fin cfg3.N) : (dats W c).after 3 t = iblk W c 3 t := by dsimp only [dats]
theorem after4 (c : Dev nD) (t : Fin cfg3.N) : (dats W c).after 4 t = outAt W c t := by dsimp only [dats]

theorem before0 (c : Dev nD) (t : Fin cfg3.N) (d) : (dats W c).before 0 t d = iblk W c 0 t :=
  ((dats W c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg3.N) (d) : (dats W c).before 1 t d = iblk W c 1 t :=
  ((dats W c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg3.N) (d) : (dats W c).before 2 t d = iblk W c 2 t :=
  ((dats W c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg3.N) (d) : (dats W c).before 3 t d = iblk W c 3 t :=
  ((dats W c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg3.N) : sProp 𝕄 :=
  iprop((dats W c).Φ t.castSucc ∗ (dats W c).owesAt () t.castSucc
    ∗ (∃ d, owns (c : Thread nD τ) (ms0 t) fullShare ((dats W c).before 0 t d))
    ∗ (∃ d, owns (c : Thread nD τ) (ms1 t) fullShare ((dats W c).before 1 t d))
    ∗ (∃ d, owns (c : Thread nD τ) (ms2 t) fullShare ((dats W c).before 2 t d))
    ∗ (∃ d, owns (c : Thread nD τ) (ms3 t) fullShare ((dats W c).before 3 t d))
    ∗ (∃ d, owns (c : Thread nD τ) (ms4 t) fullShare ((dats W c).before 4 t d)))

/-- and what it returns. -/
def bodyPost (c : Dev nD) (t : Fin cfg3.N) : sProp 𝕄 :=
  iprop((dats W c).Φ t.succ ∗ (dats W c).owesAt () t.succ
    ∗ owns (c : Thread nD τ) (ms0 t) fullShare ((dats W c).after 0 t)
    ∗ owns (c : Thread nD τ) (ms1 t) fullShare ((dats W c).after 1 t)
    ∗ owns (c : Thread nD τ) (ms2 t) fullShare ((dats W c).after 2 t)
    ∗ owns (c : Thread nD τ) (ms3 t) fullShare ((dats W c).after 3 t)
    ∗ owns (c : Thread nD τ) (ms4 t) fullShare ((dats W c).after 4 t))

/-- The body at any point. -/
theorem sound_body (c : Dev nD) (t : Fin cfg3.N) :
    bodyPre W c t ⊢ wp frame (wpE (defs₀ (F := F)) Variants.none c none) Set.univ (bodyAt3 t) (fun _ => bodyPost W c t) := by
  unfold bodyPre bodyPost bodyAt3
  simp only [before0, before1, before2, before3]
  rw [show (dats W c).Φ t.succ = (dats W c).Φ t.castSucc from rfl,
    show (dats W c).owesAt () t.succ = (dats W c).owesAt () t.castSucc from rfl,
    after0, after1, after2, after3, after4]
  rw [show (dats W c).Φ t.castSucc = Φ c from rfl]
  unfold outAt Φ
  iintro ⟨⟨HS, Hg⟩, Ho, ⟨%d0, H0⟩, ⟨%d1, H1⟩, ⟨%d2, H2⟩, ⟨%d3, H3⟩, ⟨%d4, H4⟩⟩
  iapply (body_run c (grid3.coords t) _ _ _ _ _ _ _ _ _ _ _ _ (iblk W c 0 t) (iblk W c 1 t) (iblk W c 2 t) (iblk W c 3 t) Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, H4, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  iexact H4

/-- The body table's row at point `t` is the body there. -/
theorem defs₀_row (t : Fin cfg3.N) :
    defs₀ (F := F) .tc cfg3.body (cfg3.bodyArgs t (cfg3.slots t)) = bodyAt3 t := by
  unfold defs₀; rw [Defs.onTc_tc]

/-- The body obligation, at every point. -/
theorem body_obligation (c : Dev nD) : BodyObligation (dats (F := F) W c) (defs₀ (F := F)) Variants.none () Set.univ := fun t => by
  rw [bigSep_W3, bigSep_W3, defs₀_row]
  exact triple_restated (sound_body W c t) rfl .rfl fun _ => .rfl

end Cert.Kernel.Dgrad

end
-- ==== Proof.KernelWgrad.lean ====
/-
  One pallas_call of the kernel, run: the weight gradient in blocks of 256 output channels. A grid point turns its
  block of the output gradient by the token Hadamard matrix in 12 row tiles of 128, collecting the largest magnitude of
  every column, quantises the columns, and multiplies the codes with the activation's codes, which the first point put
  into a scratch buffer as floats for all later points.
-/
module

public import proofs.«01_k».proof.Proof.Gen.Kernel.Skeleton
public import proofs.«01_k».proof.Proof.Gen.Kernel.Launch
public import proofs.«01_k».proof.Proof.Gen.Kernel.Points
public import Idealize.ShloMosaic.Lib.Exec
public import Idealize.ShloMosaic.Lib.Tactic
public import Idealize.ShloMosaic.Lib.Pipeline.Kit
public import Idealize.ShloMosaic.Lib.Pipeline.Value
public import Idealize.ShloMosaic.Lib.Pipeline.FrameBody
public import Idealize.ShloMosaic.Lib.Pipeline.RegionArraysS
public import Idealize.ShloMosaic.Lib.WordCmp
public import Idealize.ShloMosaic.Lib.Claim
public import Idealize.ShloMosaic.Lib.Pointwise.Index
public import proofs.«01_k».proof.Proof.Whole
public import proofs.«01_k».proof.Proof.Fill

@[expose] public section

set_option maxRecDepth 16384

noncomputable section

namespace Cert.Kernel.Wgrad

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one grid point computes -/

/-- The conditional of a point is taken at the first point only. -/
theorem first_iff : ∀ n : Fin 74,
    Scalar.cmpi .ne (Scalar.extui (Scalar.cmpi .eq (BitVec.ofNat 32 n.val) 0#32) : BitVec 32) 0#32 = 1#1 ↔ n.val = 0 := by
  decide +kernel

theorem blk_inb (j : Fin 12) : ∀ a, (![128 * j.val, 0] : Fin 2 → ℕ) a + S128x256.size a ≤ S1536x256.size a := fun a => by
  match a with
  | ⟨0, _⟩ => show 128 * j.val + 128 ≤ 1536; omega
  | ⟨1, _⟩ => show 0 + 256 ≤ 256; omega

/-- Row tile `j` of the block of the output gradient. -/
abbrev blk (x1 : Vec F S1536x256 .bf16) (j : Fin 12) : Vec F S128x256 .bf16 :=
  View.ld x1 (Rect.unit (s := S1536x256) ![128 * j.val, 0] S128x256.size (blk_inb j))

theorem div1 (y : S1536x256.Idx) : (y 0).val / 128 < 12 := by
  have h : (y 0).val < 1536 := (y 0).isLt; omega

/-- Where an element lies inside its tile. -/
def within (y : S1536x256.Idx) : S128x256.Idx := Idealize.ShloMosaic.ix2 (⟨(y 0).val % 128, Nat.mod_lt _ (by decide)⟩ : Fin 128) (y 1)

/-- The turned block. -/
def rot (x1 : Vec F S1536x256 .bf16) (x4 : Vec F S128x128 .bf16) : Vec F S1536x256 .f32 := fun y =>
  k4_pay6 x4 (blk x1 ⟨(y 0).val / 128, div1 y⟩) (within y)

/-- The largest magnitude of every column. -/
def am (x1 : Vec F S1536x256 .bf16) (x4 : Vec F S128x128 .bf16) : FVec F S1x256 .f32 :=
  k4_pay33 (k4_pay26 (k4_pay21 (k4_pay14 (k4_pay9 x4 (blk x1 0) x4 (blk x1 1)) x4 (blk x1 2) x4 (blk x1 3))
    (k4_pay15 x4 (blk x1 4)) x4 (blk x1 5) x4 (blk x1 6)) x4 (blk x1 7) x4 (blk x1 8))
    (k4_pay27 x4 (blk x1 9)) x4 (blk x1 10) x4 (blk x1 11)

/-- The weight gradient's block, -/
def outW (x1 : Vec F S1536x256 .bf16) (x2 : Vec F S1536x3584 .i8) (x3 : Vec F S1x3584 .f32) (x4 : Vec F S128x128 .bf16) : Vec F S256x3584 .f32 :=
  k4_pay3 (am x1 x4) (rot x1 x4) (k4_pay4 x2) x3
/-- the codes -/
def outC (x1 : Vec F S1536x256 .bf16) (x4 : Vec F S128x128 .bf16) : Vec F S1536x256 .i8 := k4_pay2 (am x1 x4) (rot x1 x4)
/-- and the scales. -/
def outS (x1 : Vec F S1536x256 .bf16) (x4 : Vec F S128x128 .bf16) : Vec F S1x256 .f32 := k4_pay1 (am x1 x4)

/-- One more turned tile in the scratch. -/
theorem fill (x1 : Vec F S1536x256 .bf16) (x4 : Vec F S128x128 .bf16) {κ : Kind} {sp : Space} (v : View sig κ sp S1536x256 .f32)
    (f : v.ty.Contents (Elt F)) (j : Fin 12) {off : Fin 2 → ℕ} (L : List (View.Piece (Elt F) S1536x256 .f32)) (hoff : off = ![128 * j.val, 0])
    (inb : ∀ a, off a + S128x256.size a ≤ S1536x256.size a) (w : S128x256.Idx → Elt F .f32) (hw : w = k4_pay6 x4 (blk x1 j))
    (h : ∀ y : S1536x256.Idx, (y 0).val < 128 * j.val → v.read (Elt F) (v.writes (Elt F) f L) y = rot x1 x4 y) :
    ∀ y : S1536x256.Idx, (y 0).val < 128 * j.val + 128 →
      v.read (Elt F) (v.writes (Elt F) f ((⟨Rect.unit off S128x256.size inb, w⟩ : View.Piece (Elt F) S1536x256 .f32) :: L)) y = rot x1 x4 y := by
  subst hoff; subst hw
  refine Fill.step v (v.writes (Elt F) f L) 0 (rot x1 x4) (128 * j.val) (128 * j.val + 128) inb _ rfl rfl (fun b hb => ?_) (fun y x hyx => ?_) h
  · match b with
    | ⟨0, _⟩ => exact absurd rfl hb
    | ⟨1, _⟩ => exact ⟨rfl, rfl⟩
  · have h0 : (y 0).val = 128 * j.val + (x 0).val := hyx 0
    have h1 : (y 1).val = 0 + (x 1).val := hyx 1
    have hx : (x 0).val < 128 := (x 0).isLt
    have e1 : (⟨(y 0).val / 128, div1 y⟩ : Fin 12) = j := Fin.ext (by show (y 0).val / 128 = j.val; omega)
    have e2 : within y = x := funext fun b => Fin.ext (by
      match b with
      | ⟨0, _⟩ => show (y 0).val % 128 = (x 0).val; omega
      | ⟨1, _⟩ => show (y 1).val = (x 1).val; omega)
    unfold rot
    rw [e1, e2]

theorem pay3_congr {a a' : FVec F S1x256 .f32} {b b' : Vec F S1536x256 .f32} {c c' : Vec F S1536x3584 .bf16} {d d' : Vec F S1x3584 .f32}
    (ha : a = a') (hb : b = b') (hc : c = c') (hd : d = d') : k4_pay3 a b c d = k4_pay3 a' b' c' d' := by rw [ha, hb, hc, hd]

theorem pay2_congr {a a' : FVec F S1x256 .f32} {b b' : Vec F S1536x256 .f32} (ha : a = a') (hb : b = b') : k4_pay2 a b = k4_pay2 a' b' := by
  rw [ha, hb]

/-! ## One grid point -/

set_option maxHeartbeats 4000000 in
/-- The body's triple: the scratch of activation codes is written at the first point and only read later. -/
theorem body_run (c : Dev nD) (i : grid4.Coords) (n : Fin 74) (hn : (i 0).val = n.val) (arg1 : Memref sig .tc .vmem S1536x256 .bf16) (harg1 : arg1.IsWhole) (arg2 : Memref sig .tc .vmem S1536x3584 .i8) (harg2 : arg2.IsWhole) (arg3 : Memref sig .tc .vmem S1x3584 .f32) (harg3 : arg3.IsWhole) (arg4 : Memref sig .tc .vmem S128x128 .bf16) (harg4 : arg4.IsWhole) (arg5 : Memref sig .tc .vmem S256x3584 .f32) (harg5 : arg5.IsWhole) (arg6 : Memref sig .tc .vmem S1536x256 .i8) (harg6 : arg6.IsWhole) (arg7 : Memref sig .tc .vmem S1x256 .f32) (harg7 : arg7.IsWhole) (arg8 : Memref sig .tc .vmem S1536x3584 .bf16) (harg8 : arg8.IsWhole) (arg9 : Memref sig .tc .vmem S1536x256 .f32) (harg9 : arg9.IsWhole)
    (x1 : Vec F S1536x256 .bf16) (x2 : Vec F S1536x3584 .i8) (x3 : Vec F S1x3584 .f32) (x4 : Vec F S128x128 .bf16)
    (E : Set ℕ) (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (∃ d, owns (c : Thread nD τ) arg7 fullShare d)
        ∗ (∃ d, owns (c : Thread nD τ) arg8 fullShare d ∗ ⌜n.val ≠ 0 → d = k4_pay4 x2⌝)
        ∗ (∃ d, owns (c : Thread nD τ) arg9 fullShare d)
        ∗ (iprop(owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (outW x1 x2 x3 x4) ∗ owns (c : Thread nD τ) arg6 fullShare (outC x1 x4)
            ∗ owns (c : Thread nD τ) arg7 fullShare (outS x1 x4) ∗ owns (c : Thread nD τ) arg8 fullShare (k4_pay4 x2)
            ∗ (∃ d, owns (c : Thread nD τ) arg9 fullShare d)) -∗ K ⟨⟩))
      ⊢ wp frame (wpE (defs₀ (F := F)) Variants.none c none) E (cc4_wgrad i arg1 harg1 arg2 harg2 arg3 harg3 arg4 harg4 arg5 harg5 arg6 harg6 arg7 harg7 arg8 harg8 arg9 harg9) K := by
  simp only [cc4_wgrad_eq_skeleton]; unfold cc4_wgrad_skel
  simp only [k4_part1_eq_skeleton, k4_part2_eq_skeleton, k4_part3_eq_skeleton, k4_part4_eq_skeleton, k4_part5_eq_skeleton]
  unfold k4_part1_skel k4_part2_skel k4_part3_skel k4_part4_skel k4_part5_skel
  rw [hn]
  unfold owns
  by_cases h0 : n.val = 0
  · have h1 := (first_iff n).2 h0
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, ⟨%f8, %hf8, H8⟩, %hd8⟩, ⟨%d9, %f9, -, H9⟩, Hk⟩
    sl_exec
    sl_step
    have hR : body_run.sl.v181 c arg1 arg4 arg9 f1 f4 = rot x1 x4 := by
      refine (Whole.readAt_whole _ _ Whole.hz _).trans (funext fun y => ?_)
      unfold body_run.sl.H9_12
      refine fill x1 x4 _ _ ⟨11, by decide⟩ _ rfl _ _ (by rw [Whole.readAt_whole _ _ Whole.hz, hf4]; simp only [View.readAt_eq_ld, hf1]; rfl) ?_ y (y 0).isLt
      refine fill x1 x4 _ _ ⟨10, by decide⟩ _ rfl _ _ (by rw [Whole.readAt_whole _ _ Whole.hz, hf4]; simp only [View.readAt_eq_ld, hf1]; rfl) ?_
      refine fill x1 x4 _ _ ⟨9, by decide⟩ _ rfl _ _ (by rw [Whole.readAt_whole _ _ Whole.hz, hf4]; simp only [View.readAt_eq_ld, hf1]; rfl) ?_
      refine fill x1 x4 _ _ ⟨8, by decide⟩ _ rfl _ _ (by rw [Whole.readAt_whole _ _ Whole.hz, hf4]; simp only [View.readAt_eq_ld, hf1]; rfl) ?_
      refine fill x1 x4 _ _ ⟨7, by decide⟩ _ rfl _ _ (by rw [Whole.readAt_whole _ _ Whole.hz, hf4]; simp only [View.readAt_eq_ld, hf1]; rfl) ?_
      refine fill x1 x4 _ _ ⟨6, by decide⟩ _ rfl _ _ (by rw [Whole.readAt_whole _ _ Whole.hz, hf4]; simp only [View.readAt_eq_ld, hf1]; rfl) ?_
      refine fill x1 x4 _ _ ⟨5, by decide⟩ _ rfl _ _ (by rw [Whole.readAt_whole _ _ Whole.hz, hf4]; simp only [View.readAt_eq_ld, hf1]; rfl) ?_
      refine fill x1 x4 _ _ ⟨4, by decide⟩ _ rfl _ _ (by rw [Whole.readAt_whole _ _ Whole.hz, hf4]; simp only [View.readAt_eq_ld, hf1]; rfl) ?_
      refine fill x1 x4 _ _ ⟨3, by decide⟩ _ rfl _ _ (by rw [Whole.readAt_whole _ _ Whole.hz, hf4]; simp only [View.readAt_eq_ld, hf1]; rfl) ?_
      refine fill x1 x4 _ _ ⟨2, by decide⟩ _ rfl _ _ (by rw [Whole.readAt_whole _ _ Whole.hz, hf4]; simp only [View.readAt_eq_ld, hf1]; rfl) ?_
      refine fill x1 x4 _ _ ⟨1, by decide⟩ _ rfl _ _ (by rw [Whole.readAt_whole _ _ Whole.hz, hf4]; simp only [View.readAt_eq_ld, hf1]; rfl) ?_
      refine fill x1 x4 _ _ ⟨0, by decide⟩ _ rfl _ _ (by rw [Whole.readAt_whole _ _ Whole.hz, hf4]; simp only [View.readAt_eq_ld, hf1]; rfl) ?_
      exact fun y hy => absurd hy (Nat.not_lt_zero _)
    iapply Hk
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; swap; · iexact H5
      ipureintro
      refine (Whole.read_store _ _ Whole.hz _ _).trans ?_
      refine pay3_congr ?_ hR ?_ ?_
      · rw [Whole.readAt_whole _ _ Whole.hz, hf4]; simp only [View.readAt_eq_ld, hf1]; rfl
      · exact Whole.readAt_whole _ _ Whole.hz _ |>.trans ((Whole.read_store _ _ Whole.hz _ _).trans (congrArg k4_pay4 ((Whole.readAt_whole _ _ Whole.hz _).trans hf2)))
      · rw [Whole.readAt_whole _ _ Whole.hz, hf3]
    isplitl [H6]
    · iexists _; isplitr; swap; · iexact H6
      ipureintro
      refine (Whole.read_store _ _ Whole.hz _ _).trans ?_
      refine pay2_congr ?_ hR
      rw [Whole.readAt_whole _ _ Whole.hz, hf4]; simp only [View.readAt_eq_ld, hf1]; rfl
    isplitl [H7]
    · iexists _; isplitr; swap; · iexact H7
      ipureintro
      refine (Whole.read_store _ _ Whole.hz _ _).trans (congrArg k4_pay1 ?_)
      rw [Whole.readAt_whole _ _ Whole.hz, hf4]; simp only [View.readAt_eq_ld, hf1]; rfl
    isplitl [H8]
    · iexists _; isplitr; swap; · iexact H8
      ipureintro
      exact (Whole.read_store _ _ Whole.hz _ _).trans (congrArg k4_pay4 ((Whole.readAt_whole _ _ Whole.hz _).trans hf2))
    iexists _; iexists _; isplitr; swap; · iexact H9
    ipureintro; rfl
  · have h1 : ¬ _ := fun h => h0 ((first_iff n).1 h)
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, ⟨%f8, %hf8, H8⟩, %hd8⟩, ⟨%d9, %f9, -, H9⟩, Hk⟩
    sl_exec
    sl_step
    have hR : body_run.sl.v181_1 c arg1 arg4 arg9 f1 f4 = rot x1 x4 := by
      refine (Whole.readAt_whole _ _ Whole.hz _).trans (funext fun y => ?_)
      unfold body_run.sl.H9_12_1
      refine fill x1 x4 _ _ ⟨11, by decide⟩ _ rfl _ _ (by rw [Whole.readAt_whole _ _ Whole.hz, hf4]; simp only [View.readAt_eq_ld, hf1]; rfl) ?_ y (y 0).isLt
      refine fill x1 x4 _ _ ⟨10, by decide⟩ _ rfl _ _ (by rw [Whole.readAt_whole _ _ Whole.hz, hf4]; simp only [View.readAt_eq_ld, hf1]; rfl) ?_
      refine fill x1 x4 _ _ ⟨9, by decide⟩ _ rfl _ _ (by rw [Whole.readAt_whole _ _ Whole.hz, hf4]; simp only [View.readAt_eq_ld, hf1]; rfl) ?_
      refine fill x1 x4 _ _ ⟨8, by decide⟩ _ rfl _ _ (by rw [Whole.readAt_whole _ _ Whole.hz, hf4]; simp only [View.readAt_eq_ld, hf1]; rfl) ?_
      refine fill x1 x4 _ _ ⟨7, by decide⟩ _ rfl _ _ (by rw [Whole.readAt_whole _ _ Whole.hz, hf4]; simp only [View.readAt_eq_ld, hf1]; rfl) ?_
      refine fill x1 x4 _ _ ⟨6, by decide⟩ _ rfl _ _ (by rw [Whole.readAt_whole _ _ Whole.hz, hf4]; simp only [View.readAt_eq_ld, hf1]; rfl) ?_
      refine fill x1 x4 _ _ ⟨5, by decide⟩ _ rfl _ _ (by rw [Whole.readAt_whole _ _ Whole.hz, hf4]; simp only [View.readAt_eq_ld, hf1]; rfl) ?_
      refine fill x1 x4 _ _ ⟨4, by decide⟩ _ rfl _ _ (by rw [Whole.readAt_whole _ _ Whole.hz, hf4]; simp only [View.readAt_eq_ld, hf1]; rfl) ?_
      refine fill x1 x4 _ _ ⟨3, by decide⟩ _ rfl _ _ (by rw [Whole.readAt_whole _ _ Whole.hz, hf4]; simp only [View.readAt_eq_ld, hf1]; rfl) ?_
      refine fill x1 x4 _ _ ⟨2, by decide⟩ _ rfl _ _ (by rw [Whole.readAt_whole _ _ Whole.hz, hf4]; simp only [View.readAt_eq_ld, hf1]; rfl) ?_
      refine fill x1 x4 _ _ ⟨1, by decide⟩ _ rfl _ _ (by rw [Whole.readAt_whole _ _ Whole.hz, hf4]; simp only [View.readAt_eq_ld, hf1]; rfl) ?_
      refine fill x1 x4 _ _ ⟨0, by decide⟩ _ rfl _ _ (by rw [Whole.readAt_whole _ _ Whole.hz, hf4]; simp only [View.readAt_eq_ld, hf1]; rfl) ?_
      exact fun y hy => absurd hy (Nat.not_lt_zero _)
    iapply Hk
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; swap; · iexact H5
      ipureintro
      refine (Whole.read_store _ _ Whole.hz _ _).trans ?_
      refine pay3_congr ?_ hR ?_ ?_
      · rw [Whole.readAt_whole _ _ Whole.hz, hf4]; simp only [View.readAt_eq_ld, hf1]; rfl
      · exact (Whole.readAt_whole _ _ Whole.hz _).trans (hf8.trans (hd8 h0))
      · rw [Whole.readAt_whole _ _ Whole.hz, hf3]
    isplitl [H6]
    · iexists _; isplitr; swap; · iexact H6
      ipureintro
      refine (Whole.read_store _ _ Whole.hz _ _).trans ?_
      refine pay2_congr ?_ hR
      rw [Whole.readAt_whole _ _ Whole.hz, hf4]; simp only [View.readAt_eq_ld, hf1]; rfl
    isplitl [H7]
    · iexists _; isplitr; swap; · iexact H7
      ipureintro
      refine (Whole.read_store _ _ Whole.hz _ _).trans (congrArg k4_pay1 ?_)
      rw [Whole.readAt_whole _ _ Whole.hz, hf4]; simp only [View.readAt_eq_ld, hf1]; rfl
    isplitl [H8]
    · iexists _; isplitr; swap; · iexact H8
      ipureintro
      exact hf8.trans (hd8 h0)
    iexists _; iexists _; isplitr; swap; · iexact H9
    ipureintro; rfl

/-! ## The pipeline's proof data, from any contents `W` of the buffers at the region's entry -/

variable (W : Dev nD → Valuation τ sig (Elt F))

/-- Window `w`'s block at point `t`. -/
def iblk (c : Dev nD) (w : Fin cfg4.W) (t : Fin cfg4.N) : ((cfg4.win w).xblock (cfg4.grid.coords t)).Idx → Elt F (cfg4.win w).elt :=
  ((cfg4.win w).blk t).view.read (Elt F) (W c (Proc.devRef .tc (Pipeline.arrRef spec4 w)))

/-- Each window's current staging buffer at point `t`. -/
abbrev ms0 (t : Fin cfg4.N) : Memref sig .tc .vmem S1536x256 .bf16 := win4_0.stage (cfg4.slots t 0)
abbrev ms1 (t : Fin cfg4.N) : Memref sig .tc .vmem S1536x3584 .i8 := win4_1.stage (cfg4.slots t 1)
abbrev ms2 (t : Fin cfg4.N) : Memref sig .tc .vmem S1x3584 .f32 := win4_2.stage (cfg4.slots t 2)
abbrev ms3 (t : Fin cfg4.N) : Memref sig .tc .vmem S128x128 .bf16 := win4_3.stage (cfg4.slots t 3)
abbrev ms4 (t : Fin cfg4.N) : Memref sig .tc .vmem S256x3584 .f32 := win4_4.stage (cfg4.slots t 4)
abbrev ms5 (t : Fin cfg4.N) : Memref sig .tc .vmem S1536x256 .i8 := win4_5.stage (cfg4.slots t 5)
abbrev ms6 (t : Fin cfg4.N) : Memref sig .tc .vmem S1x256 .f32 := win4_6.stage (cfg4.slots t 6)
/-- The activation codes kept across points, and the turned block. -/
abbrev scX : Memref sig .tc .vmem S1536x3584 .bf16 := Memref.whole cc4_scratch0
abbrev scR : Memref sig .tc .vmem S1536x256 .f32 := Memref.whole cc4_scratch1

/-- Before the point with number `n`: the activation codes, written at the first point; the turned block and the other
    buffers of the call, at some contents. -/
def Φ (c : Dev nD) (n : ℕ) : sProp 𝕄 :=
  iprop((∃ d, owns (c : Thread nD τ) scX fullShare d ∗ ⌜n ≠ 0 → d = k4_pay4 (iblk W c 1 ⟨0, (by decide : 0 < grid4.N)⟩)⌝)
    ∗ (∃ d, owns (c : Thread nD τ) scR fullShare d) ∗ Pipeline.scopedRestBut spec4 c [cc4_scratch0, cc4_scratch1])

theorem Φ_in (c : Dev nD) : (Pipeline.scopedRest spec4 c : sProp 𝕄) ⊢ Φ W c 0 := by
  unfold Φ; rw [scopedRest4_split]; simp only [scX, scR, owns_whole]
  iintro ⟨⟨⟨%f, H0⟩, ⟨%g, H1⟩⟩, Hr⟩
  isplitl [H0]
  · iexists f; isplitl [H0]; · iexact H0
    ipureintro; exact fun h => absurd rfl h
  isplitl [H1]; · iexists g; iexact H1
  iexact Hr

theorem Φ_out (c : Dev nD) (n : ℕ) : Φ W c n ⊢ (Pipeline.scopedRest spec4 c : sProp 𝕄) := by
  unfold Φ; rw [scopedRest4_split]; simp only [scX, scR, owns_whole]
  iintro ⟨⟨%f, H0, -⟩, ⟨%g, H1⟩, Hr⟩
  isplitr [Hr]
  · isplitl [H0]; · iexists f; iexact H0
    iexists g; iexact H1
  iexact Hr

/-- The proof data: the arrays as the region finds them, the inputs' buffers left at their blocks, the results' at the
    gradient's block, the codes and the scales; nothing owed. -/
def dats (c : Dev nD) : Dat τ (Elt F) Unit ℕ (UR sig nD τ) ℕ cfg4 c where
  A w := W c (Proc.devRef .tc (Pipeline.arrRef spec4 w))
  after w t := match w with
    | ⟨0, _⟩ => iblk W c 0 t
    | ⟨1, _⟩ => iblk W c 1 t
    | ⟨2, _⟩ => iblk W c 2 t
    | ⟨3, _⟩ => iblk W c 3 t
    | ⟨4, _⟩ => outW (iblk W c 0 t) (iblk W c 1 t) (iblk W c 2 t) (iblk W c 3 t)
    | ⟨5, _⟩ => outC (iblk W c 0 t) (iblk W c 3 t)
    | ⟨6, _⟩ => outS (iblk W c 0 t) (iblk W c 3 t)
  Φ t := Φ W c t.val
  q _ := fullShare
  owed _ := 0

theorem A_eq (c : Dev nD) (w : Fin cfg4.W) : (dats W c).A w = W c (Proc.devRef .tc (Pipeline.arrRef spec4 w)) := by
  dsimp only [dats]

theorem after0 (c : Dev nD) (t : Fin cfg4.N) : (dats W c).after 0 t = iblk W c 0 t := by dsimp only [dats]
theorem after1 (c : Dev nD) (t : Fin cfg4.N) : (dats W c).after 1 t = iblk W c 1 t := by dsimp only [dats]
theorem after2 (c : Dev nD) (t : Fin cfg4.N) : (dats W c).after 2 t = iblk W c 2 t := by dsimp only [dats]
theorem after3 (c : Dev nD) (t : Fin cfg4.N) : (dats W c).after 3 t = iblk W c 3 t := by dsimp only [dats]
theorem after4 (c : Dev nD) (t : Fin cfg4.N) : (dats W c).after 4 t = outW (iblk W c 0 t) (iblk W c 1 t) (iblk W c 2 t) (iblk W c 3 t) := by dsimp only [dats]
theorem after5 (c : Dev nD) (t : Fin cfg4.N) : (dats W c).after 5 t = outC (iblk W c 0 t) (iblk W c 3 t) := by dsimp only [dats]
theorem after6 (c : Dev nD) (t : Fin cfg4.N) : (dats W c).after 6 t = outS (iblk W c 0 t) (iblk W c 3 t) := by dsimp only [dats]

theorem before0 (c : Dev nD) (t : Fin cfg4.N) (d) : (dats W c).before 0 t d = iblk W c 0 t :=
  ((dats W c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg4.N) (d) : (dats W c).before 1 t d = iblk W c 1 t :=
  ((dats W c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg4.N) (d) : (dats W c).before 2 t d = iblk W c 2 t :=
  ((dats W c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg4.N) (d) : (dats W c).before 3 t d = iblk W c 3 t :=
  ((dats W c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-- The activation codes' block is the same at every point. -/
theorem iblk1_const (c : Dev nD) (t t' : Fin cfg4.N) : iblk W c 1 t = iblk W c 1 t' := rfl

/-! ## The body obligation -/

/-- What the body is called with at point `t`, the windows one by one, -/
def bodyPre (c : Dev nD) (t : Fin cfg4.N) : sProp 𝕄 :=
  iprop((dats W c).Φ t.castSucc ∗ (dats W c).owesAt () t.castSucc
    ∗ (∃ d, owns (c : Thread nD τ) (ms0 t) fullShare ((dats W c).before 0 t d))
    ∗ (∃ d, owns (c : Thread nD τ) (ms1 t) fullShare ((dats W c).before 1 t d))
    ∗ (∃ d, owns (c : Thread nD τ) (ms2 t) fullShare ((dats W c).before 2 t d))
    ∗ (∃ d, owns (c : Thread nD τ) (ms3 t) fullShare ((dats W c).before 3 t d))
    ∗ (∃ d, owns (c : Thread nD τ) (ms4 t) fullShare ((dats W c).before 4 t d))
    ∗ (∃ d, owns (c : Thread nD τ) (ms5 t) fullShare ((dats W c).before 5 t d))
    ∗ (∃ d, owns (c : Thread nD τ) (ms6 t) fullShare ((dats W c).before 6 t d)))

/-- and what it returns. -/
def bodyPost (c : Dev nD) (t : Fin cfg4.N) : sProp 𝕄 :=
  iprop((dats W c).Φ t.succ ∗ (dats W c).owesAt () t.succ
    ∗ owns (c : Thread nD τ) (ms0 t) fullShare ((dats W c).after 0 t)
    ∗ owns (c : Thread nD τ) (ms1 t) fullShare ((dats W c).after 1 t)
    ∗ owns (c : Thread nD τ) (ms2 t) fullShare ((dats W c).after 2 t)
    ∗ owns (c : Thread nD τ) (ms3 t) fullShare ((dats W c).after 3 t)
    ∗ owns (c : Thread nD τ) (ms4 t) fullShare ((dats W c).after 4 t)
    ∗ owns (c : Thread nD τ) (ms5 t) fullShare ((dats W c).after 5 t)
    ∗ owns (c : Thread nD τ) (ms6 t) fullShare ((dats W c).after 6 t))

theorem coords_val : ∀ t : Fin grid4.N, (grid4.coords t 0).val = t.val := by decide +kernel

/-- The body at any point. -/
theorem sound_body (c : Dev nD) (t : Fin cfg4.N) :
    bodyPre W c t ⊢ wp frame (wpE (defs₀ (F := F)) Variants.none c none) Set.univ (bodyAt4 t) (fun _ => bodyPost W c t) := by
  unfold bodyPre bodyPost bodyAt4
  simp only [before0, before1, before2, before3]
  rw [show (dats W c).Φ t.succ = Φ W c (t.val + 1) from rfl, show (dats W c).Φ t.castSucc = Φ W c t.val from rfl,
    show (dats W c).owesAt () t.succ = (dats W c).owesAt () t.castSucc from rfl,
    after0, after1, after2, after3, after4, after5, after6]
  unfold Φ
  iintro ⟨⟨HX, HR, Hg⟩, Ho, ⟨%d0, H0⟩, ⟨%d1, H1⟩, ⟨%d2, H2⟩, ⟨%d3, H3⟩, ⟨%d4, H4⟩, ⟨%d5, H5⟩, ⟨%d6, H6⟩⟩
  iapply (body_run c (grid4.coords t) ⟨t.val, lt_of_lt_of_eq t.isLt N_4⟩ (coords_val t) _ _ _ _ _ _ _ _ _ _ _ _ _ _ _ _ _ _ (iblk W c 0 t) (iblk W c 1 t) (iblk W c 2 t) (iblk W c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HX]; · iexact HX
  isplitl [HR]; · iexact HR
  iintro ⟨H0, H1, H2, H3, H4, H5, H6, HX, HR⟩
  isplitl [HX HR Hg]
  · isplitl [HX]
    · iexists _; isplitl [HX]; · iexact HX
      ipureintro; exact fun _ => congrArg k4_pay4 (iblk1_const W c t _)
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t` is the body there. -/
theorem defs₀_row (t : Fin cfg4.N) :
    defs₀ (F := F) .tc cfg4.body (cfg4.bodyArgs t (cfg4.slots t)) = bodyAt4 t := by
  unfold defs₀; rw [Defs.onTc_tc]

/-- The body obligation, at every point. -/
theorem body_obligation (c : Dev nD) : BodyObligation (dats (F := F) W c) (defs₀ (F := F)) Variants.none () Set.univ := fun t => by
  rw [bigSep_W4, bigSep_W4, defs₀_row]
  exact triple_restated (sound_body W c t) rfl .rfl fun _ => .rfl

end Cert.Kernel.Wgrad

end
-- ==== Proof.KernelRun.lean ====
/-
  The whole kernel's run: the host's operations, then the five calls one after another.

  Each call enters with the buffers as the items before it left them, and leaves its results' buffers at what its grid
  points flush there. From these, every execution terminates with every buffer at the last valuation `V6`.
-/
module

public import proofs.«01_k».proof.Proof.KernelDyo
public import proofs.«01_k».proof.Proof.KernelWq
public import proofs.«01_k».proof.Proof.KernelXq
public import proofs.«01_k».proof.Proof.KernelDgrad
public import proofs.«01_k».proof.Proof.KernelWgrad
public import proofs.«01_k».proof.Proof.Gen.Kernel.Regions
public import Idealize.ShloMosaic.Lib.Pipeline.RegionArraysS

@[expose] public section

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What each call leaves -/

/-- What call 0 leaves in a buffer. -/
def o0 (r : Ref sig .tc) (c : Dev nD) : Buf (Elt F) ((c : Thread nD τ).loc r) :=
  Pipeline.afterRegion (Dyo.dats (V1 m) c) (V1 m c) (Proc.devRef .tc r)
/-- The buffers after call 0. -/
def W2 (c : Dev nD) : Valuation τ sig (Elt F) :=
  Function.update (Function.update (V1 m c) main_v30_0 (o0 m main_v30_0 c)) main_v30_1 (o0 m main_v30_1 c)
/-- What call 1 leaves in a buffer. -/
def o1 (r : Ref sig .tc) (c : Dev nD) : Buf (Elt F) ((c : Thread nD τ).loc r) :=
  Pipeline.afterRegion (Wq.dats (W2 m) c) (W2 m c) (Proc.devRef .tc r)
/-- The buffers after call 1. -/
def W3 (c : Dev nD) : Valuation τ sig (Elt F) :=
  Function.update (Function.update (W2 m c) main_v31_0 (o1 m main_v31_0 c)) main_v31_1 (o1 m main_v31_1 c)
/-- What call 2 leaves in a buffer. -/
def o2 (r : Ref sig .tc) (c : Dev nD) : Buf (Elt F) ((c : Thread nD τ).loc r) :=
  Pipeline.afterRegion (Xq.dats (W3 m) c) (W3 m c) (Proc.devRef .tc r)
/-- The buffers after call 2. -/
def W4 (c : Dev nD) : Valuation τ sig (Elt F) :=
  Function.update (Function.update (W3 m c) main_v32_0 (o2 m main_v32_0 c)) main_v32_1 (o2 m main_v32_1 c)
/-- What call 3 leaves in a buffer. -/
def o3 (r : Ref sig .tc) (c : Dev nD) : Buf (Elt F) ((c : Thread nD τ).loc r) :=
  Pipeline.afterRegion (Dgrad.dats (W4 m) c) (W4 m c) (Proc.devRef .tc r)
/-- The buffers after call 3. -/
def W5 (c : Dev nD) : Valuation τ sig (Elt F) :=
  Function.update (W4 m c) main_v33 (o3 m main_v33 c)
/-- What call 4 leaves in a buffer. -/
def o4 (r : Ref sig .tc) (c : Dev nD) : Buf (Elt F) ((c : Thread nD τ).loc r) :=
  Pipeline.afterRegion (Wgrad.dats (W5 m) c) (W5 m c) (Proc.devRef .tc r)
/-- The buffers after call 4. -/
def W6 (c : Dev nD) : Valuation τ sig (Elt F) :=
  Function.update (Function.update (Function.update (W5 m c) main_v34_0 (o4 m main_v34_0 c)) main_v34_1 (o4 m main_v34_1 c)) main_v34_2 (o4 m main_v34_2 c)

/-- What the calls leave, by item. -/
def outs : Outs (F := F) := fun J r c => match J with
  | 2 => o0 m r c
  | 3 => o1 m r c
  | 4 => o2 m r c
  | 5 => o3 m r c
  | _ => o4 m r c

/-- Every call's proof data. -/
def pdats : (p : Fin 5) → (c : Dev nD) → Dat τ (Elt F) Unit ℕ (UR sig nD τ) ℕ (cfgs p) c
  | ⟨0, _⟩ => fun c => Dyo.dats (V1 m) c
  | ⟨1, _⟩ => fun c => Wq.dats (W2 m) c
  | ⟨2, _⟩ => fun c => Xq.dats (W3 m) c
  | ⟨3, _⟩ => fun c => Dgrad.dats (W4 m) c
  | ⟨4, _⟩ => fun c => Wgrad.dats (W5 m) c

theorem V2_eq (c : Dev nD) : V2 m (outs m) c = W2 m c := rfl
theorem V3_eq (c : Dev nD) : V3 m (outs m) c = W3 m c := rfl
theorem V4_eq (c : Dev nD) : V4 m (outs m) c = W4 m c := rfl
theorem V5_eq (c : Dev nD) : V5 m (outs m) c = W5 m c := rfl
theorem V6_eq (c : Dev nD) : V6 m (outs m) c = W6 m c := rfl

/-- The buffers after call 0 are those its pipeline leaves. -/
theorem after_0 (c : Dev nD) (r : Ref sig .tc) : Pipeline.afterRegion (Dyo.dats (V1 m) c) (V1 m c) (Proc.devRef .tc r) = W2 m c r := by
  unfold W2
  by_cases h0 : r = main_v30_1
  · subst h0; rw [Function.update_self]; rfl
  rw [Function.update_of_ne (StableHlo.devRef_ne_of_ne h0)]
  by_cases h1 : r = main_v30_0
  · subst h1; rw [Function.update_self]; rfl
  rw [Function.update_of_ne (StableHlo.devRef_ne_of_ne h1)]
  refine Pipeline.afterRegion_keeps (Dyo.dats (V1 m) c) (V1 m c) launch0.win.arr_inj (Dyo.A_eq (V1 m) c) r fun w hw => ?_
  match w with
  | ⟨0, _⟩ => rfl
  | ⟨1, _⟩ => rfl
  | ⟨2, _⟩ => exact absurd hw.symm h1
  | ⟨3, _⟩ => exact absurd hw.symm h0

/-- The buffers after call 1 are those its pipeline leaves. -/
theorem after_1 (c : Dev nD) (r : Ref sig .tc) : Pipeline.afterRegion (Wq.dats (W2 m) c) (W2 m c) (Proc.devRef .tc r) = W3 m c r := by
  unfold W3
  by_cases h0 : r = main_v31_1
  · subst h0; rw [Function.update_self]; rfl
  rw [Function.update_of_ne (StableHlo.devRef_ne_of_ne h0)]
  by_cases h1 : r = main_v31_0
  · subst h1; rw [Function.update_self]; rfl
  rw [Function.update_of_ne (StableHlo.devRef_ne_of_ne h1)]
  refine Pipeline.afterRegion_keeps (Wq.dats (W2 m) c) (W2 m c) launch1.win.arr_inj (Wq.A_eq (W2 m) c) r fun w hw => ?_
  match w with
  | ⟨0, _⟩ => rfl
  | ⟨1, _⟩ => rfl
  | ⟨2, _⟩ => exact absurd hw.symm h1
  | ⟨3, _⟩ => exact absurd hw.symm h0

/-- The buffers after call 2 are those its pipeline leaves. -/
theorem after_2 (c : Dev nD) (r : Ref sig .tc) : Pipeline.afterRegion (Xq.dats (W3 m) c) (W3 m c) (Proc.devRef .tc r) = W4 m c r := by
  unfold W4
  by_cases h0 : r = main_v32_1
  · subst h0; rw [Function.update_self]; rfl
  rw [Function.update_of_ne (StableHlo.devRef_ne_of_ne h0)]
  by_cases h1 : r = main_v32_0
  · subst h1; rw [Function.update_self]; rfl
  rw [Function.update_of_ne (StableHlo.devRef_ne_of_ne h1)]
  refine Pipeline.afterRegion_keeps (Xq.dats (W3 m) c) (W3 m c) launch2.win.arr_inj (Xq.A_eq (W3 m) c) r fun w hw => ?_
  match w with
  | ⟨0, _⟩ => rfl
  | ⟨1, _⟩ => rfl
  | ⟨2, _⟩ => exact absurd hw.symm h1
  | ⟨3, _⟩ => exact absurd hw.symm h0

/-- The buffers after call 3 are those its pipeline leaves. -/
theorem after_3 (c : Dev nD) (r : Ref sig .tc) : Pipeline.afterRegion (Dgrad.dats (W4 m) c) (W4 m c) (Proc.devRef .tc r) = W5 m c r := by
  unfold W5
  by_cases h0 : r = main_v33
  · subst h0; rw [Function.update_self]; rfl
  rw [Function.update_of_ne (StableHlo.devRef_ne_of_ne h0)]
  refine Pipeline.afterRegion_keeps (Dgrad.dats (W4 m) c) (W4 m c) launch3.win.arr_inj (Dgrad.A_eq (W4 m) c) r fun w hw => ?_
  match w with
  | ⟨0, _⟩ => rfl
  | ⟨1, _⟩ => rfl
  | ⟨2, _⟩ => rfl
  | ⟨3, _⟩ => rfl
  | ⟨4, _⟩ => exact absurd hw.symm h0

/-- The buffers after call 4 are those its pipeline leaves. -/
theorem after_4 (c : Dev nD) (r : Ref sig .tc) : Pipeline.afterRegion (Wgrad.dats (W5 m) c) (W5 m c) (Proc.devRef .tc r) = W6 m c r := by
  unfold W6
  by_cases h0 : r = main_v34_2
  · subst h0; rw [Function.update_self]; rfl
  rw [Function.update_of_ne (StableHlo.devRef_ne_of_ne h0)]
  by_cases h1 : r = main_v34_1
  · subst h1; rw [Function.update_self]; rfl
  rw [Function.update_of_ne (StableHlo.devRef_ne_of_ne h1)]
  by_cases h2 : r = main_v34_0
  · subst h2; rw [Function.update_self]; rfl
  rw [Function.update_of_ne (StableHlo.devRef_ne_of_ne h2)]
  refine Pipeline.afterRegion_keeps (Wgrad.dats (W5 m) c) (W5 m c) launch4.win.arr_inj (Wgrad.A_eq (W5 m) c) r fun w hw => ?_
  match w with
  | ⟨0, _⟩ => rfl
  | ⟨1, _⟩ => rfl
  | ⟨2, _⟩ => rfl
  | ⟨3, _⟩ => rfl
  | ⟨4, _⟩ => exact absurd hw.symm h2
  | ⟨5, _⟩ => exact absurd hw.symm h1
  | ⟨6, _⟩ => exact absurd hw.symm h0

/-! ## The calls as segments -/

/-- Only the TensorCores' semaphores carry a level, and all of them the same. -/
abbrev L : GSem nD τ sig → Finset Unit := fun g => if g.1.2 = .tc then {()} else ∅
abbrev lv : GSem nD τ sig → Unit → ℕ := fun _ _ => 0

theorem mem_L (c : Dev nD) (x : SemLoc sig) : () ∈ L ((c : Thread nD τ), x) := by
  show () ∈ (if _ then _ else _)
  rw [if_pos rfl]; exact Finset.mem_singleton_self _

/-- What rides beside the buffers: the core's dues, which are none. -/
abbrev Ed (c : Dev nD) : sProp 𝕄 := iprop(∃ Wd, owes (c : Thread nD τ) (0 : CellTallies nD τ sig Unit) Wd)
abbrev E (_ : Fin 6) (c : Dev nD) : sProp 𝕄 := Ed c

theorem in_0 (c : Dev nD) : iprop(Pipeline.scopedRest spec0 c ∗ emp) ⊢ (Dyo.dats (V1 m) c).Φ 0 := by
  show _ ⊢ Dyo.Φ c
  iintro ⟨H, -⟩
  iapply (Entails.of_eq (Dyo.Φ_eq c))
  iexact H
theorem out_0 (c : Dev nD) : (Dyo.dats (V1 m) c).Φ (Fin.last cfg0.N) ⊢ iprop(Pipeline.scopedRest spec0 c ∗ emp) := by
  show Dyo.Φ c ⊢ _
  iintro H
  isplitl [H]
  · iapply (Entails.of_eq (Dyo.Φ_eq c).symm); iexact H
  iempintro
theorem held_0 (c : Dev nD) : ∀ b ∈ Pipeline.ucRefs τ sig, Pipeline.afterRegion (Dyo.dats (V1 m) c) (V1 m c) b = W2 m c b := by
  intro b hb
  obtain ⟨r, -, rfl⟩ := Finset.mem_map.mp (Finset.mem_filter.mp hb).1
  exact after_0 m c r

set_option backward.isDefEq.respectTransparency.types false in
/-- Call 0. -/
def R0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun _ => iprop(emp)) (fun _ => iprop(emp)) launch0.toP rfl (fun c => (Dyo.body_obligation (V1 m) c).loose)
    (fun _ _ => rfl) (fun _ => rfl) (fun c => (Dyo.dats (V1 m) c).share_full fun _ => rfl)
    (fun c => in_0 m c) (fun c => out_0 m c)
    (fun _ => 0) ⟨fun _ _ _ => mem_L _ _, fun _ _ _ => le_refl _, fun _ _ _ h => absurd h (lt_irrefl _)⟩
    (fun _ => iprop(emp)) (V1 m) (fun c w => Dyo.A_eq (V1 m) c w)

theorem sub_0 : Pipeline.arrRefs (pcfgs (F := F) 0).spec ⊆ Pipeline.ucRefs τ sig := Pipeline.arrRefs_sub_ucRefs spec0 (by decide)

/-- It enters from the buffers as they are before it, -/
theorem pre_0 (c : Dev nD) : iprop(StableHlo.held (c : Thread nD τ) (Pipeline.ucRefs τ sig) (V1 m c) ∗ Ed c) ⊢ (R0 m).pre c := by
  unfold R0
  refine BIBase.Entails.trans ?_ (RegionSeg.ofHeldIn_pre (sub_0 (F := F)) c)
  iintro ⟨H, HO⟩
  isplitl [H]; · iexact H
  isplitl [HO]; · iexact HO
  isplitr <;> iempintro

/-- and leaves them as they are after it. -/
theorem post_0 (c : Dev nD) : (R0 m).post c ⊢ iprop(StableHlo.held (c : Thread nD τ) (Pipeline.ucRefs τ sig) (W2 m c) ∗ Ed c) := by
  unfold R0
  refine BIBase.Entails.trans (RegionSeg.ofHeldIn_post (sub_0 (F := F)) c) ?_
  rw [StableHlo.held_congr (c : Thread nD τ) (S := Pipeline.ucRefs τ sig) (V := Pipeline.afterRegion (pdats m 0 c) (V1 m c)) (V' := W2 m c) (held_0 m c)]
  iintro ⟨H, HO, -⟩
  isplitl [H]; · iexact H
  iexact HO

theorem in_1 (c : Dev nD) : iprop(Pipeline.scopedRest spec1 c ∗ emp) ⊢ (Wq.dats (W2 m) c).Φ 0 := by
  show _ ⊢ Wq.Φ c
  iintro ⟨H, -⟩
  iapply (Entails.of_eq (Wq.Φ_eq c))
  iexact H
theorem out_1 (c : Dev nD) : (Wq.dats (W2 m) c).Φ (Fin.last cfg1.N) ⊢ iprop(Pipeline.scopedRest spec1 c ∗ emp) := by
  show Wq.Φ c ⊢ _
  iintro H
  isplitl [H]
  · iapply (Entails.of_eq (Wq.Φ_eq c).symm); iexact H
  iempintro
theorem held_1 (c : Dev nD) : ∀ b ∈ Pipeline.ucRefs τ sig, Pipeline.afterRegion (Wq.dats (W2 m) c) (W2 m c) b = W3 m c b := by
  intro b hb
  obtain ⟨r, -, rfl⟩ := Finset.mem_map.mp (Finset.mem_filter.mp hb).1
  exact after_1 m c r

set_option backward.isDefEq.respectTransparency.types false in
/-- Call 1. -/
def R1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun _ => iprop(emp)) (fun _ => iprop(emp)) launch1.toP rfl (fun c => (Wq.body_obligation (W2 m) c).loose)
    (fun _ _ => rfl) (fun _ => rfl) (fun c => (Wq.dats (W2 m) c).share_full fun _ => rfl)
    (fun c => in_1 m c) (fun c => out_1 m c)
    (fun _ => 0) ⟨fun _ _ _ => mem_L _ _, fun _ _ _ => le_refl _, fun _ _ _ h => absurd h (lt_irrefl _)⟩
    (fun _ => iprop(emp)) (W2 m) (fun c w => Wq.A_eq (W2 m) c w)

theorem sub_1 : Pipeline.arrRefs (pcfgs (F := F) 1).spec ⊆ Pipeline.ucRefs τ sig := Pipeline.arrRefs_sub_ucRefs spec1 (by decide)

/-- It enters from the buffers as they are before it, -/
theorem pre_1 (c : Dev nD) : iprop(StableHlo.held (c : Thread nD τ) (Pipeline.ucRefs τ sig) (W2 m c) ∗ Ed c) ⊢ (R1 m).pre c := by
  unfold R1
  refine BIBase.Entails.trans ?_ (RegionSeg.ofHeldIn_pre (sub_1 (F := F)) c)
  iintro ⟨H, HO⟩
  isplitl [H]; · iexact H
  isplitl [HO]; · iexact HO
  isplitr <;> iempintro

/-- and leaves them as they are after it. -/
theorem post_1 (c : Dev nD) : (R1 m).post c ⊢ iprop(StableHlo.held (c : Thread nD τ) (Pipeline.ucRefs τ sig) (W3 m c) ∗ Ed c) := by
  unfold R1
  refine BIBase.Entails.trans (RegionSeg.ofHeldIn_post (sub_1 (F := F)) c) ?_
  rw [StableHlo.held_congr (c : Thread nD τ) (S := Pipeline.ucRefs τ sig) (V := Pipeline.afterRegion (pdats m 1 c) (W2 m c)) (V' := W3 m c) (held_1 m c)]
  iintro ⟨H, HO, -⟩
  isplitl [H]; · iexact H
  iexact HO

theorem in_2 (c : Dev nD) : iprop(Pipeline.scopedRest spec2 c ∗ emp) ⊢ (Xq.dats (W3 m) c).Φ 0 := by
  show _ ⊢ Xq.Φ c
  iintro ⟨H, -⟩
  iapply (Entails.of_eq (Xq.Φ_eq c))
  iexact H
theorem out_2 (c : Dev nD) : (Xq.dats (W3 m) c).Φ (Fin.last cfg2.N) ⊢ iprop(Pipeline.scopedRest spec2 c ∗ emp) := by
  show Xq.Φ c ⊢ _
  iintro H
  isplitl [H]
  · iapply (Entails.of_eq (Xq.Φ_eq c).symm); iexact H
  iempintro
theorem held_2 (c : Dev nD) : ∀ b ∈ Pipeline.ucRefs τ sig, Pipeline.afterRegion (Xq.dats (W3 m) c) (W3 m c) b = W4 m c b := by
  intro b hb
  obtain ⟨r, -, rfl⟩ := Finset.mem_map.mp (Finset.mem_filter.mp hb).1
  exact after_2 m c r

set_option backward.isDefEq.respectTransparency.types false in
/-- Call 2. -/
def R2 : RegionSeg (pcfgs (F := F)) adm (pdats m) () defs₀ Variants.none L lv 2 :=
  RegionSeg.ofHeldIn (pcfgs (F := F)) adm (pdats m) () defs₀ Variants.none L lv 2 (fun _ => 0) (Pipeline.ucRefs τ sig)
    (fun _ => iprop(emp)) (fun _ => iprop(emp)) launch2.toP rfl (fun c => (Xq.body_obligation (W3 m) c).loose)
    (fun _ _ => rfl) (fun _ => rfl) (fun c => (Xq.dats (W3 m) c).share_full fun _ => rfl)
    (fun c => in_2 m c) (fun c => out_2 m c)
    (fun _ => 0) ⟨fun _ _ _ => mem_L _ _, fun _ _ _ => le_refl _, fun _ _ _ h => absurd h (lt_irrefl _)⟩
    (fun _ => iprop(emp)) (W3 m) (fun c w => Xq.A_eq (W3 m) c w)

theorem sub_2 : Pipeline.arrRefs (pcfgs (F := F) 2).spec ⊆ Pipeline.ucRefs τ sig := Pipeline.arrRefs_sub_ucRefs spec2 (by decide)

/-- It enters from the buffers as they are before it, -/
theorem pre_2 (c : Dev nD) : iprop(StableHlo.held (c : Thread nD τ) (Pipeline.ucRefs τ sig) (W3 m c) ∗ Ed c) ⊢ (R2 m).pre c := by
  unfold R2
  refine BIBase.Entails.trans ?_ (RegionSeg.ofHeldIn_pre (sub_2 (F := F)) c)
  iintro ⟨H, HO⟩
  isplitl [H]; · iexact H
  isplitl [HO]; · iexact HO
  isplitr <;> iempintro

/-- and leaves them as they are after it. -/
theorem post_2 (c : Dev nD) : (R2 m).post c ⊢ iprop(StableHlo.held (c : Thread nD τ) (Pipeline.ucRefs τ sig) (W4 m c) ∗ Ed c) := by
  unfold R2
  refine BIBase.Entails.trans (RegionSeg.ofHeldIn_post (sub_2 (F := F)) c) ?_
  rw [StableHlo.held_congr (c : Thread nD τ) (S := Pipeline.ucRefs τ sig) (V := Pipeline.afterRegion (pdats m 2 c) (W3 m c)) (V' := W4 m c) (held_2 m c)]
  iintro ⟨H, HO, -⟩
  isplitl [H]; · iexact H
  iexact HO

theorem in_3 (c : Dev nD) : iprop(Pipeline.scopedRest spec3 c ∗ emp) ⊢ (Dgrad.dats (W4 m) c).Φ 0 := by
  show _ ⊢ Dgrad.Φ c
  iintro ⟨H, -⟩
  iapply (Entails.of_eq (Dgrad.Φ_eq c))
  iexact H
theorem out_3 (c : Dev nD) : (Dgrad.dats (W4 m) c).Φ (Fin.last cfg3.N) ⊢ iprop(Pipeline.scopedRest spec3 c ∗ emp) := by
  show Dgrad.Φ c ⊢ _
  iintro H
  isplitl [H]
  · iapply (Entails.of_eq (Dgrad.Φ_eq c).symm); iexact H
  iempintro
theorem held_3 (c : Dev nD) : ∀ b ∈ Pipeline.ucRefs τ sig, Pipeline.afterRegion (Dgrad.dats (W4 m) c) (W4 m c) b = W5 m c b := by
  intro b hb
  obtain ⟨r, -, rfl⟩ := Finset.mem_map.mp (Finset.mem_filter.mp hb).1
  exact after_3 m c r

set_option backward.isDefEq.respectTransparency.types false in
/-- Call 3. -/
def R3 : RegionSeg (pcfgs (F := F)) adm (pdats m) () defs₀ Variants.none L lv 3 :=
  RegionSeg.ofHeldIn (pcfgs (F := F)) adm (pdats m) () defs₀ Variants.none L lv 3 (fun _ => 0) (Pipeline.ucRefs τ sig)
    (fun _ => iprop(emp)) (fun _ => iprop(emp)) launch3.toP rfl (fun c => (Dgrad.body_obligation (W4 m) c).loose)
    (fun _ _ => rfl) (fun _ => rfl) (fun c => (Dgrad.dats (W4 m) c).share_full fun _ => rfl)
    (fun c => in_3 m c) (fun c => out_3 m c)
    (fun _ => 0) ⟨fun _ _ _ => mem_L _ _, fun _ _ _ => le_refl _, fun _ _ _ h => absurd h (lt_irrefl _)⟩
    (fun _ => iprop(emp)) (W4 m) (fun c w => Dgrad.A_eq (W4 m) c w)

theorem sub_3 : Pipeline.arrRefs (pcfgs (F := F) 3).spec ⊆ Pipeline.ucRefs τ sig := Pipeline.arrRefs_sub_ucRefs spec3 (by decide)

/-- It enters from the buffers as they are before it, -/
theorem pre_3 (c : Dev nD) : iprop(StableHlo.held (c : Thread nD τ) (Pipeline.ucRefs τ sig) (W4 m c) ∗ Ed c) ⊢ (R3 m).pre c := by
  unfold R3
  refine BIBase.Entails.trans ?_ (RegionSeg.ofHeldIn_pre (sub_3 (F := F)) c)
  iintro ⟨H, HO⟩
  isplitl [H]; · iexact H
  isplitl [HO]; · iexact HO
  isplitr <;> iempintro

/-- and leaves them as they are after it. -/
theorem post_3 (c : Dev nD) : (R3 m).post c ⊢ iprop(StableHlo.held (c : Thread nD τ) (Pipeline.ucRefs τ sig) (W5 m c) ∗ Ed c) := by
  unfold R3
  refine BIBase.Entails.trans (RegionSeg.ofHeldIn_post (sub_3 (F := F)) c) ?_
  rw [StableHlo.held_congr (c : Thread nD τ) (S := Pipeline.ucRefs τ sig) (V := Pipeline.afterRegion (pdats m 3 c) (W4 m c)) (V' := W5 m c) (held_3 m c)]
  iintro ⟨H, HO, -⟩
  isplitl [H]; · iexact H
  iexact HO

theorem in_4 (c : Dev nD) : iprop(Pipeline.scopedRest spec4 c ∗ emp) ⊢ (Wgrad.dats (W5 m) c).Φ 0 := by
  show _ ⊢ Wgrad.Φ (W5 m) c 0
  iintro ⟨H, -⟩
  iapply (Wgrad.Φ_in (W5 m) c)
  iexact H
theorem out_4 (c : Dev nD) : (Wgrad.dats (W5 m) c).Φ (Fin.last cfg4.N) ⊢ iprop(Pipeline.scopedRest spec4 c ∗ emp) := by
  show Wgrad.Φ (W5 m) c cfg4.N ⊢ _
  iintro H
  isplitl [H]
  · iapply (Wgrad.Φ_out (W5 m) c _); iexact H
  iempintro
theorem held_4 (c : Dev nD) : ∀ b ∈ Pipeline.ucRefs τ sig, Pipeline.afterRegion (Wgrad.dats (W5 m) c) (W5 m c) b = W6 m c b := by
  intro b hb
  obtain ⟨r, -, rfl⟩ := Finset.mem_map.mp (Finset.mem_filter.mp hb).1
  exact after_4 m c r

set_option backward.isDefEq.respectTransparency.types false in
/-- Call 4. -/
def R4 : RegionSeg (pcfgs (F := F)) adm (pdats m) () defs₀ Variants.none L lv 4 :=
  RegionSeg.ofHeldIn (pcfgs (F := F)) adm (pdats m) () defs₀ Variants.none L lv 4 (fun _ => 0) (Pipeline.ucRefs τ sig)
    (fun _ => iprop(emp)) (fun _ => iprop(emp)) launch4.toP rfl (fun c => (Wgrad.body_obligation (W5 m) c).loose)
    (fun _ _ => rfl) (fun _ => rfl) (fun c => (Wgrad.dats (W5 m) c).share_full fun _ => rfl)
    (fun c => in_4 m c) (fun c => out_4 m c)
    (fun _ => 0) ⟨fun _ _ _ => mem_L _ _, fun _ _ _ => le_refl _, fun _ _ _ h => absurd h (lt_irrefl _)⟩
    (fun _ => iprop(emp)) (W5 m) (fun c w => Wgrad.A_eq (W5 m) c w)

theorem sub_4 : Pipeline.arrRefs (pcfgs (F := F) 4).spec ⊆ Pipeline.ucRefs τ sig := Pipeline.arrRefs_sub_ucRefs spec4 (by decide)

/-- It enters from the buffers as they are before it, -/
theorem pre_4 (c : Dev nD) : iprop(StableHlo.held (c : Thread nD τ) (Pipeline.ucRefs τ sig) (W5 m c) ∗ Ed c) ⊢ (R4 m).pre c := by
  unfold R4
  refine BIBase.Entails.trans ?_ (RegionSeg.ofHeldIn_pre (sub_4 (F := F)) c)
  iintro ⟨H, HO⟩
  isplitl [H]; · iexact H
  isplitl [HO]; · iexact HO
  isplitr <;> iempintro

/-- and leaves them as they are after it. -/
theorem post_4 (c : Dev nD) : (R4 m).post c ⊢ iprop(StableHlo.held (c : Thread nD τ) (Pipeline.ucRefs τ sig) (W6 m c) ∗ Ed c) := by
  unfold R4
  refine BIBase.Entails.trans (RegionSeg.ofHeldIn_post (sub_4 (F := F)) c) ?_
  rw [StableHlo.held_congr (c : Thread nD τ) (S := Pipeline.ucRefs τ sig) (V := Pipeline.afterRegion (pdats m 4 c) (W5 m c)) (V' := W6 m c) (held_4 m c)]
  iintro ⟨H, HO, -⟩
  isplitl [H]; · iexact H
  iexact HO

/-! ## The run -/

set_option backward.isDefEq.respectTransparency.types false in
/-- Every execution from memory `m` with zero counters terminates, with every buffer at the last valuation and every
    counter at zero. -/
theorem run (ρ : Dev nD → PrngReg) : θ_run defs (onTc (τ := τ) (main (F := F))) ⟨m, fun _ => 0, ρ⟩
    (fun r => (∀ c : Dev nD, ∀ b ∈ Pipeline.ucRefs τ sig, r.2.mem (c, b) = V6 m (outs m) c b) ∧ r.2.sem = fun _ => 0) := by
  refine Pipeline.θ_run_regions_kit_dev_sems (pcfgs (F := F)) adm (pdats m) () cellOf_inj emb₁ defs₀ Variants.none L lv m ρ main
    (segs m Variants.none L lv E () (pdats m) (R0 m) (R1 m) (R2 m) (R3 m) (R4 m))
    (fun c Q => by
      rewrite [main_chain c, Seg.run_eq_chain,
        show (segs m Variants.none L lv E () (pdats m) (R0 m) (R1 m) (R2 m) (R3 m) (R4 m) c).map Seg.prog = [
          StableHlo.seq hostOps0,
          Prog.lift (.customCall (Pipeline.entry 0) ()),
          Prog.lift (.customCall (Pipeline.entry 1) ()),
          Prog.lift (.customCall (Pipeline.entry 2) ()),
          Prog.lift (.customCall (Pipeline.entry 3) ()),
          Prog.lift (.customCall (Pipeline.entry 4) ()) ] from rfl]
      dsimp (config := { failIfUnchanged := false }) only
      exact .rfl)
    (fun c => by simp only [segs, Seg.pipes_host, Seg.pipes_region, Seg.pipes_nil]; decide) (O₀ := 0) (hL := fun g hg => if_neg hg)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V6 m (outs m) c))
    (hch := fun c => ⟨.rfl, pre_0 m c, (post_0 m c).trans (pre_1 m c), (post_1 m c).trans (pre_2 m c), (post_2 m c).trans (pre_3 m c), (post_3 m c).trans (pre_4 m c), post_4 m c⟩)
    (hinit := ?_) (QY := fun c s => ∀ b ∈ Pipeline.ucRefs τ sig, s.mem (c, b) = V6 m (outs m) c b)
    (hfin := fun c s' => ?_) (hQ := fun _ h hz => ⟨h, funext fun g => hz g (.inr (regions_no_unscoped g.2))⟩)
  · refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V6 m (outs m) c) s') $$ [Hh HSI]
    · isplitl [Hh] <;> iassumption
    icases Hr with ⟨%h, HSI⟩
    imodintro
    isplitr
    · ipureintro; exact h
    · iexact HSI

end Cert.Kernel.Run

end
-- ==== Proof.KernelIdealDyo.lean ====
/-
  One pallas_call of the kernel, run: the output gradient in blocks of 128 tokens: each block is turned by the Hadamard matrix in column tiles of 256,
  while the largest magnitude of every row is collected; the row's scale and the codes follow.

  The first loop's invariant says which part of the scratch holds the turned block (`rot`) and what the running
  maximum is (`am`); the second loop's says which part of the result's buffer holds the codes (`cod`).
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Exec
public import Idealize.ShloMosaic.Lib.Tactic
public import Idealize.ShloMosaic.Lib.Pipeline.Kit
public import Idealize.ShloMosaic.Lib.Pipeline.Value
public import Idealize.ShloMosaic.Lib.Pipeline.FrameBody
public import Idealize.ShloMosaic.Lib.Pipeline.RegionArraysS
public import Idealize.ShloMosaic.Lib.WordCmp
public import Idealize.ShloMosaic.Lib.Claim
public import Idealize.ShloMosaic.Lib.Pointwise.Index
public import proofs.«01_k».proof.Proof.Whole
public import proofs.«01_k».proof.Proof.Fill

@[expose] public section

set_option maxRecDepth 16384

noncomputable section

namespace Cert.KernelIdeal.Dyo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one grid point computes -/

theorem trips1 : k0_t1_loop.trips = 74 := by decide +kernel
theorem trips2 : k0_t2_loop.trips = 74 := by decide +kernel

/-- Tile `k` of the input block. -/
abbrev tile (x1 : Vec F S128x18944 .bf16) (k : Fin k0_t1_loop.trips) : Vec F S128x256 .bf16 :=
  View.ld x1 (Rect.unit (s := S128x18944) (k0_off1 k) S128x256.size (k0_off1_inb k))

/-- Tile `k` of the turned block. -/
abbrev tile2 (r : Vec F S128x18944 .f32) (k : Fin k0_t2_loop.trips) : Vec F S128x256 .f32 :=
  View.ld r (Rect.unit (s := S128x18944) (k0_off2 k) S128x256.size (k0_off2_inb k))

theorem div1 (y : S128x18944.Idx) : (y 1).val / 256 < k0_t1_loop.trips := by
  rw [trips1]; have h : (y 1).val < 18944 := (y 1).isLt; omega
theorem div2 (y : S128x18944.Idx) : (y 1).val / 256 < k0_t2_loop.trips := by
  rw [trips2]; have h : (y 1).val < 18944 := (y 1).isLt; omega

/-- Where an element lies inside its tile. -/
def within (y : S128x18944.Idx) : S128x256.Idx := (Idealize.ShloMosaic.ix2 (y 0) (⟨(y 1).val % 256, Nat.mod_lt _ (by decide)⟩ : Fin 256))

/-- The turned block. -/
def rot (x1 : Vec F S128x18944 .bf16) (x2 : Vec F S256x256 .bf16) : Vec F S128x18944 .f32 := fun y =>
  k0_pay3 (tile x1 ⟨(y 1).val / 256, div1 y⟩) x2 (within y)

/-- The codes, from the running maximum after the last tile and the turned block. -/
def cod (v2 : FVec F S128x128 .f32) (r : Vec F S128x18944 .f32) : Vec F S128x18944 .i8 := fun y =>
  k0_pay6 v2 (tile2 r ⟨(y 1).val / 256, div2 y⟩) (within y)

/-- The running maximum before tile `k`. -/
def am (x1 : Vec F S128x18944 .bf16) (x2 : Vec F S256x256 .bf16) : ℕ → FVec F S128x128 .f32
  | 0 => k0_pay1
  | k + 1 => if h : k < k0_t1_loop.trips then k0_pay4 (am x1 x2 k) (tile x1 ⟨k, h⟩) x2 else am x1 x2 k

theorem am_succ (x1 : Vec F S128x18944 .bf16) (x2 : Vec F S256x256 .bf16) (k : Fin k0_t1_loop.trips) :
    am x1 x2 (k.val + 1) = k0_pay4 (am x1 x2 k.val) (tile x1 k) x2 := by
  rw [am, dif_pos k.isLt]

/-- An element of tile `k`, by its place in the block and in the tile. -/
theorem place1 (k : Fin k0_t1_loop.trips) (y : S128x18944.Idx) (x : S128x256.Idx) (h : ∀ b, (y b).val = k0_off1 k b + (x b).val) :
    (⟨(y 1).val / 256, div1 y⟩ : Fin k0_t1_loop.trips) = k ∧ within y = x := by
  have h0 : (y 0).val = k0_off1 k 0 + (x 0).val := h 0
  have h1 : (y 1).val = k0_off1 k 1 + (x 1).val := h 1
  rw [k0_off1_eq] at h0 h1
  have e0 : (![0, 256 * k.val] : Fin 2 → ℕ) 0 = 0 := rfl
  have e1 : (![0, 256 * k.val] : Fin 2 → ℕ) 1 = 256 * k.val := rfl
  have hx : (x 1).val < 256 := (x 1).isLt
  rw [e0] at h0; rw [e1] at h1
  refine ⟨Fin.ext ?_, funext fun b => Fin.ext ?_⟩
  · show (y 1).val / 256 = k.val
    omega
  · match b with
    | ⟨0, _⟩ => show (y 0).val = (x 0).val; omega
    | ⟨1, _⟩ => show (y 1).val % 256 = (x 1).val; omega

theorem place2 (k : Fin k0_t2_loop.trips) (y : S128x18944.Idx) (x : S128x256.Idx) (h : ∀ b, (y b).val = k0_off2 k b + (x b).val) :
    (⟨(y 1).val / 256, div2 y⟩ : Fin k0_t2_loop.trips) = k ∧ within y = x :=
  place1 k y x h

/-! ## The two loops -/

/-- Before tile `k` of the first loop: the scratch holds the turned block up to the tile, the carried value is the
    running maximum. -/
abbrev inv1 (c : Dev nD) (arg1 : Memref sig .tc .vmem S128x18944 .bf16) (arg2 : Memref sig .tc .vmem S256x256 .bf16)
    (arg5 : Memref sig .tc .vmem S128x18944 .f32) (X1 : BufTy.Contents (Elt F) arg1.view.ty)
    (X2 : BufTy.Contents (Elt F) arg2.view.ty) (k : ℕ) (u : FVec F S128x128 .f32) : sProp 𝕄 :=
  iprop((arg1.view.loc (c : Thread nD τ) ↦[arg1.view.set]{fullShare} X1)
    ∗ (arg2.view.loc (c : Thread nD τ) ↦[arg2.view.set]{fullShare} X2)
    ∗ (∃ f, (arg5.view.loc (c : Thread nD τ) ↦[arg5.view.set]{fullShare} f)
        ∗ ⌜k ≠ 0 → ∀ y : S128x18944.Idx, (y 1).val < 256 * k → arg5.view.read (Elt F) f y
            = rot (arg1.view.read (Elt F) X1) (arg2.view.read (Elt F) X2) y⌝)
    ∗ ⌜u = am (arg1.view.read (Elt F) X1) (arg2.view.read (Elt F) X2) k⌝)

set_option warn.classDefReducibility false in
/-- The first loop by its invariant. -/
@[sl_loop] def loop1 (c : Dev nD) (i : grid0.Coords) (arg1 : Memref sig .tc .vmem S128x18944 .bf16) (harg1 : arg1.IsWhole) (arg2 : Memref sig .tc .vmem S256x256 .bf16) (harg2 : arg2.IsWhole) (arg3 : Memref sig .tc .vmem S128x18944 .i8) (harg3 : arg3.IsWhole) (arg4 : Memref sig .tc .vmem S128x1 .f32) (harg4 : arg4.IsWhole) (arg5 : Memref sig .tc .vmem S128x18944 .f32) (harg5 : arg5.IsWhole)
    (E : Set ℕ) (X1 : BufTy.Contents (Elt F) arg1.view.ty) (X2 : BufTy.Contents (Elt F) arg2.view.ty) :
    LoopInv (M := 𝕄) frame (wpE (defs₀ (F := F)) Variants.none (c : Thread nD τ) none) E
      k0_t1_loop.lb k0_t1_loop.ub k0_t1_loop.st k0_t1_ok (k0_pay1 (F := F)) (k0_t1_body (F := F) i arg1 harg1 arg2 harg2 arg3 harg3 arg4 harg4 arg5 harg5) where
  inv := inv1 (F := F) c arg1 arg2 arg5 X1 X2
  step k u := by
    unfold k0_t1_body
    iintro ⟨H1, H2, ⟨%f, H5, %h5⟩, %hu⟩
    sl_exec
    sl_step
    isplitl [H1]; · iexact H1
    isplitl [H2]; · iexact H2
    isplitl [H5]
    · iexists _; isplitl [H5]; · iexact H5
      ipureintro
      intro _
      refine Fill.step arg5.view f 1 _ (256 * k.val) (256 * (k.val + 1)) _ _ (by rw [k0_off1_eq]; rfl) (Nat.mul_succ _ _).symm
        (fun b hb => ?_) (fun y x hyx => ?_) (fun y hy => h5 (fun h0 => by rw [h0] at hy; exact absurd hy (Nat.not_lt_zero _)) y hy)
      · match b with
        | ⟨0, _⟩ => exact ⟨by rw [k0_off1_eq]; rfl, rfl⟩
        | ⟨1, _⟩ => exact absurd rfl hb
      · obtain ⟨hk, hx⟩ := place1 k y x hyx
        rw [Whole.readAt_whole _ _ Whole.hz, View.readAt_eq_ld]
        unfold rot
        rw [hk, hx]
    · ipureintro
      rw [am_succ, hu, Whole.readAt_whole _ _ Whole.hz, View.readAt_eq_ld]

/-- Before tile `k` of the second loop: the result's buffer holds the codes up to the tile. -/
abbrev inv2 (c : Dev nD) (arg3 : Memref sig .tc .vmem S128x18944 .i8)
    (arg5 : Memref sig .tc .vmem S128x18944 .f32) (X5 : BufTy.Contents (Elt F) arg5.view.ty)
    (v2 : FVec F S128x128 .f32) (k : ℕ) (u : PUnit) : sProp 𝕄 :=
  iprop((arg5.view.loc (c : Thread nD τ) ↦[arg5.view.set]{fullShare} X5)
    ∗ (∃ f, (arg3.view.loc (c : Thread nD τ) ↦[arg3.view.set]{fullShare} f)
        ∗ ⌜k ≠ 0 → ∀ y : S128x18944.Idx, (y 1).val < 256 * k → arg3.view.read (Elt F) f y
            = cod v2 (arg5.view.read (Elt F) X5) y⌝))

set_option warn.classDefReducibility false in
/-- The second loop by its invariant. -/
@[sl_loop] def loop2 (c : Dev nD) (i : grid0.Coords) (arg1 : Memref sig .tc .vmem S128x18944 .bf16) (harg1 : arg1.IsWhole) (arg2 : Memref sig .tc .vmem S256x256 .bf16) (harg2 : arg2.IsWhole) (arg3 : Memref sig .tc .vmem S128x18944 .i8) (harg3 : arg3.IsWhole) (arg4 : Memref sig .tc .vmem S128x1 .f32) (harg4 : arg4.IsWhole) (arg5 : Memref sig .tc .vmem S128x18944 .f32) (harg5 : arg5.IsWhole)
    (E : Set ℕ) (X5 : BufTy.Contents (Elt F) arg5.view.ty) (v2 : FVec F S128x128 .f32) :
    LoopInv (M := 𝕄) frame (wpE (defs₀ (F := F)) Variants.none (c : Thread nD τ) none) E
      k0_t2_loop.lb k0_t2_loop.ub k0_t2_loop.st k0_t2_ok ⟨⟩ (k0_t2_body (F := F) i arg1 harg1 arg2 harg2 arg3 harg3 arg4 harg4 arg5 harg5 v2) where
  inv := inv2 (F := F) c arg3 arg5 X5 v2
  step k u := by
    unfold k0_t2_body
    iintro ⟨H5, ⟨%f, H3, %h3⟩⟩
    sl_exec
    sl_step
    isplitl [H5]; · iexact H5
    iexists _; isplitl [H3]; · iexact H3
    ipureintro
    intro _
    refine Fill.step arg3.view f 1 _ (256 * k.val) (256 * (k.val + 1)) _ _ (by rw [k0_off2_eq]; rfl) (Nat.mul_succ _ _).symm
      (fun b hb => ?_) (fun y x hyx => ?_) (fun y hy => h3 (fun h0 => by rw [h0] at hy; exact absurd hy (Nat.not_lt_zero _)) y hy)
    · match b with
      | ⟨0, _⟩ => exact ⟨by rw [k0_off2_eq]; rfl, rfl⟩
      | ⟨1, _⟩ => exact absurd rfl hb
    · obtain ⟨hk, hx⟩ := place2 k y x hyx
      rw [View.readAt_eq_ld]
      unfold cod
      rw [hk, hx]

/-! ## One grid point -/

/-- The codes a grid point leaves, -/
def outC (x1 : Vec F S128x18944 .bf16) (x2 : Vec F S256x256 .bf16) : Vec F S128x18944 .i8 := cod (am x1 x2 k0_t1_loop.trips) (rot x1 x2)
/-- and the scales. -/
def outS (x1 : Vec F S128x18944 .bf16) (x2 : Vec F S256x256 .bf16) : Vec F S128x1 .f32 := k0_pay5 (am x1 x2 k0_t1_loop.trips)

set_option maxHeartbeats 1000000 in
/-- The body's triple. -/
theorem body_run (c : Dev nD) (i : grid0.Coords) (arg1 : Memref sig .tc .vmem S128x18944 .bf16) (harg1 : arg1.IsWhole) (arg2 : Memref sig .tc .vmem S256x256 .bf16) (harg2 : arg2.IsWhole) (arg3 : Memref sig .tc .vmem S128x18944 .i8) (harg3 : arg3.IsWhole) (arg4 : Memref sig .tc .vmem S128x1 .f32) (harg4 : arg4.IsWhole) (arg5 : Memref sig .tc .vmem S128x18944 .f32) (harg5 : arg5.IsWhole)
    (x1 : Vec F S128x18944 .bf16) (x2 : Vec F S256x256 .bf16)
    (E : Set ℕ) (K : PUnit → sProp 𝕄) :
    iprop(owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x1 ∗ owns (c : Thread nD τ) arg2 fullShare x2
            ∗ owns (c : Thread nD τ) arg3 fullShare (outC x1 x2) ∗ owns (c : Thread nD τ) arg4 fullShare (outS x1 x2)
            ∗ (∃ d, owns (c : Thread nD τ) arg5 fullShare d)) -∗ K ⟨⟩))
      ⊢ wp frame (wpE (defs₀ (F := F)) Variants.none c none) E (cc0_quant_dyo i arg1 harg1 arg2 harg2 arg3 harg3 arg4 harg4 arg5 harg5) K := by
  simp only [cc0_quant_dyo_eq_skeleton]; unfold cc0_quant_dyo_skel
  unfold owns
  iintro ⟨⟨%f1, %hf1, H1⟩, ⟨%f2, %hf2, H2⟩, ⟨%d3, %f3, -, H3⟩, ⟨%d4, %f4, -, H4⟩, ⟨%d5, %f5, -, H5⟩, Hk⟩
  sl_exec
  sl_step
  iapply Hk
  have t1 : Scf.trips k0_t1_loop.lb k0_t1_loop.ub k0_t1_loop.st = 74 := trips1
  have t2 : Scf.trips k0_t2_loop.lb k0_t2_loop.ub k0_t2_loop.st = 74 := trips2
  have h5 : arg5.view.read (Elt F) fL0 = rot x1 x2 := funext fun y => by
    rw [← hf1, ← hf2]
    refine hL3 (by rw [t1]; decide) y ?_
    rw [t1]; exact (y 1).isLt
  isplitl [H1]
  · iexists _; isplitr; · ipureintro; exact hf1
    iexact H1
  isplitl [H2]
  · iexists _; isplitr; · ipureintro; exact hf2
    iexact H2
  isplitl [H3]
  · iexists _; isplitr; swap; · iexact H3
    ipureintro
    refine funext fun y => ?_
    refine (hL7 (by rw [t2]; decide) y ?_).trans ?_
    · rw [t2]; exact (y 1).isLt
    · rw [h5, hf1, hf2]; rfl
  isplitl [H4]
  · iexists _; isplitr; swap; · iexact H4
    ipureintro
    refine (Whole.read_store _ _ Whole.hz _ _).trans ?_
    rw [hf1, hf2]; rfl
  iexists _, _; isplitr; swap; · iexact H5
  ipureintro; rfl

/-! ## The pipeline's proof data, from any contents `W` of the buffers at the region's entry -/

variable (W : Dev nD → Valuation τ sig (Elt F))

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- Each window's current staging buffer at point `t`. -/
abbrev ms0 (t : Fin cfg0.N) : Memref sig .tc .vmem S128x18944 .bf16 := win0_0.stage (cfg0.slots t 0)
abbrev ms1 (t : Fin cfg0.N) : Memref sig .tc .vmem S256x256 .bf16 := win0_1.stage (cfg0.slots t 1)
abbrev ms2 (t : Fin cfg0.N) : Memref sig .tc .vmem S128x18944 .i8 := win0_2.stage (cfg0.slots t 2)
abbrev ms3 (t : Fin cfg0.N) : Memref sig .tc .vmem S128x1 .f32 := win0_3.stage (cfg0.slots t 3)
/-- The scratch. -/
abbrev scM : Memref sig .tc .vmem S128x18944 .f32 := Memref.whole cc0_scratch0

/-- Between points: the scratch and the other buffers of the call, at some contents. -/
def Φ (c : Dev nD) : sProp 𝕄 :=
  iprop((∃ d, owns (c : Thread nD τ) scM fullShare d) ∗ Pipeline.scopedRestBut spec0 c [cc0_scratch0])

theorem Φ_eq (c : Dev nD) : (Pipeline.scopedRest spec0 c : sProp 𝕄) = Φ c := by
  unfold Φ; rw [scopedRest0_split]; simp only [scM, owns_whole]; try rfl

/-- The proof data: the arrays as the region finds them, the inputs' buffers left at their blocks, the results' at the
    codes and the scales; nothing owed. -/
def dats (c : Dev nD) : Dat τ (Elt F) Unit ℕ (UR sig nD τ) ℕ cfg0 c where
  A w := W c (Proc.devRef .tc (Pipeline.arrRef spec0 w))
  after w t := match w with
    | ⟨0, _⟩ => iblk W c 0 t
    | ⟨1, _⟩ => iblk W c 1 t
    | ⟨2, _⟩ => outC (iblk W c 0 t) (iblk W c 1 t)
    | ⟨3, _⟩ => outS (iblk W c 0 t) (iblk W c 1 t)
  Φ _ := Φ c
  q _ := fullShare
  owed _ := 0

theorem A_eq (c : Dev nD) (w : Fin cfg0.W) : (dats W c).A w = W c (Proc.devRef .tc (Pipeline.arrRef spec0 w)) := by
  dsimp only [dats]

theorem after0 (c : Dev nD) (t : Fin cfg0.N) : (dats W c).after 0 t = iblk W c 0 t := by dsimp only [dats]
theorem after1 (c : Dev nD) (t : Fin cfg0.N) : (dats W c).after 1 t = iblk W c 1 t := by dsimp only [dats]
theorem after2 (c : Dev nD) (t : Fin cfg0.N) : (dats W c).after 2 t = outC (iblk W c 0 t) (iblk W c 1 t) := by dsimp only [dats]
theorem after3 (c : Dev nD) (t : Fin cfg0.N) : (dats W c).after 3 t = outS (iblk W c 0 t) (iblk W c 1 t) := by dsimp only [dats]

theorem before0 (c : Dev nD) (t : Fin cfg0.N) (d) : (dats W c).before 0 t d = iblk W c 0 t :=
  ((dats W c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats W c).before 1 t d = iblk W c 1 t :=
  ((dats W c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats W c).Φ t.castSucc ∗ (dats W c).owesAt () t.castSucc
    ∗ (∃ d, owns (c : Thread nD τ) (ms0 t) fullShare ((dats W c).before 0 t d))
    ∗ (∃ d, owns (c : Thread nD τ) (ms1 t) fullShare ((dats W c).before 1 t d))
    ∗ (∃ d, owns (c : Thread nD τ) (ms2 t) fullShare ((dats W c).before 2 t d))
    ∗ (∃ d, owns (c : Thread nD τ) (ms3 t) fullShare ((dats W c).before 3 t d)))

/-- and what it returns. -/
def bodyPost (c : Dev nD) (t : Fin cfg0.N) : sProp 𝕄 :=
  iprop((dats W c).Φ t.succ ∗ (dats W c).owesAt () t.succ
    ∗ owns (c : Thread nD τ) (ms0 t) fullShare ((dats W c).after 0 t)
    ∗ owns (c : Thread nD τ) (ms1 t) fullShare ((dats W c).after 1 t)
    ∗ owns (c : Thread nD τ) (ms2 t) fullShare ((dats W c).after 2 t)
    ∗ owns (c : Thread nD τ) (ms3 t) fullShare ((dats W c).after 3 t))

/-- The body at any point. -/
theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before0, before1]
  rw [show (dats W c).Φ t.succ = Φ c from rfl, show (dats W c).Φ t.castSucc = Φ c from rfl,
    show (dats W c).owesAt () t.succ = (dats W c).owesAt () t.castSucc from rfl,
    after0, after1, after2, after3]
  unfold Φ
  iintro ⟨⟨HS, Hg⟩, Ho, ⟨%d0, H0⟩, ⟨%d1, H1⟩, ⟨%d2, H2⟩, ⟨%d3, H3⟩⟩
  iapply (body_run c (grid0.coords t) _ _ _ _ _ _ _ _ _ _ (iblk W c 0 t) (iblk W c 1 t) Set.univ _)
  isplitl [H0]; · iexact H0
  isplitl [H1]; · iexact H1
  isplitl [H2]; · iexists _; iexact H2
  isplitl [H3]; · iexists _; iexact H3
  isplitl [HS]; · iexact HS
  iintro ⟨H0, H1, H2, H3, HS⟩
  isplitl [HS Hg]
  · isplitl [HS]
    · iexact HS
    iexact Hg
  isplitl [Ho]; · iexact Ho
  isplitl [H0]; · iexact H0
  isplitl [H1]; · iexact H1
  isplitl [H2]; · iexact H2
  iexact H3

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) W c) (defs₀ (F := F)) Variants.none () Set.univ := fun t => by
  rw [bigSep_W0, bigSep_W0, defs₀_row]
  exact triple_restated (sound_body W c t) rfl .rfl fun _ => .rfl

end Cert.KernelIdeal.Dyo

end
-- ==== Proof.KernelIdealWq.lean ====
/-
  One pallas_call of the kernel, run: the weight in blocks of 256 input channels: each block is turned by the Hadamard matrix in row tiles of 256,
  while the largest magnitude of every column is collected; the column's scale and the codes follow.

  The first loop's invariant says which part of the scratch holds the turned block (`rot`) and what the running
  maximum is (`am`); the second loop's says which part of the result's buffer holds the codes (`cod`).
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Exec
public import Idealize.ShloMosaic.Lib.Tactic
public import Idealize.ShloMosaic.Lib.Pipeline.Kit
public import Idealize.ShloMosaic.Lib.Pipeline.Value
public import Idealize.ShloMosaic.Lib.Pipeline.FrameBody
public import Idealize.ShloMosaic.Lib.Pipeline.RegionArraysS
public import Idealize.ShloMosaic.Lib.WordCmp
public import Idealize.ShloMosaic.Lib.Claim
public import Idealize.ShloMosaic.Lib.Pointwise.Index
public import proofs.«01_k».proof.Proof.Whole
public import proofs.«01_k».proof.Proof.Fill

@[expose] public section

set_option maxRecDepth 16384

noncomputable section

namespace Cert.KernelIdeal.Wq

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one grid point computes -/

theorem trips1 : k1_t1_loop.trips = 74 := by decide +kernel
theorem trips2 : k1_t2_loop.trips = 74 := by decide +kernel

/-- Tile `k` of the input block. -/
abbrev tile (x1 : Vec F S18944x256 .bf16) (k : Fin k1_t1_loop.trips) : Vec F S256x256 .bf16 :=
  View.ld x1 (Rect.unit (s := S18944x256) (k1_off1 k) S256x256.size (k1_off1_inb k))

/-- Tile `k` of the turned block. -/
abbrev tile2 (r : Vec F S18944x256 .f32) (k : Fin k1_t2_loop.trips) : Vec F S256x256 .f32 :=
  View.ld r (Rect.unit (s := S18944x256) (k1_off2 k) S256x256.size (k1_off2_inb k))

theorem div1 (y : S18944x256.Idx) : (y 0).val / 256 < k1_t1_loop.trips := by
  rw [trips1]; have h : (y 0).val < 18944 := (y 0).isLt; omega
theorem div2 (y : S18944x256.Idx) : (y 0).val / 256 < k1_t2_loop.trips := by
  rw [trips2]; have h : (y 0).val < 18944 := (y 0).isLt; omega

/-- Where an element lies inside its tile. -/
def within (y : S18944x256.Idx) : S256x256.Idx := (Idealize.ShloMosaic.ix2 (⟨(y 0).val % 256, Nat.mod_lt _ (by decide)⟩ : Fin 256) (y 1))

/-- The turned block. -/
def rot (x1 : Vec F S18944x256 .bf16) (x2 : Vec F S256x256 .bf16) : Vec F S18944x256 .f32 := fun y =>
  k1_pay3 x2 (tile x1 ⟨(y 0).val / 256, div1 y⟩) (within y)

/-- The codes, from the running maximum after the last tile and the turned block. -/
def cod (v2 : FVec F S8x256 .f32) (r : Vec F S18944x256 .f32) : Vec F S18944x256 .i8 := fun y =>
  k1_pay6 v2 (tile2 r ⟨(y 0).val / 256, div2 y⟩) (within y)

/-- The running maximum before tile `k`. -/
def am (x1 : Vec F S18944x256 .bf16) (x2 : Vec F S256x256 .bf16) : ℕ → FVec F S8x256 .f32
  | 0 => k1_pay1
  | k + 1 => if h : k < k1_t1_loop.trips then k1_pay4 (am x1 x2 k) x2 (tile x1 ⟨k, h⟩) else am x1 x2 k

theorem am_succ (x1 : Vec F S18944x256 .bf16) (x2 : Vec F S256x256 .bf16) (k : Fin k1_t1_loop.trips) :
    am x1 x2 (k.val + 1) = k1_pay4 (am x1 x2 k.val) x2 (tile x1 k) := by
  rw [am, dif_pos k.isLt]

/-- An element of tile `k`, by its place in the block and in the tile. -/
theorem place1 (k : Fin k1_t1_loop.trips) (y : S18944x256.Idx) (x : S256x256.Idx) (h : ∀ b, (y b).val = k1_off1 k b + (x b).val) :
    (⟨(y 0).val / 256, div1 y⟩ : Fin k1_t1_loop.trips) = k ∧ within y = x := by
  have h0 : (y 0).val = k1_off1 k 0 + (x 0).val := h 0
  have h1 : (y 1).val = k1_off1 k 1 + (x 1).val := h 1
  rw [k1_off1_eq] at h0 h1
  have e0 : (![256 * k.val, 0] : Fin 2 → ℕ) 0 = 256 * k.val := rfl
  have e1 : (![256 * k.val, 0] : Fin 2 → ℕ) 1 = 0 := rfl
  have hx : (x 0).val < 256 := (x 0).isLt
  rw [e0] at h0; rw [e1] at h1
  refine ⟨Fin.ext ?_, funext fun b => Fin.ext ?_⟩
  · show (y 0).val / 256 = k.val
    omega
  · match b with
    | ⟨0, _⟩ => show (y 0).val % 256 = (x 0).val; omega
    | ⟨1, _⟩ => show (y 1).val = (x 1).val; omega

theorem place2 (k : Fin k1_t2_loop.trips) (y : S18944x256.Idx) (x : S256x256.Idx) (h : ∀ b, (y b).val = k1_off2 k b + (x b).val) :
    (⟨(y 0).val / 256, div2 y⟩ : Fin k1_t2_loop.trips) = k ∧ within y = x :=
  place1 k y x h

/-! ## The two loops -/

/-- Before tile `k` of the first loop: the scratch holds the turned block up to the tile, the carried value is the
    running maximum. -/
abbrev inv1 (c : Dev nD) (arg1 : Memref sig .tc .vmem S18944x256 .bf16) (arg2 : Memref sig .tc .vmem S256x256 .bf16)
    (arg5 : Memref sig .tc .vmem S18944x256 .f32) (X1 : BufTy.Contents (Elt F) arg1.view.ty)
    (X2 : BufTy.Contents (Elt F) arg2.view.ty) (k : ℕ) (u : FVec F S8x256 .f32) : sProp 𝕄 :=
  iprop((arg1.view.loc (c : Thread nD τ) ↦[arg1.view.set]{fullShare} X1)
    ∗ (arg2.view.loc (c : Thread nD τ) ↦[arg2.view.set]{fullShare} X2)
    ∗ (∃ f, (arg5.view.loc (c : Thread nD τ) ↦[arg5.view.set]{fullShare} f)
        ∗ ⌜k ≠ 0 → ∀ y : S18944x256.Idx, (y 0).val < 256 * k → arg5.view.read (Elt F) f y
            = rot (arg1.view.read (Elt F) X1) (arg2.view.read (Elt F) X2) y⌝)
    ∗ ⌜u = am (arg1.view.read (Elt F) X1) (arg2.view.read (Elt F) X2) k⌝)

set_option warn.classDefReducibility false in
/-- The first loop by its invariant. -/
@[sl_loop] def loop1 (c : Dev nD) (i : grid1.Coords) (arg1 : Memref sig .tc .vmem S18944x256 .bf16) (harg1 : arg1.IsWhole) (arg2 : Memref sig .tc .vmem S256x256 .bf16) (harg2 : arg2.IsWhole) (arg3 : Memref sig .tc .vmem S18944x256 .i8) (harg3 : arg3.IsWhole) (arg4 : Memref sig .tc .vmem S1x256 .f32) (harg4 : arg4.IsWhole) (arg5 : Memref sig .tc .vmem S18944x256 .f32) (harg5 : arg5.IsWhole)
    (E : Set ℕ) (X1 : BufTy.Contents (Elt F) arg1.view.ty) (X2 : BufTy.Contents (Elt F) arg2.view.ty) :
    LoopInv (M := 𝕄) frame (wpE (defs₀ (F := F)) Variants.none (c : Thread nD τ) none) E
      k1_t1_loop.lb k1_t1_loop.ub k1_t1_loop.st k1_t1_ok (k1_pay1 (F := F)) (k1_t1_body (F := F) i arg1 harg1 arg2 harg2 arg3 harg3 arg4 harg4 arg5 harg5) where
  inv := inv1 (F := F) c arg1 arg2 arg5 X1 X2
  step k u := by
    unfold k1_t1_body
    iintro ⟨H1, H2, ⟨%f, H5, %h5⟩, %hu⟩
    sl_exec
    sl_step
    isplitl [H1]; · iexact H1
    isplitl [H2]; · iexact H2
    isplitl [H5]
    · iexists _; isplitl [H5]; · iexact H5
      ipureintro
      intro _
      refine Fill.step arg5.view f 0 _ (256 * k.val) (256 * (k.val + 1)) _ _ (by rw [k1_off1_eq]; rfl) (Nat.mul_succ _ _).symm
        (fun b hb => ?_) (fun y x hyx => ?_) (fun y hy => h5 (fun h0 => by rw [h0] at hy; exact absurd hy (Nat.not_lt_zero _)) y hy)
      · match b with
        | ⟨1, _⟩ => exact ⟨by rw [k1_off1_eq]; rfl, rfl⟩
        | ⟨0, _⟩ => exact absurd rfl hb
      · obtain ⟨hk, hx⟩ := place1 k y x hyx
        rw [Whole.readAt_whole _ _ Whole.hz, View.readAt_eq_ld]
        unfold rot
        rw [hk, hx]
    · ipureintro
      rw [am_succ, hu, Whole.readAt_whole _ _ Whole.hz, View.readAt_eq_ld]

/-- Before tile `k` of the second loop: the result's buffer holds the codes up to the tile. -/
abbrev inv2 (c : Dev nD) (arg3 : Memref sig .tc .vmem S18944x256 .i8)
    (arg5 : Memref sig .tc .vmem S18944x256 .f32) (X5 : BufTy.Contents (Elt F) arg5.view.ty)
    (v2 : FVec F S8x256 .f32) (k : ℕ) (u : PUnit) : sProp 𝕄 :=
  iprop((arg5.view.loc (c : Thread nD τ) ↦[arg5.view.set]{fullShare} X5)
    ∗ (∃ f, (arg3.view.loc (c : Thread nD τ) ↦[arg3.view.set]{fullShare} f)
        ∗ ⌜k ≠ 0 → ∀ y : S18944x256.Idx, (y 0).val < 256 * k → arg3.view.read (Elt F) f y
            = cod v2 (arg5.view.read (Elt F) X5) y⌝))

set_option warn.classDefReducibility false in
/-- The second loop by its invariant. -/
@[sl_loop] def loop2 (c : Dev nD) (i : grid1.Coords) (arg1 : Memref sig .tc .vmem S18944x256 .bf16) (harg1 : arg1.IsWhole) (arg2 : Memref sig .tc .vmem S256x256 .bf16) (harg2 : arg2.IsWhole) (arg3 : Memref sig .tc .vmem S18944x256 .i8) (harg3 : arg3.IsWhole) (arg4 : Memref sig .tc .vmem S1x256 .f32) (harg4 : arg4.IsWhole) (arg5 : Memref sig .tc .vmem S18944x256 .f32) (harg5 : arg5.IsWhole)
    (E : Set ℕ) (X5 : BufTy.Contents (Elt F) arg5.view.ty) (v2 : FVec F S8x256 .f32) :
    LoopInv (M := 𝕄) frame (wpE (defs₀ (F := F)) Variants.none (c : Thread nD τ) none) E
      k1_t2_loop.lb k1_t2_loop.ub k1_t2_loop.st k1_t2_ok ⟨⟩ (k1_t2_body (F := F) i arg1 harg1 arg2 harg2 arg3 harg3 arg4 harg4 arg5 harg5 v2) where
  inv := inv2 (F := F) c arg3 arg5 X5 v2
  step k u := by
    unfold k1_t2_body
    iintro ⟨H5, ⟨%f, H3, %h3⟩⟩
    sl_exec
    sl_step
    isplitl [H5]; · iexact H5
    iexists _; isplitl [H3]; · iexact H3
    ipureintro
    intro _
    refine Fill.step arg3.view f 0 _ (256 * k.val) (256 * (k.val + 1)) _ _ (by rw [k1_off2_eq]; rfl) (Nat.mul_succ _ _).symm
      (fun b hb => ?_) (fun y x hyx => ?_) (fun y hy => h3 (fun h0 => by rw [h0] at hy; exact absurd hy (Nat.not_lt_zero _)) y hy)
    · match b with
      | ⟨1, _⟩ => exact ⟨by rw [k1_off2_eq]; rfl, rfl⟩
      | ⟨0, _⟩ => exact absurd rfl hb
    · obtain ⟨hk, hx⟩ := place2 k y x hyx
      rw [View.readAt_eq_ld]
      unfold cod
      rw [hk, hx]

/-! ## One grid point -/

/-- The codes a grid point leaves, -/
def outC (x1 : Vec F S18944x256 .bf16) (x2 : Vec F S256x256 .bf16) : Vec F S18944x256 .i8 := cod (am x1 x2 k1_t1_loop.trips) (rot x1 x2)
/-- and the scales. -/
def outS (x1 : Vec F S18944x256 .bf16) (x2 : Vec F S256x256 .bf16) : Vec F S1x256 .f32 := k1_pay5 (am x1 x2 k1_t1_loop.trips)

set_option maxHeartbeats 1000000 in
/-- The body's triple. -/
theorem body_run (c : Dev nD) (i : grid1.Coords) (arg1 : Memref sig .tc .vmem S18944x256 .bf16) (harg1 : arg1.IsWhole) (arg2 : Memref sig .tc .vmem S256x256 .bf16) (harg2 : arg2.IsWhole) (arg3 : Memref sig .tc .vmem S18944x256 .i8) (harg3 : arg3.IsWhole) (arg4 : Memref sig .tc .vmem S1x256 .f32) (harg4 : arg4.IsWhole) (arg5 : Memref sig .tc .vmem S18944x256 .f32) (harg5 : arg5.IsWhole)
    (x1 : Vec F S18944x256 .bf16) (x2 : Vec F S256x256 .bf16)
    (E : Set ℕ) (K : PUnit → sProp 𝕄) :
    iprop(owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x1 ∗ owns (c : Thread nD τ) arg2 fullShare x2
            ∗ owns (c : Thread nD τ) arg3 fullShare (outC x1 x2) ∗ owns (c : Thread nD τ) arg4 fullShare (outS x1 x2)
            ∗ (∃ d, owns (c : Thread nD τ) arg5 fullShare d)) -∗ K ⟨⟩))
      ⊢ wp frame (wpE (defs₀ (F := F)) Variants.none c none) E (cc1_quant_w i arg1 harg1 arg2 harg2 arg3 harg3 arg4 harg4 arg5 harg5) K := by
  simp only [cc1_quant_w_eq_skeleton]; unfold cc1_quant_w_skel
  unfold owns
  iintro ⟨⟨%f1, %hf1, H1⟩, ⟨%f2, %hf2, H2⟩, ⟨%d3, %f3, -, H3⟩, ⟨%d4, %f4, -, H4⟩, ⟨%d5, %f5, -, H5⟩, Hk⟩
  sl_exec
  sl_step
  iapply Hk
  have t1 : Scf.trips k1_t1_loop.lb k1_t1_loop.ub k1_t1_loop.st = 74 := trips1
  have t2 : Scf.trips k1_t2_loop.lb k1_t2_loop.ub k1_t2_loop.st = 74 := trips2
  have h5 : arg5.view.read (Elt F) fL0 = rot x1 x2 := funext fun y => by
    rw [← hf1, ← hf2]
    refine hL3 (by rw [t1]; decide) y ?_
    rw [t1]; exact (y 0).isLt
  isplitl [H1]
  · iexists _; isplitr; · ipureintro; exact hf1
    iexact H1
  isplitl [H2]
  · iexists _; isplitr; · ipureintro; exact hf2
    iexact H2
  isplitl [H3]
  · iexists _; isplitr; swap; · iexact H3
    ipureintro
    refine funext fun y => ?_
    refine (hL7 (by rw [t2]; decide) y ?_).trans ?_
    · rw [t2]; exact (y 0).isLt
    · rw [h5, hf1, hf2]; rfl
  isplitl [H4]
  · iexists _; isplitr; swap; · iexact H4
    ipureintro
    refine (Whole.read_store _ _ Whole.hz _ _).trans ?_
    rw [hf1, hf2]; rfl
  iexists _, _; isplitr; swap; · iexact H5
  ipureintro; rfl

/-! ## The pipeline's proof data, from any contents `W` of the buffers at the region's entry -/

variable (W : Dev nD → Valuation τ sig (Elt F))

/-- Window `w`'s block at point `t`. -/
def iblk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- Each window's current staging buffer at point `t`. -/
abbrev ms0 (t : Fin cfg1.N) : Memref sig .tc .vmem S18944x256 .bf16 := win1_0.stage (cfg1.slots t 0)
abbrev ms1 (t : Fin cfg1.N) : Memref sig .tc .vmem S256x256 .bf16 := win1_1.stage (cfg1.slots t 1)
abbrev ms2 (t : Fin cfg1.N) : Memref sig .tc .vmem S18944x256 .i8 := win1_2.stage (cfg1.slots t 2)
abbrev ms3 (t : Fin cfg1.N) : Memref sig .tc .vmem S1x256 .f32 := win1_3.stage (cfg1.slots t 3)
/-- The scratch. -/
abbrev scM : Memref sig .tc .vmem S18944x256 .f32 := Memref.whole cc1_scratch0

/-- Between points: the scratch and the other buffers of the call, at some contents. -/
def Φ (c : Dev nD) : sProp 𝕄 :=
  iprop((∃ d, owns (c : Thread nD τ) scM fullShare d) ∗ Pipeline.scopedRestBut spec1 c [cc1_scratch0])

theorem Φ_eq (c : Dev nD) : (Pipeline.scopedRest spec1 c : sProp 𝕄) = Φ c := by
  unfold Φ; rw [scopedRest1_split]; simp only [scM, owns_whole]; try rfl

/-- The proof data: the arrays as the region finds them, the inputs' buffers left at their blocks, the results' at the
    codes and the scales; nothing owed. -/
def dats (c : Dev nD) : Dat τ (Elt F) Unit ℕ (UR sig nD τ) ℕ cfg1 c where
  A w := W c (Proc.devRef .tc (Pipeline.arrRef spec1 w))
  after w t := match w with
    | ⟨0, _⟩ => iblk W c 0 t
    | ⟨1, _⟩ => iblk W c 1 t
    | ⟨2, _⟩ => outC (iblk W c 0 t) (iblk W c 1 t)
    | ⟨3, _⟩ => outS (iblk W c 0 t) (iblk W c 1 t)
  Φ _ := Φ c
  q _ := fullShare
  owed _ := 0

theorem A_eq (c : Dev nD) (w : Fin cfg1.W) : (dats W c).A w = W c (Proc.devRef .tc (Pipeline.arrRef spec1 w)) := by
  dsimp only [dats]

theorem after0 (c : Dev nD) (t : Fin cfg1.N) : (dats W c).after 0 t = iblk W c 0 t := by dsimp only [dats]
theorem after1 (c : Dev nD) (t : Fin cfg1.N) : (dats W c).after 1 t = iblk W c 1 t := by dsimp only [dats]
theorem after2 (c : Dev nD) (t : Fin cfg1.N) : (dats W c).after 2 t = outC (iblk W c 0 t) (iblk W c 1 t) := by dsimp only [dats]
theorem after3 (c : Dev nD) (t : Fin cfg1.N) : (dats W c).after 3 t = outS (iblk W c 0 t) (iblk W c 1 t) := by dsimp only [dats]

theorem before0 (c : Dev nD) (t : Fin cfg1.N) (d) : (dats W c).before 0 t d = iblk W c 0 t :=
  ((dats W c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg1.N) (d) : (dats W c).before 1 t d = iblk W c 1 t :=
  ((dats W c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg1.N) : sProp 𝕄 :=
  iprop((dats W c).Φ t.castSucc ∗ (dats W c).owesAt () t.castSucc
    ∗ (∃ d, owns (c : Thread nD τ) (ms0 t) fullShare ((dats W c).before 0 t d))
    ∗ (∃ d, owns (c : Thread nD τ) (ms1 t) fullShare ((dats W c).before 1 t d))
    ∗ (∃ d, owns (c : Thread nD τ) (ms2 t) fullShare ((dats W c).before 2 t d))
    ∗ (∃ d, owns (c : Thread nD τ) (ms3 t) fullShare ((dats W c).before 3 t d)))

/-- and what it returns. -/
def bodyPost (c : Dev nD) (t : Fin cfg1.N) : sProp 𝕄 :=
  iprop((dats W c).Φ t.succ ∗ (dats W c).owesAt () t.succ
    ∗ owns (c : Thread nD τ) (ms0 t) fullShare ((dats W c).after 0 t)
    ∗ owns (c : Thread nD τ) (ms1 t) fullShare ((dats W c).after 1 t)
    ∗ owns (c : Thread nD τ) (ms2 t) fullShare ((dats W c).after 2 t)
    ∗ owns (c : Thread nD τ) (ms3 t) fullShare ((dats W c).after 3 t))

/-- The body at any point. -/
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before0, before1]
  rw [show (dats W c).Φ t.succ = Φ c from rfl, show (dats W c).Φ t.castSucc = Φ c from rfl,
    show (dats W c).owesAt () t.succ = (dats W c).owesAt () t.castSucc from rfl,
    after0, after1, after2, after3]
  unfold Φ
  iintro ⟨⟨HS, Hg⟩, Ho, ⟨%d0, H0⟩, ⟨%d1, H1⟩, ⟨%d2, H2⟩, ⟨%d3, H3⟩⟩
  iapply (body_run c (grid1.coords t) _ _ _ _ _ _ _ _ _ _ (iblk W c 0 t) (iblk W c 1 t) Set.univ _)
  isplitl [H0]; · iexact H0
  isplitl [H1]; · iexact H1
  isplitl [H2]; · iexists _; iexact H2
  isplitl [H3]; · iexists _; iexact H3
  isplitl [HS]; · iexact HS
  iintro ⟨H0, H1, H2, H3, HS⟩
  isplitl [HS Hg]
  · isplitl [HS]
    · iexact HS
    iexact Hg
  isplitl [Ho]; · iexact Ho
  isplitl [H0]; · iexact H0
  isplitl [H1]; · iexact H1
  isplitl [H2]; · iexact H2
  iexact H3

/-- The body table's row at point `t` is the body there. -/
theorem defs₀_row (t : Fin cfg1.N) :
    defs₀ (F := F) .tc cfg1.body (cfg1.bodyArgs t (cfg1.slots t)) = bodyAt1 t := by
  unfold defs₀; rw [Defs.onTc_tc]

/-- The body obligation, at every point. -/
theorem body_obligation (c : Dev nD) : BodyObligation (dats (F := F) W c) (defs₀ (F := F)) Variants.none () Set.univ := fun t => by
  rw [bigSep_W1, bigSep_W1, defs₀_row]
  exact triple_restated (sound_body W c t) rfl .rfl fun _ => .rfl

end Cert.KernelIdeal.Wq

end
-- ==== Proof.KernelIdealXq.lean ====
/-
  One pallas_call of the kernel, run: the activation in blocks of 512 input channels: each block is turned by the token Hadamard matrix in row tiles of
  128, while the largest magnitude of every column is collected; the column's scale and the codes follow.

  The first loop's invariant says which part of the scratch holds the turned block (`rot`) and what the running
  maximum is (`am`); the second loop's says which part of the result's buffer holds the codes (`cod`).
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Exec
public import Idealize.ShloMosaic.Lib.Tactic
public import Idealize.ShloMosaic.Lib.Pipeline.Kit
public import Idealize.ShloMosaic.Lib.Pipeline.Value
public import Idealize.ShloMosaic.Lib.Pipeline.FrameBody
public import Idealize.ShloMosaic.Lib.Pipeline.RegionArraysS
public import Idealize.ShloMosaic.Lib.WordCmp
public import Idealize.ShloMosaic.Lib.Claim
public import Idealize.ShloMosaic.Lib.Pointwise.Index
public import proofs.«01_k».proof.Proof.Whole
public import proofs.«01_k».proof.Proof.Fill

@[expose] public section

set_option maxRecDepth 16384

noncomputable section

namespace Cert.KernelIdeal.Xq

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one grid point computes -/

theorem trips1 : k2_t1_loop.trips = 12 := by decide +kernel
theorem trips2 : k2_t2_loop.trips = 12 := by decide +kernel

/-- Tile `k` of the input block. -/
abbrev tile (x1 : Vec F S1536x512 .bf16) (k : Fin k2_t1_loop.trips) : Vec F S128x512 .bf16 :=
  View.ld x1 (Rect.unit (s := S1536x512) (k2_off1 k) S128x512.size (k2_off1_inb k))

/-- Tile `k` of the turned block. -/
abbrev tile2 (r : Vec F S1536x512 .f32) (k : Fin k2_t2_loop.trips) : Vec F S128x512 .f32 :=
  View.ld r (Rect.unit (s := S1536x512) (k2_off2 k) S128x512.size (k2_off2_inb k))

theorem div1 (y : S1536x512.Idx) : (y 0).val / 128 < k2_t1_loop.trips := by
  rw [trips1]; have h : (y 0).val < 1536 := (y 0).isLt; omega
theorem div2 (y : S1536x512.Idx) : (y 0).val / 128 < k2_t2_loop.trips := by
  rw [trips2]; have h : (y 0).val < 1536 := (y 0).isLt; omega

/-- Where an element lies inside its tile. -/
def within (y : S1536x512.Idx) : S128x512.Idx := (Idealize.ShloMosaic.ix2 (⟨(y 0).val % 128, Nat.mod_lt _ (by decide)⟩ : Fin 128) (y 1))

/-- The turned block. -/
def rot (x1 : Vec F S1536x512 .bf16) (x2 : Vec F S128x128 .bf16) : Vec F S1536x512 .f32 := fun y =>
  k2_pay3 x2 (tile x1 ⟨(y 0).val / 128, div1 y⟩) (within y)

/-- The codes, from the running maximum after the last tile and the turned block. -/
def cod (v2 : FVec F S8x512 .f32) (r : Vec F S1536x512 .f32) : Vec F S1536x512 .i8 := fun y =>
  k2_pay6 v2 (tile2 r ⟨(y 0).val / 128, div2 y⟩) (within y)

/-- The running maximum before tile `k`. -/
def am (x1 : Vec F S1536x512 .bf16) (x2 : Vec F S128x128 .bf16) : ℕ → FVec F S8x512 .f32
  | 0 => k2_pay1
  | k + 1 => if h : k < k2_t1_loop.trips then k2_pay4 (am x1 x2 k) x2 (tile x1 ⟨k, h⟩) else am x1 x2 k

theorem am_succ (x1 : Vec F S1536x512 .bf16) (x2 : Vec F S128x128 .bf16) (k : Fin k2_t1_loop.trips) :
    am x1 x2 (k.val + 1) = k2_pay4 (am x1 x2 k.val) x2 (tile x1 k) := by
  rw [am, dif_pos k.isLt]

/-- An element of tile `k`, by its place in the block and in the tile. -/
theorem place1 (k : Fin k2_t1_loop.trips) (y : S1536x512.Idx) (x : S128x512.Idx) (h : ∀ b, (y b).val = k2_off1 k b + (x b).val) :
    (⟨(y 0).val / 128, div1 y⟩ : Fin k2_t1_loop.trips) = k ∧ within y = x := by
  have h0 : (y 0).val = k2_off1 k 0 + (x 0).val := h 0
  have h1 : (y 1).val = k2_off1 k 1 + (x 1).val := h 1
  rw [k2_off1_eq] at h0 h1
  have e0 : (![128 * k.val, 0] : Fin 2 → ℕ) 0 = 128 * k.val := rfl
  have e1 : (![128 * k.val, 0] : Fin 2 → ℕ) 1 = 0 := rfl
  have hx : (x 0).val < 128 := (x 0).isLt
  rw [e0] at h0; rw [e1] at h1
  refine ⟨Fin.ext ?_, funext fun b => Fin.ext ?_⟩
  · show (y 0).val / 128 = k.val
    omega
  · match b with
    | ⟨0, _⟩ => show (y 0).val % 128 = (x 0).val; omega
    | ⟨1, _⟩ => show (y 1).val = (x 1).val; omega

theorem place2 (k : Fin k2_t2_loop.trips) (y : S1536x512.Idx) (x : S128x512.Idx) (h : ∀ b, (y b).val = k2_off2 k b + (x b).val) :
    (⟨(y 0).val / 128, div2 y⟩ : Fin k2_t2_loop.trips) = k ∧ within y = x :=
  place1 k y x h

/-! ## The two loops -/

/-- Before tile `k` of the first loop: the scratch holds the turned block up to the tile, the carried value is the
    running maximum. -/
abbrev inv1 (c : Dev nD) (arg1 : Memref sig .tc .vmem S1536x512 .bf16) (arg2 : Memref sig .tc .vmem S128x128 .bf16)
    (arg5 : Memref sig .tc .vmem S1536x512 .f32) (X1 : BufTy.Contents (Elt F) arg1.view.ty)
    (X2 : BufTy.Contents (Elt F) arg2.view.ty) (k : ℕ) (u : FVec F S8x512 .f32) : sProp 𝕄 :=
  iprop((arg1.view.loc (c : Thread nD τ) ↦[arg1.view.set]{fullShare} X1)
    ∗ (arg2.view.loc (c : Thread nD τ) ↦[arg2.view.set]{fullShare} X2)
    ∗ (∃ f, (arg5.view.loc (c : Thread nD τ) ↦[arg5.view.set]{fullShare} f)
        ∗ ⌜k ≠ 0 → ∀ y : S1536x512.Idx, (y 0).val < 128 * k → arg5.view.read (Elt F) f y
            = rot (arg1.view.read (Elt F) X1) (arg2.view.read (Elt F) X2) y⌝)
    ∗ ⌜u = am (arg1.view.read (Elt F) X1) (arg2.view.read (Elt F) X2) k⌝)

set_option warn.classDefReducibility false in
/-- The first loop by its invariant. -/
@[sl_loop] def loop1 (c : Dev nD) (i : grid2.Coords) (arg1 : Memref sig .tc .vmem S1536x512 .bf16) (harg1 : arg1.IsWhole) (arg2 : Memref sig .tc .vmem S128x128 .bf16) (harg2 : arg2.IsWhole) (arg3 : Memref sig .tc .vmem S1536x512 .i8) (harg3 : arg3.IsWhole) (arg4 : Memref sig .tc .vmem S1x512 .f32) (harg4 : arg4.IsWhole) (arg5 : Memref sig .tc .vmem S1536x512 .f32) (harg5 : arg5.IsWhole)
    (E : Set ℕ) (X1 : BufTy.Contents (Elt F) arg1.view.ty) (X2 : BufTy.Contents (Elt F) arg2.view.ty) :
    LoopInv (M := 𝕄) frame (wpE (defs₀ (F := F)) Variants.none (c : Thread nD τ) none) E
      k2_t1_loop.lb k2_t1_loop.ub k2_t1_loop.st k2_t1_ok (k2_pay1 (F := F)) (k2_t1_body (F := F) i arg1 harg1 arg2 harg2 arg3 harg3 arg4 harg4 arg5 harg5) where
  inv := inv1 (F := F) c arg1 arg2 arg5 X1 X2
  step k u := by
    unfold k2_t1_body
    iintro ⟨H1, H2, ⟨%f, H5, %h5⟩, %hu⟩
    sl_exec
    sl_step
    isplitl [H1]; · iexact H1
    isplitl [H2]; · iexact H2
    isplitl [H5]
    · iexists _; isplitl [H5]; · iexact H5
      ipureintro
      intro _
      refine Fill.step arg5.view f 0 _ (128 * k.val) (128 * (k.val + 1)) _ _ (by rw [k2_off1_eq]; rfl) (Nat.mul_succ _ _).symm
        (fun b hb => ?_) (fun y x hyx => ?_) (fun y hy => h5 (fun h0 => by rw [h0] at hy; exact absurd hy (Nat.not_lt_zero _)) y hy)
      · match b with
        | ⟨1, _⟩ => exact ⟨by rw [k2_off1_eq]; rfl, rfl⟩
        | ⟨0, _⟩ => exact absurd rfl hb
      · obtain ⟨hk, hx⟩ := place1 k y x hyx
        rw [Whole.readAt_whole _ _ Whole.hz, View.readAt_eq_ld]
        unfold rot
        rw [hk, hx]
    · ipureintro
      rw [am_succ, hu, Whole.readAt_whole _ _ Whole.hz, View.readAt_eq_ld]

/-- Before tile `k` of the second loop: the result's buffer holds the codes up to the tile. -/
abbrev inv2 (c : Dev nD) (arg3 : Memref sig .tc .vmem S1536x512 .i8)
    (arg5 : Memref sig .tc .vmem S1536x512 .f32) (X5 : BufTy.Contents (Elt F) arg5.view.ty)
    (v2 : FVec F S8x512 .f32) (k : ℕ) (u : PUnit) : sProp 𝕄 :=
  iprop((arg5.view.loc (c : Thread nD τ) ↦[arg5.view.set]{fullShare} X5)
    ∗ (∃ f, (arg3.view.loc (c : Thread nD τ) ↦[arg3.view.set]{fullShare} f)
        ∗ ⌜k ≠ 0 → ∀ y : S1536x512.Idx, (y 0).val < 128 * k → arg3.view.read (Elt F) f y
            = cod v2 (arg5.view.read (Elt F) X5) y⌝))

set_option warn.classDefReducibility false in
/-- The second loop by its invariant. -/
@[sl_loop] def loop2 (c : Dev nD) (i : grid2.Coords) (arg1 : Memref sig .tc .vmem S1536x512 .bf16) (harg1 : arg1.IsWhole) (arg2 : Memref sig .tc .vmem S128x128 .bf16) (harg2 : arg2.IsWhole) (arg3 : Memref sig .tc .vmem S1536x512 .i8) (harg3 : arg3.IsWhole) (arg4 : Memref sig .tc .vmem S1x512 .f32) (harg4 : arg4.IsWhole) (arg5 : Memref sig .tc .vmem S1536x512 .f32) (harg5 : arg5.IsWhole)
    (E : Set ℕ) (X5 : BufTy.Contents (Elt F) arg5.view.ty) (v2 : FVec F S8x512 .f32) :
    LoopInv (M := 𝕄) frame (wpE (defs₀ (F := F)) Variants.none (c : Thread nD τ) none) E
      k2_t2_loop.lb k2_t2_loop.ub k2_t2_loop.st k2_t2_ok ⟨⟩ (k2_t2_body (F := F) i arg1 harg1 arg2 harg2 arg3 harg3 arg4 harg4 arg5 harg5 v2) where
  inv := inv2 (F := F) c arg3 arg5 X5 v2
  step k u := by
    unfold k2_t2_body
    iintro ⟨H5, ⟨%f, H3, %h3⟩⟩
    sl_exec
    sl_step
    isplitl [H5]; · iexact H5
    iexists _; isplitl [H3]; · iexact H3
    ipureintro
    intro _
    refine Fill.step arg3.view f 0 _ (128 * k.val) (128 * (k.val + 1)) _ _ (by rw [k2_off2_eq]; rfl) (Nat.mul_succ _ _).symm
      (fun b hb => ?_) (fun y x hyx => ?_) (fun y hy => h3 (fun h0 => by rw [h0] at hy; exact absurd hy (Nat.not_lt_zero _)) y hy)
    · match b with
      | ⟨1, _⟩ => exact ⟨by rw [k2_off2_eq]; rfl, rfl⟩
      | ⟨0, _⟩ => exact absurd rfl hb
    · obtain ⟨hk, hx⟩ := place2 k y x hyx
      rw [View.readAt_eq_ld]
      unfold cod
      rw [hk, hx]

/-! ## One grid point -/

/-- The codes a grid point leaves, -/
def outC (x1 : Vec F S1536x512 .bf16) (x2 : Vec F S128x128 .bf16) : Vec F S1536x512 .i8 := cod (am x1 x2 k2_t1_loop.trips) (rot x1 x2)
/-- and the scales. -/
def outS (x1 : Vec F S1536x512 .bf16) (x2 : Vec F S128x128 .bf16) : Vec F S1x512 .f32 := k2_pay5 (am x1 x2 k2_t1_loop.trips)

set_option maxHeartbeats 1000000 in
/-- The body's triple. -/
theorem body_run (c : Dev nD) (i : grid2.Coords) (arg1 : Memref sig .tc .vmem S1536x512 .bf16) (harg1 : arg1.IsWhole) (arg2 : Memref sig .tc .vmem S128x128 .bf16) (harg2 : arg2.IsWhole) (arg3 : Memref sig .tc .vmem S1536x512 .i8) (harg3 : arg3.IsWhole) (arg4 : Memref sig .tc .vmem S1x512 .f32) (harg4 : arg4.IsWhole) (arg5 : Memref sig .tc .vmem S1536x512 .f32) (harg5 : arg5.IsWhole)
    (x1 : Vec F S1536x512 .bf16) (x2 : Vec F S128x128 .bf16)
    (E : Set ℕ) (K : PUnit → sProp 𝕄) :
    iprop(owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x1 ∗ owns (c : Thread nD τ) arg2 fullShare x2
            ∗ owns (c : Thread nD τ) arg3 fullShare (outC x1 x2) ∗ owns (c : Thread nD τ) arg4 fullShare (outS x1 x2)
            ∗ (∃ d, owns (c : Thread nD τ) arg5 fullShare d)) -∗ K ⟨⟩))
      ⊢ wp frame (wpE (defs₀ (F := F)) Variants.none c none) E (cc2_quant_x i arg1 harg1 arg2 harg2 arg3 harg3 arg4 harg4 arg5 harg5) K := by
  simp only [cc2_quant_x_eq_skeleton]; unfold cc2_quant_x_skel
  unfold owns
  iintro ⟨⟨%f1, %hf1, H1⟩, ⟨%f2, %hf2, H2⟩, ⟨%d3, %f3, -, H3⟩, ⟨%d4, %f4, -, H4⟩, ⟨%d5, %f5, -, H5⟩, Hk⟩
  sl_exec
  sl_step
  iapply Hk
  have t1 : Scf.trips k2_t1_loop.lb k2_t1_loop.ub k2_t1_loop.st = 12 := trips1
  have t2 : Scf.trips k2_t2_loop.lb k2_t2_loop.ub k2_t2_loop.st = 12 := trips2
  have h5 : arg5.view.read (Elt F) fL0 = rot x1 x2 := funext fun y => by
    rw [← hf1, ← hf2]
    refine hL3 (by rw [t1]; decide) y ?_
    rw [t1]; exact (y 0).isLt
  isplitl [H1]
  · iexists _; isplitr; · ipureintro; exact hf1
    iexact H1
  isplitl [H2]
  · iexists _; isplitr; · ipureintro; exact hf2
    iexact H2
  isplitl [H3]
  · iexists _; isplitr; swap; · iexact H3
    ipureintro
    refine funext fun y => ?_
    refine (hL7 (by rw [t2]; decide) y ?_).trans ?_
    · rw [t2]; exact (y 0).isLt
    · rw [h5, hf1, hf2]; rfl
  isplitl [H4]
  · iexists _; isplitr; swap; · iexact H4
    ipureintro
    refine (Whole.read_store _ _ Whole.hz _ _).trans ?_
    rw [hf1, hf2]; rfl
  iexists _, _; isplitr; swap; · iexact H5
  ipureintro; rfl

/-! ## The pipeline's proof data, from any contents `W` of the buffers at the region's entry -/

variable (W : Dev nD → Valuation τ sig (Elt F))

/-- Window `w`'s block at point `t`. -/
def iblk (c : Dev nD) (w : Fin cfg2.W) (t : Fin cfg2.N) : ((cfg2.win w).xblock (cfg2.grid.coords t)).Idx → Elt F (cfg2.win w).elt :=
  ((cfg2.win w).blk t).view.read (Elt F) (W c (Proc.devRef .tc (Pipeline.arrRef spec2 w)))

/-- Each window's current staging buffer at point `t`. -/
abbrev ms0 (t : Fin cfg2.N) : Memref sig .tc .vmem S1536x512 .bf16 := win2_0.stage (cfg2.slots t 0)
abbrev ms1 (t : Fin cfg2.N) : Memref sig .tc .vmem S128x128 .bf16 := win2_1.stage (cfg2.slots t 1)
abbrev ms2 (t : Fin cfg2.N) : Memref sig .tc .vmem S1536x512 .i8 := win2_2.stage (cfg2.slots t 2)
abbrev ms3 (t : Fin cfg2.N) : Memref sig .tc .vmem S1x512 .f32 := win2_3.stage (cfg2.slots t 3)
/-- The scratch. -/
abbrev scM : Memref sig .tc .vmem S1536x512 .f32 := Memref.whole cc2_scratch0

/-- Between points: the scratch and the other buffers of the call, at some contents. -/
def Φ (c : Dev nD) : sProp 𝕄 :=
  iprop((∃ d, owns (c : Thread nD τ) scM fullShare d) ∗ Pipeline.scopedRestBut spec2 c [cc2_scratch0])

theorem Φ_eq (c : Dev nD) : (Pipeline.scopedRest spec2 c : sProp 𝕄) = Φ c := by
  unfold Φ; rw [scopedRest2_split]; simp only [scM, owns_whole]; try rfl

/-- The proof data: the arrays as the region finds them, the inputs' buffers left at their blocks, the results' at the
    codes and the scales; nothing owed. -/
def dats (c : Dev nD) : Dat τ (Elt F) Unit ℕ (UR sig nD τ) ℕ cfg2 c where
  A w := W c (Proc.devRef .tc (Pipeline.arrRef spec2 w))
  after w t := match w with
    | ⟨0, _⟩ => iblk W c 0 t
    | ⟨1, _⟩ => iblk W c 1 t
    | ⟨2, _⟩ => outC (iblk W c 0 t) (iblk W c 1 t)
    | ⟨3, _⟩ => outS (iblk W c 0 t) (iblk W c 1 t)
  Φ _ := Φ c
  q _ := fullShare
  owed _ := 0

theorem A_eq (c : Dev nD) (w : Fin cfg2.W) : (dats W c).A w = W c (Proc.devRef .tc (Pipeline.arrRef spec2 w)) := by
  dsimp only [dats]

theorem after0 (c : Dev nD) (t : Fin cfg2.N) : (dats W c).after 0 t = iblk W c 0 t := by dsimp only [dats]
theorem after1 (c : Dev nD) (t : Fin cfg2.N) : (dats W c).after 1 t = iblk W c 1 t := by dsimp only [dats]
theorem after2 (c : Dev nD) (t : Fin cfg2.N) : (dats W c).after 2 t = outC (iblk W c 0 t) (iblk W c 1 t) := by dsimp only [dats]
theorem after3 (c : Dev nD) (t : Fin cfg2.N) : (dats W c).after 3 t = outS (iblk W c 0 t) (iblk W c 1 t) := by dsimp only [dats]

theorem before0 (c : Dev nD) (t : Fin cfg2.N) (d) : (dats W c).before 0 t d = iblk W c 0 t :=
  ((dats W c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg2.N) (d) : (dats W c).before 1 t d = iblk W c 1 t :=
  ((dats W c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg2.N) : sProp 𝕄 :=
  iprop((dats W c).Φ t.castSucc ∗ (dats W c).owesAt () t.castSucc
    ∗ (∃ d, owns (c : Thread nD τ) (ms0 t) fullShare ((dats W c).before 0 t d))
    ∗ (∃ d, owns (c : Thread nD τ) (ms1 t) fullShare ((dats W c).before 1 t d))
    ∗ (∃ d, owns (c : Thread nD τ) (ms2 t) fullShare ((dats W c).before 2 t d))
    ∗ (∃ d, owns (c : Thread nD τ) (ms3 t) fullShare ((dats W c).before 3 t d)))

/-- and what it returns. -/
def bodyPost (c : Dev nD) (t : Fin cfg2.N) : sProp 𝕄 :=
  iprop((dats W c).Φ t.succ ∗ (dats W c).owesAt () t.succ
    ∗ owns (c : Thread nD τ) (ms0 t) fullShare ((dats W c).after 0 t)
    ∗ owns (c : Thread nD τ) (ms1 t) fullShare ((dats W c).after 1 t)
    ∗ owns (c : Thread nD τ) (ms2 t) fullShare ((dats W c).after 2 t)
    ∗ owns (c : Thread nD τ) (ms3 t) fullShare ((dats W c).after 3 t))

/-- The body at any point. -/
theorem sound_body (c : Dev nD) (t : Fin cfg2.N) :
    bodyPre W c t ⊢ wp frame (wpE (defs₀ (F := F)) Variants.none c none) Set.univ (bodyAt2 t) (fun _ => bodyPost W c t) := by
  unfold bodyPre bodyPost bodyAt2
  simp only [before0, before1]
  rw [show (dats W c).Φ t.succ = Φ c from rfl, show (dats W c).Φ t.castSucc = Φ c from rfl,
    show (dats W c).owesAt () t.succ = (dats W c).owesAt () t.castSucc from rfl,
    after0, after1, after2, after3]
  unfold Φ
  iintro ⟨⟨HS, Hg⟩, Ho, ⟨%d0, H0⟩, ⟨%d1, H1⟩, ⟨%d2, H2⟩, ⟨%d3, H3⟩⟩
  iapply (body_run c (grid2.coords t) _ _ _ _ _ _ _ _ _ _ (iblk W c 0 t) (iblk W c 1 t) Set.univ _)
  isplitl [H0]; · iexact H0
  isplitl [H1]; · iexact H1
  isplitl [H2]; · iexists _; iexact H2
  isplitl [H3]; · iexists _; iexact H3
  isplitl [HS]; · iexact HS
  iintro ⟨H0, H1, H2, H3, HS⟩
  isplitl [HS Hg]
  · isplitl [HS]
    · iexact HS
    iexact Hg
  isplitl [Ho]; · iexact Ho
  isplitl [H0]; · iexact H0
  isplitl [H1]; · iexact H1
  isplitl [H2]; · iexact H2
  iexact H3

/-- The body table's row at point `t` is the body there. -/
theorem defs₀_row (t : Fin cfg2.N) :
    defs₀ (F := F) .tc cfg2.body (cfg2.bodyArgs t (cfg2.slots t)) = bodyAt2 t := by
  unfold defs₀; rw [Defs.onTc_tc]

/-- The body obligation, at every point. -/
theorem body_obligation (c : Dev nD) : BodyObligation (dats (F := F) W c) (defs₀ (F := F)) Variants.none () Set.univ := fun t => by
  rw [bigSep_W2, bigSep_W2, defs₀_row]
  exact triple_restated (sound_body W c t) rfl .rfl fun _ => .rfl

end Cert.KernelIdeal.Xq

end
-- ==== Proof.KernelIdealDgrad.lean ====
/-
  One pallas_call of the kernel, run: the input gradient in blocks of 256 input channels.

  A grid point contracts the whole output axis of one block of 256 input channels: a counted loop over 37 tiles of
  512 output channels stores the first tile's product into an accumulator and adds every later tile's product to it;
  after the loop the accumulator, times the two scales, is stored as the block of the result. The loop's invariant
  says what the accumulator holds before each tile (`acc`), so the block's value (`out`) comes out of the run.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Exec
public import Idealize.ShloMosaic.Lib.Tactic
public import Idealize.ShloMosaic.Lib.Pipeline.Kit
public import Idealize.ShloMosaic.Lib.Pipeline.Value
public import Idealize.ShloMosaic.Lib.Pipeline.FrameBody
public import Idealize.ShloMosaic.Lib.Pipeline.RegionArraysS
public import Idealize.ShloMosaic.Lib.WordCmp
public import Idealize.ShloMosaic.Lib.Claim
public import Idealize.ShloMosaic.Lib.Pointwise.Index
public import proofs.«01_k».proof.Proof.Whole
public import proofs.«01_k».proof.Proof.Fill

@[expose] public section

set_option maxRecDepth 16384

noncomputable section

namespace Cert.KernelIdeal.Dgrad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The loop over the output-channel tiles -/

/-- The loop makes 37 trips. -/
theorem trips_eq : k3_t1_loop.trips = 37 := by decide +kernel

/-- The first conditional of a trip is taken at the first tile only. -/
theorem first_iff : ∀ k : Fin k3_t1_loop.trips,
    Scalar.cmpi .ne (Scalar.extui (Scalar.cmpi .eq (Scf.iv 0#32 1#32 k) 0#32) : BitVec 32) 0#32 = 1#1 ↔ k.val = 0 := by
  decide +kernel

/-- The second conditional of a trip is taken at every later tile. -/
theorem later_iff : ∀ k : Fin k3_t1_loop.trips,
    Scalar.cmpi .ne (Scalar.extui (Scalar.cmpi .sgt (Scf.iv 0#32 1#32 k) 0#32) : BitVec 32) 0#32 = 1#1 ↔ k.val ≠ 0 := by
  decide +kernel

/-- The output-gradient codes of tile `k`. -/
abbrev tileG (x1 : Vec F S1536x18944 .i8) (k : Fin k3_t1_loop.trips) : Vec F S1536x512 .i8 :=
  View.ld x1 (Rect.unit (s := S1536x18944) (k3_off1 k) S1536x512.size (k3_off1_inb k))

/-- The weight codes of tile `k`. -/
abbrev tileW (x2 : Vec F S18944x256 .i8) (k : Fin k3_t1_loop.trips) : Vec F S512x256 .i8 :=
  View.ld x2 (Rect.unit (s := S18944x256) (k3_off2 k) S512x256.size (k3_off2_inb k))

/-- What the accumulator holds before tile `k` (nothing is said of it before the first). -/
def acc (x1 : Vec F S1536x18944 .i8) (x2 : Vec F S18944x256 .i8) : ℕ → Vec F S1536x256 .f32
  | 0 => constant S1536x256 .f32 0x00000000#32
  | k + 1 =>
    if h : k < k3_t1_loop.trips then
      if k = 0 then k3_pay2 (tileG x1 ⟨k, h⟩) (tileW x2 ⟨k, h⟩)
      else k3_pay3 (tileG x1 ⟨k, h⟩) (tileW x2 ⟨k, h⟩) (acc x1 x2 k)
    else acc x1 x2 k

theorem acc_first (x1 : Vec F S1536x18944 .i8) (x2 : Vec F S18944x256 .i8) (k : Fin k3_t1_loop.trips) (hk : k.val = 0) :
    acc x1 x2 (k.val + 1) = k3_pay2 (tileG x1 k) (tileW x2 k) := by
  rw [acc, dif_pos k.isLt, if_pos hk]

theorem acc_later (x1 : Vec F S1536x18944 .i8) (x2 : Vec F S18944x256 .i8) (k : Fin k3_t1_loop.trips) (hk : k.val ≠ 0) :
    acc x1 x2 (k.val + 1) = k3_pay3 (tileG x1 k) (tileW x2 k) (acc x1 x2 k.val) := by
  rw [acc, dif_pos k.isLt, if_neg hk]

/-- The invariant before tile `k`: the codes at their contents, the accumulator at `acc` once a tile is in. -/
abbrev inv (c : Dev nD) (arg1 : Memref sig .tc .vmem S1536x18944 .i8) (arg2 : Memref sig .tc .vmem S18944x256 .i8)
    (arg6 : Memref sig .tc .vmem S1536x256 .f32) (X1 : BufTy.Contents (Elt F) arg1.view.ty)
    (X2 : BufTy.Contents (Elt F) arg2.view.ty) (k : ℕ) (_u : PUnit) : sProp 𝕄 :=
  iprop((arg1.view.loc (c : Thread nD τ) ↦[arg1.view.set]{fullShare} X1)
    ∗ (arg2.view.loc (c : Thread nD τ) ↦[arg2.view.set]{fullShare} X2)
    ∗ (∃ f, (arg6.view.loc (c : Thread nD τ) ↦[arg6.view.set]{fullShare} f)
        ∗ ⌜k ≠ 0 → arg6.view.read (Elt F) f = acc (arg1.view.read (Elt F) X1) (arg2.view.read (Elt F) X2) k⌝))

set_option warn.classDefReducibility false in
/-- The loop by its invariant: one tile, at the first and at a later trip. -/
@[sl_loop] def loopInv_k3_t1 (c : Dev nD) (i : grid3.Coords) (arg1 : Memref sig .tc .vmem S1536x18944 .i8) (harg1 : arg1.IsWhole) (arg2 : Memref sig .tc .vmem S18944x256 .i8) (harg2 : arg2.IsWhole) (arg3 : Memref sig .tc .vmem S1536x1 .f32) (harg3 : arg3.IsWhole) (arg4 : Memref sig .tc .vmem S1x256 .f32) (harg4 : arg4.IsWhole) (arg5 : Memref sig .tc .vmem S1536x256 .bf16) (harg5 : arg5.IsWhole) (arg6 : Memref sig .tc .vmem S1536x256 .f32) (harg6 : arg6.IsWhole)
    (E : Set ℕ) (X1 : BufTy.Contents (Elt F) arg1.view.ty) (X2 : BufTy.Contents (Elt F) arg2.view.ty) :
    LoopInv (M := 𝕄) frame (wpE (defs₀ (F := F)) Variants.none (c : Thread nD τ) none) E
      k3_t1_loop.lb k3_t1_loop.ub k3_t1_loop.st k3_t1_ok ⟨⟩ (k3_t1_body (F := F) i arg1 harg1 arg2 harg2 arg3 harg3 arg4 harg4 arg5 harg5 arg6 harg6) where
  inv := inv (F := F) c arg1 arg2 arg6 X1 X2
  step k u := by
    by_cases hk : k.val = 0
    · have h1 := (first_iff k).2 hk
      have h2 : ¬ _ := fun h => (later_iff k).1 h hk
      unfold k3_t1_body
      iintro ⟨H1, H2, ⟨%f, H6, %h6⟩⟩
      sl_exec
      sl_step
      isplitl [H1]; · iexact H1
      isplitl [H2]; · iexact H2
      iexists _; isplitl [H6]; · iexact H6
      ipureintro
      intro _
      rw [acc_first _ _ k hk]
      exact Whole.read_store _ _ Whole.hz _ _
    · have h1 : ¬ _ := fun h => hk ((first_iff k).1 h)
      have h2 := (later_iff k).2 hk
      unfold k3_t1_body
      iintro ⟨H1, H2, ⟨%f, H6, %h6⟩⟩
      sl_exec
      sl_step
      isplitl [H1]; · iexact H1
      isplitl [H2]; · iexact H2
      iexists _; isplitl [H6]; · iexact H6
      ipureintro
      intro _
      rw [acc_later _ _ k hk, ← h6 hk]
      refine (Whole.read_store _ _ Whole.hz _ _).trans ?_
      rw [Whole.readAt_whole _ _ Whole.hz]
      rfl

/-! ## One grid point -/

/-- The block of the result a grid point leaves: the accumulator after the last tile, times the two scales. -/
def out (x1 : Vec F S1536x18944 .i8) (x2 : Vec F S18944x256 .i8) (x3 : Vec F S1536x1 .f32) (x4 : Vec F S1x256 .f32) :
    Vec F S1536x256 .bf16 :=
  k3_pay4 (acc x1 x2 k3_t1_loop.trips) x3 x4

set_option maxHeartbeats 1000000 in
/-- The body's triple: the inputs as they were, the result's buffer at `out`. -/
theorem body_run (c : Dev nD) (i : grid3.Coords) (arg1 : Memref sig .tc .vmem S1536x18944 .i8) (harg1 : arg1.IsWhole) (arg2 : Memref sig .tc .vmem S18944x256 .i8) (harg2 : arg2.IsWhole) (arg3 : Memref sig .tc .vmem S1536x1 .f32) (harg3 : arg3.IsWhole) (arg4 : Memref sig .tc .vmem S1x256 .f32) (harg4 : arg4.IsWhole) (arg5 : Memref sig .tc .vmem S1536x256 .bf16) (harg5 : arg5.IsWhole) (arg6 : Memref sig .tc .vmem S1536x256 .f32) (harg6 : arg6.IsWhole)
    (x1 : Vec F S1536x18944 .i8) (x2 : Vec F S18944x256 .i8) (x3 : Vec F S1536x1 .f32) (x4 : Vec F S1x256 .f32)
    (E : Set ℕ) (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (iprop(owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out x1 x2 x3 x4)
            ∗ (∃ d, owns (c : Thread nD τ) arg6 fullShare d)) -∗ K ⟨⟩))
      ⊢ wp frame (wpE (defs₀ (F := F)) Variants.none c none) E (cc3_dgrad i arg1 harg1 arg2 harg2 arg3 harg3 arg4 harg4 arg5 harg5 arg6 harg6) K := by
  simp only [cc3_dgrad_eq_skeleton]; unfold cc3_dgrad_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  sl_exec
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    refine (Whole.read_store _ _ Whole.hz _ _).trans ?_
    rw [Whole.readAt_whole _ _ Whole.hz, Whole.readAt_whole _ _ Whole.hz, Whole.readAt_whole _ _ Whole.hz, hf3, hf4]
    have h6 := hL3 (by rw [show Scf.trips k3_t1_loop.lb k3_t1_loop.ub k3_t1_loop.st = 37 from trips_eq]; decide)
    rw [hf1, hf2] at h6
    rw [h6]
    rfl
  iexists _, _; isplitr; swap; · iexact H6
  ipureintro; rfl

/-! ## The pipeline's proof data, from any contents `W` of the buffers at the region's entry -/

variable (W : Dev nD → Valuation τ sig (Elt F))

/-- Window `w`'s block at point `t`. -/
def iblk (c : Dev nD) (w : Fin cfg3.W) (t : Fin cfg3.N) : ((cfg3.win w).xblock (cfg3.grid.coords t)).Idx → Elt F (cfg3.win w).elt :=
  ((cfg3.win w).blk t).view.read (Elt F) (W c (Proc.devRef .tc (Pipeline.arrRef spec3 w)))

/-- Each window's current staging buffer at point `t`. -/
abbrev ms0 (t : Fin cfg3.N) : Memref sig .tc .vmem S1536x18944 .i8 := win3_0.stage (cfg3.slots t 0)
abbrev ms1 (t : Fin cfg3.N) : Memref sig .tc .vmem S18944x256 .i8 := win3_1.stage (cfg3.slots t 1)
abbrev ms2 (t : Fin cfg3.N) : Memref sig .tc .vmem S1536x1 .f32 := win3_2.stage (cfg3.slots t 2)
abbrev ms3 (t : Fin cfg3.N) : Memref sig .tc .vmem S1x256 .f32 := win3_3.stage (cfg3.slots t 3)
abbrev ms4 (t : Fin cfg3.N) : Memref sig .tc .vmem S1536x256 .bf16 := win3_4.stage (cfg3.slots t 4)
/-- The accumulator. -/
abbrev scM : Memref sig .tc .vmem S1536x256 .f32 := Memref.whole cc3_scratch0

/-- Between points: the accumulator and the other buffers of the call, at some contents. -/
def Φ (c : Dev nD) : sProp 𝕄 :=
  iprop((∃ d, owns (c : Thread nD τ) scM fullShare d) ∗ Pipeline.scopedRestBut spec3 c [cc3_scratch0])

theorem Φ_eq (c : Dev nD) : (Pipeline.scopedRest spec3 c : sProp 𝕄) = Φ c := by
  unfold Φ; rw [scopedRest3_split]; simp only [scM, owns_whole]; try rfl

/-- The block of the result point `t` leaves. -/
def outAt (c : Dev nD) (t : Fin cfg3.N) : Vec F S1536x256 .bf16 :=
  out (iblk W c 0 t) (iblk W c 1 t) (iblk W c 2 t) (iblk W c 3 t)

/-- The proof data: the arrays as the region finds them, each input's buffer left at its block, the result's at
    `outAt`; nothing owed. -/
def dats (c : Dev nD) : Dat τ (Elt F) Unit ℕ (UR sig nD τ) ℕ cfg3 c where
  A w := W c (Proc.devRef .tc (Pipeline.arrRef spec3 w))
  after w t := match w with
    | ⟨0, _⟩ => iblk W c 0 t
    | ⟨1, _⟩ => iblk W c 1 t
    | ⟨2, _⟩ => iblk W c 2 t
    | ⟨3, _⟩ => iblk W c 3 t
    | ⟨4, _⟩ => outAt W c t
  Φ _ := Φ c
  q _ := fullShare
  owed _ := 0

theorem A_eq (c : Dev nD) (w : Fin cfg3.W) : (dats W c).A w = W c (Proc.devRef .tc (Pipeline.arrRef spec3 w)) := by
  dsimp only [dats]

theorem after0 (c : Dev nD) (t : Fin cfg3.N) : (dats W c).after 0 t = iblk W c 0 t := by dsimp only [dats]
theorem after1 (c : Dev nD) (t : Fin cfg3.N) : (dats W c).after 1 t = iblk W c 1 t := by dsimp only [dats]
theorem after2 (c : Dev nD) (t : Fin cfg3.N) : (dats W c).after 2 t = iblk W c 2 t := by dsimp only [dats]
theorem after3 (c : Dev nD) (t : Fin cfg3.N) : (dats W c).after 3 t = iblk W c 3 t := by dsimp only [dats]
theorem after4 (c : Dev nD) (t : Fin cfg3.N) : (dats W c).after 4 t = outAt W c t := by dsimp only [dats]

theorem before0 (c : Dev nD) (t : Fin cfg3.N) (d) : (dats W c).before 0 t d = iblk W c 0 t :=
  ((dats W c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg3.N) (d) : (dats W c).before 1 t d = iblk W c 1 t :=
  ((dats W c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg3.N) (d) : (dats W c).before 2 t d = iblk W c 2 t :=
  ((dats W c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg3.N) (d) : (dats W c).before 3 t d = iblk W c 3 t :=
  ((dats W c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg3.N) : sProp 𝕄 :=
  iprop((dats W c).Φ t.castSucc ∗ (dats W c).owesAt () t.castSucc
    ∗ (∃ d, owns (c : Thread nD τ) (ms0 t) fullShare ((dats W c).before 0 t d))
    ∗ (∃ d, owns (c : Thread nD τ) (ms1 t) fullShare ((dats W c).before 1 t d))
    ∗ (∃ d, owns (c : Thread nD τ) (ms2 t) fullShare ((dats W c).before 2 t d))
    ∗ (∃ d, owns (c : Thread nD τ) (ms3 t) fullShare ((dats W c).before 3 t d))
    ∗ (∃ d, owns (c : Thread nD τ) (ms4 t) fullShare ((dats W c).before 4 t d)))

/-- and what it returns. -/
def bodyPost (c : Dev nD) (t : Fin cfg3.N) : sProp 𝕄 :=
  iprop((dats W c).Φ t.succ ∗ (dats W c).owesAt () t.succ
    ∗ owns (c : Thread nD τ) (ms0 t) fullShare ((dats W c).after 0 t)
    ∗ owns (c : Thread nD τ) (ms1 t) fullShare ((dats W c).after 1 t)
    ∗ owns (c : Thread nD τ) (ms2 t) fullShare ((dats W c).after 2 t)
    ∗ owns (c : Thread nD τ) (ms3 t) fullShare ((dats W c).after 3 t)
    ∗ owns (c : Thread nD τ) (ms4 t) fullShare ((dats W c).after 4 t))

/-- The body at any point. -/
theorem sound_body (c : Dev nD) (t : Fin cfg3.N) :
    bodyPre W c t ⊢ wp frame (wpE (defs₀ (F := F)) Variants.none c none) Set.univ (bodyAt3 t) (fun _ => bodyPost W c t) := by
  unfold bodyPre bodyPost bodyAt3
  simp only [before0, before1, before2, before3]
  rw [show (dats W c).Φ t.succ = (dats W c).Φ t.castSucc from rfl,
    show (dats W c).owesAt () t.succ = (dats W c).owesAt () t.castSucc from rfl,
    after0, after1, after2, after3, after4]
  rw [show (dats W c).Φ t.castSucc = Φ c from rfl]
  unfold outAt Φ
  iintro ⟨⟨HS, Hg⟩, Ho, ⟨%d0, H0⟩, ⟨%d1, H1⟩, ⟨%d2, H2⟩, ⟨%d3, H3⟩, ⟨%d4, H4⟩⟩
  iapply (body_run c (grid3.coords t) _ _ _ _ _ _ _ _ _ _ _ _ (iblk W c 0 t) (iblk W c 1 t) (iblk W c 2 t) (iblk W c 3 t) Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, H4, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  iexact H4

/-- The body table's row at point `t` is the body there. -/
theorem defs₀_row (t : Fin cfg3.N) :
    defs₀ (F := F) .tc cfg3.body (cfg3.bodyArgs t (cfg3.slots t)) = bodyAt3 t := by
  unfold defs₀; rw [Defs.onTc_tc]

/-- The body obligation, at every point. -/
theorem body_obligation (c : Dev nD) : BodyObligation (dats (F := F) W c) (defs₀ (F := F)) Variants.none () Set.univ := fun t => by
  rw [bigSep_W3, bigSep_W3, defs₀_row]
  exact triple_restated (sound_body W c t) rfl .rfl fun _ => .rfl

end Cert.KernelIdeal.Dgrad

end
-- ==== Proof.KernelIdealWgrad.lean ====
/-
  One pallas_call of the kernel, run: the weight gradient in blocks of 256 output channels. A grid point turns its
  block of the output gradient by the token Hadamard matrix in 12 row tiles of 128, collecting the largest magnitude of
  every column, quantises the columns, and multiplies the codes with the activation's codes, which the first point put
  into a scratch buffer as floats for all later points.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Exec
public import Idealize.ShloMosaic.Lib.Tactic
public import Idealize.ShloMosaic.Lib.Pipeline.Kit
public import Idealize.ShloMosaic.Lib.Pipeline.Value
public import Idealize.ShloMosaic.Lib.Pipeline.FrameBody
public import Idealize.ShloMosaic.Lib.Pipeline.RegionArraysS
public import Idealize.ShloMosaic.Lib.WordCmp
public import Idealize.ShloMosaic.Lib.Claim
public import Idealize.ShloMosaic.Lib.Pointwise.Index
public import proofs.«01_k».proof.Proof.Whole
public import proofs.«01_k».proof.Proof.Fill

@[expose] public section

set_option maxRecDepth 16384

noncomputable section

namespace Cert.KernelIdeal.Wgrad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one grid point computes -/

/-- The conditional of a point is taken at the first point only. -/
theorem first_iff : ∀ n : Fin 74,
    Scalar.cmpi .ne (Scalar.extui (Scalar.cmpi .eq (BitVec.ofNat 32 n.val) 0#32) : BitVec 32) 0#32 = 1#1 ↔ n.val = 0 := by
  decide +kernel

theorem blk_inb (j : Fin 12) : ∀ a, (![128 * j.val, 0] : Fin 2 → ℕ) a + S128x256.size a ≤ S1536x256.size a := fun a => by
  match a with
  | ⟨0, _⟩ => show 128 * j.val + 128 ≤ 1536; omega
  | ⟨1, _⟩ => show 0 + 256 ≤ 256; omega

/-- Row tile `j` of the block of the output gradient. -/
abbrev blk (x1 : Vec F S1536x256 .bf16) (j : Fin 12) : Vec F S128x256 .bf16 :=
  View.ld x1 (Rect.unit (s := S1536x256) ![128 * j.val, 0] S128x256.size (blk_inb j))

theorem div1 (y : S1536x256.Idx) : (y 0).val / 128 < 12 := by
  have h : (y 0).val < 1536 := (y 0).isLt; omega

/-- Where an element lies inside its tile. -/
def within (y : S1536x256.Idx) : S128x256.Idx := Idealize.ShloMosaic.ix2 (⟨(y 0).val % 128, Nat.mod_lt _ (by decide)⟩ : Fin 128) (y 1)

/-- The turned block. -/
def rot (x1 : Vec F S1536x256 .bf16) (x4 : Vec F S128x128 .bf16) : Vec F S1536x256 .f32 := fun y =>
  k4_pay6 x4 (blk x1 ⟨(y 0).val / 128, div1 y⟩) (within y)

/-- The largest magnitude of every column. -/
def am (x1 : Vec F S1536x256 .bf16) (x4 : Vec F S128x128 .bf16) : FVec F S1x256 .f32 :=
  k4_pay33 (k4_pay26 (k4_pay21 (k4_pay14 (k4_pay9 x4 (blk x1 0) x4 (blk x1 1)) x4 (blk x1 2) x4 (blk x1 3))
    (k4_pay15 x4 (blk x1 4)) x4 (blk x1 5) x4 (blk x1 6)) x4 (blk x1 7) x4 (blk x1 8))
    (k4_pay27 x4 (blk x1 9)) x4 (blk x1 10) x4 (blk x1 11)

/-- The weight gradient's block, -/
def outW (x1 : Vec F S1536x256 .bf16) (x2 : Vec F S1536x3584 .i8) (x3 : Vec F S1x3584 .f32) (x4 : Vec F S128x128 .bf16) : Vec F S256x3584 .f32 :=
  k4_pay3 (am x1 x4) (rot x1 x4) (k4_pay4 x2) x3
/-- the codes -/
def outC (x1 : Vec F S1536x256 .bf16) (x4 : Vec F S128x128 .bf16) : Vec F S1536x256 .i8 := k4_pay2 (am x1 x4) (rot x1 x4)
/-- and the scales. -/
def outS (x1 : Vec F S1536x256 .bf16) (x4 : Vec F S128x128 .bf16) : Vec F S1x256 .f32 := k4_pay1 (am x1 x4)

/-- One more turned tile in the scratch. -/
theorem fill (x1 : Vec F S1536x256 .bf16) (x4 : Vec F S128x128 .bf16) {κ : Kind} {sp : Space} (v : View sig κ sp S1536x256 .f32)
    (f : v.ty.Contents (Elt F)) (j : Fin 12) {off : Fin 2 → ℕ} (L : List (View.Piece (Elt F) S1536x256 .f32)) (hoff : off = ![128 * j.val, 0])
    (inb : ∀ a, off a + S128x256.size a ≤ S1536x256.size a) (w : S128x256.Idx → Elt F .f32) (hw : w = k4_pay6 x4 (blk x1 j))
    (h : ∀ y : S1536x256.Idx, (y 0).val < 128 * j.val → v.read (Elt F) (v.writes (Elt F) f L) y = rot x1 x4 y) :
    ∀ y : S1536x256.Idx, (y 0).val < 128 * j.val + 128 →
      v.read (Elt F) (v.writes (Elt F) f ((⟨Rect.unit off S128x256.size inb, w⟩ : View.Piece (Elt F) S1536x256 .f32) :: L)) y = rot x1 x4 y := by
  subst hoff; subst hw
  refine Fill.step v (v.writes (Elt F) f L) 0 (rot x1 x4) (128 * j.val) (128 * j.val + 128) inb _ rfl rfl (fun b hb => ?_) (fun y x hyx => ?_) h
  · match b with
    | ⟨0, _⟩ => exact absurd rfl hb
    | ⟨1, _⟩ => exact ⟨rfl, rfl⟩
  · have h0 : (y 0).val = 128 * j.val + (x 0).val := hyx 0
    have h1 : (y 1).val = 0 + (x 1).val := hyx 1
    have hx : (x 0).val < 128 := (x 0).isLt
    have e1 : (⟨(y 0).val / 128, div1 y⟩ : Fin 12) = j := Fin.ext (by show (y 0).val / 128 = j.val; omega)
    have e2 : within y = x := funext fun b => Fin.ext (by
      match b with
      | ⟨0, _⟩ => show (y 0).val % 128 = (x 0).val; omega
      | ⟨1, _⟩ => show (y 1).val = (x 1).val; omega)
    unfold rot
    rw [e1, e2]

theorem pay3_congr {a a' : FVec F S1x256 .f32} {b b' : Vec F S1536x256 .f32} {c c' : Vec F S1536x3584 .bf16} {d d' : Vec F S1x3584 .f32}
    (ha : a = a') (hb : b = b') (hc : c = c') (hd : d = d') : k4_pay3 a b c d = k4_pay3 a' b' c' d' := by rw [ha, hb, hc, hd]

theorem pay2_congr {a a' : FVec F S1x256 .f32} {b b' : Vec F S1536x256 .f32} (ha : a = a') (hb : b = b') : k4_pay2 a b = k4_pay2 a' b' := by
  rw [ha, hb]

/-! ## One grid point -/

set_option maxHeartbeats 4000000 in
/-- The body's triple: the scratch of activation codes is written at the first point and only read later. -/
theorem body_run (c : Dev nD) (i : grid4.Coords) (n : Fin 74) (hn : (i 0).val = n.val) (arg1 : Memref sig .tc .vmem S1536x256 .bf16) (harg1 : arg1.IsWhole) (arg2 : Memref sig .tc .vmem S1536x3584 .i8) (harg2 : arg2.IsWhole) (arg3 : Memref sig .tc .vmem S1x3584 .f32) (harg3 : arg3.IsWhole) (arg4 : Memref sig .tc .vmem S128x128 .bf16) (harg4 : arg4.IsWhole) (arg5 : Memref sig .tc .vmem S256x3584 .f32) (harg5 : arg5.IsWhole) (arg6 : Memref sig .tc .vmem S1536x256 .i8) (harg6 : arg6.IsWhole) (arg7 : Memref sig .tc .vmem S1x256 .f32) (harg7 : arg7.IsWhole) (arg8 : Memref sig .tc .vmem S1536x3584 .bf16) (harg8 : arg8.IsWhole) (arg9 : Memref sig .tc .vmem S1536x256 .f32) (harg9 : arg9.IsWhole)
    (x1 : Vec F S1536x256 .bf16) (x2 : Vec F S1536x3584 .i8) (x3 : Vec F S1x3584 .f32) (x4 : Vec F S128x128 .bf16)
    (E : Set ℕ) (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (∃ d, owns (c : Thread nD τ) arg7 fullShare d)
        ∗ (∃ d, owns (c : Thread nD τ) arg8 fullShare d ∗ ⌜n.val ≠ 0 → d = k4_pay4 x2⌝)
        ∗ (∃ d, owns (c : Thread nD τ) arg9 fullShare d)
        ∗ (iprop(owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (outW x1 x2 x3 x4) ∗ owns (c : Thread nD τ) arg6 fullShare (outC x1 x4)
            ∗ owns (c : Thread nD τ) arg7 fullShare (outS x1 x4) ∗ owns (c : Thread nD τ) arg8 fullShare (k4_pay4 x2)
            ∗ (∃ d, owns (c : Thread nD τ) arg9 fullShare d)) -∗ K ⟨⟩))
      ⊢ wp frame (wpE (defs₀ (F := F)) Variants.none c none) E (cc4_wgrad i arg1 harg1 arg2 harg2 arg3 harg3 arg4 harg4 arg5 harg5 arg6 harg6 arg7 harg7 arg8 harg8 arg9 harg9) K := by
  simp only [cc4_wgrad_eq_skeleton]; unfold cc4_wgrad_skel
  simp only [k4_part1_eq_skeleton, k4_part2_eq_skeleton, k4_part3_eq_skeleton, k4_part4_eq_skeleton, k4_part5_eq_skeleton]
  unfold k4_part1_skel k4_part2_skel k4_part3_skel k4_part4_skel k4_part5_skel
  rw [hn]
  unfold owns
  by_cases h0 : n.val = 0
  · have h1 := (first_iff n).2 h0
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, ⟨%f8, %hf8, H8⟩, %hd8⟩, ⟨%d9, %f9, -, H9⟩, Hk⟩
    sl_exec
    sl_step
    have hR : body_run.sl.v181 c arg1 arg4 arg9 f1 f4 = rot x1 x4 := by
      refine (Whole.readAt_whole _ _ Whole.hz _).trans (funext fun y => ?_)
      unfold body_run.sl.H9_12
      refine fill x1 x4 _ _ ⟨11, by decide⟩ _ rfl _ _ (by rw [Whole.readAt_whole _ _ Whole.hz, hf4]; simp only [View.readAt_eq_ld, hf1]; rfl) ?_ y (y 0).isLt
      refine fill x1 x4 _ _ ⟨10, by decide⟩ _ rfl _ _ (by rw [Whole.readAt_whole _ _ Whole.hz, hf4]; simp only [View.readAt_eq_ld, hf1]; rfl) ?_
      refine fill x1 x4 _ _ ⟨9, by decide⟩ _ rfl _ _ (by rw [Whole.readAt_whole _ _ Whole.hz, hf4]; simp only [View.readAt_eq_ld, hf1]; rfl) ?_
      refine fill x1 x4 _ _ ⟨8, by decide⟩ _ rfl _ _ (by rw [Whole.readAt_whole _ _ Whole.hz, hf4]; simp only [View.readAt_eq_ld, hf1]; rfl) ?_
      refine fill x1 x4 _ _ ⟨7, by decide⟩ _ rfl _ _ (by rw [Whole.readAt_whole _ _ Whole.hz, hf4]; simp only [View.readAt_eq_ld, hf1]; rfl) ?_
      refine fill x1 x4 _ _ ⟨6, by decide⟩ _ rfl _ _ (by rw [Whole.readAt_whole _ _ Whole.hz, hf4]; simp only [View.readAt_eq_ld, hf1]; rfl) ?_
      refine fill x1 x4 _ _ ⟨5, by decide⟩ _ rfl _ _ (by rw [Whole.readAt_whole _ _ Whole.hz, hf4]; simp only [View.readAt_eq_ld, hf1]; rfl) ?_
      refine fill x1 x4 _ _ ⟨4, by decide⟩ _ rfl _ _ (by rw [Whole.readAt_whole _ _ Whole.hz, hf4]; simp only [View.readAt_eq_ld, hf1]; rfl) ?_
      refine fill x1 x4 _ _ ⟨3, by decide⟩ _ rfl _ _ (by rw [Whole.readAt_whole _ _ Whole.hz, hf4]; simp only [View.readAt_eq_ld, hf1]; rfl) ?_
      refine fill x1 x4 _ _ ⟨2, by decide⟩ _ rfl _ _ (by rw [Whole.readAt_whole _ _ Whole.hz, hf4]; simp only [View.readAt_eq_ld, hf1]; rfl) ?_
      refine fill x1 x4 _ _ ⟨1, by decide⟩ _ rfl _ _ (by rw [Whole.readAt_whole _ _ Whole.hz, hf4]; simp only [View.readAt_eq_ld, hf1]; rfl) ?_
      refine fill x1 x4 _ _ ⟨0, by decide⟩ _ rfl _ _ (by rw [Whole.readAt_whole _ _ Whole.hz, hf4]; simp only [View.readAt_eq_ld, hf1]; rfl) ?_
      exact fun y hy => absurd hy (Nat.not_lt_zero _)
    iapply Hk
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; swap; · iexact H5
      ipureintro
      refine (Whole.read_store _ _ Whole.hz _ _).trans ?_
      refine pay3_congr ?_ hR ?_ ?_
      · rw [Whole.readAt_whole _ _ Whole.hz, hf4]; simp only [View.readAt_eq_ld, hf1]; rfl
      · exact Whole.readAt_whole _ _ Whole.hz _ |>.trans ((Whole.read_store _ _ Whole.hz _ _).trans (congrArg k4_pay4 ((Whole.readAt_whole _ _ Whole.hz _).trans hf2)))
      · rw [Whole.readAt_whole _ _ Whole.hz, hf3]
    isplitl [H6]
    · iexists _; isplitr; swap; · iexact H6
      ipureintro
      refine (Whole.read_store _ _ Whole.hz _ _).trans ?_
      refine pay2_congr ?_ hR
      rw [Whole.readAt_whole _ _ Whole.hz, hf4]; simp only [View.readAt_eq_ld, hf1]; rfl
    isplitl [H7]
    · iexists _; isplitr; swap; · iexact H7
      ipureintro
      refine (Whole.read_store _ _ Whole.hz _ _).trans (congrArg k4_pay1 ?_)
      rw [Whole.readAt_whole _ _ Whole.hz, hf4]; simp only [View.readAt_eq_ld, hf1]; rfl
    isplitl [H8]
    · iexists _; isplitr; swap; · iexact H8
      ipureintro
      exact (Whole.read_store _ _ Whole.hz _ _).trans (congrArg k4_pay4 ((Whole.readAt_whole _ _ Whole.hz _).trans hf2))
    iexists _; iexists _; isplitr; swap; · iexact H9
    ipureintro; rfl
  · have h1 : ¬ _ := fun h => h0 ((first_iff n).1 h)
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, ⟨%f8, %hf8, H8⟩, %hd8⟩, ⟨%d9, %f9, -, H9⟩, Hk⟩
    sl_exec
    sl_step
    have hR : body_run.sl.v181_1 c arg1 arg4 arg9 f1 f4 = rot x1 x4 := by
      refine (Whole.readAt_whole _ _ Whole.hz _).trans (funext fun y => ?_)
      unfold body_run.sl.H9_12_1
      refine fill x1 x4 _ _ ⟨11, by decide⟩ _ rfl _ _ (by rw [Whole.readAt_whole _ _ Whole.hz, hf4]; simp only [View.readAt_eq_ld, hf1]; rfl) ?_ y (y 0).isLt
      refine fill x1 x4 _ _ ⟨10, by decide⟩ _ rfl _ _ (by rw [Whole.readAt_whole _ _ Whole.hz, hf4]; simp only [View.readAt_eq_ld, hf1]; rfl) ?_
      refine fill x1 x4 _ _ ⟨9, by decide⟩ _ rfl _ _ (by rw [Whole.readAt_whole _ _ Whole.hz, hf4]; simp only [View.readAt_eq_ld, hf1]; rfl) ?_
      refine fill x1 x4 _ _ ⟨8, by decide⟩ _ rfl _ _ (by rw [Whole.readAt_whole _ _ Whole.hz, hf4]; simp only [View.readAt_eq_ld, hf1]; rfl) ?_
      refine fill x1 x4 _ _ ⟨7, by decide⟩ _ rfl _ _ (by rw [Whole.readAt_whole _ _ Whole.hz, hf4]; simp only [View.readAt_eq_ld, hf1]; rfl) ?_
      refine fill x1 x4 _ _ ⟨6, by decide⟩ _ rfl _ _ (by rw [Whole.readAt_whole _ _ Whole.hz, hf4]; simp only [View.readAt_eq_ld, hf1]; rfl) ?_
      refine fill x1 x4 _ _ ⟨5, by decide⟩ _ rfl _ _ (by rw [Whole.readAt_whole _ _ Whole.hz, hf4]; simp only [View.readAt_eq_ld, hf1]; rfl) ?_
      refine fill x1 x4 _ _ ⟨4, by decide⟩ _ rfl _ _ (by rw [Whole.readAt_whole _ _ Whole.hz, hf4]; simp only [View.readAt_eq_ld, hf1]; rfl) ?_
      refine fill x1 x4 _ _ ⟨3, by decide⟩ _ rfl _ _ (by rw [Whole.readAt_whole _ _ Whole.hz, hf4]; simp only [View.readAt_eq_ld, hf1]; rfl) ?_
      refine fill x1 x4 _ _ ⟨2, by decide⟩ _ rfl _ _ (by rw [Whole.readAt_whole _ _ Whole.hz, hf4]; simp only [View.readAt_eq_ld, hf1]; rfl) ?_
      refine fill x1 x4 _ _ ⟨1, by decide⟩ _ rfl _ _ (by rw [Whole.readAt_whole _ _ Whole.hz, hf4]; simp only [View.readAt_eq_ld, hf1]; rfl) ?_
      refine fill x1 x4 _ _ ⟨0, by decide⟩ _ rfl _ _ (by rw [Whole.readAt_whole _ _ Whole.hz, hf4]; simp only [View.readAt_eq_ld, hf1]; rfl) ?_
      exact fun y hy => absurd hy (Nat.not_lt_zero _)
    iapply Hk
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; swap; · iexact H5
      ipureintro
      refine (Whole.read_store _ _ Whole.hz _ _).trans ?_
      refine pay3_congr ?_ hR ?_ ?_
      · rw [Whole.readAt_whole _ _ Whole.hz, hf4]; simp only [View.readAt_eq_ld, hf1]; rfl
      · exact (Whole.readAt_whole _ _ Whole.hz _).trans (hf8.trans (hd8 h0))
      · rw [Whole.readAt_whole _ _ Whole.hz, hf3]
    isplitl [H6]
    · iexists _; isplitr; swap; · iexact H6
      ipureintro
      refine (Whole.read_store _ _ Whole.hz _ _).trans ?_
      refine pay2_congr ?_ hR
      rw [Whole.readAt_whole _ _ Whole.hz, hf4]; simp only [View.readAt_eq_ld, hf1]; rfl
    isplitl [H7]
    · iexists _; isplitr; swap; · iexact H7
      ipureintro
      refine (Whole.read_store _ _ Whole.hz _ _).trans (congrArg k4_pay1 ?_)
      rw [Whole.readAt_whole _ _ Whole.hz, hf4]; simp only [View.readAt_eq_ld, hf1]; rfl
    isplitl [H8]
    · iexists _; isplitr; swap; · iexact H8
      ipureintro
      exact hf8.trans (hd8 h0)
    iexists _; iexists _; isplitr; swap; · iexact H9
    ipureintro; rfl

/-! ## The pipeline's proof data, from any contents `W` of the buffers at the region's entry -/

variable (W : Dev nD → Valuation τ sig (Elt F))

/-- Window `w`'s block at point `t`. -/
def iblk (c : Dev nD) (w : Fin cfg4.W) (t : Fin cfg4.N) : ((cfg4.win w).xblock (cfg4.grid.coords t)).Idx → Elt F (cfg4.win w).elt :=
  ((cfg4.win w).blk t).view.read (Elt F) (W c (Proc.devRef .tc (Pipeline.arrRef spec4 w)))

/-- Each window's current staging buffer at point `t`. -/
abbrev ms0 (t : Fin cfg4.N) : Memref sig .tc .vmem S1536x256 .bf16 := win4_0.stage (cfg4.slots t 0)
abbrev ms1 (t : Fin cfg4.N) : Memref sig .tc .vmem S1536x3584 .i8 := win4_1.stage (cfg4.slots t 1)
abbrev ms2 (t : Fin cfg4.N) : Memref sig .tc .vmem S1x3584 .f32 := win4_2.stage (cfg4.slots t 2)
abbrev ms3 (t : Fin cfg4.N) : Memref sig .tc .vmem S128x128 .bf16 := win4_3.stage (cfg4.slots t 3)
abbrev ms4 (t : Fin cfg4.N) : Memref sig .tc .vmem S256x3584 .f32 := win4_4.stage (cfg4.slots t 4)
abbrev ms5 (t : Fin cfg4.N) : Memref sig .tc .vmem S1536x256 .i8 := win4_5.stage (cfg4.slots t 5)
abbrev ms6 (t : Fin cfg4.N) : Memref sig .tc .vmem S1x256 .f32 := win4_6.stage (cfg4.slots t 6)
/-- The activation codes kept across points, and the turned block. -/
abbrev scX : Memref sig .tc .vmem S1536x3584 .bf16 := Memref.whole cc4_scratch0
abbrev scR : Memref sig .tc .vmem S1536x256 .f32 := Memref.whole cc4_scratch1

/-- Before the point with number `n`: the activation codes, written at the first point; the turned block and the other
    buffers of the call, at some contents. -/
def Φ (c : Dev nD) (n : ℕ) : sProp 𝕄 :=
  iprop((∃ d, owns (c : Thread nD τ) scX fullShare d ∗ ⌜n ≠ 0 → d = k4_pay4 (iblk W c 1 ⟨0, (by decide : 0 < grid4.N)⟩)⌝)
    ∗ (∃ d, owns (c : Thread nD τ) scR fullShare d) ∗ Pipeline.scopedRestBut spec4 c [cc4_scratch0, cc4_scratch1])

theorem Φ_in (c : Dev nD) : (Pipeline.scopedRest spec4 c : sProp 𝕄) ⊢ Φ W c 0 := by
  unfold Φ; rw [scopedRest4_split]; simp only [scX, scR, owns_whole]
  iintro ⟨⟨⟨%f, H0⟩, ⟨%g, H1⟩⟩, Hr⟩
  isplitl [H0]
  · iexists f; isplitl [H0]; · iexact H0
    ipureintro; exact fun h => absurd rfl h
  isplitl [H1]; · iexists g; iexact H1
  iexact Hr

theorem Φ_out (c : Dev nD) (n : ℕ) : Φ W c n ⊢ (Pipeline.scopedRest spec4 c : sProp 𝕄) := by
  unfold Φ; rw [scopedRest4_split]; simp only [scX, scR, owns_whole]
  iintro ⟨⟨%f, H0, -⟩, ⟨%g, H1⟩, Hr⟩
  isplitr [Hr]
  · isplitl [H0]; · iexists f; iexact H0
    iexists g; iexact H1
  iexact Hr

/-- The proof data: the arrays as the region finds them, the inputs' buffers left at their blocks, the results' at the
    gradient's block, the codes and the scales; nothing owed. -/
def dats (c : Dev nD) : Dat τ (Elt F) Unit ℕ (UR sig nD τ) ℕ cfg4 c where
  A w := W c (Proc.devRef .tc (Pipeline.arrRef spec4 w))
  after w t := match w with
    | ⟨0, _⟩ => iblk W c 0 t
    | ⟨1, _⟩ => iblk W c 1 t
    | ⟨2, _⟩ => iblk W c 2 t
    | ⟨3, _⟩ => iblk W c 3 t
    | ⟨4, _⟩ => outW (iblk W c 0 t) (iblk W c 1 t) (iblk W c 2 t) (iblk W c 3 t)
    | ⟨5, _⟩ => outC (iblk W c 0 t) (iblk W c 3 t)
    | ⟨6, _⟩ => outS (iblk W c 0 t) (iblk W c 3 t)
  Φ t := Φ W c t.val
  q _ := fullShare
  owed _ := 0

theorem A_eq (c : Dev nD) (w : Fin cfg4.W) : (dats W c).A w = W c (Proc.devRef .tc (Pipeline.arrRef spec4 w)) := by
  dsimp only [dats]

theorem after0 (c : Dev nD) (t : Fin cfg4.N) : (dats W c).after 0 t = iblk W c 0 t := by dsimp only [dats]
theorem after1 (c : Dev nD) (t : Fin cfg4.N) : (dats W c).after 1 t = iblk W c 1 t := by dsimp only [dats]
theorem after2 (c : Dev nD) (t : Fin cfg4.N) : (dats W c).after 2 t = iblk W c 2 t := by dsimp only [dats]
theorem after3 (c : Dev nD) (t : Fin cfg4.N) : (dats W c).after 3 t = iblk W c 3 t := by dsimp only [dats]
theorem after4 (c : Dev nD) (t : Fin cfg4.N) : (dats W c).after 4 t = outW (iblk W c 0 t) (iblk W c 1 t) (iblk W c 2 t) (iblk W c 3 t) := by dsimp only [dats]
theorem after5 (c : Dev nD) (t : Fin cfg4.N) : (dats W c).after 5 t = outC (iblk W c 0 t) (iblk W c 3 t) := by dsimp only [dats]
theorem after6 (c : Dev nD) (t : Fin cfg4.N) : (dats W c).after 6 t = outS (iblk W c 0 t) (iblk W c 3 t) := by dsimp only [dats]

theorem before0 (c : Dev nD) (t : Fin cfg4.N) (d) : (dats W c).before 0 t d = iblk W c 0 t :=
  ((dats W c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg4.N) (d) : (dats W c).before 1 t d = iblk W c 1 t :=
  ((dats W c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg4.N) (d) : (dats W c).before 2 t d = iblk W c 2 t :=
  ((dats W c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg4.N) (d) : (dats W c).before 3 t d = iblk W c 3 t :=
  ((dats W c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-- The activation codes' block is the same at every point. -/
theorem iblk1_const (c : Dev nD) (t t' : Fin cfg4.N) : iblk W c 1 t = iblk W c 1 t' := rfl

/-! ## The body obligation -/

/-- What the body is called with at point `t`, the windows one by one, -/
def bodyPre (c : Dev nD) (t : Fin cfg4.N) : sProp 𝕄 :=
  iprop((dats W c).Φ t.castSucc ∗ (dats W c).owesAt () t.castSucc
    ∗ (∃ d, owns (c : Thread nD τ) (ms0 t) fullShare ((dats W c).before 0 t d))
    ∗ (∃ d, owns (c : Thread nD τ) (ms1 t) fullShare ((dats W c).before 1 t d))
    ∗ (∃ d, owns (c : Thread nD τ) (ms2 t) fullShare ((dats W c).before 2 t d))
    ∗ (∃ d, owns (c : Thread nD τ) (ms3 t) fullShare ((dats W c).before 3 t d))
    ∗ (∃ d, owns (c : Thread nD τ) (ms4 t) fullShare ((dats W c).before 4 t d))
    ∗ (∃ d, owns (c : Thread nD τ) (ms5 t) fullShare ((dats W c).before 5 t d))
    ∗ (∃ d, owns (c : Thread nD τ) (ms6 t) fullShare ((dats W c).before 6 t d)))

/-- and what it returns. -/
def bodyPost (c : Dev nD) (t : Fin cfg4.N) : sProp 𝕄 :=
  iprop((dats W c).Φ t.succ ∗ (dats W c).owesAt () t.succ
    ∗ owns (c : Thread nD τ) (ms0 t) fullShare ((dats W c).after 0 t)
    ∗ owns (c : Thread nD τ) (ms1 t) fullShare ((dats W c).after 1 t)
    ∗ owns (c : Thread nD τ) (ms2 t) fullShare ((dats W c).after 2 t)
    ∗ owns (c : Thread nD τ) (ms3 t) fullShare ((dats W c).after 3 t)
    ∗ owns (c : Thread nD τ) (ms4 t) fullShare ((dats W c).after 4 t)
    ∗ owns (c : Thread nD τ) (ms5 t) fullShare ((dats W c).after 5 t)
    ∗ owns (c : Thread nD τ) (ms6 t) fullShare ((dats W c).after 6 t))

theorem coords_val : ∀ t : Fin grid4.N, (grid4.coords t 0).val = t.val := by decide +kernel

/-- The body at any point. -/
theorem sound_body (c : Dev nD) (t : Fin cfg4.N) :
    bodyPre W c t ⊢ wp frame (wpE (defs₀ (F := F)) Variants.none c none) Set.univ (bodyAt4 t) (fun _ => bodyPost W c t) := by
  unfold bodyPre bodyPost bodyAt4
  simp only [before0, before1, before2, before3]
  rw [show (dats W c).Φ t.succ = Φ W c (t.val + 1) from rfl, show (dats W c).Φ t.castSucc = Φ W c t.val from rfl,
    show (dats W c).owesAt () t.succ = (dats W c).owesAt () t.castSucc from rfl,
    after0, after1, after2, after3, after4, after5, after6]
  unfold Φ
  iintro ⟨⟨HX, HR, Hg⟩, Ho, ⟨%d0, H0⟩, ⟨%d1, H1⟩, ⟨%d2, H2⟩, ⟨%d3, H3⟩, ⟨%d4, H4⟩, ⟨%d5, H5⟩, ⟨%d6, H6⟩⟩
  iapply (body_run c (grid4.coords t) ⟨t.val, lt_of_lt_of_eq t.isLt N_4⟩ (coords_val t) _ _ _ _ _ _ _ _ _ _ _ _ _ _ _ _ _ _ (iblk W c 0 t) (iblk W c 1 t) (iblk W c 2 t) (iblk W c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HX]; · iexact HX
  isplitl [HR]; · iexact HR
  iintro ⟨H0, H1, H2, H3, H4, H5, H6, HX, HR⟩
  isplitl [HX HR Hg]
  · isplitl [HX]
    · iexists _; isplitl [HX]; · iexact HX
      ipureintro; exact fun _ => congrArg k4_pay4 (iblk1_const W c t _)
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t` is the body there. -/
theorem defs₀_row (t : Fin cfg4.N) :
    defs₀ (F := F) .tc cfg4.body (cfg4.bodyArgs t (cfg4.slots t)) = bodyAt4 t := by
  unfold defs₀; rw [Defs.onTc_tc]

/-- The body obligation, at every point. -/
theorem body_obligation (c : Dev nD) : BodyObligation (dats (F := F) W c) (defs₀ (F := F)) Variants.none () Set.univ := fun t => by
  rw [bigSep_W4, bigSep_W4, defs₀_row]
  exact triple_restated (sound_body W c t) rfl .rfl fun _ => .rfl

end Cert.KernelIdeal.Wgrad

end
-- ==== Proof.KernelIdealRun.lean ====
/-
  The whole kernel's run: the host's operations, then the five calls one after another.

  Each call enters with the buffers as the items before it left them, and leaves its results' buffers at what its grid
  points flush there. From these, every execution terminates with every buffer at the last valuation `V6`.
-/
module

public import proofs.«01_k».proof.Proof.KernelIdealDyo
public import proofs.«01_k».proof.Proof.KernelIdealWq
public import proofs.«01_k».proof.Proof.KernelIdealXq
public import proofs.«01_k».proof.Proof.KernelIdealDgrad
public import proofs.«01_k».proof.Proof.KernelIdealWgrad
public import proofs.«01_k».proof.Proof.Gen.KernelIdeal.Regions
public import Idealize.ShloMosaic.Lib.Pipeline.RegionArraysS

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What each call leaves -/

/-- What call 0 leaves in a buffer. -/
def o0 (r : Ref sig .tc) (c : Dev nD) : Buf (Elt F) ((c : Thread nD τ).loc r) :=
  Pipeline.afterRegion (Dyo.dats (V1 m) c) (V1 m c) (Proc.devRef .tc r)
/-- The buffers after call 0. -/
def W2 (c : Dev nD) : Valuation τ sig (Elt F) :=
  Function.update (Function.update (V1 m c) main_v30_0 (o0 m main_v30_0 c)) main_v30_1 (o0 m main_v30_1 c)
/-- What call 1 leaves in a buffer. -/
def o1 (r : Ref sig .tc) (c : Dev nD) : Buf (Elt F) ((c : Thread nD τ).loc r) :=
  Pipeline.afterRegion (Wq.dats (W2 m) c) (W2 m c) (Proc.devRef .tc r)
/-- The buffers after call 1. -/
def W3 (c : Dev nD) : Valuation τ sig (Elt F) :=
  Function.update (Function.update (W2 m c) main_v31_0 (o1 m main_v31_0 c)) main_v31_1 (o1 m main_v31_1 c)
/-- What call 2 leaves in a buffer. -/
def o2 (r : Ref sig .tc) (c : Dev nD) : Buf (Elt F) ((c : Thread nD τ).loc r) :=
  Pipeline.afterRegion (Xq.dats (W3 m) c) (W3 m c) (Proc.devRef .tc r)
/-- The buffers after call 2. -/
def W4 (c : Dev nD) : Valuation τ sig (Elt F) :=
  Function.update (Function.update (W3 m c) main_v32_0 (o2 m main_v32_0 c)) main_v32_1 (o2 m main_v32_1 c)
/-- What call 3 leaves in a buffer. -/
def o3 (r : Ref sig .tc) (c : Dev nD) : Buf (Elt F) ((c : Thread nD τ).loc r) :=
  Pipeline.afterRegion (Dgrad.dats (W4 m) c) (W4 m c) (Proc.devRef .tc r)
/-- The buffers after call 3. -/
def W5 (c : Dev nD) : Valuation τ sig (Elt F) :=
  Function.update (W4 m c) main_v33 (o3 m main_v33 c)
/-- What call 4 leaves in a buffer. -/
def o4 (r : Ref sig .tc) (c : Dev nD) : Buf (Elt F) ((c : Thread nD τ).loc r) :=
  Pipeline.afterRegion (Wgrad.dats (W5 m) c) (W5 m c) (Proc.devRef .tc r)
/-- The buffers after call 4. -/
def W6 (c : Dev nD) : Valuation τ sig (Elt F) :=
  Function.update (Function.update (Function.update (W5 m c) main_v34_0 (o4 m main_v34_0 c)) main_v34_1 (o4 m main_v34_1 c)) main_v34_2 (o4 m main_v34_2 c)

/-- What the calls leave, by item. -/
def outs : Outs (F := F) := fun J r c => match J with
  | 2 => o0 m r c
  | 3 => o1 m r c
  | 4 => o2 m r c
  | 5 => o3 m r c
  | _ => o4 m r c

/-- Every call's proof data. -/
def pdats : (p : Fin 5) → (c : Dev nD) → Dat τ (Elt F) Unit ℕ (UR sig nD τ) ℕ (cfgs p) c
  | ⟨0, _⟩ => fun c => Dyo.dats (V1 m) c
  | ⟨1, _⟩ => fun c => Wq.dats (W2 m) c
  | ⟨2, _⟩ => fun c => Xq.dats (W3 m) c
  | ⟨3, _⟩ => fun c => Dgrad.dats (W4 m) c
  | ⟨4, _⟩ => fun c => Wgrad.dats (W5 m) c

theorem V2_eq (c : Dev nD) : V2 m (outs m) c = W2 m c := rfl
theorem V3_eq (c : Dev nD) : V3 m (outs m) c = W3 m c := rfl
theorem V4_eq (c : Dev nD) : V4 m (outs m) c = W4 m c := rfl
theorem V5_eq (c : Dev nD) : V5 m (outs m) c = W5 m c := rfl
theorem V6_eq (c : Dev nD) : V6 m (outs m) c = W6 m c := rfl

/-- The buffers after call 0 are those its pipeline leaves. -/
theorem after_0 (c : Dev nD) (r : Ref sig .tc) : Pipeline.afterRegion (Dyo.dats (V1 m) c) (V1 m c) (Proc.devRef .tc r) = W2 m c r := by
  unfold W2
  by_cases h0 : r = main_v30_1
  · subst h0; rw [Function.update_self]; rfl
  rw [Function.update_of_ne (StableHlo.devRef_ne_of_ne h0)]
  by_cases h1 : r = main_v30_0
  · subst h1; rw [Function.update_self]; rfl
  rw [Function.update_of_ne (StableHlo.devRef_ne_of_ne h1)]
  refine Pipeline.afterRegion_keeps (Dyo.dats (V1 m) c) (V1 m c) launch0.win.arr_inj (Dyo.A_eq (V1 m) c) r fun w hw => ?_
  match w with
  | ⟨0, _⟩ => rfl
  | ⟨1, _⟩ => rfl
  | ⟨2, _⟩ => exact absurd hw.symm h1
  | ⟨3, _⟩ => exact absurd hw.symm h0

/-- The buffers after call 1 are those its pipeline leaves. -/
theorem after_1 (c : Dev nD) (r : Ref sig .tc) : Pipeline.afterRegion (Wq.dats (W2 m) c) (W2 m c) (Proc.devRef .tc r) = W3 m c r := by
  unfold W3
  by_cases h0 : r = main_v31_1
  · subst h0; rw [Function.update_self]; rfl
  rw [Function.update_of_ne (StableHlo.devRef_ne_of_ne h0)]
  by_cases h1 : r = main_v31_0
  · subst h1; rw [Function.update_self]; rfl
  rw [Function.update_of_ne (StableHlo.devRef_ne_of_ne h1)]
  refine Pipeline.afterRegion_keeps (Wq.dats (W2 m) c) (W2 m c) launch1.win.arr_inj (Wq.A_eq (W2 m) c) r fun w hw => ?_
  match w with
  | ⟨0, _⟩ => rfl
  | ⟨1, _⟩ => rfl
  | ⟨2, _⟩ => exact absurd hw.symm h1
  | ⟨3, _⟩ => exact absurd hw.symm h0

/-- The buffers after call 2 are those its pipeline leaves. -/
theorem after_2 (c : Dev nD) (r : Ref sig .tc) : Pipeline.afterRegion (Xq.dats (W3 m) c) (W3 m c) (Proc.devRef .tc r) = W4 m c r := by
  unfold W4
  by_cases h0 : r = main_v32_1
  · subst h0; rw [Function.update_self]; rfl
  rw [Function.update_of_ne (StableHlo.devRef_ne_of_ne h0)]
  by_cases h1 : r = main_v32_0
  · subst h1; rw [Function.update_self]; rfl
  rw [Function.update_of_ne (StableHlo.devRef_ne_of_ne h1)]
  refine Pipeline.afterRegion_keeps (Xq.dats (W3 m) c) (W3 m c) launch2.win.arr_inj (Xq.A_eq (W3 m) c) r fun w hw => ?_
  match w with
  | ⟨0, _⟩ => rfl
  | ⟨1, _⟩ => rfl
  | ⟨2, _⟩ => exact absurd hw.symm h1
  | ⟨3, _⟩ => exact absurd hw.symm h0

/-- The buffers after call 3 are those its pipeline leaves. -/
theorem after_3 (c : Dev nD) (r : Ref sig .tc) : Pipeline.afterRegion (Dgrad.dats (W4 m) c) (W4 m c) (Proc.devRef .tc r) = W5 m c r := by
  unfold W5
  by_cases h0 : r = main_v33
  · subst h0; rw [Function.update_self]; rfl
  rw [Function.update_of_ne (StableHlo.devRef_ne_of_ne h0)]
  refine Pipeline.afterRegion_keeps (Dgrad.dats (W4 m) c) (W4 m c) launch3.win.arr_inj (Dgrad.A_eq (W4 m) c) r fun w hw => ?_
  match w with
  | ⟨0, _⟩ => rfl
  | ⟨1, _⟩ => rfl
  | ⟨2, _⟩ => rfl
  | ⟨3, _⟩ => rfl
  | ⟨4, _⟩ => exact absurd hw.symm h0

/-- The buffers after call 4 are those its pipeline leaves. -/
theorem after_4 (c : Dev nD) (r : Ref sig .tc) : Pipeline.afterRegion (Wgrad.dats (W5 m) c) (W5 m c) (Proc.devRef .tc r) = W6 m c r := by
  unfold W6
  by_cases h0 : r = main_v34_2
  · subst h0; rw [Function.update_self]; rfl
  rw [Function.update_of_ne (StableHlo.devRef_ne_of_ne h0)]
  by_cases h1 : r = main_v34_1
  · subst h1; rw [Function.update_self]; rfl
  rw [Function.update_of_ne (StableHlo.devRef_ne_of_ne h1)]
  by_cases h2 : r = main_v34_0
  · subst h2; rw [Function.update_self]; rfl
  rw [Function.update_of_ne (StableHlo.devRef_ne_of_ne h2)]
  refine Pipeline.afterRegion_keeps (Wgrad.dats (W5 m) c) (W5 m c) launch4.win.arr_inj (Wgrad.A_eq (W5 m) c) r fun w hw => ?_
  match w with
  | ⟨0, _⟩ => rfl
  | ⟨1, _⟩ => rfl
  | ⟨2, _⟩ => rfl
  | ⟨3, _⟩ => rfl
  | ⟨4, _⟩ => exact absurd hw.symm h2
  | ⟨5, _⟩ => exact absurd hw.symm h1
  | ⟨6, _⟩ => exact absurd hw.symm h0

/-! ## The calls as segments -/

/-- Only the TensorCores' semaphores carry a level, and all of them the same. -/
abbrev L : GSem nD τ sig → Finset Unit := fun g => if g.1.2 = .tc then {()} else ∅
abbrev lv : GSem nD τ sig → Unit → ℕ := fun _ _ => 0

theorem mem_L (c : Dev nD) (x : SemLoc sig) : () ∈ L ((c : Thread nD τ), x) := by
  show () ∈ (if _ then _ else _)
  rw [if_pos rfl]; exact Finset.mem_singleton_self _

/-- What rides beside the buffers: the core's dues, which are none. -/
abbrev Ed (c : Dev nD) : sProp 𝕄 := iprop(∃ Wd, owes (c : Thread nD τ) (0 : CellTallies nD τ sig Unit) Wd)
abbrev E (_ : Fin 6) (c : Dev nD) : sProp 𝕄 := Ed c

theorem in_0 (c : Dev nD) : iprop(Pipeline.scopedRest spec0 c ∗ emp) ⊢ (Dyo.dats (V1 m) c).Φ 0 := by
  show _ ⊢ Dyo.Φ c
  iintro ⟨H, -⟩
  iapply (Entails.of_eq (Dyo.Φ_eq c))
  iexact H
theorem out_0 (c : Dev nD) : (Dyo.dats (V1 m) c).Φ (Fin.last cfg0.N) ⊢ iprop(Pipeline.scopedRest spec0 c ∗ emp) := by
  show Dyo.Φ c ⊢ _
  iintro H
  isplitl [H]
  · iapply (Entails.of_eq (Dyo.Φ_eq c).symm); iexact H
  iempintro
theorem held_0 (c : Dev nD) : ∀ b ∈ Pipeline.ucRefs τ sig, Pipeline.afterRegion (Dyo.dats (V1 m) c) (V1 m c) b = W2 m c b := by
  intro b hb
  obtain ⟨r, -, rfl⟩ := Finset.mem_map.mp (Finset.mem_filter.mp hb).1
  exact after_0 m c r

set_option backward.isDefEq.respectTransparency.types false in
/-- Call 0. -/
def R0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun _ => iprop(emp)) (fun _ => iprop(emp)) launch0.toP rfl (fun c => (Dyo.body_obligation (V1 m) c).loose)
    (fun _ _ => rfl) (fun _ => rfl) (fun c => (Dyo.dats (V1 m) c).share_full fun _ => rfl)
    (fun c => in_0 m c) (fun c => out_0 m c)
    (fun _ => 0) ⟨fun _ _ _ => mem_L _ _, fun _ _ _ => le_refl _, fun _ _ _ h => absurd h (lt_irrefl _)⟩
    (fun _ => iprop(emp)) (V1 m) (fun c w => Dyo.A_eq (V1 m) c w)

theorem sub_0 : Pipeline.arrRefs (pcfgs (F := F) 0).spec ⊆ Pipeline.ucRefs τ sig := Pipeline.arrRefs_sub_ucRefs spec0 (by decide)

/-- It enters from the buffers as they are before it, -/
theorem pre_0 (c : Dev nD) : iprop(StableHlo.held (c : Thread nD τ) (Pipeline.ucRefs τ sig) (V1 m c) ∗ Ed c) ⊢ (R0 m).pre c := by
  unfold R0
  refine BIBase.Entails.trans ?_ (RegionSeg.ofHeldIn_pre (sub_0 (F := F)) c)
  iintro ⟨H, HO⟩
  isplitl [H]; · iexact H
  isplitl [HO]; · iexact HO
  isplitr <;> iempintro

/-- and leaves them as they are after it. -/
theorem post_0 (c : Dev nD) : (R0 m).post c ⊢ iprop(StableHlo.held (c : Thread nD τ) (Pipeline.ucRefs τ sig) (W2 m c) ∗ Ed c) := by
  unfold R0
  refine BIBase.Entails.trans (RegionSeg.ofHeldIn_post (sub_0 (F := F)) c) ?_
  rw [StableHlo.held_congr (c : Thread nD τ) (S := Pipeline.ucRefs τ sig) (V := Pipeline.afterRegion (pdats m 0 c) (V1 m c)) (V' := W2 m c) (held_0 m c)]
  iintro ⟨H, HO, -⟩
  isplitl [H]; · iexact H
  iexact HO

theorem in_1 (c : Dev nD) : iprop(Pipeline.scopedRest spec1 c ∗ emp) ⊢ (Wq.dats (W2 m) c).Φ 0 := by
  show _ ⊢ Wq.Φ c
  iintro ⟨H, -⟩
  iapply (Entails.of_eq (Wq.Φ_eq c))
  iexact H
theorem out_1 (c : Dev nD) : (Wq.dats (W2 m) c).Φ (Fin.last cfg1.N) ⊢ iprop(Pipeline.scopedRest spec1 c ∗ emp) := by
  show Wq.Φ c ⊢ _
  iintro H
  isplitl [H]
  · iapply (Entails.of_eq (Wq.Φ_eq c).symm); iexact H
  iempintro
theorem held_1 (c : Dev nD) : ∀ b ∈ Pipeline.ucRefs τ sig, Pipeline.afterRegion (Wq.dats (W2 m) c) (W2 m c) b = W3 m c b := by
  intro b hb
  obtain ⟨r, -, rfl⟩ := Finset.mem_map.mp (Finset.mem_filter.mp hb).1
  exact after_1 m c r

set_option backward.isDefEq.respectTransparency.types false in
/-- Call 1. -/
def R1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun _ => iprop(emp)) (fun _ => iprop(emp)) launch1.toP rfl (fun c => (Wq.body_obligation (W2 m) c).loose)
    (fun _ _ => rfl) (fun _ => rfl) (fun c => (Wq.dats (W2 m) c).share_full fun _ => rfl)
    (fun c => in_1 m c) (fun c => out_1 m c)
    (fun _ => 0) ⟨fun _ _ _ => mem_L _ _, fun _ _ _ => le_refl _, fun _ _ _ h => absurd h (lt_irrefl _)⟩
    (fun _ => iprop(emp)) (W2 m) (fun c w => Wq.A_eq (W2 m) c w)

theorem sub_1 : Pipeline.arrRefs (pcfgs (F := F) 1).spec ⊆ Pipeline.ucRefs τ sig := Pipeline.arrRefs_sub_ucRefs spec1 (by decide)

/-- It enters from the buffers as they are before it, -/
theorem pre_1 (c : Dev nD) : iprop(StableHlo.held (c : Thread nD τ) (Pipeline.ucRefs τ sig) (W2 m c) ∗ Ed c) ⊢ (R1 m).pre c := by
  unfold R1
  refine BIBase.Entails.trans ?_ (RegionSeg.ofHeldIn_pre (sub_1 (F := F)) c)
  iintro ⟨H, HO⟩
  isplitl [H]; · iexact H
  isplitl [HO]; · iexact HO
  isplitr <;> iempintro

/-- and leaves them as they are after it. -/
theorem post_1 (c : Dev nD) : (R1 m).post c ⊢ iprop(StableHlo.held (c : Thread nD τ) (Pipeline.ucRefs τ sig) (W3 m c) ∗ Ed c) := by
  unfold R1
  refine BIBase.Entails.trans (RegionSeg.ofHeldIn_post (sub_1 (F := F)) c) ?_
  rw [StableHlo.held_congr (c : Thread nD τ) (S := Pipeline.ucRefs τ sig) (V := Pipeline.afterRegion (pdats m 1 c) (W2 m c)) (V' := W3 m c) (held_1 m c)]
  iintro ⟨H, HO, -⟩
  isplitl [H]; · iexact H
  iexact HO

theorem in_2 (c : Dev nD) : iprop(Pipeline.scopedRest spec2 c ∗ emp) ⊢ (Xq.dats (W3 m) c).Φ 0 := by
  show _ ⊢ Xq.Φ c
  iintro ⟨H, -⟩
  iapply (Entails.of_eq (Xq.Φ_eq c))
  iexact H
theorem out_2 (c : Dev nD) : (Xq.dats (W3 m) c).Φ (Fin.last cfg2.N) ⊢ iprop(Pipeline.scopedRest spec2 c ∗ emp) := by
  show Xq.Φ c ⊢ _
  iintro H
  isplitl [H]
  · iapply (Entails.of_eq (Xq.Φ_eq c).symm); iexact H
  iempintro
theorem held_2 (c : Dev nD) : ∀ b ∈ Pipeline.ucRefs τ sig, Pipeline.afterRegion (Xq.dats (W3 m) c) (W3 m c) b = W4 m c b := by
  intro b hb
  obtain ⟨r, -, rfl⟩ := Finset.mem_map.mp (Finset.mem_filter.mp hb).1
  exact after_2 m c r

set_option backward.isDefEq.respectTransparency.types false in
/-- Call 2. -/
def R2 : RegionSeg (pcfgs (F := F)) adm (pdats m) () defs₀ Variants.none L lv 2 :=
  RegionSeg.ofHeldIn (pcfgs (F := F)) adm (pdats m) () defs₀ Variants.none L lv 2 (fun _ => 0) (Pipeline.ucRefs τ sig)
    (fun _ => iprop(emp)) (fun _ => iprop(emp)) launch2.toP rfl (fun c => (Xq.body_obligation (W3 m) c).loose)
    (fun _ _ => rfl) (fun _ => rfl) (fun c => (Xq.dats (W3 m) c).share_full fun _ => rfl)
    (fun c => in_2 m c) (fun c => out_2 m c)
    (fun _ => 0) ⟨fun _ _ _ => mem_L _ _, fun _ _ _ => le_refl _, fun _ _ _ h => absurd h (lt_irrefl _)⟩
    (fun _ => iprop(emp)) (W3 m) (fun c w => Xq.A_eq (W3 m) c w)

theorem sub_2 : Pipeline.arrRefs (pcfgs (F := F) 2).spec ⊆ Pipeline.ucRefs τ sig := Pipeline.arrRefs_sub_ucRefs spec2 (by decide)

/-- It enters from the buffers as they are before it, -/
theorem pre_2 (c : Dev nD) : iprop(StableHlo.held (c : Thread nD τ) (Pipeline.ucRefs τ sig) (W3 m c) ∗ Ed c) ⊢ (R2 m).pre c := by
  unfold R2
  refine BIBase.Entails.trans ?_ (RegionSeg.ofHeldIn_pre (sub_2 (F := F)) c)
  iintro ⟨H, HO⟩
  isplitl [H]; · iexact H
  isplitl [HO]; · iexact HO
  isplitr <;> iempintro

/-- and leaves them as they are after it. -/
theorem post_2 (c : Dev nD) : (R2 m).post c ⊢ iprop(StableHlo.held (c : Thread nD τ) (Pipeline.ucRefs τ sig) (W4 m c) ∗ Ed c) := by
  unfold R2
  refine BIBase.Entails.trans (RegionSeg.ofHeldIn_post (sub_2 (F := F)) c) ?_
  rw [StableHlo.held_congr (c : Thread nD τ) (S := Pipeline.ucRefs τ sig) (V := Pipeline.afterRegion (pdats m 2 c) (W3 m c)) (V' := W4 m c) (held_2 m c)]
  iintro ⟨H, HO, -⟩
  isplitl [H]; · iexact H
  iexact HO

theorem in_3 (c : Dev nD) : iprop(Pipeline.scopedRest spec3 c ∗ emp) ⊢ (Dgrad.dats (W4 m) c).Φ 0 := by
  show _ ⊢ Dgrad.Φ c
  iintro ⟨H, -⟩
  iapply (Entails.of_eq (Dgrad.Φ_eq c))
  iexact H
theorem out_3 (c : Dev nD) : (Dgrad.dats (W4 m) c).Φ (Fin.last cfg3.N) ⊢ iprop(Pipeline.scopedRest spec3 c ∗ emp) := by
  show Dgrad.Φ c ⊢ _
  iintro H
  isplitl [H]
  · iapply (Entails.of_eq (Dgrad.Φ_eq c).symm); iexact H
  iempintro
theorem held_3 (c : Dev nD) : ∀ b ∈ Pipeline.ucRefs τ sig, Pipeline.afterRegion (Dgrad.dats (W4 m) c) (W4 m c) b = W5 m c b := by
  intro b hb
  obtain ⟨r, -, rfl⟩ := Finset.mem_map.mp (Finset.mem_filter.mp hb).1
  exact after_3 m c r

set_option backward.isDefEq.respectTransparency.types false in
/-- Call 3. -/
def R3 : RegionSeg (pcfgs (F := F)) adm (pdats m) () defs₀ Variants.none L lv 3 :=
  RegionSeg.ofHeldIn (pcfgs (F := F)) adm (pdats m) () defs₀ Variants.none L lv 3 (fun _ => 0) (Pipeline.ucRefs τ sig)
    (fun _ => iprop(emp)) (fun _ => iprop(emp)) launch3.toP rfl (fun c => (Dgrad.body_obligation (W4 m) c).loose)
    (fun _ _ => rfl) (fun _ => rfl) (fun c => (Dgrad.dats (W4 m) c).share_full fun _ => rfl)
    (fun c => in_3 m c) (fun c => out_3 m c)
    (fun _ => 0) ⟨fun _ _ _ => mem_L _ _, fun _ _ _ => le_refl _, fun _ _ _ h => absurd h (lt_irrefl _)⟩
    (fun _ => iprop(emp)) (W4 m) (fun c w => Dgrad.A_eq (W4 m) c w)

theorem sub_3 : Pipeline.arrRefs (pcfgs (F := F) 3).spec ⊆ Pipeline.ucRefs τ sig := Pipeline.arrRefs_sub_ucRefs spec3 (by decide)

/-- It enters from the buffers as they are before it, -/
theorem pre_3 (c : Dev nD) : iprop(StableHlo.held (c : Thread nD τ) (Pipeline.ucRefs τ sig) (W4 m c) ∗ Ed c) ⊢ (R3 m).pre c := by
  unfold R3
  refine BIBase.Entails.trans ?_ (RegionSeg.ofHeldIn_pre (sub_3 (F := F)) c)
  iintro ⟨H, HO⟩
  isplitl [H]; · iexact H
  isplitl [HO]; · iexact HO
  isplitr <;> iempintro

/-- and leaves them as they are after it. -/
theorem post_3 (c : Dev nD) : (R3 m).post c ⊢ iprop(StableHlo.held (c : Thread nD τ) (Pipeline.ucRefs τ sig) (W5 m c) ∗ Ed c) := by
  unfold R3
  refine BIBase.Entails.trans (RegionSeg.ofHeldIn_post (sub_3 (F := F)) c) ?_
  rw [StableHlo.held_congr (c : Thread nD τ) (S := Pipeline.ucRefs τ sig) (V := Pipeline.afterRegion (pdats m 3 c) (W4 m c)) (V' := W5 m c) (held_3 m c)]
  iintro ⟨H, HO, -⟩
  isplitl [H]; · iexact H
  iexact HO

theorem in_4 (c : Dev nD) : iprop(Pipeline.scopedRest spec4 c ∗ emp) ⊢ (Wgrad.dats (W5 m) c).Φ 0 := by
  show _ ⊢ Wgrad.Φ (W5 m) c 0
  iintro ⟨H, -⟩
  iapply (Wgrad.Φ_in (W5 m) c)
  iexact H
theorem out_4 (c : Dev nD) : (Wgrad.dats (W5 m) c).Φ (Fin.last cfg4.N) ⊢ iprop(Pipeline.scopedRest spec4 c ∗ emp) := by
  show Wgrad.Φ (W5 m) c cfg4.N ⊢ _
  iintro H
  isplitl [H]
  · iapply (Wgrad.Φ_out (W5 m) c _); iexact H
  iempintro
theorem held_4 (c : Dev nD) : ∀ b ∈ Pipeline.ucRefs τ sig, Pipeline.afterRegion (Wgrad.dats (W5 m) c) (W5 m c) b = W6 m c b := by
  intro b hb
  obtain ⟨r, -, rfl⟩ := Finset.mem_map.mp (Finset.mem_filter.mp hb).1
  exact after_4 m c r

set_option backward.isDefEq.respectTransparency.types false in
/-- Call 4. -/
def R4 : RegionSeg (pcfgs (F := F)) adm (pdats m) () defs₀ Variants.none L lv 4 :=
  RegionSeg.ofHeldIn (pcfgs (F := F)) adm (pdats m) () defs₀ Variants.none L lv 4 (fun _ => 0) (Pipeline.ucRefs τ sig)
    (fun _ => iprop(emp)) (fun _ => iprop(emp)) launch4.toP rfl (fun c => (Wgrad.body_obligation (W5 m) c).loose)
    (fun _ _ => rfl) (fun _ => rfl) (fun c => (Wgrad.dats (W5 m) c).share_full fun _ => rfl)
    (fun c => in_4 m c) (fun c => out_4 m c)
    (fun _ => 0) ⟨fun _ _ _ => mem_L _ _, fun _ _ _ => le_refl _, fun _ _ _ h => absurd h (lt_irrefl _)⟩
    (fun _ => iprop(emp)) (W5 m) (fun c w => Wgrad.A_eq (W5 m) c w)

theorem sub_4 : Pipeline.arrRefs (pcfgs (F := F) 4).spec ⊆ Pipeline.ucRefs τ sig := Pipeline.arrRefs_sub_ucRefs spec4 (by decide)

/-- It enters from the buffers as they are before it, -/
theorem pre_4 (c : Dev nD) : iprop(StableHlo.held (c : Thread nD τ) (Pipeline.ucRefs τ sig) (W5 m c) ∗ Ed c) ⊢ (R4 m).pre c := by
  unfold R4
  refine BIBase.Entails.trans ?_ (RegionSeg.ofHeldIn_pre (sub_4 (F := F)) c)
  iintro ⟨H, HO⟩
  isplitl [H]; · iexact H
  isplitl [HO]; · iexact HO
  isplitr <;> iempintro

/-- and leaves them as they are after it. -/
theorem post_4 (c : Dev nD) : (R4 m).post c ⊢ iprop(StableHlo.held (c : Thread nD τ) (Pipeline.ucRefs τ sig) (W6 m c) ∗ Ed c) := by
  unfold R4
  refine BIBase.Entails.trans (RegionSeg.ofHeldIn_post (sub_4 (F := F)) c) ?_
  rw [StableHlo.held_congr (c : Thread nD τ) (S := Pipeline.ucRefs τ sig) (V := Pipeline.afterRegion (pdats m 4 c) (W5 m c)) (V' := W6 m c) (held_4 m c)]
  iintro ⟨H, HO, -⟩
  isplitl [H]; · iexact H
  iexact HO

/-! ## The run -/

set_option backward.isDefEq.respectTransparency.types false in
/-- Every execution from memory `m` with zero counters terminates, with every buffer at the last valuation and every
    counter at zero. -/
theorem run (ρ : Dev nD → PrngReg) : θ_run defs (onTc (τ := τ) (main (F := F))) ⟨m, fun _ => 0, ρ⟩
    (fun r => (∀ c : Dev nD, ∀ b ∈ Pipeline.ucRefs τ sig, r.2.mem (c, b) = V6 m (outs m) c b) ∧ r.2.sem = fun _ => 0) := by
  refine Pipeline.θ_run_regions_kit_dev_sems (pcfgs (F := F)) adm (pdats m) () cellOf_inj emb₁ defs₀ Variants.none L lv m ρ main
    (segs m Variants.none L lv E () (pdats m) (R0 m) (R1 m) (R2 m) (R3 m) (R4 m))
    (fun c Q => by
      rewrite [main_chain c, Seg.run_eq_chain,
        show (segs m Variants.none L lv E () (pdats m) (R0 m) (R1 m) (R2 m) (R3 m) (R4 m) c).map Seg.prog = [
          StableHlo.seq hostOps0,
          Prog.lift (.customCall (Pipeline.entry 0) ()),
          Prog.lift (.customCall (Pipeline.entry 1) ()),
          Prog.lift (.customCall (Pipeline.entry 2) ()),
          Prog.lift (.customCall (Pipeline.entry 3) ()),
          Prog.lift (.customCall (Pipeline.entry 4) ()) ] from rfl]
      dsimp (config := { failIfUnchanged := false }) only
      exact .rfl)
    (fun c => by simp only [segs, Seg.pipes_host, Seg.pipes_region, Seg.pipes_nil]; decide) (O₀ := 0) (hL := fun g hg => if_neg hg)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V6 m (outs m) c))
    (hch := fun c => ⟨.rfl, pre_0 m c, (post_0 m c).trans (pre_1 m c), (post_1 m c).trans (pre_2 m c), (post_2 m c).trans (pre_3 m c), (post_3 m c).trans (pre_4 m c), post_4 m c⟩)
    (hinit := ?_) (QY := fun c s => ∀ b ∈ Pipeline.ucRefs τ sig, s.mem (c, b) = V6 m (outs m) c b)
    (hfin := fun c s' => ?_) (hQ := fun _ h hz => ⟨h, funext fun g => hz g (.inr (regions_no_unscoped g.2))⟩)
  · refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V6 m (outs m) c) s') $$ [Hh HSI]
    · isplitl [Hh] <;> iassumption
    icases Hr with ⟨%h, HSI⟩
    imodintro
    isplitr
    · ipureintro; exact h
    · iexact HSI

end Cert.KernelIdeal.Run

end
-- ==== Proof.Spec.lean ====
/-
  The mathematics both programs compute, without either program: blocks of rows or columns turned by a sign matrix,
  the largest magnitude of a row or column, the scale, the codes, and the two products. An array is a function of two
  natural numbers here (`mat`, zero outside its bounds), so a block's element and an array's element are named alike.
-/
module

public import Idealize.ShloMosaic.PureOps.Ideal
public import Idealize.ShloMosaic.PureOps.Ideal.Laws
public import Idealize.ShloMosaic.Lib.Pointwise

@[expose] public section

noncomputable section

namespace Cert.Spec

open Idealize.ShloMosaic

/-! ## Arrays as functions of two natural numbers -/

/-- An array, read at two natural numbers; `d` outside. -/
def rd {α : Type} (d : α) {m n : ℕ} (a : Fin m → Fin n → α) : ℕ → ℕ → α := fun p q =>
  if h : p < m ∧ q < n then a ⟨p, h.1⟩ ⟨q, h.2⟩ else d

theorem rd_eq {α : Type} (d : α) {m n : ℕ} (a : Fin m → Fin n → α) {p q : ℕ} (hp : p < m) (hq : q < n) : rd d a p q = a ⟨p, hp⟩ ⟨q, hq⟩ := by
  unfold rd; rw [dif_pos ⟨hp, hq⟩]

/-- A rank-2 array of extended reals. -/
def mat {m n : ℕ} (a : (⟨2, ![m, n]⟩ : Shape).Idx → EReal) : ℕ → ℕ → EReal := rd 0 fun p q => a (Idealize.ShloMosaic.ix2 p q)

theorem mat_eq {m n : ℕ} (a : (⟨2, ![m, n]⟩ : Shape).Idx → EReal) {p q : ℕ} (hp : p < m) (hq : q < n) :
    mat a p q = a (Idealize.ShloMosaic.ix2 (⟨p, hp⟩ : Fin m) (⟨q, hq⟩ : Fin n)) := rd_eq _ _ hp hq

theorem mat_fin {m n : ℕ} (a : (⟨2, ![m, n]⟩ : Shape).Idx → EReal) (p : Fin m) (q : Fin n) :
    mat a p q = a (Idealize.ShloMosaic.ix2 p q) := mat_eq a p.isLt q.isLt

/-- A rank-2 array of 8-bit codes. -/
def cmat {m n : ℕ} (a : (⟨2, ![m, n]⟩ : Shape).Idx → BitVec 8) : ℕ → ℕ → BitVec 8 := rd 0 fun p q => a (Idealize.ShloMosaic.ix2 p q)

theorem cmat_eq {m n : ℕ} (a : (⟨2, ![m, n]⟩ : Shape).Idx → BitVec 8) {p q : ℕ} (hp : p < m) (hq : q < n) :
    cmat a p q = a (Idealize.ShloMosaic.ix2 (⟨p, hp⟩ : Fin m) (⟨q, hq⟩ : Fin n)) := rd_eq _ _ hp hq

/-- A rank-3 array of 3 batches of 512 rows, its rows numbered through. -/
def flat {n : ℕ} (a : (⟨3, ![3, 512, n]⟩ : Shape).Idx → EReal) : ℕ → ℕ → EReal := rd 0 fun (p : Fin 1536) (q : Fin n) =>
  a (Idealize.ShloMosaic.ix3 (⟨p.val / 512, by omega⟩ : Fin 3) (⟨p.val % 512, by omega⟩ : Fin 512) q)

theorem flat_eq {n : ℕ} (a : (⟨3, ![3, 512, n]⟩ : Shape).Idx → EReal) {p q : ℕ} (hp : p < 1536) (hq : q < n) :
    flat a p q = a (Idealize.ShloMosaic.ix3 (⟨p / 512, by omega⟩ : Fin 3) (⟨p % 512, by omega⟩ : Fin 512) (⟨q, hq⟩ : Fin n)) := rd_eq _ _ hp hq

/-- Row `512 b + r` is row `r` of batch `b`. -/
theorem flat_row {n : ℕ} (a : (⟨3, ![3, 512, n]⟩ : Shape).Idx → EReal) (b : Fin 3) (r : Fin 512) (q : Fin n) :
    flat a (512 * b.val + r.val) q = a (Idealize.ShloMosaic.ix3 b r q) := by
  have e1 : (512 * b.val + r.val) / 512 = b.val := by omega
  have e2 : (512 * b.val + r.val) % 512 = r.val := by omega
  rw [flat_eq a (by omega) q.isLt]
  congr 2 <;> exact Fin.ext (by assumption)

/-- Two arrays that agree inside their bounds. -/
theorem rd_ext {α : Type} {d : α} {m n : ℕ} {a b : Fin m → Fin n → α} (h : ∀ p q, a p q = b p q) : rd d a = rd d b := by
  have : a = b := funext fun p => funext fun q => h p q
  rw [this]

/-! ## Turning by a matrix -/

/-- Entry `(a, b)` of the sign matrix: the parity of the common bits of `a` and `b`. -/
def sgn (a b : ℕ) : EReal :=
  FloatOps.sitofp (F := Ideal) .bf16 (IntOp.subi 1#32 (IntOp.muli 2#32 (IntOp.andi
    (IntOp.ctpop (IntOp.andi (BitVec.ofNat 32 a) (BitVec.ofNat 32 b))) 1#32)))

theorem sgn_comm (a b : ℕ) : sgn a b = sgn b a := by
  have h : IntOp.andi (BitVec.ofNat 32 a) (BitVec.ofNat 32 b) = IntOp.andi (BitVec.ofNat 32 b) (BitVec.ofNat 32 a) := BitVec.and_comm _ _
  unfold sgn; rw [h]

/-- The two factors of the rotations. -/
def c16 : EReal := Ideal.ofBits .f32 0x3D800000#32
def c8 : EReal := Ideal.ofBits .f32 0x3DB504F3#32

/-- Every block of `n` columns times the matrix `h`. -/
def turnR (n : ℕ) (h a : ℕ → ℕ → EReal) : ℕ → ℕ → EReal := fun p q => ∑ x ∈ Finset.range n, a p (n * (q / n) + x) * h x (q % n)

/-- The matrix `h` times every block of `n` rows. -/
def turnL (n : ℕ) (h a : ℕ → ℕ → EReal) : ℕ → ℕ → EReal := fun p q => ∑ x ∈ Finset.range n, h (p % n) x * a (n * (p / n) + x) q

theorem turnR_congr {n : ℕ} {h h' : ℕ → ℕ → EReal} (hn : 0 < n) (e : ∀ x y, x < n → y < n → h x y = h' x y) (a : ℕ → ℕ → EReal) : turnR n h a = turnR n h' a := by
  funext p q
  unfold turnR
  refine Finset.sum_congr rfl fun x hx => ?_
  rw [e x (q % n) (Finset.mem_range.mp hx) (Nat.mod_lt _ hn)]

theorem turnL_congr {n : ℕ} {h h' : ℕ → ℕ → EReal} (hn : 0 < n) (e : ∀ x y, x < n → y < n → h x y = h' x y) (a : ℕ → ℕ → EReal) : turnL n h a = turnL n h' a := by
  funext p q
  unfold turnL
  refine Finset.sum_congr rfl fun x hx => ?_
  rw [e (p % n) x (Nat.mod_lt _ hn) (Finset.mem_range.mp hx)]

/-- A product with a finite nonnegative number passes through a finite sum. -/
theorem sum_mul_of_nonneg {ι : Type} (s : Finset ι) (f : ι → EReal) (c : EReal) (h0 : 0 ≤ c) (ht : c ≠ ⊤) :
    (∑ i ∈ s, f i) * c = ∑ i ∈ s, f i * c := by
  classical
  induction s using Finset.induction_on with
  | empty => rw [Finset.sum_empty, Finset.sum_empty, zero_mul]
  | insert i s hi ih => rw [Finset.sum_insert hi, Finset.sum_insert hi, EReal.right_distrib_of_nonneg_of_ne_top h0 ht, ih]

theorem c16_eq : c16 = (((8388608 : ℝ) * ((2 : ℝ) ^ 27)⁻¹ : ℝ) : EReal) := by
  unfold c16; simp [Ideal.ofBits, Ideal.ieee]
theorem c16_nonneg : 0 ≤ c16 := by
  rw [c16_eq]; exact EReal.coe_nonneg.mpr (by positivity)
theorem c16_ne_top : c16 ≠ ⊤ := by
  rw [c16_eq]; exact EReal.coe_ne_top _

theorem turnR_scaled (n : ℕ) (h a : ℕ → ℕ → EReal) (p q : ℕ) :
    turnR n (fun x y => h x y * c16) a p q = turnR n h a p q * c16 := by
  unfold turnR
  rw [sum_mul_of_nonneg _ _ _ c16_nonneg c16_ne_top]
  exact Finset.sum_congr rfl fun x _ => (mul_assoc _ _ _).symm

theorem turnL_scaled (n : ℕ) (h a : ℕ → ℕ → EReal) (p q : ℕ) :
    turnL n (fun x y => h x y * c16) a p q = turnL n h a p q * c16 := by
  unfold turnL
  rw [sum_mul_of_nonneg _ _ _ c16_nonneg c16_ne_top]
  exact Finset.sum_congr rfl fun x _ => mul_right_comm _ _ _

/-! ## Largest magnitudes -/

/-- The magnitude. -/
def mag (x : EReal) : EReal := FloatOps.absf (F := Ideal) (φ := .f32) x

theorem mag_nonneg (x : EReal) : 0 ≤ mag x := by
  show 0 ≤ max x (-x)
  rcases le_total 0 x with h | h
  · exact le_max_of_le_left h
  · exact le_max_of_le_right (EReal.neg_nonneg.mpr h)

/-- The largest magnitude of row `p` and of column `q`. -/
def rowTop (n : ℕ) (a : ℕ → ℕ → EReal) (p : ℕ) : EReal := (Finset.range n).sup fun q => mag (a p q)
def colTop (n : ℕ) (a : ℕ → ℕ → EReal) (q : ℕ) : EReal := (Finset.range n).sup fun p => mag (a p q)

/-- A number with the same upper bounds as the magnitudes (and zero) is the largest magnitude. -/
theorem eq_top {n : ℕ} (hn : 0 < n) (f : ℕ → EReal) (z : EReal) (h : ∀ b, z ≤ b ↔ 0 ≤ b ∧ ∀ i, i < n → mag (f i) ≤ b) :
    z = (Finset.range n).sup fun i => mag (f i) := by
  refine eq_of_forall_ge_iff fun b => ?_
  rw [h, Finset.sup_le_iff]
  constructor
  · exact fun hb i hi => hb.2 i (Finset.mem_range.mp hi)
  · exact fun hb => ⟨(mag_nonneg _).trans (hb 0 (Finset.mem_range.mpr hn)), fun i hi => hb i (Finset.mem_range.mpr hi)⟩

theorem ofBits_bot : Ideal.ofBits .f32 4286578688#32 = ⊥ := by
  simp [Ideal.ofBits, Ideal.ieee]

/-- The upper bounds of a maximum over finitely many numbers. -/
theorem fold_le {n : ℕ} (f : Fin n → EReal) (b : EReal) :
    Finset.fold max (Ideal.ofBits .f32 4286578688#32) f Finset.univ ≤ b ↔ ∀ i, f i ≤ b := by
  rw [Finset.fold_max_le, ofBits_bot]
  exact ⟨fun h i => h.2 i (Finset.mem_univ i), fun h => ⟨bot_le, fun i _ => h i⟩⟩

/-! ## The quantiser -/

/-- The scale of a row or column whose largest magnitude is `a`. -/
def scale (a : EReal) : EReal := if a = 0 then 1 else Ideal.div a (Ideal.ofBits .f32 1123942400#32)

/-- The code of `v` under the scale `s`. -/
def code (s v : EReal) : BitVec 8 :=
  FloatOps.fptosi (F := Ideal) (φ := .f32) 8 (min (Ideal.ofBits .f32 1123942400#32)
    (max (Ideal.ofBits .f32 3271426048#32) (Ideal.liftRound Ideal.roundHalfEven (Ideal.div v s))))

/-- A code as a number. -/
def val (k : BitVec 8) : EReal := FloatOps.sitofp (F := Ideal) .bf16 k

/-- Codes and scales of the rows (`n` entries each) and of the columns of `g`. -/
def rowScale (n : ℕ) (g : ℕ → ℕ → EReal) (p : ℕ) : EReal := scale (rowTop n g p)
def rowCode (n : ℕ) (g : ℕ → ℕ → EReal) (p q : ℕ) : BitVec 8 := code (rowScale n g p) (g p q)
def colScale (n : ℕ) (g : ℕ → ℕ → EReal) (q : ℕ) : EReal := scale (colTop n g q)
def colCode (n : ℕ) (g : ℕ → ℕ → EReal) (p q : ℕ) : BitVec 8 := code (colScale n g q) (g p q)

/-- A row's or column's codes and scale are those of its entries. -/
theorem rowScale_congr {n : ℕ} {g g' : ℕ → ℕ → EReal} {p p' : ℕ} (h : ∀ q, g p q = g' p' q) : rowScale n g p = rowScale n g' p' := by
  unfold rowScale rowTop; simp only [h]
theorem rowCode_congr {n : ℕ} {g g' : ℕ → ℕ → EReal} {p p' : ℕ} (h : ∀ q, g p q = g' p' q) (q : ℕ) : rowCode n g p q = rowCode n g' p' q := by
  unfold rowCode; rw [rowScale_congr h, h]
theorem colScale_congr {n : ℕ} {g g' : ℕ → ℕ → EReal} {q q' : ℕ} (h : ∀ p, g p q = g' p q') : colScale n g q = colScale n g' q' := by
  unfold colScale colTop; simp only [h]
theorem colCode_congr {n : ℕ} {g g' : ℕ → ℕ → EReal} {q q' : ℕ} (h : ∀ p, g p q = g' p q') (p : ℕ) : colCode n g p q = colCode n g' p q' := by
  unfold colCode; rw [colScale_congr h, h]

/-! ## The products -/

/-- Entry `(p, q)` of the product of two code matrices times a row's and a column's scale. -/
def prod (n : ℕ) (x y : ℕ → ℕ → BitVec 8) (s t : ℕ → EReal) (p q : ℕ) : EReal :=
  (∑ k ∈ Finset.range n, val (x p k) * val (y k q)) * s p * t q

theorem prod_congr {n : ℕ} {x x' y y' : ℕ → ℕ → BitVec 8} {s s' t t' : ℕ → EReal} {p p' q q' : ℕ}
    (hx : ∀ k, k < n → x p k = x' p' k) (hy : ∀ k, k < n → y k q = y' k q') (hs : s p = s' p') (ht : t q = t' q') :
    prod n x y s t p q = prod n x' y' s' t' p' q' := by
  unfold prod
  rw [hs, ht]
  refine congrArg (· * s' p' * t' q') (Finset.sum_congr rfl fun k hk => ?_)
  rw [hx k (Finset.mem_range.mp hk), hy k (Finset.mem_range.mp hk)]

/-! ## The ten results, of the activation `x`, the weight `w` and the output gradient `y` -/

/-- The turned output gradient and weight, along the output channels, -/
def turnedY (y : ℕ → ℕ → EReal) : ℕ → ℕ → EReal := fun p q => turnR 256 sgn y p q * c16
def turnedW (w : ℕ → ℕ → EReal) : ℕ → ℕ → EReal := fun p q => turnL 256 sgn w p q * c16
/-- and the turned output gradient and activation, along the tokens. -/
def turnedT (y : ℕ → ℕ → EReal) : ℕ → ℕ → EReal := fun p q => turnL 128 sgn y p q * c8

def yCode (y : ℕ → ℕ → EReal) : ℕ → ℕ → BitVec 8 := rowCode 18944 (turnedY y)
def yScale (y : ℕ → ℕ → EReal) : ℕ → EReal := rowScale 18944 (turnedY y)
def wCode (w : ℕ → ℕ → EReal) : ℕ → ℕ → BitVec 8 := colCode 18944 (turnedW w)
def wScale (w : ℕ → ℕ → EReal) : ℕ → EReal := colScale 18944 (turnedW w)
def tCode (y : ℕ → ℕ → EReal) : ℕ → ℕ → BitVec 8 := colCode 1536 (turnedT y)
def tScale (y : ℕ → ℕ → EReal) : ℕ → EReal := colScale 1536 (turnedT y)
def dx (w y : ℕ → ℕ → EReal) : ℕ → ℕ → EReal := prod 18944 (yCode y) (wCode w) (yScale y) (wScale w)
def dw (x y : ℕ → ℕ → EReal) : ℕ → ℕ → EReal := prod 1536 (fun o k => tCode y k o) (tCode x) (tScale y) (tScale x)

end Cert.Spec

end
-- ==== Proof.KernelIdealDyoValue.lean ====
/-
  The value of the first call at the extended reals: the codes and scales of the turned output gradient's rows.
-/
module

public import proofs.«01_k».proof.Proof.KernelIdealDyo
public import proofs.«01_k».proof.Proof.Spec

@[expose] public section

noncomputable section

namespace Cert.KernelIdeal.Dyo

open Cert.KernelIdeal Cert.KernelIdeal.Gen Cert.Spec
open Idealize.ShloMosaic Idealize.ShloMosaic.TcCoe Idealize.SL.Sem
open Idealize.ShloMosaic.Pipeline (Dat)

/-- The turned block. -/
def turned (x1 : Vec Ideal S128x18944 .bf16) (x2 : Vec Ideal S256x256 .bf16) : ℕ → ℕ → EReal := turnR 256 (mat x2) (mat x1)

theorem tile_apply (x1 : Vec Ideal S128x18944 .bf16) (k : Fin k0_t1_loop.trips) (p : Fin 128) (q : Fin 256) :
    tile x1 k (Idealize.ShloMosaic.ix2 p q) = mat (m := 128) (n := 18944) x1 p (256 * k.val + q.val) := by
  have hk : k.val < 74 := lt_of_lt_of_eq k.isLt trips1
  have hn : 256 * k.val + q.val < 18944 := by omega
  rw [mat_eq _ p.isLt hn]
  refine Whole.ld_at x1 _ _ _ _ _ fun a => ?_
  rw [k0_off1_eq]
  match a with
  | ⟨0, _⟩ => show p.val = 0 + p.val; omega
  | ⟨1, _⟩ => show 256 * k.val + q.val = 256 * k.val + q.val; rfl

theorem pay2_sum (a : Vec Ideal S128x256 .bf16) (h : Vec Ideal S256x256 .bf16) (p : Fin 128) (q : Fin 256) :
    (k0_pay2 (F := Ideal) a h (Idealize.ShloMosaic.ix2 p q) : EReal) = ∑ x : Fin 256, (a (Idealize.ShloMosaic.ix2 p x) : EReal) * h (Idealize.ShloMosaic.ix2 x q) := by
  pointwise [k0_pay2]

theorem pay2_apply (x1 : Vec Ideal S128x18944 .bf16) (x2 : Vec Ideal S256x256 .bf16) (k : Fin k0_t1_loop.trips) (p : Fin 128) (q : Fin 256) :
    k0_pay2 (F := Ideal) (tile x1 k) x2 (Idealize.ShloMosaic.ix2 p q) = turned x1 x2 p (256 * k.val + q.val) := by
  have e1 : (256 * k.val + q.val) / 256 = k.val := by omega
  have e2 : (256 * k.val + q.val) % 256 = q.val := by omega
  rw [pay2_sum]
  unfold turned turnR
  rw [e1, e2, Finset.sum_range]
  refine Finset.sum_congr rfl fun x _ => ?_
  rw [tile_apply x1 k p x, mat_fin]

theorem rot_apply (x1 : Vec Ideal S128x18944 .bf16) (x2 : Vec Ideal S256x256 .bf16) (y : S128x18944.Idx) :
    rot x1 x2 y = turned x1 x2 (y 0).val (y 1).val := by
  have e : 256 * ((y 1).val / 256) + (y 1).val % 256 = (y 1).val := by omega
  have h := pay2_apply x1 x2 ⟨(y 1).val / 256, div1 y⟩ (y 0) (⟨(y 1).val % 256, Nat.mod_lt _ (by decide)⟩ : Fin 256)
  rw [show 256 * (⟨(y 1).val / 256, div1 y⟩ : Fin k0_t1_loop.trips).val + (⟨(y 1).val % 256, Nat.mod_lt _ (by decide)⟩ : Fin 256).val = (y 1).val from e] at h
  refine Eq.trans ?_ h
  unfold rot k0_pay3
  rw [shapeCast_self]
  rfl

/-! ## The running maximum -/

theorem pay4_apply (r : FVec Ideal S128x128 .f32) (a : Vec Ideal S128x256 .bf16) (h : Vec Ideal S256x256 .bf16) (p l : Fin 128) :
    (k0_pay4 (F := Ideal) r a h (Idealize.ShloMosaic.ix2 p l) : EReal) = max (r (Idealize.ShloMosaic.ix2 p l))
      (max (mag (k0_pay2 (F := Ideal) a h (Idealize.ShloMosaic.ix2 p (⟨l.val, by omega⟩ : Fin 256))))
        (mag (k0_pay2 (F := Ideal) a h (Idealize.ShloMosaic.ix2 p (⟨128 + l.val, by omega⟩ : Fin 256))))) := by
  generalize hg : k0_pay2 (F := Ideal) a h = g
  unfold k0_pay4 mag
  rw [hg]
  pointwise

theorem am_le (x1 : Vec Ideal S128x18944 .bf16) (x2 : Vec Ideal S256x256 .bf16) (p : Fin 128) (b : EReal) :
    ∀ k, k ≤ 74 → ((∀ l : Fin 128, (am x1 x2 k (Idealize.ShloMosaic.ix2 p l) : EReal) ≤ b) ↔ (0 ≤ b ∧ ∀ n, n < 256 * k → mag (turned x1 x2 p n) ≤ b))
  | 0, _ => by
    have e : ∀ l : Fin 128, (am x1 x2 0 (Idealize.ShloMosaic.ix2 p l) : EReal) = 0 := fun l => by
      rw [am]; pointwise [k0_pay1]
    simp only [e]
    exact ⟨fun h => ⟨h 0, fun n hn => absurd hn (by omega)⟩, fun h _ => h.1⟩
  | k + 1, hk => by
    have ih := am_le x1 x2 p b k (by omega)
    have hk' : k < k0_t1_loop.trips := by rw [trips1]; omega
    have e : ∀ l : Fin 128, (am x1 x2 (k + 1) (Idealize.ShloMosaic.ix2 p l) : EReal) = max (am x1 x2 k (Idealize.ShloMosaic.ix2 p l))
        (max (mag (turned x1 x2 p (256 * k + l.val))) (mag (turned x1 x2 p (256 * k + (128 + l.val))))) := fun l => by
      rw [am, dif_pos hk', pay4_apply, pay2_apply, pay2_apply]
    simp only [e, max_le_iff]
    constructor
    · intro h
      obtain ⟨h0, h1⟩ := ih.mp fun l => (h l).1
      refine ⟨h0, fun n hn => ?_⟩
      rcases lt_or_ge n (256 * k) with hl | hl
      · exact h1 n hl
      · rcases lt_or_ge n (256 * k + 128) with hm | hm
        · have := (h ⟨n - 256 * k, by omega⟩).2.1
          rwa [show 256 * k + (n - 256 * k) = n by omega] at this
        · have := (h ⟨n - 256 * k - 128, by omega⟩).2.2
          rwa [show 256 * k + (128 + (n - 256 * k - 128)) = n by omega] at this
    · intro h l
      have hl := l.isLt
      exact ⟨ih.mpr ⟨h.1, fun n hn => h.2 n (by omega)⟩ l, h.2 _ (by omega), h.2 _ (by omega)⟩

theorem outS_apply (x1 : Vec Ideal S128x18944 .bf16) (x2 : Vec Ideal S256x256 .bf16) (p : Fin 128) (q : Fin 1) :
    (outS x1 x2 (Idealize.ShloMosaic.ix2 p q) : EReal) = rowScale 18944 (turned x1 x2) p := by
  have key : ∀ r : FVec Ideal S128x128 .f32, (k0_pay5 (F := Ideal) r (Idealize.ShloMosaic.ix2 p q) : EReal)
      = scale (Finset.fold max (Ideal.ofBits .f32 4286578688#32) (fun l : Fin 128 => (r (Idealize.ShloMosaic.ix2 p l) : EReal)) Finset.univ) := fun r => by
    pointwise [k0_pay5, scale]
  unfold outS rowScale rowTop
  rw [key]
  refine congrArg scale (eq_top (by decide) _ _ fun b => ?_)
  rw [fold_le, trips1]
  exact am_le x1 x2 p b 74 le_rfl

theorem outC_apply (x1 : Vec Ideal S128x18944 .bf16) (x2 : Vec Ideal S256x256 .bf16) (y : S128x18944.Idx) :
    outC x1 x2 y = rowCode 18944 (turned x1 x2) (y 0).val (y 1).val := by
  have key : ∀ (r : FVec Ideal S128x128 .f32) (v : Vec Ideal S128x256 .f32) (p : Fin 128) (q : Fin 256), k0_pay6 (F := Ideal) r v (Idealize.ShloMosaic.ix2 p q)
      = code (k0_pay5 (F := Ideal) r (Idealize.ShloMosaic.ix2 p (0 : Fin 1))) (v (Idealize.ShloMosaic.ix2 p q)) := fun r v p q => by
    generalize hg : k0_pay5 (F := Ideal) r = g
    unfold k0_pay6 code
    rw [hg]
    pointwise
  have e : 256 * ((y 1).val / 256) + (y 1).val % 256 = (y 1).val := by omega
  unfold outC cod within
  refine (key _ _ _ _).trans ?_
  unfold rowCode
  rw [← rot_apply]
  refine congr (congrArg code (outS_apply x1 x2 (y 0) 0)) ?_
  refine Whole.ld_at (rot x1 x2) _ _ _ _ _ fun a => ?_
  rw [k0_off2_eq]
  match a with
  | ⟨0, _⟩ => show (y 0).val = 0 + (y 0).val; omega
  | ⟨1, _⟩ => show (y 1).val = 256 * ((y 1).val / 256) + (y 1).val % 256; omega

/-! ## The result arrays -/

variable (W : Dev nD → Valuation τ sig (Elt Ideal))

/-- The array turned, the matrix it is turned by, and the turned array. -/
abbrev src (c : Dev nD) : Vec Ideal S1536x18944 .bf16 := W c (Proc.devRef .tc main_v1)
abbrev by_ (c : Dev nD) : Vec Ideal S256x256 .bf16 := W c (Proc.devRef .tc main_v15)
def grad (c : Dev nD) : ℕ → ℕ → EReal := turnR 256 (mat (by_ W c)) (mat (src W c))

/-- Which block of each array a grid point has. -/
theorem index_facts : ∀ t : Fin cfg0.N,
    (win0_0.index t 0 = t.val ∧ win0_0.index t 1 = 0) ∧ (win0_1.index t 0 = 0 ∧ win0_1.index t 1 = 0)
      ∧ (win0_2.index t 0 = t.val ∧ win0_2.index t 1 = 0) ∧ (win0_3.index t 0 = t.val ∧ win0_3.index t 1 = 0) :=
  (by decide +kernel : ∀ t : Fin grid0.N, _)

theorem N_eq : cfg0.N = 12 := N_0

/-- A grid point's blocks inside their arrays. -/
theorem iblk0_mat (c : Dev nD) (t : Fin cfg0.N) (p q : ℕ) (hp : p < 128) :
    mat (m := 128) (n := 18944) (iblk W c 0 t : Vec Ideal S128x18944 .bf16) p q = mat (m := 1536) (n := 18944) (src W c) (128 * t.val + p) q := by
  obtain ⟨⟨h0, h1⟩, -⟩ := index_facts t
  have hN := N_eq
  have ht := t.isLt
  by_cases hq : q < 18944
  · rw [mat_eq _ hp hq, mat_eq _ (show 128 * t.val + p < 1536 by omega) hq]
    refine congrArg (src W c) (funext fun a => Fin.ext ?_)
    match a with
    | ⟨0, _⟩ => show win0_0.index t 0 * 128 + 1 * p = 128 * t.val + p; rw [h0]; omega
    | ⟨1, _⟩ => show win0_0.index t 1 * 18944 + 1 * q = q; rw [h1]; omega
  · unfold mat rd
    rw [dif_neg (fun h => hq h.2), dif_neg (fun h => hq h.2)]

theorem iblk1_eq (c : Dev nD) (t : Fin cfg0.N) : (iblk W c 1 t : Vec Ideal S256x256 .bf16) = by_ W c := by
  obtain ⟨-, ⟨h0, h1⟩, -⟩ := index_facts t
  funext j
  refine congrArg (by_ W c) (funext fun a => Fin.ext ?_)
  match a with
  | ⟨0, _⟩ => show win0_1.index t 0 * 256 + 1 * (j 0).val = (j 0).val; rw [h0]; omega
  | ⟨1, _⟩ => show win0_1.index t 1 * 256 + 1 * (j 1).val = (j 1).val; rw [h1]; omega

theorem turned_block (c : Dev nD) (t : Fin cfg0.N) (p q : ℕ) (hp : p < 128) :
    turned (iblk W c 0 t) (iblk W c 1 t) p q = grad W c (128 * t.val + p) q := by
  unfold turned grad turnR
  rw [iblk1_eq]
  refine Finset.sum_congr rfl fun x _ => ?_
  rw [iblk0_mat W c t _ _ hp]

/-- The codes and the scales. -/
def codes (c : Dev nD) : Vec Ideal S1536x18944 .i8 := fun j => rowCode 18944 (grad W c) (j 0).val (j 1).val
def scales (c : Dev nD) : Vec Ideal S1536x1 .f32 := fun j => rowScale 18944 (grad W c) (j 0).val

theorem flushed2 (c : Dev nD) (t : Fin cfg0.N) :
    (dats W c).flushed 2 t = ((cfg0.win 2).blk t).view.read (Elt Ideal) (codes W c) := by
  obtain ⟨-, -, ⟨h0, h1⟩, -⟩ := index_facts t
  show (cfg0.win 2).cut (grid0.coords t) ((dats W c).after 2 t) = _
  rw [after2]
  funext j
  refine (outC_apply (iblk W c 0 t) (iblk W c 1 t) j).trans ?_
  refine (rowCode_congr (fun q => turned_block W c t (j 0).val q (j 0).isLt) (j 1).val).trans ?_
  have e : ∀ a a' b b', a = a' → b = b' → rowCode 18944 (grad W c) a b = rowCode 18944 (grad W c) a' b' := fun a a' b b' x y => by rw [x, y]
  refine e _ _ _ _ ?_ ?_
  · show 128 * t.val + (j 0).val = win0_2.index t 0 * 128 + 1 * (j 0).val; rw [h0]; omega
  · show (j 1).val = win0_2.index t 1 * 18944 + 1 * (j 1).val; rw [h1]; omega

theorem flushed3 (c : Dev nD) (t : Fin cfg0.N) :
    (dats W c).flushed 3 t = ((cfg0.win 3).blk t).view.read (Elt Ideal) (scales W c) := by
  obtain ⟨-, -, -, ⟨h0, h1⟩⟩ := index_facts t
  show (cfg0.win 3).cut (grid0.coords t) ((dats W c).after 3 t) = _
  rw [after3]
  funext j
  refine Eq.trans (congrArg (outS (iblk W c 0 t) (iblk W c 1 t)) (eq_ix2 (n0 := 128) (n1 := 1) j)) ?_
  refine (outS_apply (iblk W c 0 t) (iblk W c 1 t) (j 0) (j 1)).trans ?_
  refine (rowScale_congr (fun q => turned_block W c t (j 0).val q (j 0).isLt)).trans ?_
  unfold scales
  generalize rowScale 18944 (grad W c) = f
  refine congrArg f ?_
  show 128 * t.val + (j 0).val = win0_3.index t 0 * 128 + 1 * (j 0).val; rw [h0]; omega

theorem final2 (c : Dev nD) : (dats W c).arrAt 2 cfg0.N = codes W c :=
  (dats W c).arrAt_eq_of_cover 2 (codes W c) (fun t _ => flushed2 W c t) fun i => by
    have hN := N_eq
    have h0 : (i 0 : Nat) < 1536 := (i 0).isLt
    have h1 : (i 1 : Nat) < 18944 := (i 1).isLt
    let t : Fin cfg0.N := ⟨(i 0 : Nat) / 128, by omega⟩
    obtain ⟨-, -, ⟨e0, e1⟩, -⟩ := index_facts t
    have et : t.val = (i 0 : Nat) / 128 := rfl
    refine ⟨t, flush0_2 t, ?_⟩
    show i ∈ ((View.whole main_v30_0).slice (win0_2.rect t)).set
    rw [View.set_slice_whole, Rect.mem_set_unit]
    intro a
    match a with
    | ⟨0, _⟩ => show win0_2.index t 0 * 128 ≤ (i 0 : Nat) ∧ (i 0 : Nat) < win0_2.index t 0 * 128 + 128; rw [e0]; omega
    | ⟨1, _⟩ => show win0_2.index t 1 * 18944 ≤ (i 1 : Nat) ∧ (i 1 : Nat) < win0_2.index t 1 * 18944 + 18944; rw [e1]; omega

theorem final3 (c : Dev nD) : (dats W c).arrAt 3 cfg0.N = scales W c :=
  (dats W c).arrAt_eq_of_cover 3 (scales W c) (fun t _ => flushed3 W c t) fun i => by
    have hN := N_eq
    have h0 : (i 0 : Nat) < 1536 := (i 0).isLt
    have h1 : (i 1 : Nat) < 1 := (i 1).isLt
    let t : Fin cfg0.N := ⟨(i 0 : Nat) / 128, by omega⟩
    obtain ⟨-, -, -, ⟨e0, e1⟩⟩ := index_facts t
    have et : t.val = (i 0 : Nat) / 128 := rfl
    refine ⟨t, flush0_3 t, ?_⟩
    show i ∈ ((View.whole main_v30_1).slice (win0_3.rect t)).set
    rw [View.set_slice_whole, Rect.mem_set_unit]
    intro a
    match a with
    | ⟨0, _⟩ => show win0_3.index t 0 * 128 ≤ (i 0 : Nat) ∧ (i 0 : Nat) < win0_3.index t 0 * 128 + 128; rw [e0]; omega
    | ⟨1, _⟩ => show win0_3.index t 1 * 1 ≤ (i 1 : Nat) ∧ (i 1 : Nat) < win0_3.index t 1 * 1 + 1; rw [e1]; omega

end Cert.KernelIdeal.Dyo

end
-- ==== Proof.KernelIdealWqValue.lean ====
/-
  The value of the second call at the extended reals: the codes and scales of the turned weight's columns.
-/
module

public import proofs.«01_k».proof.Proof.KernelIdealWq
public import proofs.«01_k».proof.Proof.Spec

@[expose] public section

noncomputable section

namespace Cert.KernelIdeal.Wq

open Cert.KernelIdeal Cert.KernelIdeal.Gen Cert.Spec
open Idealize.ShloMosaic Idealize.ShloMosaic.TcCoe Idealize.SL.Sem
open Idealize.ShloMosaic.Pipeline (Dat)

/-- The turned block. -/
def turned (x1 : Vec Ideal S18944x256 .bf16) (x2 : Vec Ideal S256x256 .bf16) : ℕ → ℕ → EReal := fun p q => turnL 256 (mat x2) (mat x1) p q

theorem tile_apply (x1 : Vec Ideal S18944x256 .bf16) (k : Fin k1_t1_loop.trips) (p : Fin 256) (q : Fin 256) :
    tile x1 k (Idealize.ShloMosaic.ix2 p q) = mat (m := 18944) (n := 256) x1 (256 * k.val + p.val) q := by
  have hk : k.val < 74 := lt_of_lt_of_eq k.isLt trips1
  have hn : 256 * k.val + p.val < 18944 := by omega
  rw [mat_eq _ hn q.isLt]
  refine Whole.ld_at x1 _ _ _ _ _ fun a => ?_
  rw [k1_off1_eq]
  match a with
  | ⟨0, _⟩ => show 256 * k.val + p.val = 256 * k.val + p.val; rfl
  | ⟨1, _⟩ => show q.val = 0 + q.val; omega

theorem pay2_sum (a : Vec Ideal S256x256 .bf16) (h : Vec Ideal S256x256 .bf16) (p : Fin 256) (q : Fin 256) :
    (k1_pay2 (F := Ideal) h a (Idealize.ShloMosaic.ix2 p q) : EReal) = (∑ x : Fin 256, (h (Idealize.ShloMosaic.ix2 p x) : EReal) * a (Idealize.ShloMosaic.ix2 x q)) := by
  pointwise [k1_pay2]

theorem pay2_apply (x1 : Vec Ideal S18944x256 .bf16) (x2 : Vec Ideal S256x256 .bf16) (k : Fin k1_t1_loop.trips) (p : Fin 256) (q : Fin 256) :
    k1_pay2 (F := Ideal) x2 (tile x1 k) (Idealize.ShloMosaic.ix2 p q) = turned x1 x2 (256 * k.val + p.val) q := by
  have e1 : (256 * k.val + p.val) / 256 = k.val := by omega
  have e2 : (256 * k.val + p.val) % 256 = p.val := by omega
  rw [pay2_sum]
  unfold turned turnL
  rw [e1, e2, Finset.sum_range]
  refine Finset.sum_congr rfl fun x _ => ?_
  rw [tile_apply x1 k x q, mat_fin]

theorem rot_apply (x1 : Vec Ideal S18944x256 .bf16) (x2 : Vec Ideal S256x256 .bf16) (y : S18944x256.Idx) :
    rot x1 x2 y = turned x1 x2 (y 0).val (y 1).val := by
  have e : 256 * ((y 0).val / 256) + (y 0).val % 256 = (y 0).val := by omega
  have h := pay2_apply x1 x2 ⟨(y 0).val / 256, div1 y⟩ (⟨(y 0).val % 256, Nat.mod_lt _ (by decide)⟩ : Fin 256) (y 1)
  rw [show 256 * (⟨(y 0).val / 256, div1 y⟩ : Fin k1_t1_loop.trips).val + (⟨(y 0).val % 256, Nat.mod_lt _ (by decide)⟩ : Fin 256).val = (y 0).val from e] at h
  refine Eq.trans ?_ h
  unfold rot k1_pay3
  rw [shapeCast_self]
  rfl

/-! ## The running maximum -/

theorem pay4_apply (r : FVec Ideal S8x256 .f32) (a : Vec Ideal S256x256 .bf16) (h : Vec Ideal S256x256 .bf16) (l : Fin 8) (q : Fin 256) :
    (k1_pay4 (F := Ideal) r h a (Idealize.ShloMosaic.ix2 l q) : EReal) = max (r (Idealize.ShloMosaic.ix2 l q))
      (Finset.fold max (Ideal.ofBits .f32 4286578688#32) (fun x : Fin 32 =>
        mag (k1_pay2 (F := Ideal) h a (Idealize.ShloMosaic.ix2 (⟨x.val * 8 + l.val, by omega⟩ : Fin 256) q))) Finset.univ) := by
  generalize hg : k1_pay2 (F := Ideal) h a = g
  unfold k1_pay4 mag
  rw [hg]
  pointwise

theorem am_le (x1 : Vec Ideal S18944x256 .bf16) (x2 : Vec Ideal S256x256 .bf16) (q : Fin 256) (b : EReal) :
    ∀ k, k ≤ 74 → ((∀ l : Fin 8, (am x1 x2 k (Idealize.ShloMosaic.ix2 l q) : EReal) ≤ b) ↔ (0 ≤ b ∧ ∀ n, n < 256 * k → mag (turned x1 x2 n q) ≤ b))
  | 0, _ => by
    have e : ∀ l : Fin 8, (am x1 x2 0 (Idealize.ShloMosaic.ix2 l q) : EReal) = 0 := fun l => by
      rw [am]; pointwise [k1_pay1]
    simp only [e]
    exact ⟨fun h => ⟨h 0, fun n hn => absurd hn (by omega)⟩, fun h _ => h.1⟩
  | k + 1, hk => by
    have ih := am_le x1 x2 q b k (by omega)
    have hk' : k < k1_t1_loop.trips := by rw [trips1]; omega
    have e : ∀ l : Fin 8, (am x1 x2 (k + 1) (Idealize.ShloMosaic.ix2 l q) : EReal) = max (am x1 x2 k (Idealize.ShloMosaic.ix2 l q))
        (Finset.fold max (Ideal.ofBits .f32 4286578688#32) (fun x : Fin 32 => mag (turned x1 x2 (256 * k + (x.val * 8 + l.val)) q)) Finset.univ) := fun l => by
      rw [am, dif_pos hk', pay4_apply]
      simp only [pay2_apply]
    simp only [e, max_le_iff, fold_le]
    constructor
    · intro h
      obtain ⟨h0, h1⟩ := ih.mp fun l => (h l).1
      refine ⟨h0, fun n hn => ?_⟩
      rcases lt_or_ge n (256 * k) with hl | hl
      · exact h1 n hl
      · have := (h ⟨(n - 256 * k) % 8, Nat.mod_lt _ (by decide)⟩).2 ⟨(n - 256 * k) / 8, by omega⟩
        rwa [show 256 * k + ((n - 256 * k) / 8 * 8 + (n - 256 * k) % 8) = n by omega] at this
    · intro h l
      have hl := l.isLt
      exact ⟨ih.mpr ⟨h.1, fun n hn => h.2 n (by omega)⟩ l, fun x => h.2 _ (by have := x.isLt; omega)⟩

theorem outS_apply (x1 : Vec Ideal S18944x256 .bf16) (x2 : Vec Ideal S256x256 .bf16) (p : Fin 1) (q : Fin 256) :
    (outS x1 x2 (Idealize.ShloMosaic.ix2 p q) : EReal) = colScale 18944 (turned x1 x2) q := by
  have key : ∀ r : FVec Ideal S8x256 .f32, (k1_pay5 (F := Ideal) r (Idealize.ShloMosaic.ix2 p q) : EReal)
      = scale (Finset.fold max (Ideal.ofBits .f32 4286578688#32) (fun l : Fin 8 => (r (Idealize.ShloMosaic.ix2 l q) : EReal)) Finset.univ) := fun r => by
    pointwise [k1_pay5, scale]
  unfold outS colScale colTop
  rw [key]
  refine congrArg scale (eq_top (by decide) _ _ fun b => ?_)
  rw [fold_le, trips1]
  exact am_le x1 x2 q b 74 le_rfl

theorem outC_apply (x1 : Vec Ideal S18944x256 .bf16) (x2 : Vec Ideal S256x256 .bf16) (y : S18944x256.Idx) :
    outC x1 x2 y = colCode 18944 (turned x1 x2) (y 0).val (y 1).val := by
  have key : ∀ (r : FVec Ideal S8x256 .f32) (v : Vec Ideal S256x256 .f32) (p : Fin 256) (q : Fin 256), k1_pay6 (F := Ideal) r v (Idealize.ShloMosaic.ix2 p q)
      = code (k1_pay5 (F := Ideal) r (Idealize.ShloMosaic.ix2 (0 : Fin 1) q)) (v (Idealize.ShloMosaic.ix2 p q)) := fun r v p q => by
    generalize hg : k1_pay5 (F := Ideal) r = g
    unfold k1_pay6 code
    rw [hg]
    pointwise
  unfold outC cod within
  refine (key _ _ _ _).trans ?_
  unfold colCode
  rw [← rot_apply]
  refine congr (congrArg code (outS_apply x1 x2 0 (y 1))) ?_
  refine Whole.ld_at (rot x1 x2) _ _ _ _ _ fun a => ?_
  rw [k1_off2_eq]
  match a with
  | ⟨0, _⟩ => show (y 0).val = 256 * ((y 0).val / 256) + (y 0).val % 256; omega
  | ⟨1, _⟩ => show (y 1).val = 0 + (y 1).val; omega

/-! ## The result arrays -/

variable (W : Dev nD → Valuation τ sig (Elt Ideal))

/-- The array turned, the matrix it is turned by, and the turned array. -/
abbrev src (c : Dev nD) : Vec Ideal S18944x3584 .bf16 := W c (Proc.devRef .tc main_arg1)
abbrev by_ (c : Dev nD) : Vec Ideal S256x256 .bf16 := W c (Proc.devRef .tc main_v15)
def grad (c : Dev nD) : ℕ → ℕ → EReal := fun p q => turnL 256 (mat (by_ W c)) (mat (src W c)) p q

/-- Which block of each array a grid point has. -/
theorem index_facts : ∀ t : Fin cfg1.N,
    (win1_0.index t 0 = 0 ∧ win1_0.index t 1 = t.val) ∧ (win1_1.index t 0 = 0 ∧ win1_1.index t 1 = 0)
      ∧ (win1_2.index t 0 = 0 ∧ win1_2.index t 1 = t.val) ∧ (win1_3.index t 0 = 0 ∧ win1_3.index t 1 = t.val) :=
  (by decide +kernel : ∀ t : Fin grid1.N, _)

theorem N_eq : cfg1.N = 14 := N_1

/-- A grid point's blocks inside their arrays. -/
theorem iblk0_mat (c : Dev nD) (t : Fin cfg1.N) (p q : ℕ) (hq : q < 256) :
    mat (m := 18944) (n := 256) (iblk W c 0 t : Vec Ideal S18944x256 .bf16) p q = mat (m := 18944) (n := 3584) (src W c) p (256 * t.val + q) := by
  obtain ⟨⟨h0, h1⟩, -⟩ := index_facts t
  have hN := N_eq
  have ht := t.isLt
  by_cases hp : p < 18944
  · rw [mat_eq _ hp hq, mat_eq _ hp (show 256 * t.val + q < 3584 by omega)]
    refine congrArg (src W c) (funext fun a => Fin.ext ?_)
    match a with
    | ⟨0, _⟩ => show win1_0.index t 0 * 18944 + 1 * p = p; rw [h0]; omega
    | ⟨1, _⟩ => show win1_0.index t 1 * 256 + 1 * q = 256 * t.val + q; rw [h1]; omega
  · unfold mat rd
    rw [dif_neg (fun h => hp h.1), dif_neg (fun h => hp h.1)]

theorem iblk1_eq (c : Dev nD) (t : Fin cfg1.N) : (iblk W c 1 t : Vec Ideal S256x256 .bf16) = by_ W c := by
  obtain ⟨-, ⟨h0, h1⟩, -⟩ := index_facts t
  funext j
  refine congrArg (by_ W c) (funext fun a => Fin.ext ?_)
  match a with
  | ⟨0, _⟩ => show win1_1.index t 0 * 256 + 1 * (j 0).val = (j 0).val; rw [h0]; omega
  | ⟨1, _⟩ => show win1_1.index t 1 * 256 + 1 * (j 1).val = (j 1).val; rw [h1]; omega

theorem turned_block (c : Dev nD) (t : Fin cfg1.N) (p q : ℕ) (hq : q < 256) :
    turned (iblk W c 0 t) (iblk W c 1 t) p q = grad W c p (256 * t.val + q) := by
  unfold turned grad turnL
  rw [iblk1_eq]
  refine Finset.sum_congr rfl fun x _ => ?_
  rw [iblk0_mat W c t _ _ hq]

/-- The codes and the scales. -/
def codes (c : Dev nD) : Vec Ideal S18944x3584 .i8 := fun j => colCode 18944 (grad W c) (j 0).val (j 1).val
def scales (c : Dev nD) : Vec Ideal S1x3584 .f32 := fun j => colScale 18944 (grad W c) (j 1).val

theorem flushed2 (c : Dev nD) (t : Fin cfg1.N) :
    (dats W c).flushed 2 t = ((cfg1.win 2).blk t).view.read (Elt Ideal) (codes W c) := by
  obtain ⟨-, -, ⟨h0, h1⟩, -⟩ := index_facts t
  show (cfg1.win 2).cut (grid1.coords t) ((dats W c).after 2 t) = _
  rw [after2]
  funext j
  refine (outC_apply (iblk W c 0 t) (iblk W c 1 t) j).trans ?_
  refine (colCode_congr (fun p => turned_block W c t p (j 1).val (j 1).isLt) (j 0).val).trans ?_
  have e : ∀ a a' b b', a = a' → b = b' → colCode 18944 (grad W c) a b = colCode 18944 (grad W c) a' b' := fun a a' b b' x y => by rw [x, y]
  refine e _ _ _ _ ?_ ?_
  · show (j 0).val = win1_2.index t 0 * 18944 + 1 * (j 0).val; rw [h0]; omega
  · show 256 * t.val + (j 1).val = win1_2.index t 1 * 256 + 1 * (j 1).val; rw [h1]; omega

theorem flushed3 (c : Dev nD) (t : Fin cfg1.N) :
    (dats W c).flushed 3 t = ((cfg1.win 3).blk t).view.read (Elt Ideal) (scales W c) := by
  obtain ⟨-, -, -, ⟨h0, h1⟩⟩ := index_facts t
  show (cfg1.win 3).cut (grid1.coords t) ((dats W c).after 3 t) = _
  rw [after3]
  funext j
  refine Eq.trans (congrArg (outS (iblk W c 0 t) (iblk W c 1 t)) (eq_ix2 (n0 := 1) (n1 := 256) j)) ?_
  refine (outS_apply (iblk W c 0 t) (iblk W c 1 t) (j 0) (j 1)).trans ?_
  refine (colScale_congr (fun p => turned_block W c t p (j 1).val (j 1).isLt)).trans ?_
  unfold scales
  generalize colScale 18944 (grad W c) = f
  refine congrArg f ?_
  show 256 * t.val + (j 1).val = win1_3.index t 1 * 256 + 1 * (j 1).val; rw [h1]; omega

theorem final2 (c : Dev nD) : (dats W c).arrAt 2 cfg1.N = codes W c :=
  (dats W c).arrAt_eq_of_cover 2 (codes W c) (fun t _ => flushed2 W c t) fun i => by
    have hN := N_eq
    have h0 : (i 0 : Nat) < 18944 := (i 0).isLt
    have h1 : (i 1 : Nat) < 3584 := (i 1).isLt
    let t : Fin cfg1.N := ⟨(i 1 : Nat) / 256, by omega⟩
    obtain ⟨-, -, ⟨e0, e1⟩, -⟩ := index_facts t
    have et : t.val = (i 1 : Nat) / 256 := rfl
    refine ⟨t, flush1_2 t, ?_⟩
    show i ∈ ((View.whole main_v31_0).slice (win1_2.rect t)).set
    rw [View.set_slice_whole, Rect.mem_set_unit]
    intro a
    match a with
    | ⟨0, _⟩ => show win1_2.index t 0 * 18944 ≤ (i 0 : Nat) ∧ (i 0 : Nat) < win1_2.index t 0 * 18944 + 18944; rw [e0]; omega
    | ⟨1, _⟩ => show win1_2.index t 1 * 256 ≤ (i 1 : Nat) ∧ (i 1 : Nat) < win1_2.index t 1 * 256 + 256; rw [e1]; omega

theorem final3 (c : Dev nD) : (dats W c).arrAt 3 cfg1.N = scales W c :=
  (dats W c).arrAt_eq_of_cover 3 (scales W c) (fun t _ => flushed3 W c t) fun i => by
    have hN := N_eq
    have h0 : (i 0 : Nat) < 1 := (i 0).isLt
    have h1 : (i 1 : Nat) < 3584 := (i 1).isLt
    let t : Fin cfg1.N := ⟨(i 1 : Nat) / 256, by omega⟩
    obtain ⟨-, -, -, ⟨e0, e1⟩⟩ := index_facts t
    have et : t.val = (i 1 : Nat) / 256 := rfl
    refine ⟨t, flush1_3 t, ?_⟩
    show i ∈ ((View.whole main_v31_1).slice (win1_3.rect t)).set
    rw [View.set_slice_whole, Rect.mem_set_unit]
    intro a
    match a with
    | ⟨0, _⟩ => show win1_3.index t 0 * 1 ≤ (i 0 : Nat) ∧ (i 0 : Nat) < win1_3.index t 0 * 1 + 1; rw [e0]; omega
    | ⟨1, _⟩ => show win1_3.index t 1 * 256 ≤ (i 1 : Nat) ∧ (i 1 : Nat) < win1_3.index t 1 * 256 + 256; rw [e1]; omega

end Cert.KernelIdeal.Wq

end
-- ==== Proof.KernelIdealXqValue.lean ====
/-
  The value of the third call at the extended reals: the codes and scales of the turned activation's columns.
-/
module

public import proofs.«01_k».proof.Proof.KernelIdealXq
public import proofs.«01_k».proof.Proof.Spec

@[expose] public section

noncomputable section

namespace Cert.KernelIdeal.Xq

open Cert.KernelIdeal Cert.KernelIdeal.Gen Cert.Spec
open Idealize.ShloMosaic Idealize.ShloMosaic.TcCoe Idealize.SL.Sem
open Idealize.ShloMosaic.Pipeline (Dat)

/-- The turned block. -/
def turned (x1 : Vec Ideal S1536x512 .bf16) (x2 : Vec Ideal S128x128 .bf16) : ℕ → ℕ → EReal := fun p q => turnL 128 (mat x2) (mat x1) p q * c8

theorem tile_apply (x1 : Vec Ideal S1536x512 .bf16) (k : Fin k2_t1_loop.trips) (p : Fin 128) (q : Fin 512) :
    tile x1 k (Idealize.ShloMosaic.ix2 p q) = mat (m := 1536) (n := 512) x1 (128 * k.val + p.val) q := by
  have hk : k.val < 12 := lt_of_lt_of_eq k.isLt trips1
  have hn : 128 * k.val + p.val < 1536 := by omega
  rw [mat_eq _ hn q.isLt]
  refine Whole.ld_at x1 _ _ _ _ _ fun a => ?_
  rw [k2_off1_eq]
  match a with
  | ⟨0, _⟩ => show 128 * k.val + p.val = 128 * k.val + p.val; rfl
  | ⟨1, _⟩ => show q.val = 0 + q.val; omega

theorem pay2_sum (a : Vec Ideal S128x512 .bf16) (h : Vec Ideal S128x128 .bf16) (p : Fin 128) (q : Fin 512) :
    (k2_pay2 (F := Ideal) h a (Idealize.ShloMosaic.ix2 p q) : EReal) = (∑ x : Fin 128, (h (Idealize.ShloMosaic.ix2 p x) : EReal) * a (Idealize.ShloMosaic.ix2 x q)) * c8 := by
  pointwise [k2_pay2, c8]

theorem pay2_apply (x1 : Vec Ideal S1536x512 .bf16) (x2 : Vec Ideal S128x128 .bf16) (k : Fin k2_t1_loop.trips) (p : Fin 128) (q : Fin 512) :
    k2_pay2 (F := Ideal) x2 (tile x1 k) (Idealize.ShloMosaic.ix2 p q) = turned x1 x2 (128 * k.val + p.val) q := by
  have e1 : (128 * k.val + p.val) / 128 = k.val := by omega
  have e2 : (128 * k.val + p.val) % 128 = p.val := by omega
  rw [pay2_sum]
  unfold turned turnL
  rw [e1, e2, Finset.sum_range]
  refine congrArg (· * c8) ?_
  refine Finset.sum_congr rfl fun x _ => ?_
  rw [tile_apply x1 k x q, mat_fin]

theorem rot_apply (x1 : Vec Ideal S1536x512 .bf16) (x2 : Vec Ideal S128x128 .bf16) (y : S1536x512.Idx) :
    rot x1 x2 y = turned x1 x2 (y 0).val (y 1).val := by
  have e : 128 * ((y 0).val / 128) + (y 0).val % 128 = (y 0).val := by omega
  have h := pay2_apply x1 x2 ⟨(y 0).val / 128, div1 y⟩ (⟨(y 0).val % 128, Nat.mod_lt _ (by decide)⟩ : Fin 128) (y 1)
  rw [show 128 * (⟨(y 0).val / 128, div1 y⟩ : Fin k2_t1_loop.trips).val + (⟨(y 0).val % 128, Nat.mod_lt _ (by decide)⟩ : Fin 128).val = (y 0).val from e] at h
  refine Eq.trans ?_ h
  unfold rot k2_pay3
  rw [shapeCast_self]
  rfl

/-! ## The running maximum -/

theorem pay4_apply (r : FVec Ideal S8x512 .f32) (a : Vec Ideal S128x512 .bf16) (h : Vec Ideal S128x128 .bf16) (l : Fin 8) (q : Fin 512) :
    (k2_pay4 (F := Ideal) r h a (Idealize.ShloMosaic.ix2 l q) : EReal) = max (r (Idealize.ShloMosaic.ix2 l q))
      (Finset.fold max (Ideal.ofBits .f32 4286578688#32) (fun x : Fin 16 =>
        mag (k2_pay2 (F := Ideal) h a (Idealize.ShloMosaic.ix2 (⟨x.val * 8 + l.val, by omega⟩ : Fin 128) q))) Finset.univ) := by
  generalize hg : k2_pay2 (F := Ideal) h a = g
  unfold k2_pay4 mag
  rw [hg]
  pointwise

theorem am_le (x1 : Vec Ideal S1536x512 .bf16) (x2 : Vec Ideal S128x128 .bf16) (q : Fin 512) (b : EReal) :
    ∀ k, k ≤ 12 → ((∀ l : Fin 8, (am x1 x2 k (Idealize.ShloMosaic.ix2 l q) : EReal) ≤ b) ↔ (0 ≤ b ∧ ∀ n, n < 128 * k → mag (turned x1 x2 n q) ≤ b))
  | 0, _ => by
    have e : ∀ l : Fin 8, (am x1 x2 0 (Idealize.ShloMosaic.ix2 l q) : EReal) = 0 := fun l => by
      rw [am]; pointwise [k2_pay1]
    simp only [e]
    exact ⟨fun h => ⟨h 0, fun n hn => absurd hn (by omega)⟩, fun h _ => h.1⟩
  | k + 1, hk => by
    have ih := am_le x1 x2 q b k (by omega)
    have hk' : k < k2_t1_loop.trips := by rw [trips1]; omega
    have e : ∀ l : Fin 8, (am x1 x2 (k + 1) (Idealize.ShloMosaic.ix2 l q) : EReal) = max (am x1 x2 k (Idealize.ShloMosaic.ix2 l q))
        (Finset.fold max (Ideal.ofBits .f32 4286578688#32) (fun x : Fin 16 => mag (turned x1 x2 (128 * k + (x.val * 8 + l.val)) q)) Finset.univ) := fun l => by
      rw [am, dif_pos hk', pay4_apply]
      simp only [pay2_apply]
    simp only [e, max_le_iff, fold_le]
    constructor
    · intro h
      obtain ⟨h0, h1⟩ := ih.mp fun l => (h l).1
      refine ⟨h0, fun n hn => ?_⟩
      rcases lt_or_ge n (128 * k) with hl | hl
      · exact h1 n hl
      · have := (h ⟨(n - 128 * k) % 8, Nat.mod_lt _ (by decide)⟩).2 ⟨(n - 128 * k) / 8, by omega⟩
        rwa [show 128 * k + ((n - 128 * k) / 8 * 8 + (n - 128 * k) % 8) = n by omega] at this
    · intro h l
      have hl := l.isLt
      exact ⟨ih.mpr ⟨h.1, fun n hn => h.2 n (by omega)⟩ l, fun x => h.2 _ (by have := x.isLt; omega)⟩

theorem outS_apply (x1 : Vec Ideal S1536x512 .bf16) (x2 : Vec Ideal S128x128 .bf16) (p : Fin 1) (q : Fin 512) :
    (outS x1 x2 (Idealize.ShloMosaic.ix2 p q) : EReal) = colScale 1536 (turned x1 x2) q := by
  have key : ∀ r : FVec Ideal S8x512 .f32, (k2_pay5 (F := Ideal) r (Idealize.ShloMosaic.ix2 p q) : EReal)
      = scale (Finset.fold max (Ideal.ofBits .f32 4286578688#32) (fun l : Fin 8 => (r (Idealize.ShloMosaic.ix2 l q) : EReal)) Finset.univ) := fun r => by
    pointwise [k2_pay5, scale]
  unfold outS colScale colTop
  rw [key]
  refine congrArg scale (eq_top (by decide) _ _ fun b => ?_)
  rw [fold_le, trips1]
  exact am_le x1 x2 q b 12 le_rfl

theorem outC_apply (x1 : Vec Ideal S1536x512 .bf16) (x2 : Vec Ideal S128x128 .bf16) (y : S1536x512.Idx) :
    outC x1 x2 y = colCode 1536 (turned x1 x2) (y 0).val (y 1).val := by
  have key : ∀ (r : FVec Ideal S8x512 .f32) (v : Vec Ideal S128x512 .f32) (p : Fin 128) (q : Fin 512), k2_pay6 (F := Ideal) r v (Idealize.ShloMosaic.ix2 p q)
      = code (k2_pay5 (F := Ideal) r (Idealize.ShloMosaic.ix2 (0 : Fin 1) q)) (v (Idealize.ShloMosaic.ix2 p q)) := fun r v p q => by
    generalize hg : k2_pay5 (F := Ideal) r = g
    unfold k2_pay6 code
    rw [hg]
    pointwise
  unfold outC cod within
  refine (key _ _ _ _).trans ?_
  unfold colCode
  rw [← rot_apply]
  refine congr (congrArg code (outS_apply x1 x2 0 (y 1))) ?_
  refine Whole.ld_at (rot x1 x2) _ _ _ _ _ fun a => ?_
  rw [k2_off2_eq]
  match a with
  | ⟨0, _⟩ => show (y 0).val = 128 * ((y 0).val / 128) + (y 0).val % 128; omega
  | ⟨1, _⟩ => show (y 1).val = 0 + (y 1).val; omega

/-! ## The result arrays -/

variable (W : Dev nD → Valuation τ sig (Elt Ideal))

/-- The array turned, the matrix it is turned by, and the turned array. -/
abbrev src (c : Dev nD) : Vec Ideal S1536x3584 .bf16 := W c (Proc.devRef .tc main_v0)
abbrev by_ (c : Dev nD) : Vec Ideal S128x128 .bf16 := W c (Proc.devRef .tc main_v29)
def grad (c : Dev nD) : ℕ → ℕ → EReal := fun p q => turnL 128 (mat (by_ W c)) (mat (src W c)) p q * c8

/-- Which block of each array a grid point has. -/
theorem index_facts : ∀ t : Fin cfg2.N,
    (win2_0.index t 0 = 0 ∧ win2_0.index t 1 = t.val) ∧ (win2_1.index t 0 = 0 ∧ win2_1.index t 1 = 0)
      ∧ (win2_2.index t 0 = 0 ∧ win2_2.index t 1 = t.val) ∧ (win2_3.index t 0 = 0 ∧ win2_3.index t 1 = t.val) :=
  (by decide +kernel : ∀ t : Fin grid2.N, _)

theorem N_eq : cfg2.N = 7 := N_2

/-- A grid point's blocks inside their arrays. -/
theorem iblk0_mat (c : Dev nD) (t : Fin cfg2.N) (p q : ℕ) (hq : q < 512) :
    mat (m := 1536) (n := 512) (iblk W c 0 t : Vec Ideal S1536x512 .bf16) p q = mat (m := 1536) (n := 3584) (src W c) p (512 * t.val + q) := by
  obtain ⟨⟨h0, h1⟩, -⟩ := index_facts t
  have hN := N_eq
  have ht := t.isLt
  by_cases hp : p < 1536
  · rw [mat_eq _ hp hq, mat_eq _ hp (show 512 * t.val + q < 3584 by omega)]
    refine congrArg (src W c) (funext fun a => Fin.ext ?_)
    match a with
    | ⟨0, _⟩ => show win2_0.index t 0 * 1536 + 1 * p = p; rw [h0]; omega
    | ⟨1, _⟩ => show win2_0.index t 1 * 512 + 1 * q = 512 * t.val + q; rw [h1]; omega
  · unfold mat rd
    rw [dif_neg (fun h => hp h.1), dif_neg (fun h => hp h.1)]

theorem iblk1_eq (c : Dev nD) (t : Fin cfg2.N) : (iblk W c 1 t : Vec Ideal S128x128 .bf16) = by_ W c := by
  obtain ⟨-, ⟨h0, h1⟩, -⟩ := index_facts t
  funext j
  refine congrArg (by_ W c) (funext fun a => Fin.ext ?_)
  match a with
  | ⟨0, _⟩ => show win2_1.index t 0 * 128 + 1 * (j 0).val = (j 0).val; rw [h0]; omega
  | ⟨1, _⟩ => show win2_1.index t 1 * 128 + 1 * (j 1).val = (j 1).val; rw [h1]; omega

theorem turned_block (c : Dev nD) (t : Fin cfg2.N) (p q : ℕ) (hq : q < 512) :
    turned (iblk W c 0 t) (iblk W c 1 t) p q = grad W c p (512 * t.val + q) := by
  unfold turned grad turnL
  rw [iblk1_eq]
  refine congrArg (· * c8) ?_
  refine Finset.sum_congr rfl fun x _ => ?_
  rw [iblk0_mat W c t _ _ hq]

/-- The codes and the scales. -/
def codes (c : Dev nD) : Vec Ideal S1536x3584 .i8 := fun j => colCode 1536 (grad W c) (j 0).val (j 1).val
def scales (c : Dev nD) : Vec Ideal S1x3584 .f32 := fun j => colScale 1536 (grad W c) (j 1).val

theorem flushed2 (c : Dev nD) (t : Fin cfg2.N) :
    (dats W c).flushed 2 t = ((cfg2.win 2).blk t).view.read (Elt Ideal) (codes W c) := by
  obtain ⟨-, -, ⟨h0, h1⟩, -⟩ := index_facts t
  show (cfg2.win 2).cut (grid2.coords t) ((dats W c).after 2 t) = _
  rw [after2]
  funext j
  refine (outC_apply (iblk W c 0 t) (iblk W c 1 t) j).trans ?_
  refine (colCode_congr (fun p => turned_block W c t p (j 1).val (j 1).isLt) (j 0).val).trans ?_
  have e : ∀ a a' b b', a = a' → b = b' → colCode 1536 (grad W c) a b = colCode 1536 (grad W c) a' b' := fun a a' b b' x y => by rw [x, y]
  refine e _ _ _ _ ?_ ?_
  · show (j 0).val = win2_2.index t 0 * 1536 + 1 * (j 0).val; rw [h0]; omega
  · show 512 * t.val + (j 1).val = win2_2.index t 1 * 512 + 1 * (j 1).val; rw [h1]; omega

theorem flushed3 (c : Dev nD) (t : Fin cfg2.N) :
    (dats W c).flushed 3 t = ((cfg2.win 3).blk t).view.read (Elt Ideal) (scales W c) := by
  obtain ⟨-, -, -, ⟨h0, h1⟩⟩ := index_facts t
  show (cfg2.win 3).cut (grid2.coords t) ((dats W c).after 3 t) = _
  rw [after3]
  funext j
  refine Eq.trans (congrArg (outS (iblk W c 0 t) (iblk W c 1 t)) (eq_ix2 (n0 := 1) (n1 := 512) j)) ?_
  refine (outS_apply (iblk W c 0 t) (iblk W c 1 t) (j 0) (j 1)).trans ?_
  refine (colScale_congr (fun p => turned_block W c t p (j 1).val (j 1).isLt)).trans ?_
  unfold scales
  generalize colScale 1536 (grad W c) = f
  refine congrArg f ?_
  show 512 * t.val + (j 1).val = win2_3.index t 1 * 512 + 1 * (j 1).val; rw [h1]; omega

theorem final2 (c : Dev nD) : (dats W c).arrAt 2 cfg2.N = codes W c :=
  (dats W c).arrAt_eq_of_cover 2 (codes W c) (fun t _ => flushed2 W c t) fun i => by
    have hN := N_eq
    have h0 : (i 0 : Nat) < 1536 := (i 0).isLt
    have h1 : (i 1 : Nat) < 3584 := (i 1).isLt
    let t : Fin cfg2.N := ⟨(i 1 : Nat) / 512, by omega⟩
    obtain ⟨-, -, ⟨e0, e1⟩, -⟩ := index_facts t
    have et : t.val = (i 1 : Nat) / 512 := rfl
    refine ⟨t, flush2_2 t, ?_⟩
    show i ∈ ((View.whole main_v32_0).slice (win2_2.rect t)).set
    rw [View.set_slice_whole, Rect.mem_set_unit]
    intro a
    match a with
    | ⟨0, _⟩ => show win2_2.index t 0 * 1536 ≤ (i 0 : Nat) ∧ (i 0 : Nat) < win2_2.index t 0 * 1536 + 1536; rw [e0]; omega
    | ⟨1, _⟩ => show win2_2.index t 1 * 512 ≤ (i 1 : Nat) ∧ (i 1 : Nat) < win2_2.index t 1 * 512 + 512; rw [e1]; omega

theorem final3 (c : Dev nD) : (dats W c).arrAt 3 cfg2.N = scales W c :=
  (dats W c).arrAt_eq_of_cover 3 (scales W c) (fun t _ => flushed3 W c t) fun i => by
    have hN := N_eq
    have h0 : (i 0 : Nat) < 1 := (i 0).isLt
    have h1 : (i 1 : Nat) < 3584 := (i 1).isLt
    let t : Fin cfg2.N := ⟨(i 1 : Nat) / 512, by omega⟩
    obtain ⟨-, -, -, ⟨e0, e1⟩⟩ := index_facts t
    have et : t.val = (i 1 : Nat) / 512 := rfl
    refine ⟨t, flush2_3 t, ?_⟩
    show i ∈ ((View.whole main_v32_1).slice (win2_3.rect t)).set
    rw [View.set_slice_whole, Rect.mem_set_unit]
    intro a
    match a with
    | ⟨0, _⟩ => show win2_3.index t 0 * 1 ≤ (i 0 : Nat) ∧ (i 0 : Nat) < win2_3.index t 0 * 1 + 1; rw [e0]; omega
    | ⟨1, _⟩ => show win2_3.index t 1 * 512 ≤ (i 1 : Nat) ∧ (i 1 : Nat) < win2_3.index t 1 * 512 + 512; rw [e1]; omega

end Cert.KernelIdeal.Xq

end
-- ==== Proof.KernelIdealDgradValue.lean ====
/-
  The value of the fourth call at the extended reals: the product of the two code matrices, times the two scales.

  The call adds the products of 37 tiles of 512 output channels one after another (`acc_apply`: after `k` tiles the
  accumulator is the sum over the first `512 k` channels); a grid point writes one block of 256 columns of the result,
  and the 14 blocks cover it (`final4`).
-/
module

public import proofs.«01_k».proof.Proof.KernelIdealDgrad
public import proofs.«01_k».proof.Proof.Spec

@[expose] public section

noncomputable section

namespace Cert.KernelIdeal.Dgrad

open Cert.KernelIdeal Cert.KernelIdeal.Gen Cert.Spec
open Idealize.ShloMosaic Idealize.ShloMosaic.TcCoe Idealize.SL.Sem
open Idealize.ShloMosaic.Pipeline (Dat)

/-- Entry `(p, n)` of the codes times entry `(n, q)` of the other codes. -/
def term (x : Vec Ideal S1536x18944 .i8) (y : Vec Ideal S18944x256 .i8) (p q n : ℕ) : EReal :=
  val (cmat (m := 1536) (n := 18944) x p n) * val (cmat (m := 18944) (n := 256) y n q)

theorem pay1_apply (x : Vec Ideal S1536x18944 .i8) (y : Vec Ideal S18944x256 .i8) (k : Fin k3_t1_loop.trips) (p : Fin 1536) (q : Fin 256) :
    (k3_pay1 (F := Ideal) (tileG x k) (tileW y k) (Idealize.ShloMosaic.ix2 p q) : EReal) = ∑ l ∈ Finset.range 512, term x y p q (k.val * 512 + l) := by
  have key : ∀ (a : Vec Ideal S1536x512 .i8) (b : Vec Ideal S512x256 .i8), (k3_pay1 (F := Ideal) a b (Idealize.ShloMosaic.ix2 p q) : EReal)
      = ∑ l : Fin 512, val (a (Idealize.ShloMosaic.ix2 p l)) * val (b (Idealize.ShloMosaic.ix2 l q)) := fun a b => by
    unfold val
    pointwise [k3_pay1]
  have hk : k.val < 37 := lt_of_lt_of_eq k.isLt trips_eq
  rw [key, Finset.sum_range]
  refine Finset.sum_congr rfl fun l _ => ?_
  have hl := l.isLt
  have hn : k.val * 512 + l.val < 18944 := by omega
  unfold term
  rw [cmat_eq _ p.isLt hn, cmat_eq _ hn q.isLt]
  refine congr (congrArg (fun u v : EReal => u * v) (congrArg val ?_)) (congrArg val ?_)
  · refine Whole.ld_at x _ _ _ _ _ fun a => ?_
    rw [k3_off1_eq]
    match a with
    | ⟨0, _⟩ => show p.val = 0 + p.val; omega
    | ⟨1, _⟩ => show k.val * 512 + l.val = 512 * k.val + l.val; omega
  · refine Whole.ld_at y _ _ _ _ _ fun a => ?_
    rw [k3_off2_eq]
    match a with
    | ⟨0, _⟩ => show k.val * 512 + l.val = 512 * k.val + l.val; omega
    | ⟨1, _⟩ => show q.val = 0 + q.val; omega

theorem acc_apply (x : Vec Ideal S1536x18944 .i8) (y : Vec Ideal S18944x256 .i8) (p : Fin 1536) (q : Fin 256) :
    ∀ k, 0 < k → k ≤ 37 → (acc x y k (Idealize.ShloMosaic.ix2 p q) : EReal) = ∑ n ∈ Finset.range (k * 512), term x y p q n
  | 0, h, _ => absurd h (lt_irrefl 0)
  | k + 1, _, hk => by
    have hk' : k < k3_t1_loop.trips := by rw [trips_eq]; omega
    rw [Nat.succ_mul, Finset.sum_range_add, ← pay1_apply x y ⟨k, hk'⟩ p q]
    rcases Nat.eq_zero_or_pos k with rfl | hpos
    · rw [Nat.zero_mul, Finset.range_zero, Finset.sum_empty]
      rw [acc, dif_pos hk', if_pos rfl]
      unfold k3_pay2
      rw [shapeCast_self, zero_add]
    · rw [← acc_apply x y p q k hpos (by omega), acc, dif_pos hk', if_neg (by omega)]
      unfold k3_pay3
      rw [shapeCast_self]
      rfl

theorem out_apply (x : Vec Ideal S1536x18944 .i8) (y : Vec Ideal S18944x256 .i8) (s : Vec Ideal S1536x1 .f32) (t : Vec Ideal S1x256 .f32) (p : Fin 1536) (q : Fin 256) :
    (out x y s t (Idealize.ShloMosaic.ix2 p q) : EReal) = prod 18944 (cmat (m := 1536) (n := 18944) x) (cmat (m := 18944) (n := 256) y) (fun p => mat (m := 1536) (n := 1) s p 0) (fun q => mat (m := 1) (n := 256) t 0 q) p q := by
  have key : ∀ a : Vec Ideal S1536x256 .f32, (k3_pay4 (F := Ideal) a s t (Idealize.ShloMosaic.ix2 p q) : EReal)
      = a (Idealize.ShloMosaic.ix2 p q) * s (Idealize.ShloMosaic.ix2 p (0 : Fin 1)) * t (Idealize.ShloMosaic.ix2 (0 : Fin 1) q) := fun a => by
    pointwise [k3_pay4]
  unfold out prod
  beta_reduce
  rw [key, trips_eq, acc_apply x y p q 37 (by decide) le_rfl, mat_eq _ p.isLt Nat.zero_lt_one, mat_eq _ Nat.zero_lt_one q.isLt]
  rfl

/-! ## The result array -/

variable (W : Dev nD → Valuation τ sig (Elt Ideal))

/-- The codes and scales the call reads. -/
abbrev oc (c : Dev nD) : Vec Ideal S1536x18944 .i8 := W c (Proc.devRef .tc main_v30_0)
abbrev wc (c : Dev nD) : Vec Ideal S18944x3584 .i8 := W c (Proc.devRef .tc main_v31_0)
abbrev os (c : Dev nD) : Vec Ideal S1536x1 .f32 := W c (Proc.devRef .tc main_v30_1)
abbrev ws (c : Dev nD) : Vec Ideal S1x3584 .f32 := W c (Proc.devRef .tc main_v31_1)

/-- The product. -/
def result (c : Dev nD) : Vec Ideal S1536x3584 .bf16 := fun j =>
  prod 18944 (cmat (m := 1536) (n := 18944) (oc W c)) (cmat (m := 18944) (n := 3584) (wc W c)) (fun p => mat (m := 1536) (n := 1) (os W c) p 0) (fun q => mat (m := 1) (n := 3584) (ws W c) 0 q)
    (j 0).val (j 1).val

/-- Which block of each array a grid point has. -/
theorem index_facts : ∀ t : Fin cfg3.N,
    (win3_0.index t 0 = 0 ∧ win3_0.index t 1 = 0) ∧ (win3_1.index t 0 = 0 ∧ win3_1.index t 1 = t.val)
      ∧ (win3_2.index t 0 = 0 ∧ win3_2.index t 1 = 0) ∧ (win3_3.index t 0 = 0 ∧ win3_3.index t 1 = t.val)
      ∧ (win3_4.index t 0 = 0 ∧ win3_4.index t 1 = t.val) :=
  (by decide +kernel : ∀ t : Fin grid3.N, _)

theorem N_eq : cfg3.N = 14 := N_3

theorem iblk0_eq (c : Dev nD) (t : Fin cfg3.N) : (iblk W c 0 t : Vec Ideal S1536x18944 .i8) = oc W c := by
  obtain ⟨⟨h0, h1⟩, -⟩ := index_facts t
  funext j
  refine congrArg (oc W c) (funext fun a => Fin.ext ?_)
  match a with
  | ⟨0, _⟩ => show win3_0.index t 0 * 1536 + 1 * (j 0).val = (j 0).val; rw [h0]; omega
  | ⟨1, _⟩ => show win3_0.index t 1 * 18944 + 1 * (j 1).val = (j 1).val; rw [h1]; omega

theorem iblk2_eq (c : Dev nD) (t : Fin cfg3.N) : (iblk W c 2 t : Vec Ideal S1536x1 .f32) = os W c := by
  obtain ⟨-, -, ⟨h0, h1⟩, -⟩ := index_facts t
  funext j
  refine congrArg (os W c) (funext fun a => Fin.ext ?_)
  match a with
  | ⟨0, _⟩ => show win3_2.index t 0 * 1536 + 1 * (j 0).val = (j 0).val; rw [h0]; omega
  | ⟨1, _⟩ => show win3_2.index t 1 * 1 + 1 * (j 1).val = (j 1).val; rw [h1]; omega

theorem iblk1_mat (c : Dev nD) (t : Fin cfg3.N) (n q : ℕ) (hn : n < 18944) (hq : q < 256) :
    cmat (m := 18944) (n := 256) (iblk W c 1 t : Vec Ideal S18944x256 .i8) n q = cmat (m := 18944) (n := 3584) (wc W c) n (256 * t.val + q) := by
  obtain ⟨-, ⟨h0, h1⟩, -⟩ := index_facts t
  have hN := N_eq
  have ht := t.isLt
  rw [cmat_eq _ hn hq, cmat_eq _ hn (show 256 * t.val + q < 3584 by omega)]
  refine congrArg (wc W c) (funext fun a => Fin.ext ?_)
  match a with
  | ⟨0, _⟩ => show win3_1.index t 0 * 18944 + 1 * n = n; rw [h0]; omega
  | ⟨1, _⟩ => show win3_1.index t 1 * 256 + 1 * q = 256 * t.val + q; rw [h1]; omega

theorem iblk3_mat (c : Dev nD) (t : Fin cfg3.N) (q : ℕ) (hq : q < 256) :
    mat (m := 1) (n := 256) (iblk W c 3 t : Vec Ideal S1x256 .f32) 0 q = mat (m := 1) (n := 3584) (ws W c) 0 (256 * t.val + q) := by
  obtain ⟨-, -, -, ⟨h0, h1⟩, -⟩ := index_facts t
  have hN := N_eq
  have ht := t.isLt
  rw [mat_eq _ Nat.zero_lt_one hq, mat_eq _ Nat.zero_lt_one (show 256 * t.val + q < 3584 by omega)]
  refine congrArg (ws W c) (funext fun a => Fin.ext ?_)
  match a with
  | ⟨0, _⟩ => show win3_3.index t 0 * 1 + 1 * 0 = 0; rw [h0]
  | ⟨1, _⟩ => show win3_3.index t 1 * 256 + 1 * q = 256 * t.val + q; rw [h1]; omega

theorem flushed4 (c : Dev nD) (t : Fin cfg3.N) :
    (dats W c).flushed 4 t = ((cfg3.win 4).blk t).view.read (Elt Ideal) (result W c) := by
  obtain ⟨-, -, -, -, ⟨h0, h1⟩⟩ := index_facts t
  show (cfg3.win 4).cut (grid3.coords t) ((dats W c).after 4 t) = _
  rw [after4]
  funext j
  refine Eq.trans (congrArg (outAt W c t) (eq_ix2 (n0 := 1536) (n1 := 256) j)) ?_
  unfold outAt
  refine (out_apply (iblk W c 0 t) (iblk W c 1 t) (iblk W c 2 t) (iblk W c 3 t) (j 0) (j 1)).trans ?_
  rw [iblk0_eq, iblk2_eq]
  refine (prod_congr (p' := (j 0).val) (q' := 256 * t.val + (j 1).val) (fun k _ => rfl) (fun k hk => iblk1_mat W c t k (j 1).val hk (j 1).isLt) rfl
    (t' := fun q => mat (m := 1) (n := 3584) (ws W c) 0 q) (iblk3_mat W c t (j 1).val (j 1).isLt)).trans ?_
  have e : ∀ f : ℕ → ℕ → EReal, ∀ a a' b b', a = a' → b = b' → f a b = f a' b' := fun f a a' b b' x y => by rw [x, y]
  refine e (prod 18944 (cmat (m := 1536) (n := 18944) (oc W c)) (cmat (m := 18944) (n := 3584) (wc W c)) (fun p => mat (m := 1536) (n := 1) (os W c) p 0) (fun q => mat (m := 1) (n := 3584) (ws W c) 0 q)) _ _ _ _ ?_ ?_
  · show (j 0).val = win3_4.index t 0 * 1536 + 1 * (j 0).val; rw [h0]; omega
  · show 256 * t.val + (j 1).val = win3_4.index t 1 * 256 + 1 * (j 1).val; rw [h1]; omega

theorem final4 (c : Dev nD) : (dats W c).arrAt 4 cfg3.N = result W c :=
  (dats W c).arrAt_eq_of_cover 4 (result W c) (fun t _ => flushed4 W c t) fun i => by
    have hN := N_eq
    have h0 : (i 0 : Nat) < 1536 := (i 0).isLt
    have h1 : (i 1 : Nat) < 3584 := (i 1).isLt
    let t : Fin cfg3.N := ⟨(i 1 : Nat) / 256, by omega⟩
    obtain ⟨-, -, -, -, ⟨e0, e1⟩⟩ := index_facts t
    have et : t.val = (i 1 : Nat) / 256 := rfl
    refine ⟨t, flush3_4 t, ?_⟩
    show i ∈ ((View.whole main_v33).slice (win3_4.rect t)).set
    rw [View.set_slice_whole, Rect.mem_set_unit]
    intro a
    match a with
    | ⟨0, _⟩ => show win3_4.index t 0 * 1536 ≤ (i 0 : Nat) ∧ (i 0 : Nat) < win3_4.index t 0 * 1536 + 1536; rw [e0]; omega
    | ⟨1, _⟩ => show win3_4.index t 1 * 256 ≤ (i 1 : Nat) ∧ (i 1 : Nat) < win3_4.index t 1 * 256 + 256; rw [e1]; omega

end Cert.KernelIdeal.Dgrad

end
-- ==== Proof.KernelIdealWgradValue.lean ====
/-
  The value of the last call at the extended reals: the codes and scales of the turned output gradient's columns, and
  the product of those codes with the activation's codes, times the two scales.
-/
module

public import proofs.«01_k».proof.Proof.KernelIdealWgrad
public import proofs.«01_k».proof.Proof.Spec

@[expose] public section

noncomputable section

namespace Cert.KernelIdeal.Wgrad

open Cert.KernelIdeal Cert.KernelIdeal.Gen Cert.Spec
open Idealize.ShloMosaic Idealize.ShloMosaic.TcCoe Idealize.SL.Sem
open Idealize.ShloMosaic.Pipeline (Dat)

/-- The turned block. -/
def turned (x1 : Vec Ideal S1536x256 .bf16) (x4 : Vec Ideal S128x128 .bf16) : ℕ → ℕ → EReal := fun p q => turnL 128 (mat x4) (mat x1) p q * c8

theorem blk_apply (x1 : Vec Ideal S1536x256 .bf16) (j : Fin 12) (p : Fin 128) (q : Fin 256) :
    blk x1 j (Idealize.ShloMosaic.ix2 p q) = mat (m := 1536) (n := 256) x1 (128 * j.val + p.val) q := by
  have hn : 128 * j.val + p.val < 1536 := by omega
  rw [mat_eq _ hn q.isLt]
  refine Whole.ld_at x1 _ _ _ _ _ fun a => ?_
  match a with
  | ⟨0, _⟩ => show 128 * j.val + p.val = 128 * j.val + p.val; rfl
  | ⟨1, _⟩ => show q.val = 0 + q.val; omega

theorem pay5_sum (a : Vec Ideal S128x256 .bf16) (h : Vec Ideal S128x128 .bf16) (p : Fin 128) (q : Fin 256) :
    (k4_pay5 (F := Ideal) h a (Idealize.ShloMosaic.ix2 p q) : EReal) = (∑ x : Fin 128, (h (Idealize.ShloMosaic.ix2 p x) : EReal) * a (Idealize.ShloMosaic.ix2 x q)) * c8 := by
  pointwise [k4_pay5, c8]

theorem pay5_apply (x1 : Vec Ideal S1536x256 .bf16) (x4 : Vec Ideal S128x128 .bf16) (j : Fin 12) (p : Fin 128) (q : Fin 256) :
    k4_pay5 (F := Ideal) x4 (blk x1 j) (Idealize.ShloMosaic.ix2 p q) = turned x1 x4 (128 * j.val + p.val) q := by
  have e1 : (128 * j.val + p.val) / 128 = j.val := by omega
  have e2 : (128 * j.val + p.val) % 128 = p.val := by omega
  rw [pay5_sum]
  unfold turned turnL
  rw [e1, e2, Finset.sum_range]
  refine congrArg (· * c8) (Finset.sum_congr rfl fun x _ => ?_)
  rw [blk_apply x1 j x q, mat_fin]

theorem rot_apply (x1 : Vec Ideal S1536x256 .bf16) (x4 : Vec Ideal S128x128 .bf16) (y : S1536x256.Idx) :
    rot x1 x4 y = turned x1 x4 (y 0).val (y 1).val := by
  have e : 128 * ((y 0).val / 128) + (y 0).val % 128 = (y 0).val := by omega
  have h := pay5_apply x1 x4 ⟨(y 0).val / 128, div1 y⟩ (⟨(y 0).val % 128, Nat.mod_lt _ (by decide)⟩ : Fin 128) (y 1)
  rw [show 128 * (⟨(y 0).val / 128, div1 y⟩ : Fin 12).val + (⟨(y 0).val % 128, Nat.mod_lt _ (by decide)⟩ : Fin 128).val = (y 0).val from e] at h
  refine Eq.trans ?_ h
  unfold rot k4_pay6
  rw [shapeCast_self]
  rfl

/-! ## The largest magnitudes -/

/-- The largest magnitude of a turned tile's rows `l`, `8 + l`, `16 + l`, ... -/
def top8 (g : FVec Ideal S128x256 .f32) (l : Fin 8) (q : Fin 256) : EReal :=
  Finset.fold max (Ideal.ofBits .f32 4286578688#32) (fun x : Fin 16 => mag (g (Idealize.ShloMosaic.ix2 (⟨x.val * 8 + l.val, by omega⟩ : Fin 128) q))) Finset.univ

theorem pay9_apply (a b : Vec Ideal S128x256 .bf16) (h : Vec Ideal S128x128 .bf16) (l : Fin 8) (q : Fin 256) :
    (k4_pay9 (F := Ideal) h a h b (Idealize.ShloMosaic.ix2 l q) : EReal) = max (max 0 (top8 (k4_pay5 h a) l q)) (top8 (k4_pay5 h b) l q) := by
  have e : k4_pay7 (F := Ideal) h b = k4_pay5 h b := rfl
  unfold k4_pay9 top8 mag
  rw [e]
  generalize k4_pay5 (F := Ideal) h a = g
  generalize k4_pay5 (F := Ideal) h b = g'
  pointwise

theorem pay14_apply (r : FVec Ideal S8x256 .f32) (a b : Vec Ideal S128x256 .bf16) (h : Vec Ideal S128x128 .bf16) (l : Fin 8) (q : Fin 256) :
    (k4_pay14 (F := Ideal) r h a h b (Idealize.ShloMosaic.ix2 l q) : EReal) = max (max (r (Idealize.ShloMosaic.ix2 l q)) (top8 (k4_pay5 h a) l q)) (top8 (k4_pay5 h b) l q) := by
  have e : k4_pay10 (F := Ideal) h a = k4_pay5 h a := rfl
  have e' : k4_pay12 (F := Ideal) h b = k4_pay5 h b := rfl
  unfold k4_pay14 top8 mag
  rw [e, e']
  generalize k4_pay5 (F := Ideal) h a = g
  generalize k4_pay5 (F := Ideal) h b = g'
  pointwise

theorem pay26_eq (r : FVec Ideal S8x256 .f32) (a b : Vec Ideal S128x256 .bf16) (h : Vec Ideal S128x128 .bf16) : k4_pay26 (F := Ideal) r h a h b = k4_pay14 r h a h b := rfl

theorem pay21_apply (r : FVec Ideal S8x256 .f32) (g : FVec Ideal S128x256 .f32) (a b : Vec Ideal S128x256 .bf16) (h : Vec Ideal S128x128 .bf16) (l : Fin 8) (q : Fin 256) :
    (k4_pay21 (F := Ideal) r g h a h b (Idealize.ShloMosaic.ix2 l q) : EReal)
      = max (max (max (r (Idealize.ShloMosaic.ix2 l q)) (top8 g l q)) (top8 (k4_pay5 h a) l q)) (top8 (k4_pay5 h b) l q) := by
  have e : k4_pay17 (F := Ideal) h a = k4_pay5 h a := rfl
  have e' : k4_pay19 (F := Ideal) h b = k4_pay5 h b := rfl
  unfold k4_pay21 top8 mag
  rw [e, e']
  generalize k4_pay5 (F := Ideal) h a = g'
  generalize k4_pay5 (F := Ideal) h b = g''
  pointwise

theorem pay33_apply (r : FVec Ideal S8x256 .f32) (g : FVec Ideal S128x256 .f32) (a b : Vec Ideal S128x256 .bf16) (h : Vec Ideal S128x128 .bf16) (p : Fin 1) (q : Fin 256) :
    (k4_pay33 (F := Ideal) r g h a h b (Idealize.ShloMosaic.ix2 p q) : EReal)
      = Finset.fold max (Ideal.ofBits .f32 4286578688#32) (fun l : Fin 8 => max (max (max (r (Idealize.ShloMosaic.ix2 l q)) (top8 g l q)) (top8 (k4_pay5 h a) l q)) (top8 (k4_pay5 h b) l q)) Finset.univ := by
  have e : k4_pay29 (F := Ideal) h a = k4_pay5 h a := rfl
  have e' : k4_pay31 (F := Ideal) h b = k4_pay5 h b := rfl
  unfold k4_pay33 top8 mag
  rw [e, e']
  generalize k4_pay5 (F := Ideal) h a = g'
  generalize k4_pay5 (F := Ideal) h b = g''
  pointwise

theorem top8_le (x1 : Vec Ideal S1536x256 .bf16) (x4 : Vec Ideal S128x128 .bf16) (j : Fin 12) (l : Fin 8) (q : Fin 256) (b : EReal) :
    top8 (k4_pay5 (F := Ideal) x4 (blk x1 j)) l q ≤ b ↔ ∀ x : Fin 16, mag (turned x1 x4 (128 * j.val + (x.val * 8 + l.val)) q) ≤ b := by
  unfold top8
  rw [fold_le]
  simp only [pay5_apply]

theorem am_le (x1 : Vec Ideal S1536x256 .bf16) (x4 : Vec Ideal S128x128 .bf16) (p : Fin 1) (q : Fin 256) (b : EReal) :
    (am x1 x4 (Idealize.ShloMosaic.ix2 p q) : EReal) ≤ b ↔ (0 ≤ b ∧ ∀ n, n < 1536 → mag (turned x1 x4 n q) ≤ b) := by
  have e15 : ∀ a, k4_pay15 (F := Ideal) x4 a = k4_pay5 x4 a := fun a => rfl
  have e27 : ∀ a, k4_pay27 (F := Ideal) x4 a = k4_pay5 x4 a := fun a => rfl
  unfold am
  rw [pay33_apply, fold_le]
  simp only [pay26_eq, pay14_apply, pay21_apply, pay9_apply, e15, e27, max_le_iff, top8_le]
  constructor
  · intro h
    have hall : ∀ (j : Fin 12) (l : Fin 8) (x : Fin 16), mag (turned x1 x4 (128 * j.val + (x.val * 8 + l.val)) q) ≤ b := fun j l x => by
      obtain ⟨⟨⟨⟨⟨⟨⟨⟨⟨⟨⟨⟨h00, h0⟩, h1⟩, h2⟩, h3⟩, h4⟩, h5⟩, h6⟩, h7⟩, h8⟩, h9⟩, h10⟩, h11⟩ := h l
      match j with
      | ⟨0, _⟩ => exact h0 x
      | ⟨1, _⟩ => exact h1 x
      | ⟨2, _⟩ => exact h2 x
      | ⟨3, _⟩ => exact h3 x
      | ⟨4, _⟩ => exact h4 x
      | ⟨5, _⟩ => exact h5 x
      | ⟨6, _⟩ => exact h6 x
      | ⟨7, _⟩ => exact h7 x
      | ⟨8, _⟩ => exact h8 x
      | ⟨9, _⟩ => exact h9 x
      | ⟨10, _⟩ => exact h10 x
      | ⟨11, _⟩ => exact h11 x
    refine ⟨(by obtain ⟨⟨⟨⟨⟨⟨⟨⟨⟨⟨⟨⟨h00, h0⟩, h1⟩, h2⟩, h3⟩, h4⟩, h5⟩, h6⟩, h7⟩, h8⟩, h9⟩, h10⟩, h11⟩ := h 0; exact h00), fun n hn => ?_⟩
    have := hall ⟨n / 128, by omega⟩ ⟨n % 8, Nat.mod_lt _ (by decide)⟩ ⟨n % 128 / 8, by omega⟩
    rwa [show 128 * (⟨n / 128, by omega⟩ : Fin 12).val + ((⟨n % 128 / 8, by omega⟩ : Fin 16).val * 8 + (⟨n % 8, Nat.mod_lt _ (by decide)⟩ : Fin 8).val) = n from
      (by show 128 * (n / 128) + (n % 128 / 8 * 8 + n % 8) = n; omega)] at this
  · intro h l
    have hall : ∀ (j : Fin 12) (x : Fin 16), mag (turned x1 x4 (128 * j.val + (x.val * 8 + l.val)) q) ≤ b := fun j x =>
      h.2 _ (by have := j.isLt; have := x.isLt; have := l.isLt; omega)
    exact ⟨⟨⟨⟨⟨⟨⟨⟨⟨⟨⟨⟨h.1, hall 0⟩, hall 1⟩, hall 2⟩, hall 3⟩, hall 4⟩, hall 5⟩, hall 6⟩, hall 7⟩, hall 8⟩, hall 9⟩, hall 10⟩, hall 11⟩

theorem am_eq (x1 : Vec Ideal S1536x256 .bf16) (x4 : Vec Ideal S128x128 .bf16) (p : Fin 1) (q : Fin 256) :
    (am x1 x4 (Idealize.ShloMosaic.ix2 p q) : EReal) = colTop 1536 (turned x1 x4) q :=
  eq_top (by decide) _ _ fun b => am_le x1 x4 p q b

theorem outS_apply (x1 : Vec Ideal S1536x256 .bf16) (x4 : Vec Ideal S128x128 .bf16) (p : Fin 1) (q : Fin 256) :
    (outS x1 x4 (Idealize.ShloMosaic.ix2 p q) : EReal) = colScale 1536 (turned x1 x4) q := by
  have key : ∀ r : FVec Ideal S1x256 .f32, (k4_pay1 (F := Ideal) r (Idealize.ShloMosaic.ix2 p q) : EReal) = scale (r (Idealize.ShloMosaic.ix2 p q)) := fun r => by
    pointwise [k4_pay1, scale]
  unfold outS colScale
  rw [key, am_eq]

theorem outC_apply (x1 : Vec Ideal S1536x256 .bf16) (x4 : Vec Ideal S128x128 .bf16) (p : Fin 1536) (q : Fin 256) :
    outC x1 x4 (Idealize.ShloMosaic.ix2 p q) = colCode 1536 (turned x1 x4) p q := by
  have key : ∀ (r : FVec Ideal S1x256 .f32) (v : Vec Ideal S1536x256 .f32), k4_pay2 (F := Ideal) r v (Idealize.ShloMosaic.ix2 p q)
      = code (k4_pay1 (F := Ideal) r (Idealize.ShloMosaic.ix2 (0 : Fin 1) q)) (v (Idealize.ShloMosaic.ix2 p q)) := fun r v => by
    generalize hg : k4_pay1 (F := Ideal) r = g
    unfold k4_pay2 code
    rw [hg]
    pointwise
  unfold outC
  refine (key _ _).trans ?_
  unfold colCode
  exact congr (congrArg code (outS_apply x1 x4 0 q)) (rot_apply x1 x4 _)

theorem outW_apply (x1 : Vec Ideal S1536x256 .bf16) (x2 : Vec Ideal S1536x3584 .i8) (x3 : Vec Ideal S1x3584 .f32) (x4 : Vec Ideal S128x128 .bf16) (p : Fin 256) (q : Fin 3584) :
    (outW x1 x2 x3 x4 (Idealize.ShloMosaic.ix2 p q) : EReal) = prod 1536 (fun o k => colCode 1536 (turned x1 x4) k o) (cmat (m := 1536) (n := 3584) x2)
      (colScale 1536 (turned x1 x4)) (fun i => mat (m := 1) (n := 3584) x3 0 i) p q := by
  have key : ∀ (r : FVec Ideal S1x256 .f32) (v : Vec Ideal S1536x256 .f32), (k4_pay3 (F := Ideal) r v (k4_pay4 x2) x3 (Idealize.ShloMosaic.ix2 p q) : EReal)
      = (∑ k : Fin 1536, val (k4_pay2 (F := Ideal) r v (Idealize.ShloMosaic.ix2 k p)) * val (x2 (Idealize.ShloMosaic.ix2 k q)))
        * k4_pay1 (F := Ideal) r (Idealize.ShloMosaic.ix2 (0 : Fin 1) p) * x3 (Idealize.ShloMosaic.ix2 (0 : Fin 1) q) := fun r v => by
    unfold k4_pay3 val
    generalize k4_pay2 (F := Ideal) r v = g
    generalize k4_pay1 (F := Ideal) r = g'
    pointwise [k4_pay4]
  unfold outW prod
  beta_reduce
  rw [key, mat_eq _ Nat.zero_lt_one q.isLt, Finset.sum_range]
  refine congr (congrArg (fun u v : EReal => u * v) ?_) rfl
  refine congr (congrArg (fun u v : EReal => u * v) ?_) (outS_apply x1 x4 0 p)
  refine Finset.sum_congr rfl fun k _ => ?_
  rw [cmat_eq _ k.isLt q.isLt]
  exact congrArg (· * val (x2 (Idealize.ShloMosaic.ix2 k q))) (congrArg val (outC_apply x1 x4 k p))

/-! ## The result arrays -/

variable (W : Dev nD → Valuation τ sig (Elt Ideal))

/-- The array turned, the matrix it is turned by, the turned array, and the activation's codes and scales. -/
abbrev src (c : Dev nD) : Vec Ideal S1536x18944 .bf16 := W c (Proc.devRef .tc main_v1)
abbrev by_ (c : Dev nD) : Vec Ideal S128x128 .bf16 := W c (Proc.devRef .tc main_v29)
def grad (c : Dev nD) : ℕ → ℕ → EReal := fun p q => turnL 128 (mat (by_ W c)) (mat (src W c)) p q * c8
abbrev xc (c : Dev nD) : Vec Ideal S1536x3584 .i8 := W c (Proc.devRef .tc main_v32_0)
abbrev xs (c : Dev nD) : Vec Ideal S1x3584 .f32 := W c (Proc.devRef .tc main_v32_1)

/-- Which block of each array a grid point has. -/
theorem index_facts : ∀ t : Fin cfg4.N,
    (win4_0.index t 0 = 0 ∧ win4_0.index t 1 = t.val) ∧ (win4_1.index t 0 = 0 ∧ win4_1.index t 1 = 0)
      ∧ (win4_2.index t 0 = 0 ∧ win4_2.index t 1 = 0) ∧ (win4_3.index t 0 = 0 ∧ win4_3.index t 1 = 0)
      ∧ (win4_4.index t 0 = t.val ∧ win4_4.index t 1 = 0) ∧ (win4_5.index t 0 = 0 ∧ win4_5.index t 1 = t.val)
      ∧ (win4_6.index t 0 = 0 ∧ win4_6.index t 1 = t.val) :=
  (by decide +kernel : ∀ t : Fin grid4.N, _)

theorem N_eq : cfg4.N = 74 := N_4

theorem iblk0_mat (c : Dev nD) (t : Fin cfg4.N) (p q : ℕ) (hq : q < 256) :
    mat (m := 1536) (n := 256) (iblk W c 0 t : Vec Ideal S1536x256 .bf16) p q = mat (m := 1536) (n := 18944) (src W c) p (256 * t.val + q) := by
  obtain ⟨⟨h0, h1⟩, -⟩ := index_facts t
  have hN := N_eq
  have ht := t.isLt
  by_cases hp : p < 1536
  · rw [mat_eq _ hp hq, mat_eq _ hp (show 256 * t.val + q < 18944 by omega)]
    refine congrArg (src W c) (funext fun a => Fin.ext ?_)
    match a with
    | ⟨0, _⟩ => show win4_0.index t 0 * 1536 + 1 * p = p; rw [h0]; omega
    | ⟨1, _⟩ => show win4_0.index t 1 * 256 + 1 * q = 256 * t.val + q; rw [h1]; omega
  · unfold mat rd
    rw [dif_neg (fun h => hp h.1), dif_neg (fun h => hp h.1)]

theorem iblk1_eq (c : Dev nD) (t : Fin cfg4.N) : (iblk W c 1 t : Vec Ideal S1536x3584 .i8) = xc W c := by
  obtain ⟨-, ⟨h0, h1⟩, -⟩ := index_facts t
  funext j
  refine congrArg (xc W c) (funext fun a => Fin.ext ?_)
  match a with
  | ⟨0, _⟩ => show win4_1.index t 0 * 1536 + 1 * (j 0).val = (j 0).val; rw [h0]; omega
  | ⟨1, _⟩ => show win4_1.index t 1 * 3584 + 1 * (j 1).val = (j 1).val; rw [h1]; omega

theorem iblk2_eq (c : Dev nD) (t : Fin cfg4.N) : (iblk W c 2 t : Vec Ideal S1x3584 .f32) = xs W c := by
  obtain ⟨-, -, ⟨h0, h1⟩, -⟩ := index_facts t
  funext j
  refine congrArg (xs W c) (funext fun a => Fin.ext ?_)
  match a with
  | ⟨0, _⟩ => show win4_2.index t 0 * 1 + 1 * (j 0).val = (j 0).val; rw [h0]; omega
  | ⟨1, _⟩ => show win4_2.index t 1 * 3584 + 1 * (j 1).val = (j 1).val; rw [h1]; omega

theorem iblk3_eq (c : Dev nD) (t : Fin cfg4.N) : (iblk W c 3 t : Vec Ideal S128x128 .bf16) = by_ W c := by
  obtain ⟨-, -, -, ⟨h0, h1⟩, -⟩ := index_facts t
  funext j
  refine congrArg (by_ W c) (funext fun a => Fin.ext ?_)
  match a with
  | ⟨0, _⟩ => show win4_3.index t 0 * 128 + 1 * (j 0).val = (j 0).val; rw [h0]; omega
  | ⟨1, _⟩ => show win4_3.index t 1 * 128 + 1 * (j 1).val = (j 1).val; rw [h1]; omega

theorem turned_block (c : Dev nD) (t : Fin cfg4.N) (p q : ℕ) (hq : q < 256) :
    turned (iblk W c 0 t) (iblk W c 3 t) p q = grad W c p (256 * t.val + q) := by
  unfold turned grad turnL
  rw [iblk3_eq]
  refine congrArg (· * c8) (Finset.sum_congr rfl fun x _ => ?_)
  rw [iblk0_mat W c t _ _ hq]

/-- The codes, the scales and the product. -/
def codes (c : Dev nD) : Vec Ideal S1536x18944 .i8 := fun j => colCode 1536 (grad W c) (j 0).val (j 1).val
def scales (c : Dev nD) : Vec Ideal S1x18944 .f32 := fun j => colScale 1536 (grad W c) (j 1).val
def result (c : Dev nD) : Vec Ideal S18944x3584 .f32 := fun j =>
  prod 1536 (fun o k => colCode 1536 (grad W c) k o) (cmat (m := 1536) (n := 3584) (xc W c)) (colScale 1536 (grad W c)) (fun i => mat (m := 1) (n := 3584) (xs W c) 0 i)
    (j 0).val (j 1).val

theorem flushed4 (c : Dev nD) (t : Fin cfg4.N) :
    (dats W c).flushed 4 t = ((cfg4.win 4).blk t).view.read (Elt Ideal) (result W c) := by
  obtain ⟨-, -, -, -, ⟨h0, h1⟩, -⟩ := index_facts t
  show (cfg4.win 4).cut (grid4.coords t) ((dats W c).after 4 t) = _
  rw [after4]
  funext j
  refine Eq.trans (congrArg (outW (iblk W c 0 t) (iblk W c 1 t) (iblk W c 2 t) (iblk W c 3 t)) (eq_ix2 (n0 := 256) (n1 := 3584) j)) ?_
  refine (outW_apply (iblk W c 0 t) (iblk W c 1 t) (iblk W c 2 t) (iblk W c 3 t) (j 0) (j 1)).trans ?_
  rw [iblk1_eq, iblk2_eq]
  refine (prod_congr (p' := 256 * t.val + (j 0).val) (q' := (j 1).val) (x' := fun o k => colCode 1536 (grad W c) k o)
    (fun k _ => colCode_congr (fun p => turned_block W c t p (j 0).val (j 0).isLt) k) (fun k _ => rfl)
    (s' := colScale 1536 (grad W c)) (colScale_congr (fun p => turned_block W c t p (j 0).val (j 0).isLt)) rfl).trans ?_
  have e : ∀ f : ℕ → ℕ → EReal, ∀ a a' b b', a = a' → b = b' → f a b = f a' b' := fun f a a' b b' x y => by rw [x, y]
  refine e (prod 1536 (fun o k => colCode 1536 (grad W c) k o) (cmat (m := 1536) (n := 3584) (xc W c)) (colScale 1536 (grad W c)) (fun i => mat (m := 1) (n := 3584) (xs W c) 0 i)) _ _ _ _ ?_ ?_
  · show 256 * t.val + (j 0).val = win4_4.index t 0 * 256 + 1 * (j 0).val; rw [h0]; omega
  · show (j 1).val = win4_4.index t 1 * 3584 + 1 * (j 1).val; rw [h1]; omega

theorem flushed5 (c : Dev nD) (t : Fin cfg4.N) :
    (dats W c).flushed 5 t = ((cfg4.win 5).blk t).view.read (Elt Ideal) (codes W c) := by
  obtain ⟨-, -, -, -, -, ⟨h0, h1⟩, -⟩ := index_facts t
  show (cfg4.win 5).cut (grid4.coords t) ((dats W c).after 5 t) = _
  rw [after5]
  funext j
  refine Eq.trans (congrArg (outC (iblk W c 0 t) (iblk W c 3 t)) (eq_ix2 (n0 := 1536) (n1 := 256) j)) ?_
  refine (outC_apply (iblk W c 0 t) (iblk W c 3 t) (j 0) (j 1)).trans ?_
  refine (colCode_congr (fun p => turned_block W c t p (j 1).val (j 1).isLt) (j 0).val).trans ?_
  have e : ∀ a a' b b', a = a' → b = b' → colCode 1536 (grad W c) a b = colCode 1536 (grad W c) a' b' := fun a a' b b' x y => by rw [x, y]
  refine e _ _ _ _ ?_ ?_
  · show (j 0).val = win4_5.index t 0 * 1536 + 1 * (j 0).val; rw [h0]; omega
  · show 256 * t.val + (j 1).val = win4_5.index t 1 * 256 + 1 * (j 1).val; rw [h1]; omega

theorem flushed6 (c : Dev nD) (t : Fin cfg4.N) :
    (dats W c).flushed 6 t = ((cfg4.win 6).blk t).view.read (Elt Ideal) (scales W c) := by
  obtain ⟨-, -, -, -, -, -, ⟨h0, h1⟩⟩ := index_facts t
  show (cfg4.win 6).cut (grid4.coords t) ((dats W c).after 6 t) = _
  rw [after6]
  funext j
  refine Eq.trans (congrArg (outS (iblk W c 0 t) (iblk W c 3 t)) (eq_ix2 (n0 := 1) (n1 := 256) j)) ?_
  refine (outS_apply (iblk W c 0 t) (iblk W c 3 t) (j 0) (j 1)).trans ?_
  refine (colScale_congr (fun p => turned_block W c t p (j 1).val (j 1).isLt)).trans ?_
  unfold scales
  generalize colScale 1536 (grad W c) = f
  refine congrArg f ?_
  show 256 * t.val + (j 1).val = win4_6.index t 1 * 256 + 1 * (j 1).val; rw [h1]; omega

theorem final4 (c : Dev nD) : (dats W c).arrAt 4 cfg4.N = result W c :=
  (dats W c).arrAt_eq_of_cover 4 (result W c) (fun t _ => flushed4 W c t) fun i => by
    have hN := N_eq
    have h0 : (i 0 : Nat) < 18944 := (i 0).isLt
    have h1 : (i 1 : Nat) < 3584 := (i 1).isLt
    let t : Fin cfg4.N := ⟨(i 0 : Nat) / 256, by omega⟩
    obtain ⟨-, -, -, -, ⟨e0, e1⟩, -⟩ := index_facts t
    have et : t.val = (i 0 : Nat) / 256 := rfl
    refine ⟨t, flush4_4 t, ?_⟩
    show i ∈ ((View.whole main_v34_0).slice (win4_4.rect t)).set
    rw [View.set_slice_whole, Rect.mem_set_unit]
    intro a
    match a with
    | ⟨0, _⟩ => show win4_4.index t 0 * 256 ≤ (i 0 : Nat) ∧ (i 0 : Nat) < win4_4.index t 0 * 256 + 256; rw [e0]; omega
    | ⟨1, _⟩ => show win4_4.index t 1 * 3584 ≤ (i 1 : Nat) ∧ (i 1 : Nat) < win4_4.index t 1 * 3584 + 3584; rw [e1]; omega

theorem final5 (c : Dev nD) : (dats W c).arrAt 5 cfg4.N = codes W c :=
  (dats W c).arrAt_eq_of_cover 5 (codes W c) (fun t _ => flushed5 W c t) fun i => by
    have hN := N_eq
    have h0 : (i 0 : Nat) < 1536 := (i 0).isLt
    have h1 : (i 1 : Nat) < 18944 := (i 1).isLt
    let t : Fin cfg4.N := ⟨(i 1 : Nat) / 256, by omega⟩
    obtain ⟨-, -, -, -, -, ⟨e0, e1⟩, -⟩ := index_facts t
    have et : t.val = (i 1 : Nat) / 256 := rfl
    refine ⟨t, flush4_5 t, ?_⟩
    show i ∈ ((View.whole main_v34_1).slice (win4_5.rect t)).set
    rw [View.set_slice_whole, Rect.mem_set_unit]
    intro a
    match a with
    | ⟨0, _⟩ => show win4_5.index t 0 * 1536 ≤ (i 0 : Nat) ∧ (i 0 : Nat) < win4_5.index t 0 * 1536 + 1536; rw [e0]; omega
    | ⟨1, _⟩ => show win4_5.index t 1 * 256 ≤ (i 1 : Nat) ∧ (i 1 : Nat) < win4_5.index t 1 * 256 + 256; rw [e1]; omega

theorem final6 (c : Dev nD) : (dats W c).arrAt 6 cfg4.N = scales W c :=
  (dats W c).arrAt_eq_of_cover 6 (scales W c) (fun t _ => flushed6 W c t) fun i => by
    have hN := N_eq
    have h0 : (i 0 : Nat) < 1 := (i 0).isLt
    have h1 : (i 1 : Nat) < 18944 := (i 1).isLt
    let t : Fin cfg4.N := ⟨(i 1 : Nat) / 256, by omega⟩
    obtain ⟨-, -, -, -, -, -, ⟨e0, e1⟩⟩ := index_facts t
    have et : t.val = (i 1 : Nat) / 256 := rfl
    refine ⟨t, flush4_6 t, ?_⟩
    show i ∈ ((View.whole main_v34_2).slice (win4_6.rect t)).set
    rw [View.set_slice_whole, Rect.mem_set_unit]
    intro a
    match a with
    | ⟨0, _⟩ => show win4_6.index t 0 * 1 ≤ (i 0 : Nat) ∧ (i 0 : Nat) < win4_6.index t 0 * 1 + 1; rw [e0]; omega
    | ⟨1, _⟩ => show win4_6.index t 1 * 256 ≤ (i 1 : Nat) ∧ (i 1 : Nat) < win4_6.index t 1 * 256 + 256; rw [e1]; omega

end Cert.KernelIdeal.Wgrad

end
-- ==== Proof.KernelIdealValue.lean ====
/-
  The values of the whole kernel at the extended reals: its ten results as functions of its three arguments.
-/
module

public import proofs.«01_k».proof.Proof.KernelIdealRun
public import proofs.«01_k».proof.Proof.KernelIdealDyoValue
public import proofs.«01_k».proof.Proof.KernelIdealWqValue
public import proofs.«01_k».proof.Proof.KernelIdealXqValue
public import proofs.«01_k».proof.Proof.KernelIdealDgradValue
public import proofs.«01_k».proof.Proof.KernelIdealWgradValue

@[expose] public section

noncomputable section

namespace Cert.KernelIdeal.Value

open Cert.KernelIdeal Cert.KernelIdeal.Gen Cert.KernelIdeal.Run Cert.Spec
open Idealize.ShloMosaic Idealize.ShloMosaic.TcCoe Idealize.SL.Sem

variable (m : (ℓ : Loc nD τ sig) → Buf (Elt Ideal) ℓ)

/-- The three arguments. -/
def X (c : Dev nD) : ℕ → ℕ → EReal := flat (n := 3584) (m ((c : Thread nD τ).loc main_arg0) : Vec Ideal S3x512x3584 .bf16)
def Wt (c : Dev nD) : ℕ → ℕ → EReal := mat (m := 18944) (n := 3584) (m ((c : Thread nD τ).loc main_arg1) : Vec Ideal S18944x3584 .bf16)
def Y (c : Dev nD) : ℕ → ℕ → EReal := flat (n := 18944) (m ((c : Thread nD τ).loc main_arg2) : Vec Ideal S3x512x18944 .bf16)

/-! ## What the host hands to the calls -/

theorem V1_v0 (c : Dev nD) : mat (m := 1536) (n := 3584) (V1 m c (Proc.devRef .tc main_v0) : Vec Ideal S1536x3584 .bf16) = X m c := by
  have e : V1 m c (Proc.devRef .tc main_v0) = (show Vec Ideal S1536x3584 .bf16 from
      shapeCast S1536x3584 (V0 m c (Proc.devRef .tc main_arg0) : Vec Ideal S3x512x3584 .bf16) shapeCasts_S3x512x3584_S1536x3584) := by after_results; rfl
  rw [e]
  unfold mat X flat
  refine rd_ext fun p q => ?_
  pointwise

theorem V1_v1 (c : Dev nD) : mat (m := 1536) (n := 18944) (V1 m c (Proc.devRef .tc main_v1) : Vec Ideal S1536x18944 .bf16) = Y m c := by
  have e : V1 m c (Proc.devRef .tc main_v1) = (show Vec Ideal S1536x18944 .bf16 from
      shapeCast S1536x18944 (V0 m c (Proc.devRef .tc main_arg2) : Vec Ideal S3x512x18944 .bf16) shapeCasts_S3x512x18944_S1536x18944) := by after_results; rfl
  rw [e]
  unfold mat Y flat
  refine rd_ext fun p q => ?_
  pointwise

/-- The sign matrix of 256 entries a side, its factor inside. -/
theorem V1_v15 (c : Dev nD) (p q : ℕ) (hp : p < 256) (hq : q < 256) :
    mat (m := 256) (n := 256) (V1 m c (Proc.devRef .tc main_v15) : Vec Ideal S256x256 .bf16) p q = sgn p q * c16 := by
  have e : V1 m c (Proc.devRef .tc main_v15) = (show FVec Ideal S256x256 .bf16 from
      truncf .bf16 (mulf (sitofp .f32 (subi (broadcastInDim S256x256 ![] bcast_S_S256x256 (constantI S_ 32 1#32))
        (muli (broadcastInDim S256x256 ![] bcast_S_S256x256 (constantI S_ 32 2#32)) (andi (ctpop (andi (iotaInDim S256x256 32 0) (iotaInDim S256x256 32 1)))
          (broadcastInDim S256x256 ![] bcast_S_S256x256 (constantI S_ 32 1#32))))))
        (broadcastInDim S256x256 ![] bcast_S_S256x256 (constant S_ .f32 0x3D800000#32))) bitsLt_bf16_f32) := by after_results
  rw [e, mat_eq _ hp hq]
  unfold sgn c16
  pointwise
  rfl

/-- The sign matrix of 128 entries a side. -/
theorem V1_v29 (c : Dev nD) (p q : ℕ) (hp : p < 128) (hq : q < 128) :
    mat (m := 128) (n := 128) (V1 m c (Proc.devRef .tc main_v29) : Vec Ideal S128x128 .bf16) p q = sgn p q := by
  have e : V1 m c (Proc.devRef .tc main_v29) = (show FVec Ideal S128x128 .bf16 from
      truncf .bf16 (mulf (sitofp .f32 (subi (broadcastInDim S128x128 ![] bcast_S_S128x128 (constantI S_ 32 1#32))
        (muli (broadcastInDim S128x128 ![] bcast_S_S128x128 (constantI S_ 32 2#32)) (andi (ctpop (andi (iotaInDim S128x128 32 0) (iotaInDim S128x128 32 1)))
          (broadcastInDim S128x128 ![] bcast_S_S128x128 (constantI S_ 32 1#32))))))
        (broadcastInDim S128x128 ![] bcast_S_S128x128 (constant S_ .f32 0x3F800000#32))) bitsLt_bf16_f32) := by after_results
  rw [e, mat_eq _ hp hq]
  unfold sgn
  pointwise
  rfl

/-! ## A buffer a call does not write -/

theorem W2_of (c : Dev nD) (r : Ref sig .tc) (h : r ∉ ([main_v30_0, main_v30_1] : List (Ref sig .tc))) : W2 m c (Proc.devRef .tc r) = V1 m c (Proc.devRef .tc r) := V2_of m (outs m) c r h
theorem W3_of (c : Dev nD) (r : Ref sig .tc) (h : r ∉ ([main_v31_0, main_v31_1] : List (Ref sig .tc))) : W3 m c (Proc.devRef .tc r) = W2 m c (Proc.devRef .tc r) := V3_of m (outs m) c r h
theorem W4_of (c : Dev nD) (r : Ref sig .tc) (h : r ∉ ([main_v32_0, main_v32_1] : List (Ref sig .tc))) : W4 m c (Proc.devRef .tc r) = W3 m c (Proc.devRef .tc r) := V4_of m (outs m) c r h
theorem W5_of (c : Dev nD) (r : Ref sig .tc) (h : r ∉ ([main_v33] : List (Ref sig .tc))) : W5 m c (Proc.devRef .tc r) = W4 m c (Proc.devRef .tc r) := V5_of m (outs m) c r h
theorem W6_of (c : Dev nD) (r : Ref sig .tc) (h : r ∉ ([main_v34_0, main_v34_1, main_v34_2] : List (Ref sig .tc))) : W6 m c (Proc.devRef .tc r) = W5 m c (Proc.devRef .tc r) := V6_of m (outs m) c r h

/-! ## The first three calls -/

theorem grad0 (c : Dev nD) : Dyo.grad (V1 m) c = turnedY (Y m c) := by
  unfold Dyo.grad Dyo.src Dyo.by_
  rw [V1_v1, turnR_congr (by decide) (V1_v15 m c)]
  funext p q
  exact turnR_scaled 256 sgn _ p q

theorem grad1 (c : Dev nD) : Wq.grad (W2 m) c = turnedW (Wt m c) := by
  unfold Wq.grad Wq.src Wq.by_
  rw [W2_of m c main_arg1 (by decide), W2_of m c main_v15 (by decide), turnL_congr (by decide) (V1_v15 m c), V1_of m c main_arg1 (by decide)]
  funext p q
  exact turnL_scaled 256 sgn _ p q

theorem grad2 (c : Dev nD) : Xq.grad (W3 m) c = turnedT (X m c) := by
  unfold Xq.grad Xq.src Xq.by_
  rw [W3_of m c main_v0 (by decide), W3_of m c main_v29 (by decide), W2_of m c main_v0 (by decide), W2_of m c main_v29 (by decide), V1_v0,
    turnL_congr (by decide) (V1_v29 m c)]
  rfl

theorem oc_eq (c : Dev nD) : W2 m c (Proc.devRef .tc main_v30_0) = (show Vec Ideal S1536x18944 .i8 from fun j => yCode (Y m c) (j 0).val (j 1).val) := by
  refine (after_0 m c main_v30_0).symm.trans ?_
  refine (Pipeline.afterRegion_arr (Dyo.dats (V1 m) c) (V1 m c) launch0.win.arr_inj 2).trans ((Dyo.final2 (V1 m) c).trans ?_)
  unfold Dyo.codes
  rw [grad0]
  rfl

theorem os_eq (c : Dev nD) : W2 m c (Proc.devRef .tc main_v30_1) = (show Vec Ideal S1536x1 .f32 from fun j => yScale (Y m c) (j 0).val) := by
  refine (after_0 m c main_v30_1).symm.trans ?_
  refine (Pipeline.afterRegion_arr (Dyo.dats (V1 m) c) (V1 m c) launch0.win.arr_inj 3).trans ((Dyo.final3 (V1 m) c).trans ?_)
  unfold Dyo.scales
  rw [grad0]
  rfl

theorem wc_eq (c : Dev nD) : W3 m c (Proc.devRef .tc main_v31_0) = (show Vec Ideal S18944x3584 .i8 from fun j => wCode (Wt m c) (j 0).val (j 1).val) := by
  refine (after_1 m c main_v31_0).symm.trans ?_
  refine (Pipeline.afterRegion_arr (Wq.dats (W2 m) c) (W2 m c) launch1.win.arr_inj 2).trans ((Wq.final2 (W2 m) c).trans ?_)
  unfold Wq.codes
  rw [grad1]
  rfl

theorem ws_eq (c : Dev nD) : W3 m c (Proc.devRef .tc main_v31_1) = (show Vec Ideal S1x3584 .f32 from fun j => wScale (Wt m c) (j 1).val) := by
  refine (after_1 m c main_v31_1).symm.trans ?_
  refine (Pipeline.afterRegion_arr (Wq.dats (W2 m) c) (W2 m c) launch1.win.arr_inj 3).trans ((Wq.final3 (W2 m) c).trans ?_)
  unfold Wq.scales
  rw [grad1]
  rfl

theorem xc_eq (c : Dev nD) : W4 m c (Proc.devRef .tc main_v32_0) = (show Vec Ideal S1536x3584 .i8 from fun j => tCode (X m c) (j 0).val (j 1).val) := by
  refine (after_2 m c main_v32_0).symm.trans ?_
  refine (Pipeline.afterRegion_arr (Xq.dats (W3 m) c) (W3 m c) launch2.win.arr_inj 2).trans ((Xq.final2 (W3 m) c).trans ?_)
  unfold Xq.codes
  rw [grad2]
  rfl

theorem xs_eq (c : Dev nD) : W4 m c (Proc.devRef .tc main_v32_1) = (show Vec Ideal S1x3584 .f32 from fun j => tScale (X m c) (j 1).val) := by
  refine (after_2 m c main_v32_1).symm.trans ?_
  refine (Pipeline.afterRegion_arr (Xq.dats (W3 m) c) (W3 m c) launch2.win.arr_inj 3).trans ((Xq.final3 (W3 m) c).trans ?_)
  unfold Xq.scales
  rw [grad2]
  rfl

/-! ## The two products -/

theorem oc_4 (c : Dev nD) : Dgrad.oc (W4 m) c = (show Vec Ideal S1536x18944 .i8 from fun j => yCode (Y m c) (j 0).val (j 1).val) :=
  (W4_of m c main_v30_0 (by decide)).trans ((W3_of m c main_v30_0 (by decide)).trans (oc_eq m c))
theorem os_4 (c : Dev nD) : Dgrad.os (W4 m) c = (show Vec Ideal S1536x1 .f32 from fun j => yScale (Y m c) (j 0).val) :=
  (W4_of m c main_v30_1 (by decide)).trans ((W3_of m c main_v30_1 (by decide)).trans (os_eq m c))
theorem wc_4 (c : Dev nD) : Dgrad.wc (W4 m) c = (show Vec Ideal S18944x3584 .i8 from fun j => wCode (Wt m c) (j 0).val (j 1).val) :=
  (W4_of m c main_v31_0 (by decide)).trans (wc_eq m c)
theorem ws_4 (c : Dev nD) : Dgrad.ws (W4 m) c = (show Vec Ideal S1x3584 .f32 from fun j => wScale (Wt m c) (j 1).val) :=
  (W4_of m c main_v31_1 (by decide)).trans (ws_eq m c)

theorem dx_eq (c : Dev nD) : W5 m c (Proc.devRef .tc main_v33) = (show Vec Ideal S1536x3584 .bf16 from fun j => dx (Wt m c) (Y m c) (j 0).val (j 1).val) := by
  refine (after_3 m c main_v33).symm.trans ?_
  refine (Pipeline.afterRegion_arr (Dgrad.dats (W4 m) c) (W4 m c) launch3.win.arr_inj 4).trans ((Dgrad.final4 (W4 m) c).trans ?_)
  unfold Dgrad.result
  funext j
  have h0 : (j 0).val < 1536 := (j 0).isLt
  have h1 : (j 1).val < 3584 := (j 1).isLt
  refine prod_congr (fun k hk => ?_) (fun k hk => ?_) ?_ ?_
  · rw [cmat_eq _ h0 hk, oc_4]; rfl
  · rw [cmat_eq _ hk h1, wc_4]; rfl
  · rw [mat_eq _ h0 Nat.zero_lt_one, os_4]; rfl
  · rw [mat_eq _ Nat.zero_lt_one h1, ws_4]; rfl

theorem grad4 (c : Dev nD) : Wgrad.grad (W5 m) c = turnedT (Y m c) := by
  unfold Wgrad.grad Wgrad.src Wgrad.by_
  rw [W5_of m c main_v1 (by decide), W5_of m c main_v29 (by decide), W4_of m c main_v1 (by decide), W4_of m c main_v29 (by decide),
    W3_of m c main_v1 (by decide), W3_of m c main_v29 (by decide), W2_of m c main_v1 (by decide), W2_of m c main_v29 (by decide), V1_v1,
    turnL_congr (by decide) (V1_v29 m c)]
  rfl

theorem xc_5 (c : Dev nD) : Wgrad.xc (W5 m) c = (show Vec Ideal S1536x3584 .i8 from fun j => tCode (X m c) (j 0).val (j 1).val) :=
  (W5_of m c main_v32_0 (by decide)).trans (xc_eq m c)
theorem xs_5 (c : Dev nD) : Wgrad.xs (W5 m) c = (show Vec Ideal S1x3584 .f32 from fun j => tScale (X m c) (j 1).val) :=
  (W5_of m c main_v32_1 (by decide)).trans (xs_eq m c)

theorem dw_eq (c : Dev nD) : W6 m c (Proc.devRef .tc main_v34_0) = (show Vec Ideal S18944x3584 .f32 from fun j => dw (X m c) (Y m c) (j 0).val (j 1).val) := by
  refine (after_4 m c main_v34_0).symm.trans ?_
  refine (Pipeline.afterRegion_arr (Wgrad.dats (W5 m) c) (W5 m c) launch4.win.arr_inj 4).trans ((Wgrad.final4 (W5 m) c).trans ?_)
  unfold Wgrad.result
  rw [grad4]
  funext j
  have h1 : (j 1).val < 3584 := (j 1).isLt
  refine prod_congr (fun k hk => rfl) (fun k hk => ?_) rfl ?_
  · rw [cmat_eq _ hk h1, xc_5]; rfl
  · rw [mat_eq _ Nat.zero_lt_one h1, xs_5]; rfl

theorem tc_eq (c : Dev nD) : W6 m c (Proc.devRef .tc main_v34_1) = (show Vec Ideal S1536x18944 .i8 from fun j => tCode (Y m c) (j 0).val (j 1).val) := by
  refine (after_4 m c main_v34_1).symm.trans ?_
  refine (Pipeline.afterRegion_arr (Wgrad.dats (W5 m) c) (W5 m c) launch4.win.arr_inj 5).trans ((Wgrad.final5 (W5 m) c).trans ?_)
  unfold Wgrad.codes
  rw [grad4]
  rfl

theorem ts_eq (c : Dev nD) : W6 m c (Proc.devRef .tc main_v34_2) = (show Vec Ideal S1x18944 .f32 from fun j => tScale (Y m c) (j 1).val) := by
  refine (after_4 m c main_v34_2).symm.trans ?_
  refine (Pipeline.afterRegion_arr (Wgrad.dats (W5 m) c) (W5 m c) launch4.win.arr_inj 6).trans ((Wgrad.final6 (W5 m) c).trans ?_)
  unfold Wgrad.scales
  rw [grad4]
  rfl

/-! ## The run -/

/-- The run, its ten results named. -/
theorem run (ρ : Dev nD → PrngReg) : θ_run defs (onTc (τ := τ) (main (F := Ideal))) ⟨m, fun _ => 0, ρ⟩ fun r => ∀ c : Dev nD,
      r.2.mem ((c : Thread nD τ).loc main_v33) = (show Vec Ideal S1536x3584 .bf16 from fun j => dx (Wt m c) (Y m c) (j 0).val (j 1).val)
      ∧ r.2.mem ((c : Thread nD τ).loc main_v34_0) = (show Vec Ideal S18944x3584 .f32 from fun j => dw (X m c) (Y m c) (j 0).val (j 1).val)
      ∧ r.2.mem ((c : Thread nD τ).loc main_v30_0) = (show Vec Ideal S1536x18944 .i8 from fun j => yCode (Y m c) (j 0).val (j 1).val)
      ∧ r.2.mem ((c : Thread nD τ).loc main_v30_1) = (show Vec Ideal S1536x1 .f32 from fun j => yScale (Y m c) (j 0).val)
      ∧ r.2.mem ((c : Thread nD τ).loc main_v31_0) = (show Vec Ideal S18944x3584 .i8 from fun j => wCode (Wt m c) (j 0).val (j 1).val)
      ∧ r.2.mem ((c : Thread nD τ).loc main_v31_1) = (show Vec Ideal S1x3584 .f32 from fun j => wScale (Wt m c) (j 1).val)
      ∧ r.2.mem ((c : Thread nD τ).loc main_v34_1) = (show Vec Ideal S1536x18944 .i8 from fun j => tCode (Y m c) (j 0).val (j 1).val)
      ∧ r.2.mem ((c : Thread nD τ).loc main_v34_2) = (show Vec Ideal S1x18944 .f32 from fun j => tScale (Y m c) (j 1).val)
      ∧ r.2.mem ((c : Thread nD τ).loc main_v32_0) = (show Vec Ideal S1536x3584 .i8 from fun j => tCode (X m c) (j 0).val (j 1).val)
      ∧ r.2.mem ((c : Thread nD τ).loc main_v32_1) = (show Vec Ideal S1x3584 .f32 from fun j => tScale (X m c) (j 1).val)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => by
    have k : ∀ b : Ref sig .tc, Proc.devRef .tc b ∈ Pipeline.ucRefs τ sig → r.2.mem (c, Proc.devRef .tc b) = W6 m c (Proc.devRef .tc b) := fun b hb => h.1 c _ hb
    refine ⟨(k main_v33 ?_).trans ((W6_of m c main_v33 (by decide)).trans (dx_eq m c)),
      (k main_v34_0 ?_).trans (dw_eq m c),
      (k main_v30_0 ?_).trans ((W6_of m c main_v30_0 (by decide)).trans ((W5_of m c main_v30_0 (by decide)).trans (oc_4 m c))),
      (k main_v30_1 ?_).trans ((W6_of m c main_v30_1 (by decide)).trans ((W5_of m c main_v30_1 (by decide)).trans (os_4 m c))),
      (k main_v31_0 ?_).trans ((W6_of m c main_v31_0 (by decide)).trans ((W5_of m c main_v31_0 (by decide)).trans (wc_4 m c))),
      (k main_v31_1 ?_).trans ((W6_of m c main_v31_1 (by decide)).trans ((W5_of m c main_v31_1 (by decide)).trans (ws_4 m c))),
      (k main_v34_1 ?_).trans (tc_eq m c),
      (k main_v34_2 ?_).trans (ts_eq m c),
      (k main_v32_0 ?_).trans ((W6_of m c main_v32_0 (by decide)).trans (xc_5 m c)),
      (k main_v32_1 ?_).trans ((W6_of m c main_v32_1 (by decide)).trans (xs_5 m c)),
      (k main_arg0 ?_).trans (V6_main_arg0 m (outs m) c),
      (k main_arg1 ?_).trans (V6_main_arg1 m (outs m) c),
      (k main_arg2 ?_).trans (V6_main_arg2 m (outs m) c)⟩ <;>
    exact Finset.mem_filter.mpr ⟨StableHlo.devRef_mem_tcRefs _, by decide⟩) (Run.run m ρ)

end Cert.KernelIdeal.Value

end
-- ==== Proof.HostTop.lean ====
/-
  The host's maxima: their upper bounds, at any sizes.
-/
module

public import proofs.«01_k».proof.Proof.Spec
public import Idealize.ShloMosaic.Lib.Pointwise

@[expose] public section

noncomputable section

namespace Cert.Spec

open Idealize.ShloMosaic

/-- A number with the same upper bounds as the magnitudes is the largest magnitude. -/
theorem eq_sup {n : ℕ} (f : ℕ → EReal) (z : EReal) (h : ∀ b, z ≤ b ↔ ∀ i, i < n → mag (f i) ≤ b) :
    z = (Finset.range n).sup fun i => mag (f i) := by
  refine eq_of_forall_ge_iff fun b => ?_
  rw [h, Finset.sup_le_iff]
  exact ⟨fun hb i hi => hb i (Finset.mem_range.mp hi), fun hb i hi => hb i (Finset.mem_range.mpr hi)⟩

/-- The largest magnitude of an array along some axes, as the host writes it. -/
def hostTop {s t : Shape} {axes : List (Fin s.rank)} (h : s.ReducesTo axes t) (hu : 0 < (⟨0, ![]⟩ : Shape).numel) (x : FVec Ideal s .f32) : FVec Ideal t .f32 :=
  Host.reduce FloatOps.maximumf (Host.absf x) (constant (F := Ideal) (⟨0, ![]⟩ : Shape) .f32 0xFF800000#32) h hu

/-- Its upper bounds at an index are those of the magnitudes that drop to the index. -/
theorem hostTop_le {s t : Shape} {axes : List (Fin s.rank)} (h : s.ReducesTo axes t) (hu : 0 < (⟨0, ![]⟩ : Shape).numel) (x : FVec Ideal s .f32) (j : t.Idx) (b : EReal) :
    (hostTop h hu x j : EReal) ≤ b ↔ ∀ i, h.drop i = j → mag (x i) ≤ b := by
  unfold hostTop
  rw [Host.reduce_eq_fold]
  simp only [Ideal.maximumf_eq_max]
  refine (Finset.fold_max_le (β := EReal) b).trans ?_
  have e : ((constant (F := Ideal) (⟨0, ![]⟩ : Shape) .f32 0xFF800000#32 (Shape.Idx.first hu) : Ideal .f32) : EReal) = ⊥ := ofBits_bot
  rw [e]
  constructor
  · exact fun hh i hi => hh.2 i (Finset.mem_filter.mpr ⟨Finset.mem_univ _, hi⟩)
  · exact fun hh => ⟨bot_le, fun i hi => hh i (Finset.mem_filter.mp hi).2⟩

/-- The indices that drop to one, over the last of three axes, -/
theorem drop3_2 {a b n : ℕ} (h : (⟨3, ![a, b, n]⟩ : Shape).ReducesTo [2] (⟨2, ![a, b]⟩ : Shape)) (p : Fin a) (q : Fin b) (P : (⟨3, ![a, b, n]⟩ : Shape).Idx → Prop) :
    (∀ i, h.drop i = Idealize.ShloMosaic.ix2 p q → P i) ↔ ∀ r : Fin n, P (Idealize.ShloMosaic.ix3 p q r) := by
  constructor
  · intro H r
    refine H _ ?_
    funext c
    apply Fin.ext
    match c with
    | ⟨0, _⟩ => rfl
    | ⟨1, _⟩ => rfl
  · intro H i e
    have : i = Idealize.ShloMosaic.ix3 p q (i 2) := by
      funext c
      apply Fin.ext
      match c with
      | ⟨0, _⟩ => exact congrArg Fin.val (congrFun e ⟨0, Nat.zero_lt_two⟩)
      | ⟨1, _⟩ => exact congrArg Fin.val (congrFun e ⟨1, Nat.one_lt_two⟩)
      | ⟨2, _⟩ => rfl
    rw [this]
    exact H _

/-- the first of two, -/
theorem drop2_0 {m n : ℕ} (h : (⟨2, ![m, n]⟩ : Shape).ReducesTo [0] (⟨1, ![n]⟩ : Shape)) (q : Fin n) (P : (⟨2, ![m, n]⟩ : Shape).Idx → Prop) :
    (∀ i, h.drop i = Idealize.ShloMosaic.ix1 q → P i) ↔ ∀ p : Fin m, P (Idealize.ShloMosaic.ix2 p q) := by
  constructor
  · intro H p
    refine H _ ?_
    funext c
    apply Fin.ext
    match c with
    | ⟨0, _⟩ => rfl
  · intro H i e
    have : i = Idealize.ShloMosaic.ix2 (i 0) q := by
      funext c
      apply Fin.ext
      match c with
      | ⟨0, _⟩ => rfl
      | ⟨1, _⟩ => exact congrArg Fin.val (congrFun e ⟨0, Nat.zero_lt_one⟩)
    rw [this]
    exact H _

/-- and the first two of three. -/
theorem drop3_01 {a b n : ℕ} (h : (⟨3, ![a, b, n]⟩ : Shape).ReducesTo [0, 1] (⟨1, ![n]⟩ : Shape)) (r : Fin n) (P : (⟨3, ![a, b, n]⟩ : Shape).Idx → Prop) :
    (∀ i, h.drop i = Idealize.ShloMosaic.ix1 r → P i) ↔ ∀ (p : Fin a) (q : Fin b), P (Idealize.ShloMosaic.ix3 p q r) := by
  constructor
  · intro H p q
    refine H _ ?_
    funext c
    apply Fin.ext
    match c with
    | ⟨0, _⟩ => rfl
  · intro H i e
    have : i = Idealize.ShloMosaic.ix3 (i 0) (i 1) r := by
      funext c
      apply Fin.ext
      match c with
      | ⟨0, _⟩ => rfl
      | ⟨1, _⟩ => rfl
      | ⟨2, _⟩ => exact congrArg Fin.val (congrFun e ⟨0, Nat.zero_lt_one⟩)
    rw [this]
    exact H _ _

/-- The largest magnitude in a row of a batch; -/
theorem hostTop_row {n : ℕ} (h : (⟨3, ![3, 512, n]⟩ : Shape).ReducesTo [2] (⟨2, ![3, 512]⟩ : Shape)) (hu : 0 < (⟨0, ![]⟩ : Shape).numel)
    (x : FVec Ideal (⟨3, ![3, 512, n]⟩ : Shape) .f32) (g : ℕ → ℕ → EReal) (hx : ∀ p q r, (x (Idealize.ShloMosaic.ix3 p q r) : EReal) = g (512 * p.val + q.val) r.val) (p : Fin 3) (q : Fin 512) :
    (hostTop h hu x (Idealize.ShloMosaic.ix2 p q) : EReal) = rowTop n g (512 * p.val + q.val) := by
  refine eq_sup _ _ fun b => ?_
  rw [hostTop_le, drop3_2 h p q fun i => mag (x i) ≤ b]
  simp only [hx]
  exact ⟨fun H i hi => H ⟨i, hi⟩, fun H r => H r.val r.isLt⟩

/-- in a column; -/
theorem hostTop_col {m n : ℕ} (h : (⟨2, ![m, n]⟩ : Shape).ReducesTo [0] (⟨1, ![n]⟩ : Shape)) (hu : 0 < (⟨0, ![]⟩ : Shape).numel)
    (x : FVec Ideal (⟨2, ![m, n]⟩ : Shape) .f32) (g : ℕ → ℕ → EReal) (hx : ∀ p q, (x (Idealize.ShloMosaic.ix2 p q) : EReal) = g p.val q.val) (q : Fin n) :
    (hostTop h hu x (Idealize.ShloMosaic.ix1 q) : EReal) = colTop m g q.val := by
  refine eq_sup _ _ fun b => ?_
  rw [hostTop_le, drop2_0 h q fun i => mag (x i) ≤ b]
  simp only [hx]
  exact ⟨fun H i hi => H ⟨i, hi⟩, fun H r => H r.val r.isLt⟩

/-- in a column over all batches. -/
theorem hostTop_batches {n : ℕ} (h : (⟨3, ![3, 512, n]⟩ : Shape).ReducesTo [0, 1] (⟨1, ![n]⟩ : Shape)) (hu : 0 < (⟨0, ![]⟩ : Shape).numel)
    (x : FVec Ideal (⟨3, ![3, 512, n]⟩ : Shape) .f32) (g : ℕ → ℕ → EReal) (hx : ∀ p q r, (x (Idealize.ShloMosaic.ix3 p q r) : EReal) = g (512 * p.val + q.val) r.val) (r : Fin n) :
    (hostTop h hu x (Idealize.ShloMosaic.ix1 r) : EReal) = colTop 1536 g r.val := by
  refine eq_sup _ _ fun b => ?_
  rw [hostTop_le, drop3_01 h r fun i => mag (x i) ≤ b]
  simp only [hx]
  constructor
  · intro H i hi
    have := H ⟨i / 512, by omega⟩ ⟨i % 512, Nat.mod_lt _ (by decide)⟩
    rwa [show 512 * (i / 512) + i % 512 = i by omega] at this
  · exact fun H p q => H _ (by omega)

end Cert.Spec

end
-- ==== Proof.ReferenceHost.lean ====
/-
  The reference's host steps as functions of arrays.
-/
module

public import proofs.«01_k».proof.Proof.Gen.ReferenceIdeal.Value
public import proofs.«01_k».proof.Proof.HostTop
public import Idealize.ShloMosaic.Lib.Pointwise

@[expose] public section

noncomputable section

namespace Cert.ReferenceIdeal.Stages

open Cert.ReferenceIdeal Cert.ReferenceIdeal.Gen Cert.Spec
open Idealize.ShloMosaic Idealize.ShloMosaic.TcCoe Idealize.SL.Sem

/-! ## The host's steps, as functions of arrays -/

/-- The sign matrices. -/
def signs256 : FVec Ideal S256x256 .bf16 :=
  sitofp .bf16 (subi (broadcastInDim S256x256 ![] bcast_S_S256x256 (constantI S_ 32 1#32))
    (muli (broadcastInDim S256x256 ![] bcast_S_S256x256 (constantI S_ 32 2#32)) (andi (ctpop (andi (iotaInDim S256x256 32 0) (iotaInDim S256x256 32 1)))
      (broadcastInDim S256x256 ![] bcast_S_S256x256 (constantI S_ 32 1#32)))))

def signs128 : FVec Ideal S128x128 .bf16 :=
  sitofp .bf16 (subi (broadcastInDim S128x128 ![] bcast_S_S128x128 (constantI S_ 32 1#32))
    (muli (broadcastInDim S128x128 ![] bcast_S_S128x128 (constantI S_ 32 2#32)) (andi (ctpop (andi (iotaInDim S128x128 32 0) (iotaInDim S128x128 32 1)))
      (broadcastInDim S128x128 ![] bcast_S_S128x128 (constantI S_ 32 1#32)))))

/-- The output gradient turned along the output channels. -/
def turnO (h : FVec Ideal S256x256 .bf16) (a : FVec Ideal S3x512x18944 .bf16) : FVec Ideal S3x512x18944 .f32 :=
  shapeCast S3x512x18944 (mulf (Host.dotGeneral dot_S3x512x74x256_S256x256_S3x512x74x256_3_0_012_1_n_n none (shapeCast S3x512x74x256 a shapeCasts_S3x512x18944_S3x512x74x256) h)
    (broadcastInDim S3x512x74x256 ![] bcast_S_S3x512x74x256 (constant S_ .f32 0x3D800000#32))) shapeCasts_S3x512x74x256_S3x512x18944

/-- Its largest magnitudes, the scales they give, -/
def topO (t : FVec Ideal S3x512x18944 .f32) : FVec Ideal S3x512x1 .f32 := broadcastInDim S3x512x1 ![0, 1] bcast_S3x512_S3x512x1_0_1 (hostTop reducesTo_S3x512x18944_S3x512_d2 h_S_ t)

def unitO (a : FVec Ideal S3x512x1 .f32) : FVec Ideal S3x512x1 .f32 :=
  select (cmpf .oeq a (broadcastInDim S3x512x1 ![] bcast_S_S3x512x1 (constant S_ .f32 0x00000000#32))) (broadcastInDim S3x512x1 ![] bcast_S_S3x512x1 (constant S_ .f32 0x3F800000#32))
    (Host.divf a (broadcastInDim S3x512x1 ![] bcast_S_S3x512x1 (constant S_ .f32 0x42FE0000#32)))

def scaleO (t : FVec Ideal S3x512x18944 .f32) : FVec Ideal S3x512x1 .f32 := unitO (topO t)

/-- and its rounded quotients. -/
def codeO (t : FVec Ideal S3x512x18944 .f32) (s : FVec Ideal S3x512x1 .f32) : FVec Ideal S3x512x18944 .f32 :=
  minimumf (broadcastInDim S3x512x18944 ![] bcast_S_S3x512x18944 (constant S_ .f32 0x42FE0000#32))
    (maximumf (broadcastInDim S3x512x18944 ![] bcast_S_S3x512x18944 (constant S_ .f32 0xC2FE0000#32))
      (Host.roundeven (Host.divf t (broadcastInDim S3x512x18944 ![0, 1, 2] bcast_S3x512x1_S3x512x18944_0_1_2 s))))

/-- The weight turned along the output channels. -/
def turnW (h : FVec Ideal S256x256 .bf16) (a : FVec Ideal S18944x3584 .bf16) : FVec Ideal S18944x3584 .f32 :=
  shapeCast S18944x3584 (mulf (transpose S74x256x3584 [1, 0, 2] (Host.dotGeneral dot_S256x256_S74x256x3584_S256x74x3584_0_1_1_02_n_n none h
      (shapeCast S74x256x3584 a shapeCasts_S18944x3584_S74x256x3584)) transposes_S256x74x3584_S74x256x3584_1_0_2)
    (broadcastInDim S74x256x3584 ![] bcast_S_S74x256x3584 (constant S_ .f32 0x3D800000#32))) shapeCasts_S74x256x3584_S18944x3584

def topW (t : FVec Ideal S18944x3584 .f32) : FVec Ideal S1x3584 .f32 := broadcastInDim S1x3584 ![1] bcast_S3584_S1x3584_1 (hostTop reducesTo_S18944x3584_S3584_d0 h_S_ t)

def unitW (a : FVec Ideal S1x3584 .f32) : FVec Ideal S1x3584 .f32 :=
  select (cmpf .oeq a (broadcastInDim S1x3584 ![] bcast_S_S1x3584 (constant S_ .f32 0x00000000#32))) (broadcastInDim S1x3584 ![] bcast_S_S1x3584 (constant S_ .f32 0x3F800000#32))
    (Host.divf a (broadcastInDim S1x3584 ![] bcast_S_S1x3584 (constant S_ .f32 0x42FE0000#32)))

def scaleW (t : FVec Ideal S18944x3584 .f32) : FVec Ideal S1x3584 .f32 := unitW (topW t)

def codeW (t : FVec Ideal S18944x3584 .f32) (s : FVec Ideal S1x3584 .f32) : FVec Ideal S18944x3584 .f32 :=
  minimumf (broadcastInDim S18944x3584 ![] bcast_S_S18944x3584 (constant S_ .f32 0x42FE0000#32))
    (maximumf (broadcastInDim S18944x3584 ![] bcast_S_S18944x3584 (constant S_ .f32 0xC2FE0000#32))
      (Host.roundeven (Host.divf t (broadcastInDim S18944x3584 ![0, 1] bcast_S1x3584_S18944x3584_0_1 s))))

/-- The output gradient turned along the tokens. -/
def turnT (h : FVec Ideal S128x128 .bf16) (a : FVec Ideal S3x512x18944 .bf16) : FVec Ideal S3x512x18944 .f32 :=
  shapeCast S3x512x18944 (mulf (transpose S3x4x128x18944 [1, 2, 0, 3] (Host.dotGeneral dot_S128x128_S3x4x128x18944_S128x3x4x18944_0_2_1_013_n_n none h
      (shapeCast S3x4x128x18944 a shapeCasts_S3x512x18944_S3x4x128x18944)) transposes_S128x3x4x18944_S3x4x128x18944_1_2_0_3)
    (broadcastInDim S3x4x128x18944 ![] bcast_S_S3x4x128x18944 (constant S_ .f32 0x3DB504F3#32))) shapeCasts_S3x4x128x18944_S3x512x18944

def topT (t : FVec Ideal S3x512x18944 .f32) : FVec Ideal S1x1x18944 .f32 := broadcastInDim S1x1x18944 ![2] bcast_S18944_S1x1x18944_2 (hostTop reducesTo_S3x512x18944_S18944_d0_1 h_S_ t)

def unitT (a : FVec Ideal S1x1x18944 .f32) : FVec Ideal S1x1x18944 .f32 :=
  select (cmpf .oeq a (broadcastInDim S1x1x18944 ![] bcast_S_S1x1x18944 (constant S_ .f32 0x00000000#32))) (broadcastInDim S1x1x18944 ![] bcast_S_S1x1x18944 (constant S_ .f32 0x3F800000#32))
    (Host.divf a (broadcastInDim S1x1x18944 ![] bcast_S_S1x1x18944 (constant S_ .f32 0x42FE0000#32)))

def scaleT (t : FVec Ideal S3x512x18944 .f32) : FVec Ideal S1x1x18944 .f32 := unitT (topT t)

def codeT (t : FVec Ideal S3x512x18944 .f32) (s : FVec Ideal S1x1x18944 .f32) : FVec Ideal S3x512x18944 .f32 :=
  minimumf (broadcastInDim S3x512x18944 ![] bcast_S_S3x512x18944 (constant S_ .f32 0x42FE0000#32))
    (maximumf (broadcastInDim S3x512x18944 ![] bcast_S_S3x512x18944 (constant S_ .f32 0xC2FE0000#32))
      (Host.roundeven (Host.divf t (broadcastInDim S3x512x18944 ![0, 1, 2] bcast_S1x1x18944_S3x512x18944_0_1_2 s))))

/-- The activation turned along the tokens. -/
def turnX (h : FVec Ideal S128x128 .bf16) (a : FVec Ideal S3x512x3584 .bf16) : FVec Ideal S3x512x3584 .f32 :=
  shapeCast S3x512x3584 (mulf (transpose S3x4x128x3584 [1, 2, 0, 3] (Host.dotGeneral dot_S128x128_S3x4x128x3584_S128x3x4x3584_0_2_1_013_n_n none h
      (shapeCast S3x4x128x3584 a shapeCasts_S3x512x3584_S3x4x128x3584)) transposes_S128x3x4x3584_S3x4x128x3584_1_2_0_3)
    (broadcastInDim S3x4x128x3584 ![] bcast_S_S3x4x128x3584 (constant S_ .f32 0x3DB504F3#32))) shapeCasts_S3x4x128x3584_S3x512x3584

def topX (t : FVec Ideal S3x512x3584 .f32) : FVec Ideal S1x1x3584 .f32 := broadcastInDim S1x1x3584 ![2] bcast_S3584_S1x1x3584_2 (hostTop reducesTo_S3x512x3584_S3584_d0_1 h_S_ t)

def unitX (a : FVec Ideal S1x1x3584 .f32) : FVec Ideal S1x1x3584 .f32 :=
  select (cmpf .oeq a (broadcastInDim S1x1x3584 ![] bcast_S_S1x1x3584 (constant S_ .f32 0x00000000#32))) (broadcastInDim S1x1x3584 ![] bcast_S_S1x1x3584 (constant S_ .f32 0x3F800000#32))
    (Host.divf a (broadcastInDim S1x1x3584 ![] bcast_S_S1x1x3584 (constant S_ .f32 0x42FE0000#32)))

def scaleX (t : FVec Ideal S3x512x3584 .f32) : FVec Ideal S1x1x3584 .f32 := unitX (topX t)

def codeX (t : FVec Ideal S3x512x3584 .f32) (s : FVec Ideal S1x1x3584 .f32) : FVec Ideal S3x512x3584 .f32 :=
  minimumf (broadcastInDim S3x512x3584 ![] bcast_S_S3x512x3584 (constant S_ .f32 0x42FE0000#32))
    (maximumf (broadcastInDim S3x512x3584 ![] bcast_S_S3x512x3584 (constant S_ .f32 0xC2FE0000#32))
      (Host.roundeven (Host.divf t (broadcastInDim S3x512x3584 ![0, 1, 2] bcast_S1x1x3584_S3x512x3584_0_1_2 s))))

end Cert.ReferenceIdeal.Stages

end
-- ==== Proof.ReferenceRegion.lean ====
/-
  The reference's one region: its only grid point has every array whole, and what it leaves in the six results.
-/
module

public import proofs.«01_k».proof.Proof.ReferenceHost

@[expose] public section

noncomputable section

namespace Cert.ReferenceIdeal.Stages

open Cert.ReferenceIdeal Cert.ReferenceIdeal.Gen Cert.Spec
open Idealize.ShloMosaic Idealize.ShloMosaic.TcCoe Idealize.SL.Sem

variable (m : (ℓ : Loc nD τ sig) → Buf (Elt Ideal) ℓ)

theorem offsets : (![0, 0] : Fin 2 → Nat) = fun _ => 0 := funext fun a => by fin_cases a <;> rfl

/-! ## A block is its array -/

theorem idx0 : ∀ t : Fin cfg0.N, win0_0.index t (0 : Fin 2) = 0 ∧ win0_0.index t (1 : Fin 2) = 0 :=
  (by decide +kernel : ∀ t : Fin grid0.N, _)
theorem emb0 (t : Fin cfg0.N) (j : S1536x18944.Idx) : ((cfg0.win 0).blk t).view.emb j = j := by
  obtain ⟨e0, e1⟩ := idx0 t
  funext a; apply Fin.ext
  match a with
  | ⟨0, _⟩ => show win0_0.index t (0 : Fin 2) * 1536 + 1 * (j 0).val = (j 0).val; omega
  | ⟨1, _⟩ => show win0_0.index t (1 : Fin 2) * 18944 + 1 * (j 1).val = (j 1).val; omega
theorem read0 (t : Fin cfg0.N) (A : Vec Ideal S1536x18944 .f32) : ((cfg0.win 0).blk t).view.read (Elt Ideal) A = A := by
  funext j; show A (((cfg0.win 0).blk t).view.emb j) = A j; rw [emb0]
theorem iblk0 (c : Dev nD) (t : Fin cfg0.N) : iblk m c 0 t = V m c main_v101 := read0 t _

theorem idx1 : ∀ t : Fin cfg0.N, win0_1.index t (0 : Fin 2) = 0 ∧ win0_1.index t (1 : Fin 2) = 0 :=
  (by decide +kernel : ∀ t : Fin grid0.N, _)
theorem emb1 (t : Fin cfg0.N) (j : S18944x3584.Idx) : ((cfg0.win 1).blk t).view.emb j = j := by
  obtain ⟨e0, e1⟩ := idx1 t
  funext a; apply Fin.ext
  match a with
  | ⟨0, _⟩ => show win0_1.index t (0 : Fin 2) * 18944 + 1 * (j 0).val = (j 0).val; omega
  | ⟨1, _⟩ => show win0_1.index t (1 : Fin 2) * 3584 + 1 * (j 1).val = (j 1).val; omega
theorem read1 (t : Fin cfg0.N) (A : Vec Ideal S18944x3584 .f32) : ((cfg0.win 1).blk t).view.read (Elt Ideal) A = A := by
  funext j; show A (((cfg0.win 1).blk t).view.emb j) = A j; rw [emb1]
theorem iblk1 (c : Dev nD) (t : Fin cfg0.N) : iblk m c 1 t = V m c main_v57 := read1 t _

theorem idx2 : ∀ t : Fin cfg0.N, win0_2.index t (0 : Fin 2) = 0 ∧ win0_2.index t (1 : Fin 2) = 0 :=
  (by decide +kernel : ∀ t : Fin grid0.N, _)
theorem emb2 (t : Fin cfg0.N) (j : S1536x18944.Idx) : ((cfg0.win 2).blk t).view.emb j = j := by
  obtain ⟨e0, e1⟩ := idx2 t
  funext a; apply Fin.ext
  match a with
  | ⟨0, _⟩ => show win0_2.index t (0 : Fin 2) * 1536 + 1 * (j 0).val = (j 0).val; omega
  | ⟨1, _⟩ => show win0_2.index t (1 : Fin 2) * 18944 + 1 * (j 1).val = (j 1).val; omega
theorem read2 (t : Fin cfg0.N) (A : Vec Ideal S1536x18944 .f32) : ((cfg0.win 2).blk t).view.read (Elt Ideal) A = A := by
  funext j; show A (((cfg0.win 2).blk t).view.emb j) = A j; rw [emb2]
theorem iblk2 (c : Dev nD) (t : Fin cfg0.N) : iblk m c 2 t = V m c main_v102 := read2 t _

theorem idx3 : ∀ t : Fin cfg0.N, win0_3.index t (0 : Fin 2) = 0 ∧ win0_3.index t (1 : Fin 2) = 0 :=
  (by decide +kernel : ∀ t : Fin grid0.N, _)
theorem emb3 (t : Fin cfg0.N) (j : S1536x3584.Idx) : ((cfg0.win 3).blk t).view.emb j = j := by
  obtain ⟨e0, e1⟩ := idx3 t
  funext a; apply Fin.ext
  match a with
  | ⟨0, _⟩ => show win0_3.index t (0 : Fin 2) * 1536 + 1 * (j 0).val = (j 0).val; omega
  | ⟨1, _⟩ => show win0_3.index t (1 : Fin 2) * 3584 + 1 * (j 1).val = (j 1).val; omega
theorem read3 (t : Fin cfg0.N) (A : Vec Ideal S1536x3584 .f32) : ((cfg0.win 3).blk t).view.read (Elt Ideal) A = A := by
  funext j; show A (((cfg0.win 3).blk t).view.emb j) = A j; rw [emb3]
theorem iblk3 (c : Dev nD) (t : Fin cfg0.N) : iblk m c 3 t = V m c main_v103 := read3 t _

theorem idx4 : ∀ t : Fin cfg0.N, win0_4.index t (0 : Fin 2) = 0 ∧ win0_4.index t (1 : Fin 2) = 0 :=
  (by decide +kernel : ∀ t : Fin grid0.N, _)
theorem emb4 (t : Fin cfg0.N) (j : S1536x1.Idx) : ((cfg0.win 4).blk t).view.emb j = j := by
  obtain ⟨e0, e1⟩ := idx4 t
  funext a; apply Fin.ext
  match a with
  | ⟨0, _⟩ => show win0_4.index t (0 : Fin 2) * 1536 + 1 * (j 0).val = (j 0).val; omega
  | ⟨1, _⟩ => show win0_4.index t (1 : Fin 2) * 1 + 1 * (j 1).val = (j 1).val; omega
theorem read4 (t : Fin cfg0.N) (A : Vec Ideal S1536x1 .f32) : ((cfg0.win 4).blk t).view.read (Elt Ideal) A = A := by
  funext j; show A (((cfg0.win 4).blk t).view.emb j) = A j; rw [emb4]
theorem iblk4 (c : Dev nD) (t : Fin cfg0.N) : iblk m c 4 t = V m c main_v97 := read4 t _

theorem idx5 : ∀ t : Fin cfg0.N, win0_5.index t (0 : Fin 2) = 0 ∧ win0_5.index t (1 : Fin 2) = 0 :=
  (by decide +kernel : ∀ t : Fin grid0.N, _)
theorem emb5 (t : Fin cfg0.N) (j : S1x3584.Idx) : ((cfg0.win 5).blk t).view.emb j = j := by
  obtain ⟨e0, e1⟩ := idx5 t
  funext a; apply Fin.ext
  match a with
  | ⟨0, _⟩ => show win0_5.index t (0 : Fin 2) * 1 + 1 * (j 0).val = (j 0).val; omega
  | ⟨1, _⟩ => show win0_5.index t (1 : Fin 2) * 3584 + 1 * (j 1).val = (j 1).val; omega
theorem read5 (t : Fin cfg0.N) (A : Vec Ideal S1x3584 .f32) : ((cfg0.win 5).blk t).view.read (Elt Ideal) A = A := by
  funext j; show A (((cfg0.win 5).blk t).view.emb j) = A j; rw [emb5]
theorem iblk5 (c : Dev nD) (t : Fin cfg0.N) : iblk m c 5 t = V m c main_v98 := read5 t _

theorem idx6 : ∀ t : Fin cfg0.N, win0_6.index t (0 : Fin 2) = 0 ∧ win0_6.index t (1 : Fin 2) = 0 :=
  (by decide +kernel : ∀ t : Fin grid0.N, _)
theorem emb6 (t : Fin cfg0.N) (j : S18944x1.Idx) : ((cfg0.win 6).blk t).view.emb j = j := by
  obtain ⟨e0, e1⟩ := idx6 t
  funext a; apply Fin.ext
  match a with
  | ⟨0, _⟩ => show win0_6.index t (0 : Fin 2) * 18944 + 1 * (j 0).val = (j 0).val; omega
  | ⟨1, _⟩ => show win0_6.index t (1 : Fin 2) * 1 + 1 * (j 1).val = (j 1).val; omega
theorem read6 (t : Fin cfg0.N) (A : Vec Ideal S18944x1 .f32) : ((cfg0.win 6).blk t).view.read (Elt Ideal) A = A := by
  funext j; show A (((cfg0.win 6).blk t).view.emb j) = A j; rw [emb6]
theorem iblk6 (c : Dev nD) (t : Fin cfg0.N) : iblk m c 6 t = V m c main_v104 := read6 t _

theorem idx7 : ∀ t : Fin cfg0.N, win0_7.index t (0 : Fin 2) = 0 ∧ win0_7.index t (1 : Fin 2) = 0 :=
  (by decide +kernel : ∀ t : Fin grid0.N, _)
theorem emb7 (t : Fin cfg0.N) (j : S1x3584.Idx) : ((cfg0.win 7).blk t).view.emb j = j := by
  obtain ⟨e0, e1⟩ := idx7 t
  funext a; apply Fin.ext
  match a with
  | ⟨0, _⟩ => show win0_7.index t (0 : Fin 2) * 1 + 1 * (j 0).val = (j 0).val; omega
  | ⟨1, _⟩ => show win0_7.index t (1 : Fin 2) * 3584 + 1 * (j 1).val = (j 1).val; omega
theorem read7 (t : Fin cfg0.N) (A : Vec Ideal S1x3584 .f32) : ((cfg0.win 7).blk t).view.read (Elt Ideal) A = A := by
  funext j; show A (((cfg0.win 7).blk t).view.emb j) = A j; rw [emb7]
theorem iblk7 (c : Dev nD) (t : Fin cfg0.N) : iblk m c 7 t = V m c main_v100 := read7 t _

theorem idx8 : ∀ t : Fin cfg0.N, win0_8.index t (0 : Fin 2) = 0 ∧ win0_8.index t (1 : Fin 2) = 0 :=
  (by decide +kernel : ∀ t : Fin grid0.N, _)
theorem emb8 (t : Fin cfg0.N) (j : S1536x3584.Idx) : ((cfg0.win 8).blk t).view.emb j = j := by
  obtain ⟨e0, e1⟩ := idx8 t
  funext a; apply Fin.ext
  match a with
  | ⟨0, _⟩ => show win0_8.index t (0 : Fin 2) * 1536 + 1 * (j 0).val = (j 0).val; omega
  | ⟨1, _⟩ => show win0_8.index t (1 : Fin 2) * 3584 + 1 * (j 1).val = (j 1).val; omega
theorem read8 (t : Fin cfg0.N) (A : Vec Ideal S1536x3584 .bf16) : ((cfg0.win 8).blk t).view.read (Elt Ideal) A = A := by
  funext j; show A (((cfg0.win 8).blk t).view.emb j) = A j; rw [emb8]
theorem cut8 (t : Fin cfg0.N) (A : Vec Ideal S1536x3584 .bf16) : (cfg0.win 8).cut (grid0.coords t) A = ((cfg0.win 8).blk t).view.read (Elt Ideal) A := by
  funext j; show A j = A (((cfg0.win 8).blk t).view.emb j); rw [emb8]
theorem covered8 (i : S1536x3584.Idx) : ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

theorem idx9 : ∀ t : Fin cfg0.N, win0_9.index t (0 : Fin 2) = 0 ∧ win0_9.index t (1 : Fin 2) = 0 :=
  (by decide +kernel : ∀ t : Fin grid0.N, _)
theorem emb9 (t : Fin cfg0.N) (j : S18944x3584.Idx) : ((cfg0.win 9).blk t).view.emb j = j := by
  obtain ⟨e0, e1⟩ := idx9 t
  funext a; apply Fin.ext
  match a with
  | ⟨0, _⟩ => show win0_9.index t (0 : Fin 2) * 18944 + 1 * (j 0).val = (j 0).val; omega
  | ⟨1, _⟩ => show win0_9.index t (1 : Fin 2) * 3584 + 1 * (j 1).val = (j 1).val; omega
theorem read9 (t : Fin cfg0.N) (A : Vec Ideal S18944x3584 .f32) : ((cfg0.win 9).blk t).view.read (Elt Ideal) A = A := by
  funext j; show A (((cfg0.win 9).blk t).view.emb j) = A j; rw [emb9]
theorem cut9 (t : Fin cfg0.N) (A : Vec Ideal S18944x3584 .f32) : (cfg0.win 9).cut (grid0.coords t) A = ((cfg0.win 9).blk t).view.read (Elt Ideal) A := by
  funext j; show A j = A (((cfg0.win 9).blk t).view.emb j); rw [emb9]
theorem covered9 (i : S18944x3584.Idx) : ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

theorem idx10 : ∀ t : Fin cfg0.N, win0_10.index t (0 : Fin 2) = 0 ∧ win0_10.index t (1 : Fin 2) = 0 :=
  (by decide +kernel : ∀ t : Fin grid0.N, _)
theorem emb10 (t : Fin cfg0.N) (j : S1536x18944.Idx) : ((cfg0.win 10).blk t).view.emb j = j := by
  obtain ⟨e0, e1⟩ := idx10 t
  funext a; apply Fin.ext
  match a with
  | ⟨0, _⟩ => show win0_10.index t (0 : Fin 2) * 1536 + 1 * (j 0).val = (j 0).val; omega
  | ⟨1, _⟩ => show win0_10.index t (1 : Fin 2) * 18944 + 1 * (j 1).val = (j 1).val; omega
theorem read10 (t : Fin cfg0.N) (A : Vec Ideal S1536x18944 .i8) : ((cfg0.win 10).blk t).view.read (Elt Ideal) A = A := by
  funext j; show A (((cfg0.win 10).blk t).view.emb j) = A j; rw [emb10]
theorem cut10 (t : Fin cfg0.N) (A : Vec Ideal S1536x18944 .i8) : (cfg0.win 10).cut (grid0.coords t) A = ((cfg0.win 10).blk t).view.read (Elt Ideal) A := by
  funext j; show A j = A (((cfg0.win 10).blk t).view.emb j); rw [emb10]
theorem covered10 (i : S1536x18944.Idx) : ∃ t : Fin cfg0.N, (cfg0.win 10).flush t = true ∧ i ∈ ((cfg0.win 10).blk t).view.set :=
  ⟨(⟨0, by decide⟩ : Fin cfg0.N), flush0_10 _, by have h := ((cfg0.win 10).blk (⟨0, by decide⟩ : Fin cfg0.N)).view.emb_mem_set i; rwa [emb10] at h⟩

theorem idx11 : ∀ t : Fin cfg0.N, win0_11.index t (0 : Fin 2) = 0 ∧ win0_11.index t (1 : Fin 2) = 0 :=
  (by decide +kernel : ∀ t : Fin grid0.N, _)
theorem emb11 (t : Fin cfg0.N) (j : S18944x3584.Idx) : ((cfg0.win 11).blk t).view.emb j = j := by
  obtain ⟨e0, e1⟩ := idx11 t
  funext a; apply Fin.ext
  match a with
  | ⟨0, _⟩ => show win0_11.index t (0 : Fin 2) * 18944 + 1 * (j 0).val = (j 0).val; omega
  | ⟨1, _⟩ => show win0_11.index t (1 : Fin 2) * 3584 + 1 * (j 1).val = (j 1).val; omega
theorem read11 (t : Fin cfg0.N) (A : Vec Ideal S18944x3584 .i8) : ((cfg0.win 11).blk t).view.read (Elt Ideal) A = A := by
  funext j; show A (((cfg0.win 11).blk t).view.emb j) = A j; rw [emb11]
theorem cut11 (t : Fin cfg0.N) (A : Vec Ideal S18944x3584 .i8) : (cfg0.win 11).cut (grid0.coords t) A = ((cfg0.win 11).blk t).view.read (Elt Ideal) A := by
  funext j; show A j = A (((cfg0.win 11).blk t).view.emb j); rw [emb11]
theorem covered11 (i : S18944x3584.Idx) : ∃ t : Fin cfg0.N, (cfg0.win 11).flush t = true ∧ i ∈ ((cfg0.win 11).blk t).view.set :=
  ⟨(⟨0, by decide⟩ : Fin cfg0.N), flush0_11 _, by have h := ((cfg0.win 11).blk (⟨0, by decide⟩ : Fin cfg0.N)).view.emb_mem_set i; rwa [emb11] at h⟩

theorem idx12 : ∀ t : Fin cfg0.N, win0_12.index t (0 : Fin 2) = 0 ∧ win0_12.index t (1 : Fin 2) = 0 :=
  (by decide +kernel : ∀ t : Fin grid0.N, _)
theorem emb12 (t : Fin cfg0.N) (j : S1536x18944.Idx) : ((cfg0.win 12).blk t).view.emb j = j := by
  obtain ⟨e0, e1⟩ := idx12 t
  funext a; apply Fin.ext
  match a with
  | ⟨0, _⟩ => show win0_12.index t (0 : Fin 2) * 1536 + 1 * (j 0).val = (j 0).val; omega
  | ⟨1, _⟩ => show win0_12.index t (1 : Fin 2) * 18944 + 1 * (j 1).val = (j 1).val; omega
theorem read12 (t : Fin cfg0.N) (A : Vec Ideal S1536x18944 .i8) : ((cfg0.win 12).blk t).view.read (Elt Ideal) A = A := by
  funext j; show A (((cfg0.win 12).blk t).view.emb j) = A j; rw [emb12]
theorem cut12 (t : Fin cfg0.N) (A : Vec Ideal S1536x18944 .i8) : (cfg0.win 12).cut (grid0.coords t) A = ((cfg0.win 12).blk t).view.read (Elt Ideal) A := by
  funext j; show A j = A (((cfg0.win 12).blk t).view.emb j); rw [emb12]
theorem covered12 (i : S1536x18944.Idx) : ∃ t : Fin cfg0.N, (cfg0.win 12).flush t = true ∧ i ∈ ((cfg0.win 12).blk t).view.set :=
  ⟨(⟨0, by decide⟩ : Fin cfg0.N), flush0_12 _, by have h := ((cfg0.win 12).blk (⟨0, by decide⟩ : Fin cfg0.N)).view.emb_mem_set i; rwa [emb12] at h⟩

theorem idx13 : ∀ t : Fin cfg0.N, win0_13.index t (0 : Fin 2) = 0 ∧ win0_13.index t (1 : Fin 2) = 0 :=
  (by decide +kernel : ∀ t : Fin grid0.N, _)
theorem emb13 (t : Fin cfg0.N) (j : S1536x3584.Idx) : ((cfg0.win 13).blk t).view.emb j = j := by
  obtain ⟨e0, e1⟩ := idx13 t
  funext a; apply Fin.ext
  match a with
  | ⟨0, _⟩ => show win0_13.index t (0 : Fin 2) * 1536 + 1 * (j 0).val = (j 0).val; omega
  | ⟨1, _⟩ => show win0_13.index t (1 : Fin 2) * 3584 + 1 * (j 1).val = (j 1).val; omega
theorem read13 (t : Fin cfg0.N) (A : Vec Ideal S1536x3584 .i8) : ((cfg0.win 13).blk t).view.read (Elt Ideal) A = A := by
  funext j; show A (((cfg0.win 13).blk t).view.emb j) = A j; rw [emb13]
theorem cut13 (t : Fin cfg0.N) (A : Vec Ideal S1536x3584 .i8) : (cfg0.win 13).cut (grid0.coords t) A = ((cfg0.win 13).blk t).view.read (Elt Ideal) A := by
  funext j; show A j = A (((cfg0.win 13).blk t).view.emb j); rw [emb13]
theorem covered13 (i : S1536x3584.Idx) : ∃ t : Fin cfg0.N, (cfg0.win 13).flush t = true ∧ i ∈ ((cfg0.win 13).blk t).view.set :=
  ⟨(⟨0, by decide⟩ : Fin cfg0.N), flush0_13 _, by have h := ((cfg0.win 13).blk (⟨0, by decide⟩ : Fin cfg0.N)).view.emb_mem_set i; rwa [emb13] at h⟩

/-! ## The six results -/

theorem out8 (x0 : Vec Ideal S1536x18944 .f32) (x1 : Vec Ideal S18944x3584 .f32) (x2 : Vec Ideal S1536x18944 .f32) (x3 : Vec Ideal S1536x3584 .f32) (x4 : Vec Ideal S1536x1 .f32) (x5 : Vec Ideal S1x3584 .f32) (x6 : Vec Ideal S18944x1 .f32) (x7 : Vec Ideal S1x3584 .f32) :
    out0_8 (F := Ideal) x0 x1 x2 x3 x4 x5 x6 x7 = k0_pay6 x0 x1 x4 x5 := by
  unfold out0_8
  rw [View.canon_unit_zero offsets, View.ld_unit_zero (S := S1536x18944) offsets _ x0, View.ld_unit_zero (S := S18944x3584) offsets _ x1, View.ld_unit_zero (S := S1536x1) offsets _ x4, View.ld_unit_zero (S := S1x3584) offsets _ x5]
theorem final8 (c : Dev nD) : (dats m 0 c).arrAt 8 cfg0.N = k0_pay6 (V m c main_v101) (V m c main_v57) (V m c main_v97) (V m c main_v98) :=
  (dats m 0 c).arrAt_eq_of_cover 8 (k0_pay6 (V m c main_v101) (V m c main_v57) (V m c main_v97) (V m c main_v98)) (fun t _ => by
    rw [Value.flushed8, out8, iblk0, iblk1, iblk4, iblk5]
    exact cut8 t _) covered8

theorem out9 (x0 : Vec Ideal S1536x18944 .f32) (x1 : Vec Ideal S18944x3584 .f32) (x2 : Vec Ideal S1536x18944 .f32) (x3 : Vec Ideal S1536x3584 .f32) (x4 : Vec Ideal S1536x1 .f32) (x5 : Vec Ideal S1x3584 .f32) (x6 : Vec Ideal S18944x1 .f32) (x7 : Vec Ideal S1x3584 .f32) :
    out0_9 (F := Ideal) x0 x1 x2 x3 x4 x5 x6 x7 = k0_pay1 (k0_pay7 x2) (k0_pay8 x3) (constant S18944x3584 .f32 0x00000000#32) x6 x7 := by
  unfold out0_9
  rw [View.canon_unit_zero offsets, View.ld_unit_zero (S := S1536x18944) offsets _ x2, View.ld_unit_zero (S := S1536x3584) offsets _ x3, View.ld_unit_zero (S := S18944x1) offsets _ x6, View.ld_unit_zero (S := S1x3584) offsets _ x7]
theorem final9 (c : Dev nD) : (dats m 0 c).arrAt 9 cfg0.N = k0_pay1 (k0_pay7 (V m c main_v102)) (k0_pay8 (V m c main_v103)) (constant S18944x3584 .f32 0x00000000#32) (V m c main_v104) (V m c main_v100) :=
  (dats m 0 c).arrAt_eq_of_cover 9 (k0_pay1 (k0_pay7 (V m c main_v102)) (k0_pay8 (V m c main_v103)) (constant S18944x3584 .f32 0x00000000#32) (V m c main_v104) (V m c main_v100)) (fun t _ => by
    rw [Value.flushed9, out9, iblk2, iblk3, iblk6, iblk7]
    exact cut9 t _) covered9

theorem out10 (x0 : Vec Ideal S1536x18944 .f32) (x1 : Vec Ideal S18944x3584 .f32) (x2 : Vec Ideal S1536x18944 .f32) (x3 : Vec Ideal S1536x3584 .f32) (x4 : Vec Ideal S1536x1 .f32) (x5 : Vec Ideal S1x3584 .f32) (x6 : Vec Ideal S18944x1 .f32) (x7 : Vec Ideal S1x3584 .f32) :
    out0_10 (F := Ideal) x0 x1 x2 x3 x4 x5 x6 x7 = k0_pay2 x0 := by
  unfold out0_10
  rw [View.canon_unit_zero offsets, View.ld_unit_zero (S := S1536x18944) offsets _ x0]
theorem final10 (c : Dev nD) : (dats m 0 c).arrAt 10 cfg0.N = k0_pay2 (V m c main_v101) :=
  (dats m 0 c).arrAt_eq_of_cover 10 (k0_pay2 (V m c main_v101)) (fun t _ => by
    rw [Value.flushed10, out10, iblk0]
    exact cut10 t _) covered10

theorem out11 (x0 : Vec Ideal S1536x18944 .f32) (x1 : Vec Ideal S18944x3584 .f32) (x2 : Vec Ideal S1536x18944 .f32) (x3 : Vec Ideal S1536x3584 .f32) (x4 : Vec Ideal S1536x1 .f32) (x5 : Vec Ideal S1x3584 .f32) (x6 : Vec Ideal S18944x1 .f32) (x7 : Vec Ideal S1x3584 .f32) :
    out0_11 (F := Ideal) x0 x1 x2 x3 x4 x5 x6 x7 = k0_pay3 x1 := by
  unfold out0_11
  rw [View.canon_unit_zero offsets, View.ld_unit_zero (S := S18944x3584) offsets _ x1]
theorem final11 (c : Dev nD) : (dats m 0 c).arrAt 11 cfg0.N = k0_pay3 (V m c main_v57) :=
  (dats m 0 c).arrAt_eq_of_cover 11 (k0_pay3 (V m c main_v57)) (fun t _ => by
    rw [Value.flushed11, out11, iblk1]
    exact cut11 t _) covered11

theorem out12 (x0 : Vec Ideal S1536x18944 .f32) (x1 : Vec Ideal S18944x3584 .f32) (x2 : Vec Ideal S1536x18944 .f32) (x3 : Vec Ideal S1536x3584 .f32) (x4 : Vec Ideal S1536x1 .f32) (x5 : Vec Ideal S1x3584 .f32) (x6 : Vec Ideal S18944x1 .f32) (x7 : Vec Ideal S1x3584 .f32) :
    out0_12 (F := Ideal) x0 x1 x2 x3 x4 x5 x6 x7 = k0_pay4 x2 := by
  unfold out0_12
  rw [View.canon_unit_zero offsets, View.ld_unit_zero (S := S1536x18944) offsets _ x2]
theorem final12 (c : Dev nD) : (dats m 0 c).arrAt 12 cfg0.N = k0_pay4 (V m c main_v102) :=
  (dats m 0 c).arrAt_eq_of_cover 12 (k0_pay4 (V m c main_v102)) (fun t _ => by
    rw [Value.flushed12, out12, iblk2]
    exact cut12 t _) covered12

theorem out13 (x0 : Vec Ideal S1536x18944 .f32) (x1 : Vec Ideal S18944x3584 .f32) (x2 : Vec Ideal S1536x18944 .f32) (x3 : Vec Ideal S1536x3584 .f32) (x4 : Vec Ideal S1536x1 .f32) (x5 : Vec Ideal S1x3584 .f32) (x6 : Vec Ideal S18944x1 .f32) (x7 : Vec Ideal S1x3584 .f32) :
    out0_13 (F := Ideal) x0 x1 x2 x3 x4 x5 x6 x7 = k0_pay5 x3 := by
  unfold out0_13
  rw [View.canon_unit_zero offsets, View.ld_unit_zero (S := S1536x3584) offsets _ x3]
theorem final13 (c : Dev nD) : (dats m 0 c).arrAt 13 cfg0.N = k0_pay5 (V m c main_v103) :=
  (dats m 0 c).arrAt_eq_of_cover 13 (k0_pay5 (V m c main_v103)) (fun t _ => by
    rw [Value.flushed13, out13, iblk3]
    exact cut13 t _) covered13

/-! ## Their entries -/

theorem pay2_at (x : Vec Ideal S1536x18944 .f32) (p : Fin 1536) (q : Fin 18944) : k0_pay2 (F := Ideal) x (Idealize.ShloMosaic.ix2 p q) = FloatOps.fptosi (F := Ideal) (φ := .f32) 8 (x (Idealize.ShloMosaic.ix2 p q)) := by
  pointwise [k0_pay2]
theorem pay3_at (x : Vec Ideal S18944x3584 .f32) (p : Fin 18944) (q : Fin 3584) : k0_pay3 (F := Ideal) x (Idealize.ShloMosaic.ix2 p q) = FloatOps.fptosi (F := Ideal) (φ := .f32) 8 (x (Idealize.ShloMosaic.ix2 p q)) := by
  pointwise [k0_pay3]
theorem pay4_at (x : Vec Ideal S1536x18944 .f32) (p : Fin 1536) (q : Fin 18944) : k0_pay4 (F := Ideal) x (Idealize.ShloMosaic.ix2 p q) = FloatOps.fptosi (F := Ideal) (φ := .f32) 8 (x (Idealize.ShloMosaic.ix2 p q)) := by
  pointwise [k0_pay4]
theorem pay5_at (x : Vec Ideal S1536x3584 .f32) (p : Fin 1536) (q : Fin 3584) : k0_pay5 (F := Ideal) x (Idealize.ShloMosaic.ix2 p q) = FloatOps.fptosi (F := Ideal) (φ := .f32) 8 (x (Idealize.ShloMosaic.ix2 p q)) := by
  pointwise [k0_pay5]

theorem pay6_at (x : Vec Ideal S1536x18944 .f32) (y : Vec Ideal S18944x3584 .f32) (u : Vec Ideal S1536x1 .f32) (v : Vec Ideal S1x3584 .f32) {A B : ℕ → ℕ → BitVec 8} {s t : ℕ → EReal}
    (hx : ∀ (p : Fin 1536) (q : Fin 18944), FloatOps.fptosi (F := Ideal) (φ := .f32) 8 (x (Idealize.ShloMosaic.ix2 p q)) = A p.val q.val)
    (hy : ∀ (p : Fin 18944) (q : Fin 3584), FloatOps.fptosi (F := Ideal) (φ := .f32) 8 (y (Idealize.ShloMosaic.ix2 p q)) = B p.val q.val)
    (hu : ∀ p : Fin 1536, (u (Idealize.ShloMosaic.ix2 p (0 : Fin 1)) : EReal) = s p.val) (hv : ∀ q : Fin 3584, (v (Idealize.ShloMosaic.ix2 (0 : Fin 1) q) : EReal) = t q.val)
    (p : Fin 1536) (q : Fin 3584) : (k0_pay6 (F := Ideal) x y u v (Idealize.ShloMosaic.ix2 p q) : EReal) = prod 18944 A B s t p.val q.val := by
  unfold prod val
  beta_reduce
  rw [Finset.sum_range, ← hu p, ← hv q]
  simp only [← hy _ q, ← hx p _]
  pointwise [k0_pay6, k0_pay2, k0_pay3]

theorem pay1_at (x : Vec Ideal S1536x18944 .f32) (y : Vec Ideal S1536x3584 .f32) (u : Vec Ideal S18944x1 .f32) (v : Vec Ideal S1x3584 .f32) {A B : ℕ → ℕ → BitVec 8} {s t : ℕ → EReal}
    (hx : ∀ (p : Fin 1536) (q : Fin 18944), FloatOps.fptosi (F := Ideal) (φ := .f32) 8 (x (Idealize.ShloMosaic.ix2 p q)) = A p.val q.val)
    (hy : ∀ (p : Fin 1536) (q : Fin 3584), FloatOps.fptosi (F := Ideal) (φ := .f32) 8 (y (Idealize.ShloMosaic.ix2 p q)) = B p.val q.val)
    (hu : ∀ p : Fin 18944, (u (Idealize.ShloMosaic.ix2 p (0 : Fin 1)) : EReal) = s p.val) (hv : ∀ q : Fin 3584, (v (Idealize.ShloMosaic.ix2 (0 : Fin 1) q) : EReal) = t q.val)
    (p : Fin 18944) (q : Fin 3584) : (k0_pay1 (F := Ideal) (k0_pay7 x) (k0_pay8 y) (constant S18944x3584 .f32 0x00000000#32) u v (Idealize.ShloMosaic.ix2 p q) : EReal)
      = prod 1536 (fun o k => A k o) B s t p.val q.val := by
  unfold prod val
  beta_reduce
  rw [Finset.sum_range, ← hu p, ← hv q]
  simp only [← hy _ q, ← hx _ p]
  pointwise [k0_pay1, k0_pay7, k0_pay8, k0_pay4, k0_pay5]

end Cert.ReferenceIdeal.Stages

end
-- ==== Proof.ReferenceReads.lean ====
/-
  What the reference's host steps leave in the buffers read later, stretch by stretch.
-/
module

public import proofs.«01_k».proof.Proof.ReferenceHost

@[expose] public section

noncomputable section

namespace Cert.ReferenceIdeal.Stages

open Cert.ReferenceIdeal Cert.ReferenceIdeal.Gen Cert.Spec
open Idealize.ShloMosaic Idealize.ShloMosaic.TcCoe Idealize.SL.Sem

variable (X : Valuation τ sig (Elt Ideal))

/-- The five stretches: the output gradient's row codes, the weight's, the output gradient's column codes, the activation's, and the reshapes. -/
def stA : Valuation τ sig (Elt Ideal) := StableHlo.after hostOps0_5 (StableHlo.after hostOps0_4 (StableHlo.after hostOps0_3 (StableHlo.after hostOps0_2 (StableHlo.after hostOps0_1 (StableHlo.after hostOps0 X)))))
def stB : Valuation τ sig (Elt Ideal) := StableHlo.after hostOps0_11 (StableHlo.after hostOps0_10 (StableHlo.after hostOps0_9 (StableHlo.after hostOps0_8 (StableHlo.after hostOps0_7 (StableHlo.after hostOps0_6 X)))))
def stC : Valuation τ sig (Elt Ideal) := StableHlo.after hostOps0_17 (StableHlo.after hostOps0_16 (StableHlo.after hostOps0_15 (StableHlo.after hostOps0_14 (StableHlo.after hostOps0_13 (StableHlo.after hostOps0_12 X)))))
def stD : Valuation τ sig (Elt Ideal) := StableHlo.after hostOps0_23 (StableHlo.after hostOps0_22 (StableHlo.after hostOps0_21 (StableHlo.after hostOps0_20 (StableHlo.after hostOps0_19 (StableHlo.after hostOps0_18 X)))))
def stE : Valuation τ sig (Elt Ideal) := StableHlo.after hostOps0_24 X

theorem steps_eq : StableHlo.after (List.flatten [hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, hostOps0_17, hostOps0_18, hostOps0_19, hostOps0_20, hostOps0_21, hostOps0_22, hostOps0_23, hostOps0_24]) X
      = stE (stD (stC (stB (stA X)))) := by
  unfold stE stD stC stB stA
  simp only [List.flatten_cons, List.flatten_nil, List.append_nil, StableHlo.after_append]

/-! ### The output gradient along the output channels -/

theorem readO : StableHlo.after hostOps0 X (Proc.devRef .tc main_v26) = (show FVec Ideal S3x512x18944 .f32 from turnO signs256 (show FVec Ideal S3x512x18944 .bf16 from X (Proc.devRef .tc main_arg2))) := by
  after_results; rfl
theorem isZeroO : StableHlo.after hostOps0 X (Proc.devRef .tc main_v31) = (show IVec S3x512x1 1 from cmpf .oeq (topO (turnO signs256 (show FVec Ideal S3x512x18944 .bf16 from X (Proc.devRef .tc main_arg2)))) (broadcastInDim S3x512x1 ![] bcast_S_S3x512x1 (constant S_ .f32 0x00000000#32))) := by
  after_results; rfl
theorem overO : StableHlo.after hostOps0 X (Proc.devRef .tc main_v33) = (show FVec Ideal S3x512x1 .f32 from Host.divf (topO (turnO signs256 (show FVec Ideal S3x512x18944 .bf16 from X (Proc.devRef .tc main_arg2)))) (broadcastInDim S3x512x1 ![] bcast_S_S3x512x1 (constant S_ .f32 0x42FE0000#32))) := by
  after_results; rfl
theorem oneO : StableHlo.after hostOps0 X (Proc.devRef .tc main_cst_8) = (show FVec Ideal S_ .f32 from constant S_ .f32 0x3F800000#32) := by
  after_results
theorem chooseO {c : IVec S3x512x1 1} {o : FVec Ideal S_ .f32} {d : FVec Ideal S3x512x1 .f32} (hc : X (Proc.devRef .tc main_v31) = c) (ho : X (Proc.devRef .tc main_cst_8) = o) (hd : X (Proc.devRef .tc main_v33) = d) :
    StableHlo.after hostOps0_1 X (Proc.devRef .tc main_v34) = (show FVec Ideal S3x512x1 .f32 from select c (broadcastInDim S3x512x1 ![] bcast_S_S3x512x1 o) d) := by
  subst hc ho hd
  after_results; rfl
theorem settleO {a : FVec Ideal S3x512x1 .f32} (hc : X (Proc.devRef .tc main_v31) = (show IVec S3x512x1 1 from cmpf .oeq a (broadcastInDim S3x512x1 ![] bcast_S_S3x512x1 (constant S_ .f32 0x00000000#32))))
    (ho : X (Proc.devRef .tc main_cst_8) = (show FVec Ideal S_ .f32 from constant S_ .f32 0x3F800000#32))
    (hd : X (Proc.devRef .tc main_v33) = (show FVec Ideal S3x512x1 .f32 from Host.divf a (broadcastInDim S3x512x1 ![] bcast_S_S3x512x1 (constant S_ .f32 0x42FE0000#32)))) :
    StableHlo.after hostOps0_1 X (Proc.devRef .tc main_v34) = (show FVec Ideal S3x512x1 .f32 from unitO a) :=
  chooseO X hc ho hd
theorem scaledO : StableHlo.after hostOps0_1 (StableHlo.after hostOps0 X) (Proc.devRef .tc main_v34) = (show FVec Ideal S3x512x1 .f32 from scaleO (turnO signs256 (show FVec Ideal S3x512x18944 .bf16 from X (Proc.devRef .tc main_arg2)))) :=
  settleO _ (isZeroO X) (oneO X) (overO X)
theorem keptO : StableHlo.after hostOps0_1 X (Proc.devRef .tc main_v26) = X (Proc.devRef .tc main_v26) := by
  after_results
theorem roundedO {t : FVec Ideal S3x512x18944 .f32} {s : FVec Ideal S3x512x1 .f32} (ht : X (Proc.devRef .tc main_v26) = t) (hs : X (Proc.devRef .tc main_v34) = s) :
    StableHlo.after hostOps0_5 (StableHlo.after hostOps0_4 (StableHlo.after hostOps0_3 (StableHlo.after hostOps0_2 X))) (Proc.devRef .tc main_v38) = (show FVec Ideal S3x512x18944 .f32 from codeO t s) := by
  subst ht hs
  after_results; rfl
theorem heldO : StableHlo.after hostOps0_5 (StableHlo.after hostOps0_4 (StableHlo.after hostOps0_3 (StableHlo.after hostOps0_2 X))) (Proc.devRef .tc main_v34) = X (Proc.devRef .tc main_v34) := by
  after_results
theorem A_v34 : stA X (Proc.devRef .tc main_v34) = (show FVec Ideal S3x512x1 .f32 from scaleO (turnO signs256 (show FVec Ideal S3x512x18944 .bf16 from X (Proc.devRef .tc main_arg2)))) :=
  (heldO _).trans (scaledO X)
theorem A_v38 : stA X (Proc.devRef .tc main_v38) = (show FVec Ideal S3x512x18944 .f32 from codeO (turnO signs256 (show FVec Ideal S3x512x18944 .bf16 from X (Proc.devRef .tc main_arg2))) (scaleO (turnO signs256 (show FVec Ideal S3x512x18944 .bf16 from X (Proc.devRef .tc main_arg2))))) :=
  roundedO _ ((keptO _).trans (readO X)) (scaledO X)

/-! ### The weight -/

theorem readW : StableHlo.after hostOps0_6 X (Proc.devRef .tc main_v45) = (show FVec Ideal S18944x3584 .f32 from turnW (show FVec Ideal S256x256 .bf16 from X (Proc.devRef .tc main_v10)) (show FVec Ideal S18944x3584 .bf16 from X (Proc.devRef .tc main_arg1))) := by
  after_results; rfl
theorem isZeroW : StableHlo.after hostOps0_6 X (Proc.devRef .tc main_v50) = (show IVec S1x3584 1 from cmpf .oeq (topW (turnW (show FVec Ideal S256x256 .bf16 from X (Proc.devRef .tc main_v10)) (show FVec Ideal S18944x3584 .bf16 from X (Proc.devRef .tc main_arg1)))) (broadcastInDim S1x3584 ![] bcast_S_S1x3584 (constant S_ .f32 0x00000000#32))) := by
  after_results; rfl
theorem overW : StableHlo.after hostOps0_6 X (Proc.devRef .tc main_v52) = (show FVec Ideal S1x3584 .f32 from Host.divf (topW (turnW (show FVec Ideal S256x256 .bf16 from X (Proc.devRef .tc main_v10)) (show FVec Ideal S18944x3584 .bf16 from X (Proc.devRef .tc main_arg1)))) (broadcastInDim S1x3584 ![] bcast_S_S1x3584 (constant S_ .f32 0x42FE0000#32))) := by
  after_results; rfl
theorem oneW : StableHlo.after hostOps0_6 X (Proc.devRef .tc main_cst_15) = (show FVec Ideal S_ .f32 from constant S_ .f32 0x3F800000#32) := by
  after_results
theorem chooseW {c : IVec S1x3584 1} {o : FVec Ideal S_ .f32} {d : FVec Ideal S1x3584 .f32} (hc : X (Proc.devRef .tc main_v50) = c) (ho : X (Proc.devRef .tc main_cst_15) = o) (hd : X (Proc.devRef .tc main_v52) = d) :
    StableHlo.after hostOps0_7 X (Proc.devRef .tc main_v53) = (show FVec Ideal S1x3584 .f32 from select c (broadcastInDim S1x3584 ![] bcast_S_S1x3584 o) d) := by
  subst hc ho hd
  after_results; rfl
theorem settleW {a : FVec Ideal S1x3584 .f32} (hc : X (Proc.devRef .tc main_v50) = (show IVec S1x3584 1 from cmpf .oeq a (broadcastInDim S1x3584 ![] bcast_S_S1x3584 (constant S_ .f32 0x00000000#32))))
    (ho : X (Proc.devRef .tc main_cst_15) = (show FVec Ideal S_ .f32 from constant S_ .f32 0x3F800000#32))
    (hd : X (Proc.devRef .tc main_v52) = (show FVec Ideal S1x3584 .f32 from Host.divf a (broadcastInDim S1x3584 ![] bcast_S_S1x3584 (constant S_ .f32 0x42FE0000#32)))) :
    StableHlo.after hostOps0_7 X (Proc.devRef .tc main_v53) = (show FVec Ideal S1x3584 .f32 from unitW a) :=
  chooseW X hc ho hd
theorem scaledW : StableHlo.after hostOps0_7 (StableHlo.after hostOps0_6 X) (Proc.devRef .tc main_v53) = (show FVec Ideal S1x3584 .f32 from scaleW (turnW (show FVec Ideal S256x256 .bf16 from X (Proc.devRef .tc main_v10)) (show FVec Ideal S18944x3584 .bf16 from X (Proc.devRef .tc main_arg1)))) :=
  settleW _ (isZeroW X) (oneW X) (overW X)
theorem keptW : StableHlo.after hostOps0_7 X (Proc.devRef .tc main_v45) = X (Proc.devRef .tc main_v45) := by
  after_results
theorem roundedW {t : FVec Ideal S18944x3584 .f32} {s : FVec Ideal S1x3584 .f32} (ht : X (Proc.devRef .tc main_v45) = t) (hs : X (Proc.devRef .tc main_v53) = s) :
    StableHlo.after hostOps0_11 (StableHlo.after hostOps0_10 (StableHlo.after hostOps0_9 (StableHlo.after hostOps0_8 X))) (Proc.devRef .tc main_v57) = (show FVec Ideal S18944x3584 .f32 from codeW t s) := by
  subst ht hs
  after_results; rfl
theorem heldW : StableHlo.after hostOps0_11 (StableHlo.after hostOps0_10 (StableHlo.after hostOps0_9 (StableHlo.after hostOps0_8 X))) (Proc.devRef .tc main_v53) = X (Proc.devRef .tc main_v53) := by
  after_results
theorem B_v53 : stB X (Proc.devRef .tc main_v53) = (show FVec Ideal S1x3584 .f32 from scaleW (turnW (show FVec Ideal S256x256 .bf16 from X (Proc.devRef .tc main_v10)) (show FVec Ideal S18944x3584 .bf16 from X (Proc.devRef .tc main_arg1)))) :=
  (heldW _).trans (scaledW X)
theorem B_v57 : stB X (Proc.devRef .tc main_v57) = (show FVec Ideal S18944x3584 .f32 from codeW (turnW (show FVec Ideal S256x256 .bf16 from X (Proc.devRef .tc main_v10)) (show FVec Ideal S18944x3584 .bf16 from X (Proc.devRef .tc main_arg1))) (scaleW (turnW (show FVec Ideal S256x256 .bf16 from X (Proc.devRef .tc main_v10)) (show FVec Ideal S18944x3584 .bf16 from X (Proc.devRef .tc main_arg1))))) :=
  roundedW _ ((keptW _).trans (readW X)) (scaledW X)

/-! ### The output gradient along the tokens -/

theorem readT : StableHlo.after hostOps0_12 X (Proc.devRef .tc main_v64) = (show FVec Ideal S3x512x18944 .f32 from turnT (show FVec Ideal S128x128 .bf16 from X (Proc.devRef .tc main_v21)) (show FVec Ideal S3x512x18944 .bf16 from X (Proc.devRef .tc main_arg2))) := by
  after_results; rfl
theorem isZeroT : StableHlo.after hostOps0_12 X (Proc.devRef .tc main_v69) = (show IVec S1x1x18944 1 from cmpf .oeq (topT (turnT (show FVec Ideal S128x128 .bf16 from X (Proc.devRef .tc main_v21)) (show FVec Ideal S3x512x18944 .bf16 from X (Proc.devRef .tc main_arg2)))) (broadcastInDim S1x1x18944 ![] bcast_S_S1x1x18944 (constant S_ .f32 0x00000000#32))) := by
  after_results; rfl
theorem overT : StableHlo.after hostOps0_12 X (Proc.devRef .tc main_v71) = (show FVec Ideal S1x1x18944 .f32 from Host.divf (topT (turnT (show FVec Ideal S128x128 .bf16 from X (Proc.devRef .tc main_v21)) (show FVec Ideal S3x512x18944 .bf16 from X (Proc.devRef .tc main_arg2)))) (broadcastInDim S1x1x18944 ![] bcast_S_S1x1x18944 (constant S_ .f32 0x42FE0000#32))) := by
  after_results; rfl
theorem oneT : StableHlo.after hostOps0_12 X (Proc.devRef .tc main_cst_22) = (show FVec Ideal S_ .f32 from constant S_ .f32 0x3F800000#32) := by
  after_results
theorem chooseT {c : IVec S1x1x18944 1} {o : FVec Ideal S_ .f32} {d : FVec Ideal S1x1x18944 .f32} (hc : X (Proc.devRef .tc main_v69) = c) (ho : X (Proc.devRef .tc main_cst_22) = o) (hd : X (Proc.devRef .tc main_v71) = d) :
    StableHlo.after hostOps0_13 X (Proc.devRef .tc main_v72) = (show FVec Ideal S1x1x18944 .f32 from select c (broadcastInDim S1x1x18944 ![] bcast_S_S1x1x18944 o) d) := by
  subst hc ho hd
  after_results; rfl
theorem settleT {a : FVec Ideal S1x1x18944 .f32} (hc : X (Proc.devRef .tc main_v69) = (show IVec S1x1x18944 1 from cmpf .oeq a (broadcastInDim S1x1x18944 ![] bcast_S_S1x1x18944 (constant S_ .f32 0x00000000#32))))
    (ho : X (Proc.devRef .tc main_cst_22) = (show FVec Ideal S_ .f32 from constant S_ .f32 0x3F800000#32))
    (hd : X (Proc.devRef .tc main_v71) = (show FVec Ideal S1x1x18944 .f32 from Host.divf a (broadcastInDim S1x1x18944 ![] bcast_S_S1x1x18944 (constant S_ .f32 0x42FE0000#32)))) :
    StableHlo.after hostOps0_13 X (Proc.devRef .tc main_v72) = (show FVec Ideal S1x1x18944 .f32 from unitT a) :=
  chooseT X hc ho hd
theorem scaledT : StableHlo.after hostOps0_13 (StableHlo.after hostOps0_12 X) (Proc.devRef .tc main_v72) = (show FVec Ideal S1x1x18944 .f32 from scaleT (turnT (show FVec Ideal S128x128 .bf16 from X (Proc.devRef .tc main_v21)) (show FVec Ideal S3x512x18944 .bf16 from X (Proc.devRef .tc main_arg2)))) :=
  settleT _ (isZeroT X) (oneT X) (overT X)
theorem keptT : StableHlo.after hostOps0_13 X (Proc.devRef .tc main_v64) = X (Proc.devRef .tc main_v64) := by
  after_results
theorem roundedT {t : FVec Ideal S3x512x18944 .f32} {s : FVec Ideal S1x1x18944 .f32} (ht : X (Proc.devRef .tc main_v64) = t) (hs : X (Proc.devRef .tc main_v72) = s) :
    StableHlo.after hostOps0_17 (StableHlo.after hostOps0_16 (StableHlo.after hostOps0_15 (StableHlo.after hostOps0_14 X))) (Proc.devRef .tc main_v76) = (show FVec Ideal S3x512x18944 .f32 from codeT t s) := by
  subst ht hs
  after_results; rfl
theorem heldT : StableHlo.after hostOps0_17 (StableHlo.after hostOps0_16 (StableHlo.after hostOps0_15 (StableHlo.after hostOps0_14 X))) (Proc.devRef .tc main_v72) = X (Proc.devRef .tc main_v72) := by
  after_results
theorem C_v72 : stC X (Proc.devRef .tc main_v72) = (show FVec Ideal S1x1x18944 .f32 from scaleT (turnT (show FVec Ideal S128x128 .bf16 from X (Proc.devRef .tc main_v21)) (show FVec Ideal S3x512x18944 .bf16 from X (Proc.devRef .tc main_arg2)))) :=
  (heldT _).trans (scaledT X)
theorem C_v76 : stC X (Proc.devRef .tc main_v76) = (show FVec Ideal S3x512x18944 .f32 from codeT (turnT (show FVec Ideal S128x128 .bf16 from X (Proc.devRef .tc main_v21)) (show FVec Ideal S3x512x18944 .bf16 from X (Proc.devRef .tc main_arg2))) (scaleT (turnT (show FVec Ideal S128x128 .bf16 from X (Proc.devRef .tc main_v21)) (show FVec Ideal S3x512x18944 .bf16 from X (Proc.devRef .tc main_arg2))))) :=
  roundedT _ ((keptT _).trans (readT X)) (scaledT X)

/-! ### The activation -/

theorem readX : StableHlo.after hostOps0_18 X (Proc.devRef .tc main_v83) = (show FVec Ideal S3x512x3584 .f32 from turnX (show FVec Ideal S128x128 .bf16 from X (Proc.devRef .tc main_v21)) (show FVec Ideal S3x512x3584 .bf16 from X (Proc.devRef .tc main_arg0))) := by
  after_results; rfl
theorem isZeroX : StableHlo.after hostOps0_18 X (Proc.devRef .tc main_v88) = (show IVec S1x1x3584 1 from cmpf .oeq (topX (turnX (show FVec Ideal S128x128 .bf16 from X (Proc.devRef .tc main_v21)) (show FVec Ideal S3x512x3584 .bf16 from X (Proc.devRef .tc main_arg0)))) (broadcastInDim S1x1x3584 ![] bcast_S_S1x1x3584 (constant S_ .f32 0x00000000#32))) := by
  after_results; rfl
theorem overX : StableHlo.after hostOps0_18 X (Proc.devRef .tc main_v90) = (show FVec Ideal S1x1x3584 .f32 from Host.divf (topX (turnX (show FVec Ideal S128x128 .bf16 from X (Proc.devRef .tc main_v21)) (show FVec Ideal S3x512x3584 .bf16 from X (Proc.devRef .tc main_arg0)))) (broadcastInDim S1x1x3584 ![] bcast_S_S1x1x3584 (constant S_ .f32 0x42FE0000#32))) := by
  after_results; rfl
theorem oneX : StableHlo.after hostOps0_18 X (Proc.devRef .tc main_cst_29) = (show FVec Ideal S_ .f32 from constant S_ .f32 0x3F800000#32) := by
  after_results
theorem chooseX {c : IVec S1x1x3584 1} {o : FVec Ideal S_ .f32} {d : FVec Ideal S1x1x3584 .f32} (hc : X (Proc.devRef .tc main_v88) = c) (ho : X (Proc.devRef .tc main_cst_29) = o) (hd : X (Proc.devRef .tc main_v90) = d) :
    StableHlo.after hostOps0_19 X (Proc.devRef .tc main_v91) = (show FVec Ideal S1x1x3584 .f32 from select c (broadcastInDim S1x1x3584 ![] bcast_S_S1x1x3584 o) d) := by
  subst hc ho hd
  after_results; rfl
theorem settleX {a : FVec Ideal S1x1x3584 .f32} (hc : X (Proc.devRef .tc main_v88) = (show IVec S1x1x3584 1 from cmpf .oeq a (broadcastInDim S1x1x3584 ![] bcast_S_S1x1x3584 (constant S_ .f32 0x00000000#32))))
    (ho : X (Proc.devRef .tc main_cst_29) = (show FVec Ideal S_ .f32 from constant S_ .f32 0x3F800000#32))
    (hd : X (Proc.devRef .tc main_v90) = (show FVec Ideal S1x1x3584 .f32 from Host.divf a (broadcastInDim S1x1x3584 ![] bcast_S_S1x1x3584 (constant S_ .f32 0x42FE0000#32)))) :
    StableHlo.after hostOps0_19 X (Proc.devRef .tc main_v91) = (show FVec Ideal S1x1x3584 .f32 from unitX a) :=
  chooseX X hc ho hd
theorem scaledX : StableHlo.after hostOps0_19 (StableHlo.after hostOps0_18 X) (Proc.devRef .tc main_v91) = (show FVec Ideal S1x1x3584 .f32 from scaleX (turnX (show FVec Ideal S128x128 .bf16 from X (Proc.devRef .tc main_v21)) (show FVec Ideal S3x512x3584 .bf16 from X (Proc.devRef .tc main_arg0)))) :=
  settleX _ (isZeroX X) (oneX X) (overX X)
theorem keptX : StableHlo.after hostOps0_19 X (Proc.devRef .tc main_v83) = X (Proc.devRef .tc main_v83) := by
  after_results
theorem roundedX {t : FVec Ideal S3x512x3584 .f32} {s : FVec Ideal S1x1x3584 .f32} (ht : X (Proc.devRef .tc main_v83) = t) (hs : X (Proc.devRef .tc main_v91) = s) :
    StableHlo.after hostOps0_23 (StableHlo.after hostOps0_22 (StableHlo.after hostOps0_21 (StableHlo.after hostOps0_20 X))) (Proc.devRef .tc main_v95) = (show FVec Ideal S3x512x3584 .f32 from codeX t s) := by
  subst ht hs
  after_results; rfl
theorem heldX : StableHlo.after hostOps0_23 (StableHlo.after hostOps0_22 (StableHlo.after hostOps0_21 (StableHlo.after hostOps0_20 X))) (Proc.devRef .tc main_v91) = X (Proc.devRef .tc main_v91) := by
  after_results
theorem D_v91 : stD X (Proc.devRef .tc main_v91) = (show FVec Ideal S1x1x3584 .f32 from scaleX (turnX (show FVec Ideal S128x128 .bf16 from X (Proc.devRef .tc main_v21)) (show FVec Ideal S3x512x3584 .bf16 from X (Proc.devRef .tc main_arg0)))) :=
  (heldX _).trans (scaledX X)
theorem D_v95 : stD X (Proc.devRef .tc main_v95) = (show FVec Ideal S3x512x3584 .f32 from codeX (turnX (show FVec Ideal S128x128 .bf16 from X (Proc.devRef .tc main_v21)) (show FVec Ideal S3x512x3584 .bf16 from X (Proc.devRef .tc main_arg0))) (scaleX (turnX (show FVec Ideal S128x128 .bf16 from X (Proc.devRef .tc main_v21)) (show FVec Ideal S3x512x3584 .bf16 from X (Proc.devRef .tc main_arg0))))) :=
  roundedX _ ((keptX _).trans (readX X)) (scaledX X)

/-! ### The signs, the reshapes, and what a stretch keeps -/

theorem A_v10 : stA X (Proc.devRef .tc main_v10) = (show FVec Ideal S256x256 .bf16 from signs256) := by
  unfold stA; after_results; rfl
theorem A_v21 : stA X (Proc.devRef .tc main_v21) = (show FVec Ideal S128x128 .bf16 from signs128) := by
  unfold stA; after_results; rfl
theorem A_arg0 : stA X (Proc.devRef .tc main_arg0) = X (Proc.devRef .tc main_arg0) := by
  unfold stA; after_results
theorem A_arg1 : stA X (Proc.devRef .tc main_arg1) = X (Proc.devRef .tc main_arg1) := by
  unfold stA; after_results
theorem A_arg2 : stA X (Proc.devRef .tc main_arg2) = X (Proc.devRef .tc main_arg2) := by
  unfold stA; after_results

theorem B_v39 : stB X (Proc.devRef .tc main_v39) = (show FVec Ideal S3x512 .f32 from shapeCast S3x512 (show FVec Ideal S3x512x1 .f32 from X (Proc.devRef .tc main_v34)) shapeCasts_S3x512x1_S3x512) := by
  unfold stB; after_results; rfl
theorem B_v38 : stB X (Proc.devRef .tc main_v38) = X (Proc.devRef .tc main_v38) := by
  unfold stB; after_results
theorem B_v21 : stB X (Proc.devRef .tc main_v21) = X (Proc.devRef .tc main_v21) := by
  unfold stB; after_results
theorem B_arg0 : stB X (Proc.devRef .tc main_arg0) = X (Proc.devRef .tc main_arg0) := by
  unfold stB; after_results
theorem B_arg2 : stB X (Proc.devRef .tc main_arg2) = X (Proc.devRef .tc main_arg2) := by
  unfold stB; after_results

theorem C_v58 : stC X (Proc.devRef .tc main_v58) = (show FVec Ideal S3584 .f32 from shapeCast S3584 (show FVec Ideal S1x3584 .f32 from X (Proc.devRef .tc main_v53)) shapeCasts_S1x3584_S3584) := by
  unfold stC; after_results; rfl
theorem C_v57 : stC X (Proc.devRef .tc main_v57) = X (Proc.devRef .tc main_v57) := by
  unfold stC; after_results
theorem C_v39 : stC X (Proc.devRef .tc main_v39) = X (Proc.devRef .tc main_v39) := by
  unfold stC; after_results
theorem C_v38 : stC X (Proc.devRef .tc main_v38) = X (Proc.devRef .tc main_v38) := by
  unfold stC; after_results
theorem C_v21 : stC X (Proc.devRef .tc main_v21) = X (Proc.devRef .tc main_v21) := by
  unfold stC; after_results
theorem C_arg0 : stC X (Proc.devRef .tc main_arg0) = X (Proc.devRef .tc main_arg0) := by
  unfold stC; after_results

theorem D_v77 : stD X (Proc.devRef .tc main_v77) = (show FVec Ideal S18944 .f32 from shapeCast S18944 (show FVec Ideal S1x1x18944 .f32 from X (Proc.devRef .tc main_v72)) shapeCasts_S1x1x18944_S18944) := by
  unfold stD; after_results; rfl
theorem D_v76 : stD X (Proc.devRef .tc main_v76) = X (Proc.devRef .tc main_v76) := by
  unfold stD; after_results
theorem D_v58 : stD X (Proc.devRef .tc main_v58) = X (Proc.devRef .tc main_v58) := by
  unfold stD; after_results
theorem D_v57 : stD X (Proc.devRef .tc main_v57) = X (Proc.devRef .tc main_v57) := by
  unfold stD; after_results
theorem D_v39 : stD X (Proc.devRef .tc main_v39) = X (Proc.devRef .tc main_v39) := by
  unfold stD; after_results
theorem D_v38 : stD X (Proc.devRef .tc main_v38) = X (Proc.devRef .tc main_v38) := by
  unfold stD; after_results

theorem E_v101 : stE X (Proc.devRef .tc main_v101) = (show FVec Ideal S1536x18944 .f32 from shapeCast S1536x18944 (show FVec Ideal S3x512x18944 .f32 from X (Proc.devRef .tc main_v38)) shapeCasts_S3x512x18944_S1536x18944) := by
  unfold stE; after_results; rfl
theorem E_v57 : stE X (Proc.devRef .tc main_v57) = X (Proc.devRef .tc main_v57) := by
  unfold stE; after_results
theorem E_v102 : stE X (Proc.devRef .tc main_v102) = (show FVec Ideal S1536x18944 .f32 from shapeCast S1536x18944 (show FVec Ideal S3x512x18944 .f32 from X (Proc.devRef .tc main_v76)) shapeCasts_S3x512x18944_S1536x18944) := by
  unfold stE; after_results; rfl
theorem E_v103 : stE X (Proc.devRef .tc main_v103) = (show FVec Ideal S1536x3584 .f32 from shapeCast S1536x3584 (show FVec Ideal S3x512x3584 .f32 from X (Proc.devRef .tc main_v95)) shapeCasts_S3x512x3584_S1536x3584) := by
  unfold stE; after_results; rfl
theorem E_v97 : stE X (Proc.devRef .tc main_v97) = (show FVec Ideal S1536x1 .f32 from shapeCast S1536x1 (show FVec Ideal S3x512 .f32 from X (Proc.devRef .tc main_v39)) shapeCasts_S3x512_S1536x1) := by
  unfold stE; after_results; rfl
theorem E_v98 : stE X (Proc.devRef .tc main_v98) = (show FVec Ideal S1x3584 .f32 from shapeCast S1x3584 (show FVec Ideal S3584 .f32 from X (Proc.devRef .tc main_v58)) shapeCasts_S3584_S1x3584) := by
  unfold stE; after_results; rfl
theorem E_v99 : stE X (Proc.devRef .tc main_v99) = (show FVec Ideal S1x18944 .f32 from shapeCast S1x18944 (show FVec Ideal S18944 .f32 from X (Proc.devRef .tc main_v77)) shapeCasts_S18944_S1x18944) := by
  unfold stE; after_results; rfl
theorem E_v104 : stE X (Proc.devRef .tc main_v104) = (show FVec Ideal S18944x1 .f32 from shapeCast S18944x1 (show FVec Ideal S18944 .f32 from X (Proc.devRef .tc main_v77)) shapeCasts_S18944_S18944x1) := by
  unfold stE; after_results; rfl
theorem E_v100 : stE X (Proc.devRef .tc main_v100) = (show FVec Ideal S1x3584 .f32 from shapeCast S1x3584 (shapeCast S3584 (show FVec Ideal S1x1x3584 .f32 from X (Proc.devRef .tc main_v91)) shapeCasts_S1x1x3584_S3584) shapeCasts_S3584_S1x3584) := by
  unfold stE; after_results; rfl

end Cert.ReferenceIdeal.Stages

end
-- ==== Proof.ReferenceTurn.lean ====
/-
  The turned arrays of the reference, entry by entry.
-/
module

public import proofs.«01_k».proof.Proof.ReferenceHost

@[expose] public section

noncomputable section

namespace Cert.ReferenceIdeal.Stages

open Cert.ReferenceIdeal Cert.ReferenceIdeal.Gen Cert.Spec
open Idealize.ShloMosaic Idealize.ShloMosaic.TcCoe Idealize.SL.Sem

theorem signs256_at (p q : Fin 256) : (signs256 (Idealize.ShloMosaic.ix2 p q) : EReal) = sgn p.val q.val := by
  unfold sgn
  pointwise [signs256]

theorem signs128_at (p q : Fin 128) : (signs128 (Idealize.ShloMosaic.ix2 p q) : EReal) = sgn p.val q.val := by
  unfold sgn
  pointwise [signs128]

theorem turnO_at (a : FVec Ideal S3x512x18944 .bf16) (p : Fin 3) (q : Fin 512) (r : Fin 18944) :
    (turnO signs256 a (Idealize.ShloMosaic.ix3 p q r) : EReal) = turnedY (flat (n := 18944) a) (512 * p.val + q.val) r.val := by
  pointwise [turnO]
  unfold turnedY turnR c16
  rw [Finset.sum_range]
  refine congrArg (· * Ideal.ofBits .f32 1031798784#32) (Finset.sum_congr rfl fun x _ => congrArg₂ (· * ·) ?_ (signs256_at _ _))
  refine (flat_row (n := 18944) a p q _).symm.trans ?_
  exact congrArg (flat (n := 18944) a _) (by show _ / 256 * 256 + _ = _; omega)

theorem turnW_at (a : FVec Ideal S18944x3584 .bf16) (p : Fin 18944) (q : Fin 3584) :
    (turnW signs256 a (Idealize.ShloMosaic.ix2 p q) : EReal) = turnedW (mat (m := 18944) (n := 3584) a) p.val q.val := by
  pointwise [turnW]
  unfold turnedW turnL c16
  rw [Finset.sum_range]
  refine congrArg (· * Ideal.ofBits .f32 1031798784#32) (Finset.sum_congr rfl fun x _ => congrArg₂ (· * ·) ((signs256_at _ _).trans (sgn_comm _ _)) ?_)
  refine (mat_fin (m := 18944) (n := 3584) a _ q).symm.trans ?_
  exact congrArg (fun k => mat (m := 18944) (n := 3584) a k q.val) (by show _ / 256 * 256 + _ = _; omega)

theorem turnT_at (a : FVec Ideal S3x512x18944 .bf16) (p : Fin 3) (q : Fin 512) (r : Fin 18944) :
    (turnT signs128 a (Idealize.ShloMosaic.ix3 p q r) : EReal) = turnedT (flat (n := 18944) a) (512 * p.val + q.val) r.val := by
  pointwise [turnT]
  unfold turnedT turnL c8
  rw [Finset.sum_range, show (512 * p.val + q.val) % 128 = q.val % 128 by omega]
  refine congrArg (· * Ideal.ofBits .f32 1035273459#32) (Finset.sum_congr rfl fun x _ => congrArg₂ (· * ·) ((signs128_at _ _).trans (sgn_comm _ _)) ?_)
  refine (flat_row (n := 18944) a p _ r).symm.trans ?_
  exact congrArg (fun k => flat (n := 18944) a k r.val) (by show _ + (_ / 128 * 128 + _) = _; omega)

theorem turnX_at (a : FVec Ideal S3x512x3584 .bf16) (p : Fin 3) (q : Fin 512) (r : Fin 3584) :
    (turnX signs128 a (Idealize.ShloMosaic.ix3 p q r) : EReal) = turnedT (flat (n := 3584) a) (512 * p.val + q.val) r.val := by
  pointwise [turnX]
  unfold turnedT turnL c8
  rw [Finset.sum_range, show (512 * p.val + q.val) % 128 = q.val % 128 by omega]
  refine congrArg (· * Ideal.ofBits .f32 1035273459#32) (Finset.sum_congr rfl fun x _ => congrArg₂ (· * ·) ((signs128_at _ _).trans (sgn_comm _ _)) ?_)
  refine (flat_row (n := 3584) a p _ r).symm.trans ?_
  exact congrArg (fun k => flat (n := 3584) a k r.val) (by show _ + (_ / 128 * 128 + _) = _; omega)

end Cert.ReferenceIdeal.Stages

end
-- ==== Proof.ReferenceCode.lean ====
/-
  The scales and codes of the reference, entry by entry.
-/
module

public import proofs.«01_k».proof.Proof.ReferenceHost

@[expose] public section

noncomputable section

namespace Cert.ReferenceIdeal.Stages

open Cert.ReferenceIdeal Cert.ReferenceIdeal.Gen Cert.Spec
open Idealize.ShloMosaic Idealize.ShloMosaic.TcCoe Idealize.SL.Sem

theorem unitO_at (a : FVec Ideal S3x512x1 .f32) (p : Fin 3) (q : Fin 512) : (unitO a (Idealize.ShloMosaic.ix3 p q (0 : Fin 1)) : EReal) = scale (a (Idealize.ShloMosaic.ix3 p q (0 : Fin 1))) := by
  pointwise [unitO, scale]

theorem topO_at (t : FVec Ideal S3x512x18944 .f32) (p : Fin 3) (q : Fin 512) : (topO t (Idealize.ShloMosaic.ix3 p q (0 : Fin 1)) : EReal) = hostTop reducesTo_S3x512x18944_S3x512_d2 h_S_ t (Idealize.ShloMosaic.ix2 p q) := by
  unfold topO
  generalize hostTop reducesTo_S3x512x18944_S3x512_d2 h_S_ t = g
  pointwise

theorem scaleO_at (t : FVec Ideal S3x512x18944 .f32) (p : Fin 3) (q : Fin 512) : (scaleO t (Idealize.ShloMosaic.ix3 p q (0 : Fin 1)) : EReal) = scale (hostTop reducesTo_S3x512x18944_S3x512_d2 h_S_ t (Idealize.ShloMosaic.ix2 p q)) :=
  (unitO_at _ p q).trans (congrArg scale (topO_at t p q))

theorem unitW_at (a : FVec Ideal S1x3584 .f32) (q : Fin 3584) : (unitW a (Idealize.ShloMosaic.ix2 (0 : Fin 1) q) : EReal) = scale (a (Idealize.ShloMosaic.ix2 (0 : Fin 1) q)) := by
  pointwise [unitW, scale]

theorem topW_at (t : FVec Ideal S18944x3584 .f32) (q : Fin 3584) : (topW t (Idealize.ShloMosaic.ix2 (0 : Fin 1) q) : EReal) = hostTop reducesTo_S18944x3584_S3584_d0 h_S_ t (Idealize.ShloMosaic.ix1 q) := by
  unfold topW
  generalize hostTop reducesTo_S18944x3584_S3584_d0 h_S_ t = g
  pointwise

theorem scaleW_at (t : FVec Ideal S18944x3584 .f32) (q : Fin 3584) : (scaleW t (Idealize.ShloMosaic.ix2 (0 : Fin 1) q) : EReal) = scale (hostTop reducesTo_S18944x3584_S3584_d0 h_S_ t (Idealize.ShloMosaic.ix1 q)) :=
  (unitW_at _ q).trans (congrArg scale (topW_at t q))

theorem unitT_at (a : FVec Ideal S1x1x18944 .f32) (q : Fin 18944) : (unitT a (Idealize.ShloMosaic.ix3 (0 : Fin 1) (0 : Fin 1) q) : EReal) = scale (a (Idealize.ShloMosaic.ix3 (0 : Fin 1) (0 : Fin 1) q)) := by
  pointwise [unitT, scale]

theorem topT_at (t : FVec Ideal S3x512x18944 .f32) (q : Fin 18944) : (topT t (Idealize.ShloMosaic.ix3 (0 : Fin 1) (0 : Fin 1) q) : EReal) = hostTop reducesTo_S3x512x18944_S18944_d0_1 h_S_ t (Idealize.ShloMosaic.ix1 q) := by
  unfold topT
  generalize hostTop reducesTo_S3x512x18944_S18944_d0_1 h_S_ t = g
  pointwise

theorem scaleT_at (t : FVec Ideal S3x512x18944 .f32) (q : Fin 18944) : (scaleT t (Idealize.ShloMosaic.ix3 (0 : Fin 1) (0 : Fin 1) q) : EReal) = scale (hostTop reducesTo_S3x512x18944_S18944_d0_1 h_S_ t (Idealize.ShloMosaic.ix1 q)) :=
  (unitT_at _ q).trans (congrArg scale (topT_at t q))

theorem unitX_at (a : FVec Ideal S1x1x3584 .f32) (q : Fin 3584) : (unitX a (Idealize.ShloMosaic.ix3 (0 : Fin 1) (0 : Fin 1) q) : EReal) = scale (a (Idealize.ShloMosaic.ix3 (0 : Fin 1) (0 : Fin 1) q)) := by
  pointwise [unitX, scale]

theorem topX_at (t : FVec Ideal S3x512x3584 .f32) (q : Fin 3584) : (topX t (Idealize.ShloMosaic.ix3 (0 : Fin 1) (0 : Fin 1) q) : EReal) = hostTop reducesTo_S3x512x3584_S3584_d0_1 h_S_ t (Idealize.ShloMosaic.ix1 q) := by
  unfold topX
  generalize hostTop reducesTo_S3x512x3584_S3584_d0_1 h_S_ t = g
  pointwise

theorem scaleX_at (t : FVec Ideal S3x512x3584 .f32) (q : Fin 3584) : (scaleX t (Idealize.ShloMosaic.ix3 (0 : Fin 1) (0 : Fin 1) q) : EReal) = scale (hostTop reducesTo_S3x512x3584_S3584_d0_1 h_S_ t (Idealize.ShloMosaic.ix1 q)) :=
  (unitX_at _ q).trans (congrArg scale (topX_at t q))

theorem codeO_at (t : FVec Ideal S3x512x18944 .f32) (s : FVec Ideal S3x512x1 .f32) (p : Fin 3) (q : Fin 512) (r : Fin 18944) :
    FloatOps.fptosi (F := Ideal) (φ := .f32) 8 (codeO t s (Idealize.ShloMosaic.ix3 p q r)) = code (s (Idealize.ShloMosaic.ix3 p q (0 : Fin 1))) (t (Idealize.ShloMosaic.ix3 p q r)) := by
  unfold code
  refine congrArg (FloatOps.fptosi (F := Ideal) (φ := .f32) 8) ?_
  pointwise [codeO]

theorem codeW_at (t : FVec Ideal S18944x3584 .f32) (s : FVec Ideal S1x3584 .f32) (p : Fin 18944) (q : Fin 3584) :
    FloatOps.fptosi (F := Ideal) (φ := .f32) 8 (codeW t s (Idealize.ShloMosaic.ix2 p q)) = code (s (Idealize.ShloMosaic.ix2 (0 : Fin 1) q)) (t (Idealize.ShloMosaic.ix2 p q)) := by
  unfold code
  refine congrArg (FloatOps.fptosi (F := Ideal) (φ := .f32) 8) ?_
  pointwise [codeW]

theorem codeT_at (t : FVec Ideal S3x512x18944 .f32) (s : FVec Ideal S1x1x18944 .f32) (p : Fin 3) (q : Fin 512) (r : Fin 18944) :
    FloatOps.fptosi (F := Ideal) (φ := .f32) 8 (codeT t s (Idealize.ShloMosaic.ix3 p q r)) = code (s (Idealize.ShloMosaic.ix3 (0 : Fin 1) (0 : Fin 1) r)) (t (Idealize.ShloMosaic.ix3 p q r)) := by
  unfold code
  refine congrArg (FloatOps.fptosi (F := Ideal) (φ := .f32) 8) ?_
  pointwise [codeT]

theorem codeX_at (t : FVec Ideal S3x512x3584 .f32) (s : FVec Ideal S1x1x3584 .f32) (p : Fin 3) (q : Fin 512) (r : Fin 3584) :
    FloatOps.fptosi (F := Ideal) (φ := .f32) 8 (codeX t s (Idealize.ShloMosaic.ix3 p q r)) = code (s (Idealize.ShloMosaic.ix3 (0 : Fin 1) (0 : Fin 1) r)) (t (Idealize.ShloMosaic.ix3 p q r)) := by
  unfold code
  refine congrArg (FloatOps.fptosi (F := Ideal) (φ := .f32) 8) ?_
  pointwise [codeX]

end Cert.ReferenceIdeal.Stages

end
-- ==== Proof.ReferenceArrays.lean ====
/-
  What the reference's region finds in the arrays it reads: the codes before their conversion, and the scales.
-/
module

public import proofs.«01_k».proof.Proof.ReferenceReads
public import proofs.«01_k».proof.Proof.ReferenceTurn
public import proofs.«01_k».proof.Proof.ReferenceCode

@[expose] public section

noncomputable section

namespace Cert.ReferenceIdeal.Stages

open Cert.ReferenceIdeal Cert.ReferenceIdeal.Gen Cert.Spec
open Idealize.ShloMosaic Idealize.ShloMosaic.TcCoe Idealize.SL.Sem

/-! ## Codes and scales of the turned arrays, entry by entry -/

theorem row_eq (p : Fin 1536) : 512 * (p.val / 512) + p.val % 512 = p.val := Nat.div_add_mod _ _

section
variable (a : FVec Ideal S3x512x18944 .bf16) (w : FVec Ideal S18944x3584 .bf16) (x : FVec Ideal S3x512x3584 .bf16)

theorem yScale_at (p : Fin 3) (q : Fin 512) : (scaleO (turnO signs256 a) (Idealize.ShloMosaic.ix3 p q (0 : Fin 1)) : EReal) = yScale (flat (n := 18944) a) (512 * p.val + q.val) := by
  unfold yScale rowScale; rw [scaleO_at]; exact congrArg scale (hostTop_row _ _ _ (turnedY (flat (n := 18944) a)) (turnO_at a) p q)
theorem yCode_at (p : Fin 3) (q : Fin 512) (r : Fin 18944) :
    FloatOps.fptosi (F := Ideal) (φ := .f32) 8 (codeO (turnO signs256 a) (scaleO (turnO signs256 a)) (Idealize.ShloMosaic.ix3 p q r)) = yCode (flat (n := 18944) a) (512 * p.val + q.val) r.val :=
  (codeO_at _ _ p q r).trans (congrArg₂ code (yScale_at a p q) (turnO_at a p q r))
theorem wScale_at (q : Fin 3584) : (scaleW (turnW signs256 w) (Idealize.ShloMosaic.ix2 (0 : Fin 1) q) : EReal) = wScale (mat (m := 18944) (n := 3584) w) q.val := by
  unfold wScale colScale; rw [scaleW_at]; exact congrArg scale (hostTop_col _ _ _ (turnedW (mat (m := 18944) (n := 3584) w)) (turnW_at w) q)
theorem wCode_at (p : Fin 18944) (q : Fin 3584) :
    FloatOps.fptosi (F := Ideal) (φ := .f32) 8 (codeW (turnW signs256 w) (scaleW (turnW signs256 w)) (Idealize.ShloMosaic.ix2 p q)) = wCode (mat (m := 18944) (n := 3584) w) p.val q.val :=
  (codeW_at _ _ p q).trans (congrArg₂ code (wScale_at w q) (turnW_at w p q))
theorem tScale_at (r : Fin 18944) : (scaleT (turnT signs128 a) (Idealize.ShloMosaic.ix3 (0 : Fin 1) (0 : Fin 1) r) : EReal) = tScale (flat (n := 18944) a) r.val := by
  unfold tScale colScale; rw [scaleT_at]; exact congrArg scale (hostTop_batches _ _ _ (turnedT (flat (n := 18944) a)) (turnT_at a) r)
theorem tCode_at (p : Fin 3) (q : Fin 512) (r : Fin 18944) :
    FloatOps.fptosi (F := Ideal) (φ := .f32) 8 (codeT (turnT signs128 a) (scaleT (turnT signs128 a)) (Idealize.ShloMosaic.ix3 p q r)) = tCode (flat (n := 18944) a) (512 * p.val + q.val) r.val :=
  (codeT_at _ _ p q r).trans (congrArg₂ code (tScale_at a r) (turnT_at a p q r))
theorem xScale_at (r : Fin 3584) : (scaleX (turnX signs128 x) (Idealize.ShloMosaic.ix3 (0 : Fin 1) (0 : Fin 1) r) : EReal) = tScale (flat (n := 3584) x) r.val := by
  unfold tScale colScale; rw [scaleX_at]; exact congrArg scale (hostTop_batches _ _ _ (turnedT (flat (n := 3584) x)) (turnX_at x) r)
theorem xCode_at (p : Fin 3) (q : Fin 512) (r : Fin 3584) :
    FloatOps.fptosi (F := Ideal) (φ := .f32) 8 (codeX (turnX signs128 x) (scaleX (turnX signs128 x)) (Idealize.ShloMosaic.ix3 p q r)) = tCode (flat (n := 3584) x) (512 * p.val + q.val) r.val :=
  (codeX_at _ _ p q r).trans (congrArg₂ code (xScale_at x r) (turnX_at x p q r))

end

/-! ## The reshapes at an index -/

theorem rowsY (a : FVec Ideal S3x512x18944 .f32) (p : Fin 1536) (q : Fin 18944) : shapeCast S1536x18944 a shapeCasts_S3x512x18944_S1536x18944 (Idealize.ShloMosaic.ix2 p q)
    = a (Idealize.ShloMosaic.ix3 (⟨p.val / 512, by omega⟩ : Fin 3) (⟨p.val % 512, by omega⟩ : Fin 512) q) := by
  pointwise
theorem rowsX (a : FVec Ideal S3x512x3584 .f32) (p : Fin 1536) (q : Fin 3584) : shapeCast S1536x3584 a shapeCasts_S3x512x3584_S1536x3584 (Idealize.ShloMosaic.ix2 p q)
    = a (Idealize.ShloMosaic.ix3 (⟨p.val / 512, by omega⟩ : Fin 3) (⟨p.val % 512, by omega⟩ : Fin 512) q) := by
  pointwise
theorem scaleRows (a : FVec Ideal S3x512x1 .f32) (p : Fin 1536) : shapeCast S1536x1 (shapeCast S3x512 a shapeCasts_S3x512x1_S3x512) shapeCasts_S3x512_S1536x1 (Idealize.ShloMosaic.ix2 p (0 : Fin 1))
    = a (Idealize.ShloMosaic.ix3 (⟨p.val / 512, by omega⟩ : Fin 3) (⟨p.val % 512, by omega⟩ : Fin 512) (0 : Fin 1)) := by
  pointwise
theorem scaleColumnsW (a : FVec Ideal S1x3584 .f32) (q : Fin 3584) : shapeCast S1x3584 (shapeCast S3584 a shapeCasts_S1x3584_S3584) shapeCasts_S3584_S1x3584 (Idealize.ShloMosaic.ix2 (0 : Fin 1) q)
    = a (Idealize.ShloMosaic.ix2 (0 : Fin 1) q) := by
  pointwise
theorem scaleColumnsX (a : FVec Ideal S1x1x3584 .f32) (q : Fin 3584) : shapeCast S1x3584 (shapeCast S3584 a shapeCasts_S1x1x3584_S3584) shapeCasts_S3584_S1x3584 (Idealize.ShloMosaic.ix2 (0 : Fin 1) q)
    = a (Idealize.ShloMosaic.ix3 (0 : Fin 1) (0 : Fin 1) q) := by
  pointwise
theorem scaleColumnsT (a : FVec Ideal S1x1x18944 .f32) (q : Fin 18944) : shapeCast S1x18944 (shapeCast S18944 a shapeCasts_S1x1x18944_S18944) shapeCasts_S18944_S1x18944 (Idealize.ShloMosaic.ix2 (0 : Fin 1) q)
    = a (Idealize.ShloMosaic.ix3 (0 : Fin 1) (0 : Fin 1) q) := by
  pointwise
theorem scaleRowsT (a : FVec Ideal S1x1x18944 .f32) (q : Fin 18944) : shapeCast S18944x1 (shapeCast S18944 a shapeCasts_S1x1x18944_S18944) shapeCasts_S18944_S18944x1 (Idealize.ShloMosaic.ix2 q (0 : Fin 1))
    = a (Idealize.ShloMosaic.ix3 (0 : Fin 1) (0 : Fin 1) q) := by
  pointwise

/-! ## The arrays -/

variable (m : (ℓ : Loc nD τ sig) → Buf (Elt Ideal) ℓ)

/-- The launched arguments. -/
abbrev argX (c : Dev nD) : FVec Ideal S3x512x3584 .bf16 := m ((c : Thread nD τ).loc main_arg0)
abbrev argW (c : Dev nD) : FVec Ideal S18944x3584 .bf16 := m ((c : Thread nD τ).loc main_arg1)
abbrev argY (c : Dev nD) : FVec Ideal S3x512x18944 .bf16 := m ((c : Thread nD τ).loc main_arg2)

theorem V_v101 (c : Dev nD) : V m c main_v101 = (show FVec Ideal S1536x18944 .f32 from shapeCast S1536x18944 (codeO (turnO signs256 (argY m c)) (scaleO (turnO signs256 (argY m c)))) shapeCasts_S3x512x18944_S1536x18944) :=
  (congrFun (steps_eq _) _).trans ((E_v101 _).trans (congrArg (fun a : FVec Ideal S3x512x18944 .f32 => shapeCast S1536x18944 a shapeCasts_S3x512x18944_S1536x18944) ((D_v38 _).trans ((C_v38 _).trans ((B_v38 _).trans (A_v38 _))))))
theorem V_v57 (c : Dev nD) : V m c main_v57 = (show FVec Ideal S18944x3584 .f32 from codeW (turnW signs256 (argW m c)) (scaleW (turnW signs256 (argW m c)))) :=
  (congrFun (steps_eq _) _).trans ((E_v57 _).trans ((D_v57 _).trans ((C_v57 _).trans ((B_v57 _).trans (congrArg₂ (fun (h : FVec Ideal S256x256 .bf16) (a : FVec Ideal S18944x3584 .bf16) => codeW (turnW h a) (scaleW (turnW h a))) (A_v10 _) (A_arg1 _))))))
theorem V_v102 (c : Dev nD) : V m c main_v102 = (show FVec Ideal S1536x18944 .f32 from shapeCast S1536x18944 (codeT (turnT signs128 (argY m c)) (scaleT (turnT signs128 (argY m c)))) shapeCasts_S3x512x18944_S1536x18944) :=
  (congrFun (steps_eq _) _).trans ((E_v102 _).trans (congrArg (fun a : FVec Ideal S3x512x18944 .f32 => shapeCast S1536x18944 a shapeCasts_S3x512x18944_S1536x18944) ((D_v76 _).trans ((C_v76 _).trans (congrArg₂ (fun (h : FVec Ideal S128x128 .bf16) (a : FVec Ideal S3x512x18944 .bf16) => codeT (turnT h a) (scaleT (turnT h a))) ((B_v21 _).trans (A_v21 _)) ((B_arg2 _).trans (A_arg2 _)))))))
theorem V_v103 (c : Dev nD) : V m c main_v103 = (show FVec Ideal S1536x3584 .f32 from shapeCast S1536x3584 (codeX (turnX signs128 (argX m c)) (scaleX (turnX signs128 (argX m c)))) shapeCasts_S3x512x3584_S1536x3584) :=
  (congrFun (steps_eq _) _).trans ((E_v103 _).trans (congrArg (fun a : FVec Ideal S3x512x3584 .f32 => shapeCast S1536x3584 a shapeCasts_S3x512x3584_S1536x3584) ((D_v95 _).trans (congrArg₂ (fun (h : FVec Ideal S128x128 .bf16) (a : FVec Ideal S3x512x3584 .bf16) => codeX (turnX h a) (scaleX (turnX h a))) ((C_v21 _).trans ((B_v21 _).trans (A_v21 _))) ((C_arg0 _).trans ((B_arg0 _).trans (A_arg0 _)))))))
theorem V_v97 (c : Dev nD) : V m c main_v97 = (show FVec Ideal S1536x1 .f32 from shapeCast S1536x1 (shapeCast S3x512 (scaleO (turnO signs256 (argY m c))) shapeCasts_S3x512x1_S3x512) shapeCasts_S3x512_S1536x1) :=
  (congrFun (steps_eq _) _).trans ((E_v97 _).trans (congrArg (fun a : FVec Ideal S3x512 .f32 => shapeCast S1536x1 a shapeCasts_S3x512_S1536x1) ((D_v39 _).trans ((C_v39 _).trans ((B_v39 _).trans (congrArg (fun a : FVec Ideal S3x512x1 .f32 => shapeCast S3x512 a shapeCasts_S3x512x1_S3x512) (A_v34 _)))))))
theorem V_v98 (c : Dev nD) : V m c main_v98 = (show FVec Ideal S1x3584 .f32 from shapeCast S1x3584 (shapeCast S3584 (scaleW (turnW signs256 (argW m c))) shapeCasts_S1x3584_S3584) shapeCasts_S3584_S1x3584) :=
  (congrFun (steps_eq _) _).trans ((E_v98 _).trans (congrArg (fun a : FVec Ideal S3584 .f32 => shapeCast S1x3584 a shapeCasts_S3584_S1x3584) ((D_v58 _).trans ((C_v58 _).trans (congrArg (fun a : FVec Ideal S1x3584 .f32 => shapeCast S3584 a shapeCasts_S1x3584_S3584) ((B_v53 _).trans (congrArg₂ (fun (h : FVec Ideal S256x256 .bf16) (a : FVec Ideal S18944x3584 .bf16) => scaleW (turnW h a)) (A_v10 _) (A_arg1 _))))))))
theorem V_v99 (c : Dev nD) : V m c main_v99 = (show FVec Ideal S1x18944 .f32 from shapeCast S1x18944 (shapeCast S18944 (scaleT (turnT signs128 (argY m c))) shapeCasts_S1x1x18944_S18944) shapeCasts_S18944_S1x18944) :=
  (congrFun (steps_eq _) _).trans ((E_v99 _).trans (congrArg (fun a : FVec Ideal S18944 .f32 => shapeCast S1x18944 a shapeCasts_S18944_S1x18944) ((D_v77 _).trans (congrArg (fun a : FVec Ideal S1x1x18944 .f32 => shapeCast S18944 a shapeCasts_S1x1x18944_S18944) ((C_v72 _).trans (congrArg₂ (fun (h : FVec Ideal S128x128 .bf16) (a : FVec Ideal S3x512x18944 .bf16) => scaleT (turnT h a)) ((B_v21 _).trans (A_v21 _)) ((B_arg2 _).trans (A_arg2 _))))))))
theorem V_v104 (c : Dev nD) : V m c main_v104 = (show FVec Ideal S18944x1 .f32 from shapeCast S18944x1 (shapeCast S18944 (scaleT (turnT signs128 (argY m c))) shapeCasts_S1x1x18944_S18944) shapeCasts_S18944_S18944x1) :=
  (congrFun (steps_eq _) _).trans ((E_v104 _).trans (congrArg (fun a : FVec Ideal S18944 .f32 => shapeCast S18944x1 a shapeCasts_S18944_S18944x1) ((D_v77 _).trans (congrArg (fun a : FVec Ideal S1x1x18944 .f32 => shapeCast S18944 a shapeCasts_S1x1x18944_S18944) ((C_v72 _).trans (congrArg₂ (fun (h : FVec Ideal S128x128 .bf16) (a : FVec Ideal S3x512x18944 .bf16) => scaleT (turnT h a)) ((B_v21 _).trans (A_v21 _)) ((B_arg2 _).trans (A_arg2 _))))))))
theorem V_v100 (c : Dev nD) : V m c main_v100 = (show FVec Ideal S1x3584 .f32 from shapeCast S1x3584 (shapeCast S3584 (scaleX (turnX signs128 (argX m c))) shapeCasts_S1x1x3584_S3584) shapeCasts_S3584_S1x3584) :=
  (congrFun (steps_eq _) _).trans ((E_v100 _).trans (congrArg (fun a : FVec Ideal S1x1x3584 .f32 => shapeCast S1x3584 (shapeCast S3584 a shapeCasts_S1x1x3584_S3584) shapeCasts_S3584_S1x3584) ((D_v91 _).trans (congrArg₂ (fun (h : FVec Ideal S128x128 .bf16) (a : FVec Ideal S3x512x3584 .bf16) => scaleX (turnX h a)) ((C_v21 _).trans ((B_v21 _).trans (A_v21 _))) ((C_arg0 _).trans ((B_arg0 _).trans (A_arg0 _)))))))

/-! ## Their entries -/

theorem v101_at (c : Dev nD) (p : Fin 1536) (q : Fin 18944) : FloatOps.fptosi (F := Ideal) (φ := .f32) 8 ((show FVec Ideal S1536x18944 .f32 from V m c main_v101) (Idealize.ShloMosaic.ix2 p q)) = yCode (flat (n := 18944) (argY m c)) p.val q.val := by
  rw [V_v101 m c]
  exact (congrArg (FloatOps.fptosi (F := Ideal) (φ := .f32) 8) (rowsY _ p q)).trans ((yCode_at (argY m c) _ _ q).trans (congrArg (fun k => yCode (flat (n := 18944) (argY m c)) k q.val) (row_eq p)))
theorem v102_at (c : Dev nD) (p : Fin 1536) (q : Fin 18944) : FloatOps.fptosi (F := Ideal) (φ := .f32) 8 ((show FVec Ideal S1536x18944 .f32 from V m c main_v102) (Idealize.ShloMosaic.ix2 p q)) = tCode (flat (n := 18944) (argY m c)) p.val q.val := by
  rw [V_v102 m c]
  exact (congrArg (FloatOps.fptosi (F := Ideal) (φ := .f32) 8) (rowsY _ p q)).trans ((tCode_at (argY m c) _ _ q).trans (congrArg (fun k => tCode (flat (n := 18944) (argY m c)) k q.val) (row_eq p)))
theorem v103_at (c : Dev nD) (p : Fin 1536) (q : Fin 3584) : FloatOps.fptosi (F := Ideal) (φ := .f32) 8 ((show FVec Ideal S1536x3584 .f32 from V m c main_v103) (Idealize.ShloMosaic.ix2 p q)) = tCode (flat (n := 3584) (argX m c)) p.val q.val := by
  rw [V_v103 m c]
  exact (congrArg (FloatOps.fptosi (F := Ideal) (φ := .f32) 8) (rowsX _ p q)).trans ((xCode_at (argX m c) _ _ q).trans (congrArg (fun k => tCode (flat (n := 3584) (argX m c)) k q.val) (row_eq p)))
theorem v57_at (c : Dev nD) (p : Fin 18944) (q : Fin 3584) : FloatOps.fptosi (F := Ideal) (φ := .f32) 8 ((show FVec Ideal S18944x3584 .f32 from V m c main_v57) (Idealize.ShloMosaic.ix2 p q)) = wCode (mat (m := 18944) (n := 3584) (argW m c)) p.val q.val := by
  rw [V_v57 m c]
  exact wCode_at (argW m c) p q
theorem v97_at (c : Dev nD) (p : Fin 1536) : ((show FVec Ideal S1536x1 .f32 from V m c main_v97) (Idealize.ShloMosaic.ix2 p (0 : Fin 1)) : EReal) = yScale (flat (n := 18944) (argY m c)) p.val := by
  rw [V_v97 m c]
  exact (scaleRows _ p).trans ((yScale_at (argY m c) _ _).trans (congrArg (yScale (flat (n := 18944) (argY m c))) (row_eq p)))
theorem v98_at (c : Dev nD) (q : Fin 3584) : ((show FVec Ideal S1x3584 .f32 from V m c main_v98) (Idealize.ShloMosaic.ix2 (0 : Fin 1) q) : EReal) = wScale (mat (m := 18944) (n := 3584) (argW m c)) q.val := by
  rw [V_v98 m c]
  exact (scaleColumnsW _ q).trans (wScale_at (argW m c) q)
theorem v99_at (c : Dev nD) (q : Fin 18944) : ((show FVec Ideal S1x18944 .f32 from V m c main_v99) (Idealize.ShloMosaic.ix2 (0 : Fin 1) q) : EReal) = tScale (flat (n := 18944) (argY m c)) q.val := by
  rw [V_v99 m c]
  exact (scaleColumnsT _ q).trans (tScale_at (argY m c) q)
theorem v104_at (c : Dev nD) (q : Fin 18944) : ((show FVec Ideal S18944x1 .f32 from V m c main_v104) (Idealize.ShloMosaic.ix2 q (0 : Fin 1)) : EReal) = tScale (flat (n := 18944) (argY m c)) q.val := by
  rw [V_v104 m c]
  exact (scaleRowsT _ q).trans (tScale_at (argY m c) q)
theorem v100_at (c : Dev nD) (q : Fin 3584) : ((show FVec Ideal S1x3584 .f32 from V m c main_v100) (Idealize.ShloMosaic.ix2 (0 : Fin 1) q) : EReal) = tScale (flat (n := 3584) (argX m c)) q.val := by
  rw [V_v100 m c]
  exact (scaleColumnsX _ q).trans (xScale_at (argX m c) q)

end Cert.ReferenceIdeal.Stages

end
-- ==== Proof.ReferenceValue.lean ====
/-
  The values of the reference: its ten results as functions of its three arguments.
-/
module

public import proofs.«01_k».proof.Proof.ReferenceRegion
public import proofs.«01_k».proof.Proof.ReferenceArrays

@[expose] public section

noncomputable section

namespace Cert.ReferenceIdeal.Stages

open Cert.ReferenceIdeal Cert.ReferenceIdeal.Gen Cert.Spec
open Idealize.ShloMosaic Idealize.ShloMosaic.TcCoe Idealize.SL.Sem

variable (m : (ℓ : Loc nD τ sig) → Buf (Elt Ideal) ℓ)

/-- Two arrays with the same entries. -/
theorem ext2 {α : Type} {a b : ℕ} {A B : (⟨2, ![a, b]⟩ : Shape).Idx → α} (h : ∀ (p : Fin a) (q : Fin b), A (Idealize.ShloMosaic.ix2 p q) = B (Idealize.ShloMosaic.ix2 p q)) : A = B :=
  funext fun j => by rw [Idealize.ShloMosaic.eq_ix2 j]; exact h (j 0) (j 1)

theorem dx_eq (c : Dev nD) : (dats m 0 c).arrAt 8 cfg0.N = (show Vec Ideal S1536x3584 .bf16 from fun j => dx (mat (m := 18944) (n := 3584) (argW m c)) (flat (n := 18944) (argY m c)) (j 0).val (j 1).val) :=
  (final8 m c).trans (ext2 (a := 1536) (b := 3584) fun p q => pay6_at _ _ _ _ (v101_at m c) (v57_at m c) (v97_at m c) (v98_at m c) p q)
theorem dw_eq (c : Dev nD) : (dats m 0 c).arrAt 9 cfg0.N = (show Vec Ideal S18944x3584 .f32 from fun j => dw (flat (n := 3584) (argX m c)) (flat (n := 18944) (argY m c)) (j 0).val (j 1).val) :=
  (final9 m c).trans (ext2 (a := 18944) (b := 3584) fun p q => pay1_at _ _ _ _ (v102_at m c) (v103_at m c) (v104_at m c) (v100_at m c) p q)
theorem yCode_eq (c : Dev nD) : (dats m 0 c).arrAt 10 cfg0.N = (show Vec Ideal S1536x18944 .i8 from fun j => yCode (flat (n := 18944) (argY m c)) (j 0).val (j 1).val) :=
  (final10 m c).trans (ext2 (a := 1536) (b := 18944) fun p q => (pay2_at _ p q).trans (v101_at m c p q))
theorem yScale_eq (c : Dev nD) : V m c main_v97 = (show Vec Ideal S1536x1 .f32 from fun j => yScale (flat (n := 18944) (argY m c)) (j 0).val) :=
  ext2 (a := 1536) (b := 1) fun p q => by
    obtain rfl : q = 0 := Fin.ext (by omega)
    exact v97_at m c p
theorem wCode_eq (c : Dev nD) : (dats m 0 c).arrAt 11 cfg0.N = (show Vec Ideal S18944x3584 .i8 from fun j => wCode (mat (m := 18944) (n := 3584) (argW m c)) (j 0).val (j 1).val) :=
  (final11 m c).trans (ext2 (a := 18944) (b := 3584) fun p q => (pay3_at _ p q).trans (v57_at m c p q))
theorem wScale_eq (c : Dev nD) : V m c main_v98 = (show Vec Ideal S1x3584 .f32 from fun j => wScale (mat (m := 18944) (n := 3584) (argW m c)) (j 1).val) :=
  ext2 (a := 1) (b := 3584) fun p q => by
    obtain rfl : p = 0 := Fin.ext (by omega)
    exact v98_at m c q
theorem tCode_eq (c : Dev nD) : (dats m 0 c).arrAt 12 cfg0.N = (show Vec Ideal S1536x18944 .i8 from fun j => tCode (flat (n := 18944) (argY m c)) (j 0).val (j 1).val) :=
  (final12 m c).trans (ext2 (a := 1536) (b := 18944) fun p q => (pay4_at _ p q).trans (v102_at m c p q))
theorem tScale_eq (c : Dev nD) : V m c main_v99 = (show Vec Ideal S1x18944 .f32 from fun j => tScale (flat (n := 18944) (argY m c)) (j 1).val) :=
  ext2 (a := 1) (b := 18944) fun p q => by
    obtain rfl : p = 0 := Fin.ext (by omega)
    exact v99_at m c q
theorem xCode_eq (c : Dev nD) : (dats m 0 c).arrAt 13 cfg0.N = (show Vec Ideal S1536x3584 .i8 from fun j => tCode (flat (n := 3584) (argX m c)) (j 0).val (j 1).val) :=
  (final13 m c).trans (ext2 (a := 1536) (b := 3584) fun p q => (pay5_at _ p q).trans (v103_at m c p q))
theorem xScale_eq (c : Dev nD) : V m c main_v100 = (show Vec Ideal S1x3584 .f32 from fun j => tScale (flat (n := 3584) (argX m c)) (j 1).val) :=
  ext2 (a := 1) (b := 3584) fun p q => by
    obtain rfl : p = 0 := Fin.ext (by omega)
    exact v100_at m c q

/-- The run, its ten results named. -/
theorem run (ρ : Dev nD → PrngReg) : θ_run defs (onTc (τ := τ) (main (F := Ideal))) ⟨m, fun _ => 0, ρ⟩ fun r => ∀ c : Dev nD,
      r.2.mem ((c : Thread nD τ).loc main_v105_0) = (show Vec Ideal S1536x3584 .bf16 from fun j => dx (mat (m := 18944) (n := 3584) (argW m c)) (flat (n := 18944) (argY m c)) (j 0).val (j 1).val)
      ∧ r.2.mem ((c : Thread nD τ).loc main_v105_1) = (show Vec Ideal S18944x3584 .f32 from fun j => dw (flat (n := 3584) (argX m c)) (flat (n := 18944) (argY m c)) (j 0).val (j 1).val)
      ∧ r.2.mem ((c : Thread nD τ).loc main_v105_2) = (show Vec Ideal S1536x18944 .i8 from fun j => yCode (flat (n := 18944) (argY m c)) (j 0).val (j 1).val)
      ∧ r.2.mem ((c : Thread nD τ).loc main_v97) = (show Vec Ideal S1536x1 .f32 from fun j => yScale (flat (n := 18944) (argY m c)) (j 0).val)
      ∧ r.2.mem ((c : Thread nD τ).loc main_v105_3) = (show Vec Ideal S18944x3584 .i8 from fun j => wCode (mat (m := 18944) (n := 3584) (argW m c)) (j 0).val (j 1).val)
      ∧ r.2.mem ((c : Thread nD τ).loc main_v98) = (show Vec Ideal S1x3584 .f32 from fun j => wScale (mat (m := 18944) (n := 3584) (argW m c)) (j 1).val)
      ∧ r.2.mem ((c : Thread nD τ).loc main_v105_4) = (show Vec Ideal S1536x18944 .i8 from fun j => tCode (flat (n := 18944) (argY m c)) (j 0).val (j 1).val)
      ∧ r.2.mem ((c : Thread nD τ).loc main_v99) = (show Vec Ideal S1x18944 .f32 from fun j => tScale (flat (n := 18944) (argY m c)) (j 1).val)
      ∧ r.2.mem ((c : Thread nD τ).loc main_v105_5) = (show Vec Ideal S1536x3584 .i8 from fun j => tCode (flat (n := 3584) (argX m c)) (j 0).val (j 1).val)
      ∧ r.2.mem ((c : Thread nD τ).loc main_v100) = (show Vec Ideal S1x3584 .f32 from fun j => tScale (flat (n := 3584) (argX m c)) (j 1).val)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(Value.post8 m r h c).trans (dx_eq m c),
      (Value.post9 m r h c).trans (dw_eq m c),
      (Value.post10 m r h c).trans (yCode_eq m c),
      ((h c).1 4).trans (((dats m 0 c).arrAt_in 4 rfl _).trans ((A_eq m c 4).trans (yScale_eq m c))),
      (Value.post11 m r h c).trans (wCode_eq m c),
      ((h c).1 5).trans (((dats m 0 c).arrAt_in 5 rfl _).trans ((A_eq m c 5).trans (wScale_eq m c))),
      (Value.post12 m r h c).trans (tCode_eq m c),
      ((h c).2 main_v99 (Pipeline.mem_restRefs_of main_v99 (by decide) (by decide))).trans (tScale_eq m c),
      (Value.post13 m r h c).trans (xCode_eq m c),
      ((h c).1 7).trans (((dats m 0 c).arrAt_in 7 rfl _).trans ((A_eq m c 7).trans (xScale_eq m c))),
      Value.kept_main_arg0 m r h c,
      Value.kept_main_arg1 m r h c,
      Value.kept_main_arg2 m r h c⟩)
    (run_main m ρ)

end Cert.ReferenceIdeal.Stages

end
-- ==== Proof.Algebraic.lean ====
/-
  Kernel and reference end with equal results.
-/
module

public import proofs.«01_k».proof.Proof.KernelIdealValue
public import proofs.«01_k».proof.Proof.ReferenceValue
public import proofs.«01_k».proof.Defs

@[expose] public section

noncomputable section

namespace Cert.KernelIdeal.Value

open Cert.KernelIdeal Cert.Spec
open Idealize.ShloMosaic Idealize.ShloMosaic.TcCoe Idealize.SL.Sem

theorem algebraic [KernelIdeal.Facts] [ReferenceIdeal.Facts] : algebraic_KernelIdeal_ReferenceIdeal := by
  intro m g m' g' _ hag
  refine ⟨fun c => (show Vec Ideal S1536x3584 .bf16 from fun j => dx (Wt m c) (Y m c) (j 0).val (j 1).val),
    fun c => (show Vec Ideal S18944x3584 .f32 from fun j => dw (X m c) (Y m c) (j 0).val (j 1).val),
    fun c => (show Vec Ideal S1536x18944 .i8 from fun j => yCode (Y m c) (j 0).val (j 1).val),
    fun c => (show Vec Ideal S1536x1 .f32 from fun j => yScale (Y m c) (j 0).val),
    fun c => (show Vec Ideal S18944x3584 .i8 from fun j => wCode (Wt m c) (j 0).val (j 1).val),
    fun c => (show Vec Ideal S1x3584 .f32 from fun j => wScale (Wt m c) (j 1).val),
    fun c => (show Vec Ideal S1536x18944 .i8 from fun j => tCode (Y m c) (j 0).val (j 1).val),
    fun c => (show Vec Ideal S1x18944 .f32 from fun j => tScale (Y m c) (j 1).val),
    fun c => (show Vec Ideal S1536x3584 .i8 from fun j => tCode (X m c) (j 0).val (j 1).val),
    fun c => (show Vec Ideal S1x3584 .f32 from fun j => tScale (X m c) (j 1).val),
    run m g, ?_⟩
  refine (θ_run ReferenceIdeal.defs _ _).mono (fun r h c => ?_) (ReferenceIdeal.Stages.run m' g')
  obtain ⟨a0, a1, a2⟩ := hag c
  have hX : flat (n := 3584) (ReferenceIdeal.Stages.argX m' c) = X m c := congrArg (flat (n := 3584)) a0
  have hW : mat (m := 18944) (n := 3584) (ReferenceIdeal.Stages.argW m' c) = Wt m c := congrArg (mat (m := 18944) (n := 3584)) a1
  have hY : flat (n := 18944) (ReferenceIdeal.Stages.argY m' c) = Y m c := congrArg (flat (n := 18944)) a2
  have hc := h c
  rw [hX, hW, hY] at hc
  exact hc

end Cert.KernelIdeal.Value

end
-- ==== Proof.lean ====
module

public import proofs.«01_k».proof.Defs
public import proofs.«01_k».proof.Proof.KernelRun
public import proofs.«01_k».proof.Proof.KernelIdealRun
public import proofs.«01_k».proof.Proof.Algebraic

@[expose] public section

noncomputable section

namespace Cert.Proof

open Idealize.ShloMosaic Idealize.ShloMosaic.TcCoe Idealize.SL.Sem

/-- The kernel terminates without a fault, leaves its arguments and every semaphore as at the start. -/
theorem frame_Kernel [Cert.Kernel.Facts] : Cert.quiescent_Kernel := fun m ρ _ =>
  (θ_run Cert.Kernel.defs _ _).mono (fun r h => by
    have k : ∀ (c : Dev Cert.Kernel.nD) (b : Ref Cert.Kernel.sig .tc), Proc.devRef .tc b ∈ Pipeline.ucRefs Cert.Kernel.τ Cert.Kernel.sig →
        r.2.mem (c, Proc.devRef .tc b) = Cert.Kernel.Gen.V6 m (Cert.Kernel.Run.outs m) c (Proc.devRef .tc b) := fun c b hb => h.1 c _ hb
    refine ⟨fun c => ⟨(k c Cert.Kernel.main_arg0 ?_).trans (Cert.Kernel.Gen.V6_main_arg0 m _ c), (k c Cert.Kernel.main_arg1 ?_).trans (Cert.Kernel.Gen.V6_main_arg1 m _ c),
      (k c Cert.Kernel.main_arg2 ?_).trans (Cert.Kernel.Gen.V6_main_arg2 m _ c)⟩, h.2⟩ <;>
    exact Finset.mem_filter.mpr ⟨StableHlo.devRef_mem_tcRefs _, by decide⟩) (Cert.Kernel.Run.run m ρ)

/-- So does the kernel over the extended reals. -/
theorem frame_KernelIdeal [Cert.KernelIdeal.Facts] : Cert.quiescent_KernelIdeal := fun m ρ _ =>
  (θ_run Cert.KernelIdeal.defs _ _).mono (fun r h => by
    have k : ∀ (c : Dev Cert.KernelIdeal.nD) (b : Ref Cert.KernelIdeal.sig .tc), Proc.devRef .tc b ∈ Pipeline.ucRefs Cert.KernelIdeal.τ Cert.KernelIdeal.sig →
        r.2.mem (c, Proc.devRef .tc b) = Cert.KernelIdeal.Gen.V6 m (Cert.KernelIdeal.Run.outs m) c (Proc.devRef .tc b) := fun c b hb => h.1 c _ hb
    refine ⟨fun c => ⟨(k c Cert.KernelIdeal.main_arg0 ?_).trans (Cert.KernelIdeal.Gen.V6_main_arg0 m _ c), (k c Cert.KernelIdeal.main_arg1 ?_).trans (Cert.KernelIdeal.Gen.V6_main_arg1 m _ c),
      (k c Cert.KernelIdeal.main_arg2 ?_).trans (Cert.KernelIdeal.Gen.V6_main_arg2 m _ c)⟩, h.2⟩ <;>
    exact Finset.mem_filter.mpr ⟨StableHlo.devRef_mem_tcRefs _, by decide⟩) (Cert.KernelIdeal.Run.run m ρ)

theorem claim : Cert.Claim :=
  ⟨Cert.Kernel.Gen.facts, Cert.KernelIdeal.Gen.facts, Cert.ReferenceIdeal.Gen.facts,
    frame_Kernel, frame_KernelIdeal, fun m ρ _ => Cert.ReferenceIdeal.Gen.frame m ρ, trivial, Cert.KernelIdeal.Value.algebraic⟩

end Cert.Proof

end
